-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpH (m : (ℓ : Loc Cert.UpH.nD Cert.UpH.τ Cert.UpH.sig) → Buf (Elt Bits) ℓ) : Prop :=
  True

def Pre_UpHIdeal (m : (ℓ : Loc Cert.UpHIdeal.nD Cert.UpHIdeal.τ Cert.UpHIdeal.sig) → Buf (Elt Ideal) ℓ) : Prop :=
  True

def Pre_UpHRefIdeal (m : (ℓ : Loc Cert.UpHRefIdeal.nD Cert.UpHRefIdeal.τ Cert.UpHRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InH (m : (ℓ : Loc Cert.InH.nD Cert.InH.τ Cert.InH.sig) → Buf (Elt Bits) ℓ) : Prop :=
  True

def Pre_InHIdeal (m : (ℓ : Loc Cert.InHIdeal.nD Cert.InHIdeal.τ Cert.InHIdeal.sig) → Buf (Elt Ideal) ℓ) : Prop :=
  True

def Pre_InHRefIdeal (m : (ℓ : Loc Cert.InHRefIdeal.nD Cert.InHRefIdeal.τ Cert.InHRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite_att [hPre_finite_att : Cert.Pre_finite_att.Facts] (m : (ℓ : Loc Cert.AttIdeal.nD Cert.AttIdeal.τ Cert.AttIdeal.sig) → Buf (Elt Ideal) ℓ) : Prop :=
  ∀ c : Dev Cert.AttIdeal.nD,
    (Cert.Pre_finite_att.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))).1 = (fun _ => 1#1)
    ∧ (Cert.Pre_finite_att.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))).2 = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite_att [hPre_finite_att : Cert.Pre_finite_att.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite_att.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))).1 = (fun _ => 1#1)
    ∧ (Cert.Pre_finite_att.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_CrossH (m : (ℓ : Loc Cert.CrossH.nD Cert.CrossH.τ Cert.CrossH.sig) → Buf (Elt Bits) ℓ) : Prop :=
  True

def Pre_CrossHIdeal (m : (ℓ : Loc Cert.CrossHIdeal.nD Cert.CrossHIdeal.τ Cert.CrossHIdeal.sig) → Buf (Elt Ideal) ℓ) : Prop :=
  True

def Pre_CrossHRefIdeal (m : (ℓ : Loc Cert.CrossHRefIdeal.nD Cert.CrossHRefIdeal.τ Cert.CrossHRefIdeal.sig) → Buf (Elt Ideal) ℓ) : Prop :=
  True

def Pre_CrossW (m : (ℓ : Loc Cert.CrossW.nD Cert.CrossW.τ Cert.CrossW.sig) → Buf (Elt Bits) ℓ) : Prop :=
  True

def Pre_CrossWIdeal (m : (ℓ : Loc Cert.CrossWIdeal.nD Cert.CrossWIdeal.τ Cert.CrossWIdeal.sig) → Buf (Elt Ideal) ℓ) : Prop :=
  True

def Pre_CrossWRefIdeal (m : (ℓ : Loc Cert.CrossWRefIdeal.nD Cert.CrossWRefIdeal.τ Cert.CrossWRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_CrossQ (m : (ℓ : Loc Cert.CrossQ.nD Cert.CrossQ.τ Cert.CrossQ.sig) → Buf (Elt Bits) ℓ) : Prop :=
  True

def Pre_CrossQIdeal (m : (ℓ : Loc Cert.CrossQIdeal.nD Cert.CrossQIdeal.τ Cert.CrossQIdeal.sig) → Buf (Elt Ideal) ℓ) : Prop :=
  True

def Pre_CrossQRefIdeal (m : (ℓ : Loc Cert.CrossQRefIdeal.nD Cert.CrossQRefIdeal.τ Cert.CrossQRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_BrGla (m : (ℓ : Loc Cert.BrGla.nD Cert.BrGla.τ Cert.BrGla.sig) → Buf (Elt Bits) ℓ) : Prop :=
  True

def Pre_BrGlaIdeal (m : (ℓ : Loc Cert.BrGlaIdeal.nD Cert.BrGlaIdeal.τ Cert.BrGlaIdeal.sig) → Buf (Elt Ideal) ℓ) : Prop :=
  True

def Pre_BrGlaRefIdeal (m : (ℓ : Loc Cert.BrGlaRefIdeal.nD Cert.BrGlaRefIdeal.τ Cert.BrGlaRefIdeal.sig) → Buf (Elt Ideal) ℓ) : Prop :=
  True

def Pre_BrPool (m : (ℓ : Loc Cert.BrPool.nD Cert.BrPool.τ Cert.BrPool.sig) → Buf (Elt Bits) ℓ) : Prop :=
  True

def Pre_BrPoolIdeal (m : (ℓ : Loc Cert.BrPoolIdeal.nD Cert.BrPoolIdeal.τ Cert.BrPoolIdeal.sig) → Buf (Elt Ideal) ℓ) : Prop :=
  True

def Pre_BrPoolRefIdeal (m : (ℓ : Loc Cert.BrPoolRefIdeal.nD Cert.BrPoolRefIdeal.τ Cert.BrPoolRefIdeal.sig) → Buf (Elt Ideal) ℓ) : Prop :=
  True

def Pre_OGla (m : (ℓ : Loc Cert.OGla.nD Cert.OGla.τ Cert.OGla.sig) → Buf (Elt Bits) ℓ) : Prop :=
  True

def Pre_OGlaIdeal (m : (ℓ : Loc Cert.OGlaIdeal.nD Cert.OGlaIdeal.τ Cert.OGlaIdeal.sig) → Buf (Elt Ideal) ℓ) : Prop :=
  True

def Pre_OGlaRefIdeal (m : (ℓ : Loc Cert.OGlaRefIdeal.nD Cert.OGlaRefIdeal.τ Cert.OGlaRefIdeal.sig) → Buf (Elt Ideal) ℓ) : Prop :=
  True

def Pre_OPool (m : (ℓ : Loc Cert.OPool.nD Cert.OPool.τ Cert.OPool.sig) → Buf (Elt Bits) ℓ) : Prop :=
  True

def Pre_OPoolIdeal (m : (ℓ : Loc Cert.OPoolIdeal.nD Cert.OPoolIdeal.τ Cert.OPoolIdeal.sig) → Buf (Elt Ideal) ℓ) : Prop :=
  True

def Pre_OPoolRefIdeal (m : (ℓ : Loc Cert.OPoolRefIdeal.nD Cert.OPoolRefIdeal.τ Cert.OPoolRefIdeal.sig) → Buf (Elt Ideal) ℓ) : Prop :=
  True

def Pre_BrW (m : (ℓ : Loc Cert.BrW.nD Cert.BrW.τ Cert.BrW.sig) → Buf (Elt Bits) ℓ) : Prop :=
  True

def Pre_BrWIdeal (m : (ℓ : Loc Cert.BrWIdeal.nD Cert.BrWIdeal.τ Cert.BrWIdeal.sig) → Buf (Elt Ideal) ℓ) : Prop :=
  True

def Pre_BrWRefIdeal (m : (ℓ : Loc Cert.BrWRefIdeal.nD Cert.BrWRefIdeal.τ Cert.BrWRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWRefIdeal (m : (ℓ : Loc Cert.KvWRefIdeal.nD Cert.KvWRefIdeal.τ Cert.KvWRefIdeal.sig) → Buf (Elt Ideal) ℓ) : Prop :=
  True

def Pre_KvH (m : (ℓ : Loc Cert.KvH.nD Cert.KvH.τ Cert.KvH.sig) → Buf (Elt Bits) ℓ) : Prop :=
  True

def Pre_KvHIdeal (m : (ℓ : Loc Cert.KvHIdeal.nD Cert.KvHIdeal.τ Cert.KvHIdeal.sig) → Buf (Elt Ideal) ℓ) : Prop :=
  True

def Pre_KvHRefIdeal (m : (ℓ : Loc Cert.KvHRefIdeal.nD Cert.KvHRefIdeal.τ Cert.KvHRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_UpH [hUpH : Cert.UpH.Facts] : Prop :=
  ∀ (m : (ℓ : Loc Cert.UpH.nD Cert.UpH.τ Cert.UpH.sig) → Buf (Elt Bits) ℓ) (g : Dev Cert.UpH.nD → PrngReg), Pre_UpH m →
    θ_run (Cert.UpH.defs (F := Bits)) (onTc (τ := Cert.UpH.τ) (Cert.UpH.main (F := Bits))) ⟨m, fun _ => 0, g⟩ (fun r => (∀ c : Dev Cert.UpH.nD,
      r.2.mem ((c.tc : Thread Cert.UpH.nD Cert.UpH.τ).loc Cert.UpH.main_arg0) = m ((c.tc : Thread Cert.UpH.nD Cert.UpH.τ).loc Cert.UpH.main_arg0)
      ∧ r.2.mem ((c.tc : Thread Cert.UpH.nD Cert.UpH.τ).loc Cert.UpH.main_arg1) = m ((c.tc : Thread Cert.UpH.nD Cert.UpH.τ).loc Cert.UpH.main_arg1))
      ∧ r.2.sem = fun _ => 0)

def quiescent_UpHIdeal [hUpHIdeal : Cert.UpHIdeal.Facts] : Prop :=
  ∀ (m : (ℓ : Loc Cert.UpHIdeal.nD Cert.UpHIdeal.τ Cert.UpHIdeal.sig) → Buf (Elt Ideal) ℓ) (g : Dev Cert.UpHIdeal.nD → PrngReg), Pre_UpHIdeal m →
    θ_run (Cert.UpHIdeal.defs (F := Ideal)) (onTc (τ := Cert.UpHIdeal.τ) (Cert.UpHIdeal.main (F := Ideal))) ⟨m, fun _ => 0, g⟩ (fun r => (∀ c : Dev Cert.UpHIdeal.nD,
      r.2.mem ((c.tc : Thread Cert.UpHIdeal.nD Cert.UpHIdeal.τ).loc Cert.UpHIdeal.main_arg0) = m ((c.tc : Thread Cert.UpHIdeal.nD Cert.UpHIdeal.τ).loc Cert.UpHIdeal.main_arg0)
      ∧ r.2.mem ((c.tc : Thread Cert.UpHIdeal.nD Cert.UpHIdeal.τ).loc Cert.UpHIdeal.main_arg1) = m ((c.tc : Thread Cert.UpHIdeal.nD Cert.UpHIdeal.τ).loc Cert.UpHIdeal.main_arg1))
      ∧ r.2.sem = fun _ => 0)

def quiescent_UpHRefIdeal [hUpHRefIdeal : Cert.UpHRefIdeal.Facts] : Prop :=
  ∀ (m : (ℓ : Loc Cert.UpHRefIdeal.nD Cert.UpHRefIdeal.τ Cert.UpHRefIdeal.sig) → Buf (Elt Ideal) ℓ) (g : Dev Cert.UpHRefIdeal.nD → PrngReg), Pre_UpHRefIdeal m →
    θ_run (Cert.UpHRefIdeal.defs (F := Ideal)) (onTc (τ := Cert.UpHRefIdeal.τ) (Cert.UpHRefIdeal.main (F := Ideal))) ⟨m, fun _ => 0, g⟩ (fun r => (∀ c : Dev Cert.UpHRefIdeal.nD,
      r.2.mem ((c.tc : Thread Cert.UpHRefIdeal.nD Cert.UpHRefIdeal.τ).loc Cert.UpHRefIdeal.main_arg0) = m ((c.tc : Thread Cert.UpHRefIdeal.nD Cert.UpHRefIdeal.τ).loc Cert.UpHRefIdeal.main_arg0)
      ∧ r.2.mem ((c.tc : Thread Cert.UpHRefIdeal.nD Cert.UpHRefIdeal.τ).loc Cert.UpHRefIdeal.main_arg1) = m ((c.tc : Thread Cert.UpHRefIdeal.nD Cert.UpHRefIdeal.τ).loc Cert.UpHRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_InH [hInH : Cert.InH.Facts] : Prop :=
  ∀ (m : (ℓ : Loc Cert.InH.nD Cert.InH.τ Cert.InH.sig) → Buf (Elt Bits) ℓ) (g : Dev Cert.InH.nD → PrngReg), Pre_InH m →
    θ_run (Cert.InH.defs (F := Bits)) (onTc (τ := Cert.InH.τ) (Cert.InH.main (F := Bits))) ⟨m, fun _ => 0, g⟩ (fun r => (∀ c : Dev Cert.InH.nD,
      r.2.mem ((c.tc : Thread Cert.InH.nD Cert.InH.τ).loc Cert.InH.main_arg0) = m ((c.tc : Thread Cert.InH.nD Cert.InH.τ).loc Cert.InH.main_arg0)
      ∧ r.2.mem ((c.tc : Thread Cert.InH.nD Cert.InH.τ).loc Cert.InH.main_arg1) = m ((c.tc : Thread Cert.InH.nD Cert.InH.τ).loc Cert.InH.main_arg1))
      ∧ r.2.sem = fun _ => 0)

def quiescent_InHIdeal [hInHIdeal : Cert.InHIdeal.Facts] : Prop :=
  ∀ (m : (ℓ : Loc Cert.InHIdeal.nD Cert.InHIdeal.τ Cert.InHIdeal.sig) → Buf (Elt Ideal) ℓ) (g : Dev Cert.InHIdeal.nD → PrngReg), Pre_InHIdeal m →
    θ_run (Cert.InHIdeal.defs (F := Ideal)) (onTc (τ := Cert.InHIdeal.τ) (Cert.InHIdeal.main (F := Ideal))) ⟨m, fun _ => 0, g⟩ (fun r => (∀ c : Dev Cert.InHIdeal.nD,
      r.2.mem ((c.tc : Thread Cert.InHIdeal.nD Cert.InHIdeal.τ).loc Cert.InHIdeal.main_arg0) = m ((c.tc : Thread Cert.InHIdeal.nD Cert.InHIdeal.τ).loc Cert.InHIdeal.main_arg0)
      ∧ r.2.mem ((c.tc : Thread Cert.InHIdeal.nD Cert.InHIdeal.τ).loc Cert.InHIdeal.main_arg1) = m ((c.tc : Thread Cert.InHIdeal.nD Cert.InHIdeal.τ).loc Cert.InHIdeal.main_arg1))
      ∧ r.2.sem = fun _ => 0)

def quiescent_InHRefIdeal [hInHRefIdeal : Cert.InHRefIdeal.Facts] : Prop :=
  ∀ (m : (ℓ : Loc Cert.InHRefIdeal.nD Cert.InHRefIdeal.τ Cert.InHRefIdeal.sig) → Buf (Elt Ideal) ℓ) (g : Dev Cert.InHRefIdeal.nD → PrngReg), Pre_InHRefIdeal m →
    θ_run (Cert.InHRefIdeal.defs (F := Ideal)) (onTc (τ := Cert.InHRefIdeal.τ) (Cert.InHRefIdeal.main (F := Ideal))) ⟨m, fun _ => 0, g⟩ (fun r => (∀ c : Dev Cert.InHRefIdeal.nD,
      r.2.mem ((c.tc : Thread Cert.InHRefIdeal.nD Cert.InHRefIdeal.τ).loc Cert.InHRefIdeal.main_arg0) = m ((c.tc : Thread Cert.InHRefIdeal.nD Cert.InHRefIdeal.τ).loc Cert.InHRefIdeal.main_arg0)
      ∧ r.2.mem ((c.tc : Thread Cert.InHRefIdeal.nD Cert.InHRefIdeal.τ).loc Cert.InHRefIdeal.main_arg1) = m ((c.tc : Thread Cert.InHRefIdeal.nD Cert.InHRefIdeal.τ).loc Cert.InHRefIdeal.main_arg1))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttIdeal_pre_finite_att [hAttIdeal : Cert.AttIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite_att m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_AttRefIdeal_pre_finite_att [hAttRefIdeal : Cert.AttRefIdeal.Facts] [hPre_finite_att : Cert.Pre_finite_att.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite_att m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_CrossH [hCrossH : Cert.CrossH.Facts] : Prop :=
  ∀ (m : (ℓ : Loc Cert.CrossH.nD Cert.CrossH.τ Cert.CrossH.sig) → Buf (Elt Bits) ℓ) (g : Dev Cert.CrossH.nD → PrngReg), Pre_CrossH m →
    θ_run (Cert.CrossH.defs (F := Bits)) (onTc (τ := Cert.CrossH.τ) (Cert.CrossH.main (F := Bits))) ⟨m, fun _ => 0, g⟩ (fun r => (∀ c : Dev Cert.CrossH.nD,
      r.2.mem ((c.tc : Thread Cert.CrossH.nD Cert.CrossH.τ).loc Cert.CrossH.main_arg0) = m ((c.tc : Thread Cert.CrossH.nD Cert.CrossH.τ).loc Cert.CrossH.main_arg0)
      ∧ r.2.mem ((c.tc : Thread Cert.CrossH.nD Cert.CrossH.τ).loc Cert.CrossH.main_arg1) = m ((c.tc : Thread Cert.CrossH.nD Cert.CrossH.τ).loc Cert.CrossH.main_arg1))
      ∧ r.2.sem = fun _ => 0)

def quiescent_CrossHIdeal [hCrossHIdeal : Cert.CrossHIdeal.Facts] : Prop :=
  ∀ (m : (ℓ : Loc Cert.CrossHIdeal.nD Cert.CrossHIdeal.τ Cert.CrossHIdeal.sig) → Buf (Elt Ideal) ℓ) (g : Dev Cert.CrossHIdeal.nD → PrngReg), Pre_CrossHIdeal m →
    θ_run (Cert.CrossHIdeal.defs (F := Ideal)) (onTc (τ := Cert.CrossHIdeal.τ) (Cert.CrossHIdeal.main (F := Ideal))) ⟨m, fun _ => 0, g⟩ (fun r => (∀ c : Dev Cert.CrossHIdeal.nD,
      r.2.mem ((c.tc : Thread Cert.CrossHIdeal.nD Cert.CrossHIdeal.τ).loc Cert.CrossHIdeal.main_arg0) = m ((c.tc : Thread Cert.CrossHIdeal.nD Cert.CrossHIdeal.τ).loc Cert.CrossHIdeal.main_arg0)
      ∧ r.2.mem ((c.tc : Thread Cert.CrossHIdeal.nD Cert.CrossHIdeal.τ).loc Cert.CrossHIdeal.main_arg1) = m ((c.tc : Thread Cert.CrossHIdeal.nD Cert.CrossHIdeal.τ).loc Cert.CrossHIdeal.main_arg1))
      ∧ r.2.sem = fun _ => 0)

def quiescent_CrossHRefIdeal [hCrossHRefIdeal : Cert.CrossHRefIdeal.Facts] : Prop :=
  ∀ (m : (ℓ : Loc Cert.CrossHRefIdeal.nD Cert.CrossHRefIdeal.τ Cert.CrossHRefIdeal.sig) → Buf (Elt Ideal) ℓ) (g : Dev Cert.CrossHRefIdeal.nD → PrngReg), Pre_CrossHRefIdeal m →
    θ_run (Cert.CrossHRefIdeal.defs (F := Ideal)) (onTc (τ := Cert.CrossHRefIdeal.τ) (Cert.CrossHRefIdeal.main (F := Ideal))) ⟨m, fun _ => 0, g⟩ (fun r => (∀ c : Dev Cert.CrossHRefIdeal.nD,
      r.2.mem ((c.tc : Thread Cert.CrossHRefIdeal.nD Cert.CrossHRefIdeal.τ).loc Cert.CrossHRefIdeal.main_arg0) = m ((c.tc : Thread Cert.CrossHRefIdeal.nD Cert.CrossHRefIdeal.τ).loc Cert.CrossHRefIdeal.main_arg0)
      ∧ r.2.mem ((c.tc : Thread Cert.CrossHRefIdeal.nD Cert.CrossHRefIdeal.τ).loc Cert.CrossHRefIdeal.main_arg1) = m ((c.tc : Thread Cert.CrossHRefIdeal.nD Cert.CrossHRefIdeal.τ).loc Cert.CrossHRefIdeal.main_arg1))
      ∧ r.2.sem = fun _ => 0)

def quiescent_CrossW [hCrossW : Cert.CrossW.Facts] : Prop :=
  ∀ (m : (ℓ : Loc Cert.CrossW.nD Cert.CrossW.τ Cert.CrossW.sig) → Buf (Elt Bits) ℓ) (g : Dev Cert.CrossW.nD → PrngReg), Pre_CrossW m →
    θ_run (Cert.CrossW.defs (F := Bits)) (onTc (τ := Cert.CrossW.τ) (Cert.CrossW.main (F := Bits))) ⟨m, fun _ => 0, g⟩ (fun r => (∀ c : Dev Cert.CrossW.nD,
      r.2.mem ((c.tc : Thread Cert.CrossW.nD Cert.CrossW.τ).loc Cert.CrossW.main_arg0) = m ((c.tc : Thread Cert.CrossW.nD Cert.CrossW.τ).loc Cert.CrossW.main_arg0)
      ∧ r.2.mem ((c.tc : Thread Cert.CrossW.nD Cert.CrossW.τ).loc Cert.CrossW.main_arg1) = m ((c.tc : Thread Cert.CrossW.nD Cert.CrossW.τ).loc Cert.CrossW.main_arg1))
      ∧ r.2.sem = fun _ => 0)

def quiescent_CrossWIdeal [hCrossWIdeal : Cert.CrossWIdeal.Facts] : Prop :=
  ∀ (m : (ℓ : Loc Cert.CrossWIdeal.nD Cert.CrossWIdeal.τ Cert.CrossWIdeal.sig) → Buf (Elt Ideal) ℓ) (g : Dev Cert.CrossWIdeal.nD → PrngReg), Pre_CrossWIdeal m →
    θ_run (Cert.CrossWIdeal.defs (F := Ideal)) (onTc (τ := Cert.CrossWIdeal.τ) (Cert.CrossWIdeal.main (F := Ideal))) ⟨m, fun _ => 0, g⟩ (fun r => (∀ c : Dev Cert.CrossWIdeal.nD,
      r.2.mem ((c.tc : Thread Cert.CrossWIdeal.nD Cert.CrossWIdeal.τ).loc Cert.CrossWIdeal.main_arg0) = m ((c.tc : Thread Cert.CrossWIdeal.nD Cert.CrossWIdeal.τ).loc Cert.CrossWIdeal.main_arg0)
      ∧ r.2.mem ((c.tc : Thread Cert.CrossWIdeal.nD Cert.CrossWIdeal.τ).loc Cert.CrossWIdeal.main_arg1) = m ((c.tc : Thread Cert.CrossWIdeal.nD Cert.CrossWIdeal.τ).loc Cert.CrossWIdeal.main_arg1))
      ∧ r.2.sem = fun _ => 0)

def quiescent_CrossWRefIdeal [hCrossWRefIdeal : Cert.CrossWRefIdeal.Facts] : Prop :=
  ∀ (m : (ℓ : Loc Cert.CrossWRefIdeal.nD Cert.CrossWRefIdeal.τ Cert.CrossWRefIdeal.sig) → Buf (Elt Ideal) ℓ) (g : Dev Cert.CrossWRefIdeal.nD → PrngReg), Pre_CrossWRefIdeal m →
    θ_run (Cert.CrossWRefIdeal.defs (F := Ideal)) (onTc (τ := Cert.CrossWRefIdeal.τ) (Cert.CrossWRefIdeal.main (F := Ideal))) ⟨m, fun _ => 0, g⟩ (fun r => (∀ c : Dev Cert.CrossWRefIdeal.nD,
      r.2.mem ((c.tc : Thread Cert.CrossWRefIdeal.nD Cert.CrossWRefIdeal.τ).loc Cert.CrossWRefIdeal.main_arg0) = m ((c.tc : Thread Cert.CrossWRefIdeal.nD Cert.CrossWRefIdeal.τ).loc Cert.CrossWRefIdeal.main_arg0)
      ∧ r.2.mem ((c.tc : Thread Cert.CrossWRefIdeal.nD Cert.CrossWRefIdeal.τ).loc Cert.CrossWRefIdeal.main_arg1) = m ((c.tc : Thread Cert.CrossWRefIdeal.nD Cert.CrossWRefIdeal.τ).loc Cert.CrossWRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_CrossQ [hCrossQ : Cert.CrossQ.Facts] : Prop :=
  ∀ (m : (ℓ : Loc Cert.CrossQ.nD Cert.CrossQ.τ Cert.CrossQ.sig) → Buf (Elt Bits) ℓ) (g : Dev Cert.CrossQ.nD → PrngReg), Pre_CrossQ m →
    θ_run (Cert.CrossQ.defs (F := Bits)) (onTc (τ := Cert.CrossQ.τ) (Cert.CrossQ.main (F := Bits))) ⟨m, fun _ => 0, g⟩ (fun r => (∀ c : Dev Cert.CrossQ.nD,
      r.2.mem ((c.tc : Thread Cert.CrossQ.nD Cert.CrossQ.τ).loc Cert.CrossQ.main_arg0) = m ((c.tc : Thread Cert.CrossQ.nD Cert.CrossQ.τ).loc Cert.CrossQ.main_arg0)
      ∧ r.2.mem ((c.tc : Thread Cert.CrossQ.nD Cert.CrossQ.τ).loc Cert.CrossQ.main_arg1) = m ((c.tc : Thread Cert.CrossQ.nD Cert.CrossQ.τ).loc Cert.CrossQ.main_arg1))
      ∧ r.2.sem = fun _ => 0)

def quiescent_CrossQIdeal [hCrossQIdeal : Cert.CrossQIdeal.Facts] : Prop :=
  ∀ (m : (ℓ : Loc Cert.CrossQIdeal.nD Cert.CrossQIdeal.τ Cert.CrossQIdeal.sig) → Buf (Elt Ideal) ℓ) (g : Dev Cert.CrossQIdeal.nD → PrngReg), Pre_CrossQIdeal m →
    θ_run (Cert.CrossQIdeal.defs (F := Ideal)) (onTc (τ := Cert.CrossQIdeal.τ) (Cert.CrossQIdeal.main (F := Ideal))) ⟨m, fun _ => 0, g⟩ (fun r => (∀ c : Dev Cert.CrossQIdeal.nD,
      r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
      ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ r.2.sem = fun _ => 0)

def quiescent_CrossQRefIdeal [hCrossQRefIdeal : Cert.CrossQRefIdeal.Facts] : Prop :=
  ∀ (m : (ℓ : Loc Cert.CrossQRefIdeal.nD Cert.CrossQRefIdeal.τ Cert.CrossQRefIdeal.sig) → Buf (Elt Ideal) ℓ) (g : Dev Cert.CrossQRefIdeal.nD → PrngReg), Pre_CrossQRefIdeal m →
    θ_run (Cert.CrossQRefIdeal.defs (F := Ideal)) (onTc (τ := Cert.CrossQRefIdeal.τ) (Cert.CrossQRefIdeal.main (F := Ideal))) ⟨m, fun _ => 0, g⟩ (fun r => (∀ c : Dev Cert.CrossQRefIdeal.nD,
      r.2.mem ((c.tc : Thread Cert.CrossQRefIdeal.nD Cert.CrossQRefIdeal.τ).loc Cert.CrossQRefIdeal.main_arg0) = m ((c.tc : Thread Cert.CrossQRefIdeal.nD Cert.CrossQRefIdeal.τ).loc Cert.CrossQRefIdeal.main_arg0)
      ∧ r.2.mem ((c.tc : Thread Cert.CrossQRefIdeal.nD Cert.CrossQRefIdeal.τ).loc Cert.CrossQRefIdeal.main_arg1) = m ((c.tc : Thread Cert.CrossQRefIdeal.nD Cert.CrossQRefIdeal.τ).loc Cert.CrossQRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_BrGla [hBrGla : Cert.BrGla.Facts] : Prop :=
  ∀ (m : (ℓ : Loc Cert.BrGla.nD Cert.BrGla.τ Cert.BrGla.sig) → Buf (Elt Bits) ℓ) (g : Dev Cert.BrGla.nD → PrngReg), Pre_BrGla m →
    θ_run (Cert.BrGla.defs (F := Bits)) (onTc (τ := Cert.BrGla.τ) (Cert.BrGla.main (F := Bits))) ⟨m, fun _ => 0, g⟩ (fun r => (∀ c : Dev Cert.BrGla.nD,
      r.2.mem ((c.tc : Thread Cert.BrGla.nD Cert.BrGla.τ).loc Cert.BrGla.main_arg0) = m ((c.tc : Thread Cert.BrGla.nD Cert.BrGla.τ).loc Cert.BrGla.main_arg0)
      ∧ r.2.mem ((c.tc : Thread Cert.BrGla.nD Cert.BrGla.τ).loc Cert.BrGla.main_arg1) = m ((c.tc : Thread Cert.BrGla.nD Cert.BrGla.τ).loc Cert.BrGla.main_arg1))
      ∧ r.2.sem = fun _ => 0)

def quiescent_BrGlaIdeal [hBrGlaIdeal : Cert.BrGlaIdeal.Facts] : Prop :=
  ∀ (m : (ℓ : Loc Cert.BrGlaIdeal.nD Cert.BrGlaIdeal.τ Cert.BrGlaIdeal.sig) → Buf (Elt Ideal) ℓ) (g : Dev Cert.BrGlaIdeal.nD → PrngReg), Pre_BrGlaIdeal m →
    θ_run (Cert.BrGlaIdeal.defs (F := Ideal)) (onTc (τ := Cert.BrGlaIdeal.τ) (Cert.BrGlaIdeal.main (F := Ideal))) ⟨m, fun _ => 0, g⟩ (fun r => (∀ c : Dev Cert.BrGlaIdeal.nD,
      r.2.mem ((c.tc : Thread Cert.BrGlaIdeal.nD Cert.BrGlaIdeal.τ).loc Cert.BrGlaIdeal.main_arg0) = m ((c.tc : Thread Cert.BrGlaIdeal.nD Cert.BrGlaIdeal.τ).loc Cert.BrGlaIdeal.main_arg0)
      ∧ r.2.mem ((c.tc : Thread Cert.BrGlaIdeal.nD Cert.BrGlaIdeal.τ).loc Cert.BrGlaIdeal.main_arg1) = m ((c.tc : Thread Cert.BrGlaIdeal.nD Cert.BrGlaIdeal.τ).loc Cert.BrGlaIdeal.main_arg1))
      ∧ r.2.sem = fun _ => 0)

def quiescent_BrGlaRefIdeal [hBrGlaRefIdeal : Cert.BrGlaRefIdeal.Facts] : Prop :=
  ∀ (m : (ℓ : Loc Cert.BrGlaRefIdeal.nD Cert.BrGlaRefIdeal.τ Cert.BrGlaRefIdeal.sig) → Buf (Elt Ideal) ℓ) (g : Dev Cert.BrGlaRefIdeal.nD → PrngReg), Pre_BrGlaRefIdeal m →
    θ_run (Cert.BrGlaRefIdeal.defs (F := Ideal)) (onTc (τ := Cert.BrGlaRefIdeal.τ) (Cert.BrGlaRefIdeal.main (F := Ideal))) ⟨m, fun _ => 0, g⟩ (fun r => (∀ c : Dev Cert.BrGlaRefIdeal.nD,
      r.2.mem ((c.tc : Thread Cert.BrGlaRefIdeal.nD Cert.BrGlaRefIdeal.τ).loc Cert.BrGlaRefIdeal.main_arg0) = m ((c.tc : Thread Cert.BrGlaRefIdeal.nD Cert.BrGlaRefIdeal.τ).loc Cert.BrGlaRefIdeal.main_arg0)
      ∧ r.2.mem ((c.tc : Thread Cert.BrGlaRefIdeal.nD Cert.BrGlaRefIdeal.τ).loc Cert.BrGlaRefIdeal.main_arg1) = m ((c.tc : Thread Cert.BrGlaRefIdeal.nD Cert.BrGlaRefIdeal.τ).loc Cert.BrGlaRefIdeal.main_arg1))
      ∧ r.2.sem = fun _ => 0)

def quiescent_BrPool [hBrPool : Cert.BrPool.Facts] : Prop :=
  ∀ (m : (ℓ : Loc Cert.BrPool.nD Cert.BrPool.τ Cert.BrPool.sig) → Buf (Elt Bits) ℓ) (g : Dev Cert.BrPool.nD → PrngReg), Pre_BrPool m →
    θ_run (Cert.BrPool.defs (F := Bits)) (onTc (τ := Cert.BrPool.τ) (Cert.BrPool.main (F := Bits))) ⟨m, fun _ => 0, g⟩ (fun r => (∀ c : Dev Cert.BrPool.nD,
      r.2.mem ((c.tc : Thread Cert.BrPool.nD Cert.BrPool.τ).loc Cert.BrPool.main_arg0) = m ((c.tc : Thread Cert.BrPool.nD Cert.BrPool.τ).loc Cert.BrPool.main_arg0)
      ∧ r.2.mem ((c.tc : Thread Cert.BrPool.nD Cert.BrPool.τ).loc Cert.BrPool.main_arg1) = m ((c.tc : Thread Cert.BrPool.nD Cert.BrPool.τ).loc Cert.BrPool.main_arg1))
      ∧ r.2.sem = fun _ => 0)

def quiescent_BrPoolIdeal [hBrPoolIdeal : Cert.BrPoolIdeal.Facts] : Prop :=
  ∀ (m : (ℓ : Loc Cert.BrPoolIdeal.nD Cert.BrPoolIdeal.τ Cert.BrPoolIdeal.sig) → Buf (Elt Ideal) ℓ) (g : Dev Cert.BrPoolIdeal.nD → PrngReg), Pre_BrPoolIdeal m →
    θ_run (Cert.BrPoolIdeal.defs (F := Ideal)) (onTc (τ := Cert.BrPoolIdeal.τ) (Cert.BrPoolIdeal.main (F := Ideal))) ⟨m, fun _ => 0, g⟩ (fun r => (∀ c : Dev Cert.BrPoolIdeal.nD,
      r.2.mem ((c.tc : Thread Cert.BrPoolIdeal.nD Cert.BrPoolIdeal.τ).loc Cert.BrPoolIdeal.main_arg0) = m ((c.tc : Thread Cert.BrPoolIdeal.nD Cert.BrPoolIdeal.τ).loc Cert.BrPoolIdeal.main_arg0)
      ∧ r.2.mem ((c.tc : Thread Cert.BrPoolIdeal.nD Cert.BrPoolIdeal.τ).loc Cert.BrPoolIdeal.main_arg1) = m ((c.tc : Thread Cert.BrPoolIdeal.nD Cert.BrPoolIdeal.τ).loc Cert.BrPoolIdeal.main_arg1))
      ∧ r.2.sem = fun _ => 0)

def quiescent_BrPoolRefIdeal [hBrPoolRefIdeal : Cert.BrPoolRefIdeal.Facts] : Prop :=
  ∀ (m : (ℓ : Loc Cert.BrPoolRefIdeal.nD Cert.BrPoolRefIdeal.τ Cert.BrPoolRefIdeal.sig) → Buf (Elt Ideal) ℓ) (g : Dev Cert.BrPoolRefIdeal.nD → PrngReg), Pre_BrPoolRefIdeal m →
    θ_run (Cert.BrPoolRefIdeal.defs (F := Ideal)) (onTc (τ := Cert.BrPoolRefIdeal.τ) (Cert.BrPoolRefIdeal.main (F := Ideal))) ⟨m, fun _ => 0, g⟩ (fun r => (∀ c : Dev Cert.BrPoolRefIdeal.nD,
      r.2.mem ((c.tc : Thread Cert.BrPoolRefIdeal.nD Cert.BrPoolRefIdeal.τ).loc Cert.BrPoolRefIdeal.main_arg0) = m ((c.tc : Thread Cert.BrPoolRefIdeal.nD Cert.BrPoolRefIdeal.τ).loc Cert.BrPoolRefIdeal.main_arg0)
      ∧ r.2.mem ((c.tc : Thread Cert.BrPoolRefIdeal.nD Cert.BrPoolRefIdeal.τ).loc Cert.BrPoolRefIdeal.main_arg1) = m ((c.tc : Thread Cert.BrPoolRefIdeal.nD Cert.BrPoolRefIdeal.τ).loc Cert.BrPoolRefIdeal.main_arg1))
      ∧ r.2.sem = fun _ => 0)

def quiescent_OGla [hOGla : Cert.OGla.Facts] : Prop :=
  ∀ (m : (ℓ : Loc Cert.OGla.nD Cert.OGla.τ Cert.OGla.sig) → Buf (Elt Bits) ℓ) (g : Dev Cert.OGla.nD → PrngReg), Pre_OGla m →
    θ_run (Cert.OGla.defs (F := Bits)) (onTc (τ := Cert.OGla.τ) (Cert.OGla.main (F := Bits))) ⟨m, fun _ => 0, g⟩ (fun r => (∀ c : Dev Cert.OGla.nD,
      r.2.mem ((c.tc : Thread Cert.OGla.nD Cert.OGla.τ).loc Cert.OGla.main_arg0) = m ((c.tc : Thread Cert.OGla.nD Cert.OGla.τ).loc Cert.OGla.main_arg0)
      ∧ r.2.mem ((c.tc : Thread Cert.OGla.nD Cert.OGla.τ).loc Cert.OGla.main_arg1) = m ((c.tc : Thread Cert.OGla.nD Cert.OGla.τ).loc Cert.OGla.main_arg1))
      ∧ r.2.sem = fun _ => 0)

def quiescent_OGlaIdeal [hOGlaIdeal : Cert.OGlaIdeal.Facts] : Prop :=
  ∀ (m : (ℓ : Loc Cert.OGlaIdeal.nD Cert.OGlaIdeal.τ Cert.OGlaIdeal.sig) → Buf (Elt Ideal) ℓ) (g : Dev Cert.OGlaIdeal.nD → PrngReg), Pre_OGlaIdeal m →
    θ_run (Cert.OGlaIdeal.defs (F := Ideal)) (onTc (τ := Cert.OGlaIdeal.τ) (Cert.OGlaIdeal.main (F := Ideal))) ⟨m, fun _ => 0, g⟩ (fun r => (∀ c : Dev Cert.OGlaIdeal.nD,
      r.2.mem ((c.tc : Thread Cert.OGlaIdeal.nD Cert.OGlaIdeal.τ).loc Cert.OGlaIdeal.main_arg0) = m ((c.tc : Thread Cert.OGlaIdeal.nD Cert.OGlaIdeal.τ).loc Cert.OGlaIdeal.main_arg0)
      ∧ r.2.mem ((c.tc : Thread Cert.OGlaIdeal.nD Cert.OGlaIdeal.τ).loc Cert.OGlaIdeal.main_arg1) = m ((c.tc : Thread Cert.OGlaIdeal.nD Cert.OGlaIdeal.τ).loc Cert.OGlaIdeal.main_arg1))
      ∧ r.2.sem = fun _ => 0)

def quiescent_OGlaRefIdeal [hOGlaRefIdeal : Cert.OGlaRefIdeal.Facts] : Prop :=
  ∀ (m : (ℓ : Loc Cert.OGlaRefIdeal.nD Cert.OGlaRefIdeal.τ Cert.OGlaRefIdeal.sig) → Buf (Elt Ideal) ℓ) (g : Dev Cert.OGlaRefIdeal.nD → PrngReg), Pre_OGlaRefIdeal m →
    θ_run (Cert.OGlaRefIdeal.defs (F := Ideal)) (onTc (τ := Cert.OGlaRefIdeal.τ) (Cert.OGlaRefIdeal.main (F := Ideal))) ⟨m, fun _ => 0, g⟩ (fun r => (∀ c : Dev Cert.OGlaRefIdeal.nD,
      r.2.mem ((c.tc : Thread Cert.OGlaRefIdeal.nD Cert.OGlaRefIdeal.τ).loc Cert.OGlaRefIdeal.main_arg0) = m ((c.tc : Thread Cert.OGlaRefIdeal.nD Cert.OGlaRefIdeal.τ).loc Cert.OGlaRefIdeal.main_arg0)
      ∧ r.2.mem ((c.tc : Thread Cert.OGlaRefIdeal.nD Cert.OGlaRefIdeal.τ).loc Cert.OGlaRefIdeal.main_arg1) = m ((c.tc : Thread Cert.OGlaRefIdeal.nD Cert.OGlaRefIdeal.τ).loc Cert.OGlaRefIdeal.main_arg1))
      ∧ r.2.sem = fun _ => 0)

def quiescent_OPool [hOPool : Cert.OPool.Facts] : Prop :=
  ∀ (m : (ℓ : Loc Cert.OPool.nD Cert.OPool.τ Cert.OPool.sig) → Buf (Elt Bits) ℓ) (g : Dev Cert.OPool.nD → PrngReg), Pre_OPool m →
    θ_run (Cert.OPool.defs (F := Bits)) (onTc (τ := Cert.OPool.τ) (Cert.OPool.main (F := Bits))) ⟨m, fun _ => 0, g⟩ (fun r => (∀ c : Dev Cert.OPool.nD,
      r.2.mem ((c.tc : Thread Cert.OPool.nD Cert.OPool.τ).loc Cert.OPool.main_arg0) = m ((c.tc : Thread Cert.OPool.nD Cert.OPool.τ).loc Cert.OPool.main_arg0)
      ∧ r.2.mem ((c.tc : Thread Cert.OPool.nD Cert.OPool.τ).loc Cert.OPool.main_arg1) = m ((c.tc : Thread Cert.OPool.nD Cert.OPool.τ).loc Cert.OPool.main_arg1))
      ∧ r.2.sem = fun _ => 0)

def quiescent_OPoolIdeal [hOPoolIdeal : Cert.OPoolIdeal.Facts] : Prop :=
  ∀ (m : (ℓ : Loc Cert.OPoolIdeal.nD Cert.OPoolIdeal.τ Cert.OPoolIdeal.sig) → Buf (Elt Ideal) ℓ) (g : Dev Cert.OPoolIdeal.nD → PrngReg), Pre_OPoolIdeal m →
    θ_run (Cert.OPoolIdeal.defs (F := Ideal)) (onTc (τ := Cert.OPoolIdeal.τ) (Cert.OPoolIdeal.main (F := Ideal))) ⟨m, fun _ => 0, g⟩ (fun r => (∀ c : Dev Cert.OPoolIdeal.nD,
      r.2.mem ((c.tc : Thread Cert.OPoolIdeal.nD Cert.OPoolIdeal.τ).loc Cert.OPoolIdeal.main_arg0) = m ((c.tc : Thread Cert.OPoolIdeal.nD Cert.OPoolIdeal.τ).loc Cert.OPoolIdeal.main_arg0)
      ∧ r.2.mem ((c.tc : Thread Cert.OPoolIdeal.nD Cert.OPoolIdeal.τ).loc Cert.OPoolIdeal.main_arg1) = m ((c.tc : Thread Cert.OPoolIdeal.nD Cert.OPoolIdeal.τ).loc Cert.OPoolIdeal.main_arg1))
      ∧ r.2.sem = fun _ => 0)

def quiescent_OPoolRefIdeal [hOPoolRefIdeal : Cert.OPoolRefIdeal.Facts] : Prop :=
  ∀ (m : (ℓ : Loc Cert.OPoolRefIdeal.nD Cert.OPoolRefIdeal.τ Cert.OPoolRefIdeal.sig) → Buf (Elt Ideal) ℓ) (g : Dev Cert.OPoolRefIdeal.nD → PrngReg), Pre_OPoolRefIdeal m →
    θ_run (Cert.OPoolRefIdeal.defs (F := Ideal)) (onTc (τ := Cert.OPoolRefIdeal.τ) (Cert.OPoolRefIdeal.main (F := Ideal))) ⟨m, fun _ => 0, g⟩ (fun r => (∀ c : Dev Cert.OPoolRefIdeal.nD,
      r.2.mem ((c.tc : Thread Cert.OPoolRefIdeal.nD Cert.OPoolRefIdeal.τ).loc Cert.OPoolRefIdeal.main_arg0) = m ((c.tc : Thread Cert.OPoolRefIdeal.nD Cert.OPoolRefIdeal.τ).loc Cert.OPoolRefIdeal.main_arg0)
      ∧ r.2.mem ((c.tc : Thread Cert.OPoolRefIdeal.nD Cert.OPoolRefIdeal.τ).loc Cert.OPoolRefIdeal.main_arg1) = m ((c.tc : Thread Cert.OPoolRefIdeal.nD Cert.OPoolRefIdeal.τ).loc Cert.OPoolRefIdeal.main_arg1))
      ∧ r.2.sem = fun _ => 0)

def quiescent_BrW [hBrW : Cert.BrW.Facts] : Prop :=
  ∀ (m : (ℓ : Loc Cert.BrW.nD Cert.BrW.τ Cert.BrW.sig) → Buf (Elt Bits) ℓ) (g : Dev Cert.BrW.nD → PrngReg), Pre_BrW m →
    θ_run (Cert.BrW.defs (F := Bits)) (onTc (τ := Cert.BrW.τ) (Cert.BrW.main (F := Bits))) ⟨m, fun _ => 0, g⟩ (fun r => (∀ c : Dev Cert.BrW.nD,
      r.2.mem ((c.tc : Thread Cert.BrW.nD Cert.BrW.τ).loc Cert.BrW.main_arg0) = m ((c.tc : Thread Cert.BrW.nD Cert.BrW.τ).loc Cert.BrW.main_arg0)
      ∧ r.2.mem ((c.tc : Thread Cert.BrW.nD Cert.BrW.τ).loc Cert.BrW.main_arg1) = m ((c.tc : Thread Cert.BrW.nD Cert.BrW.τ).loc Cert.BrW.main_arg1))
      ∧ r.2.sem = fun _ => 0)

def quiescent_BrWIdeal [hBrWIdeal : Cert.BrWIdeal.Facts] : Prop :=
  ∀ (m : (ℓ : Loc Cert.BrWIdeal.nD Cert.BrWIdeal.τ Cert.BrWIdeal.sig) → Buf (Elt Ideal) ℓ) (g : Dev Cert.BrWIdeal.nD → PrngReg), Pre_BrWIdeal m →
    θ_run (Cert.BrWIdeal.defs (F := Ideal)) (onTc (τ := Cert.BrWIdeal.τ) (Cert.BrWIdeal.main (F := Ideal))) ⟨m, fun _ => 0, g⟩ (fun r => (∀ c : Dev Cert.BrWIdeal.nD,
      r.2.mem ((c.tc : Thread Cert.BrWIdeal.nD Cert.BrWIdeal.τ).loc Cert.BrWIdeal.main_arg0) = m ((c.tc : Thread Cert.BrWIdeal.nD Cert.BrWIdeal.τ).loc Cert.BrWIdeal.main_arg0)
      ∧ r.2.mem ((c.tc : Thread Cert.BrWIdeal.nD Cert.BrWIdeal.τ).loc Cert.BrWIdeal.main_arg1) = m ((c.tc : Thread Cert.BrWIdeal.nD Cert.BrWIdeal.τ).loc Cert.BrWIdeal.main_arg1))
      ∧ r.2.sem = fun _ => 0)

def quiescent_BrWRefIdeal [hBrWRefIdeal : Cert.BrWRefIdeal.Facts] : Prop :=
  ∀ (m : (ℓ : Loc Cert.BrWRefIdeal.nD Cert.BrWRefIdeal.τ Cert.BrWRefIdeal.sig) → Buf (Elt Ideal) ℓ) (g : Dev Cert.BrWRefIdeal.nD → PrngReg), Pre_BrWRefIdeal m →
    θ_run (Cert.BrWRefIdeal.defs (F := Ideal)) (onTc (τ := Cert.BrWRefIdeal.τ) (Cert.BrWRefIdeal.main (F := Ideal))) ⟨m, fun _ => 0, g⟩ (fun r => (∀ c : Dev Cert.BrWRefIdeal.nD,
      r.2.mem ((c.tc : Thread Cert.BrWRefIdeal.nD Cert.BrWRefIdeal.τ).loc Cert.BrWRefIdeal.main_arg0) = m ((c.tc : Thread Cert.BrWRefIdeal.nD Cert.BrWRefIdeal.τ).loc Cert.BrWRefIdeal.main_arg0)
      ∧ r.2.mem ((c.tc : Thread Cert.BrWRefIdeal.nD Cert.BrWRefIdeal.τ).loc Cert.BrWRefIdeal.main_arg1) = m ((c.tc : Thread Cert.BrWRefIdeal.nD Cert.BrWRefIdeal.τ).loc Cert.BrWRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ r.2.sem = fun _ => 0)

def quiescent_KvWRefIdeal [hKvWRefIdeal : Cert.KvWRefIdeal.Facts] : Prop :=
  ∀ (m : (ℓ : Loc Cert.KvWRefIdeal.nD Cert.KvWRefIdeal.τ Cert.KvWRefIdeal.sig) → Buf (Elt Ideal) ℓ) (g : Dev Cert.KvWRefIdeal.nD → PrngReg), Pre_KvWRefIdeal m →
    θ_run (Cert.KvWRefIdeal.defs (F := Ideal)) (onTc (τ := Cert.KvWRefIdeal.τ) (Cert.KvWRefIdeal.main (F := Ideal))) ⟨m, fun _ => 0, g⟩ (fun r => (∀ c : Dev Cert.KvWRefIdeal.nD,
      r.2.mem ((c.tc : Thread Cert.KvWRefIdeal.nD Cert.KvWRefIdeal.τ).loc Cert.KvWRefIdeal.main_arg0) = m ((c.tc : Thread Cert.KvWRefIdeal.nD Cert.KvWRefIdeal.τ).loc Cert.KvWRefIdeal.main_arg0)
      ∧ r.2.mem ((c.tc : Thread Cert.KvWRefIdeal.nD Cert.KvWRefIdeal.τ).loc Cert.KvWRefIdeal.main_arg1) = m ((c.tc : Thread Cert.KvWRefIdeal.nD Cert.KvWRefIdeal.τ).loc Cert.KvWRefIdeal.main_arg1))
      ∧ r.2.sem = fun _ => 0)

def quiescent_KvH [hKvH : Cert.KvH.Facts] : Prop :=
  ∀ (m : (ℓ : Loc Cert.KvH.nD Cert.KvH.τ Cert.KvH.sig) → Buf (Elt Bits) ℓ) (g : Dev Cert.KvH.nD → PrngReg), Pre_KvH m →
    θ_run (Cert.KvH.defs (F := Bits)) (onTc (τ := Cert.KvH.τ) (Cert.KvH.main (F := Bits))) ⟨m, fun _ => 0, g⟩ (fun r => (∀ c : Dev Cert.KvH.nD,
      r.2.mem ((c.tc : Thread Cert.KvH.nD Cert.KvH.τ).loc Cert.KvH.main_arg0) = m ((c.tc : Thread Cert.KvH.nD Cert.KvH.τ).loc Cert.KvH.main_arg0)
      ∧ r.2.mem ((c.tc : Thread Cert.KvH.nD Cert.KvH.τ).loc Cert.KvH.main_arg1) = m ((c.tc : Thread Cert.KvH.nD Cert.KvH.τ).loc Cert.KvH.main_arg1))
      ∧ r.2.sem = fun _ => 0)

def quiescent_KvHIdeal [hKvHIdeal : Cert.KvHIdeal.Facts] : Prop :=
  ∀ (m : (ℓ : Loc Cert.KvHIdeal.nD Cert.KvHIdeal.τ Cert.KvHIdeal.sig) → Buf (Elt Ideal) ℓ) (g : Dev Cert.KvHIdeal.nD → PrngReg), Pre_KvHIdeal m →
    θ_run (Cert.KvHIdeal.defs (F := Ideal)) (onTc (τ := Cert.KvHIdeal.τ) (Cert.KvHIdeal.main (F := Ideal))) ⟨m, fun _ => 0, g⟩ (fun r => (∀ c : Dev Cert.KvHIdeal.nD,
      r.2.mem ((c.tc : Thread Cert.KvHIdeal.nD Cert.KvHIdeal.τ).loc Cert.KvHIdeal.main_arg0) = m ((c.tc : Thread Cert.KvHIdeal.nD Cert.KvHIdeal.τ).loc Cert.KvHIdeal.main_arg0)
      ∧ r.2.mem ((c.tc : Thread Cert.KvHIdeal.nD Cert.KvHIdeal.τ).loc Cert.KvHIdeal.main_arg1) = m ((c.tc : Thread Cert.KvHIdeal.nD Cert.KvHIdeal.τ).loc Cert.KvHIdeal.main_arg1))
      ∧ r.2.sem = fun _ => 0)

def quiescent_KvHRefIdeal [hKvHRefIdeal : Cert.KvHRefIdeal.Facts] : Prop :=
  ∀ (m : (ℓ : Loc Cert.KvHRefIdeal.nD Cert.KvHRefIdeal.τ Cert.KvHRefIdeal.sig) → Buf (Elt Ideal) ℓ) (g : Dev Cert.KvHRefIdeal.nD → PrngReg), Pre_KvHRefIdeal m →
    θ_run (Cert.KvHRefIdeal.defs (F := Ideal)) (onTc (τ := Cert.KvHRefIdeal.τ) (Cert.KvHRefIdeal.main (F := Ideal))) ⟨m, fun _ => 0, g⟩ (fun r => (∀ c : Dev Cert.KvHRefIdeal.nD,
      r.2.mem ((c.tc : Thread Cert.KvHRefIdeal.nD Cert.KvHRefIdeal.τ).loc Cert.KvHRefIdeal.main_arg0) = m ((c.tc : Thread Cert.KvHRefIdeal.nD Cert.KvHRefIdeal.τ).loc Cert.KvHRefIdeal.main_arg0)
      ∧ r.2.mem ((c.tc : Thread Cert.KvHRefIdeal.nD Cert.KvHRefIdeal.τ).loc Cert.KvHRefIdeal.main_arg1) = m ((c.tc : Thread Cert.KvHRefIdeal.nD Cert.KvHRefIdeal.τ).loc Cert.KvHRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)) (v3 : (c : Dev Cert.KernelIdeal.nD) → Buf (Elt Ideal) ((c.tc : Thread Cert.KernelIdeal.nD Cert.KernelIdeal.τ).loc Cert.KernelIdeal.main_v67_3)) (v4 : (c : Dev Cert.KernelIdeal.nD) → Buf (Elt Ideal) ((c.tc : Thread Cert.KernelIdeal.nD Cert.KernelIdeal.τ).loc Cert.KernelIdeal.main_v67_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_v67_3) = v3 c
          ∧ r.2.mem ((c.tc : Thread Cert.KernelIdeal.nD Cert.KernelIdeal.τ).loc Cert.KernelIdeal.main_v67_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v8) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_UpH_UpHIdeal : Prop :=
  True

def algebraic_UpHIdeal_UpHRefIdeal [hUpHIdeal : Cert.UpHIdeal.Facts] [hUpHRefIdeal : Cert.UpHRefIdeal.Facts] : Prop :=
  ∀ (m : (ℓ : Loc Cert.UpHIdeal.nD Cert.UpHIdeal.τ Cert.UpHIdeal.sig) → Buf (Elt Ideal) ℓ) (g : Dev Cert.UpHIdeal.nD → PrngReg)
    (m' : (ℓ : Loc Cert.UpHRefIdeal.nD Cert.UpHRefIdeal.τ Cert.UpHRefIdeal.sig) → Buf (Elt Ideal) ℓ) (g' : Dev Cert.UpHRefIdeal.nD → PrngReg), Pre_UpHIdeal m →
    (∀ c : Dev Cert.UpHIdeal.nD,
      m' ((c.tc : Thread Cert.UpHRefIdeal.nD Cert.UpHRefIdeal.τ).loc Cert.UpHRefIdeal.main_arg0) = m ((c.tc : Thread Cert.UpHIdeal.nD Cert.UpHIdeal.τ).loc Cert.UpHIdeal.main_arg0)
      ∧ m' ((c.tc : Thread Cert.UpHRefIdeal.nD Cert.UpHRefIdeal.τ).loc Cert.UpHRefIdeal.main_arg1) = m ((c.tc : Thread Cert.UpHIdeal.nD Cert.UpHIdeal.τ).loc Cert.UpHIdeal.main_arg1)) →
    ∃ (v0 : (c : Dev Cert.UpHIdeal.nD) → Buf (Elt Ideal) ((c.tc : Thread Cert.UpHIdeal.nD Cert.UpHIdeal.τ).loc Cert.UpHIdeal.main_v0)),
      θ_run (Cert.UpHIdeal.defs (F := Ideal)) (onTc (τ := Cert.UpHIdeal.τ) (Cert.UpHIdeal.main (F := Ideal))) ⟨m, fun _ => 0, g⟩ (fun r => ∀ c : Dev Cert.UpHIdeal.nD,
          r.2.mem ((c.tc : Thread Cert.UpHIdeal.nD Cert.UpHIdeal.τ).loc Cert.UpHIdeal.main_v0) = v0 c
          ∧ r.2.mem ((c.tc : Thread Cert.UpHIdeal.nD Cert.UpHIdeal.τ).loc Cert.UpHIdeal.main_arg0) = m ((c.tc : Thread Cert.UpHIdeal.nD Cert.UpHIdeal.τ).loc Cert.UpHIdeal.main_arg0)
          ∧ r.2.mem ((c.tc : Thread Cert.UpHIdeal.nD Cert.UpHIdeal.τ).loc Cert.UpHIdeal.main_arg1) = m ((c.tc : Thread Cert.UpHIdeal.nD Cert.UpHIdeal.τ).loc Cert.UpHIdeal.main_arg1))
      ∧ θ_run (Cert.UpHRefIdeal.defs (F := Ideal)) (onTc (τ := Cert.UpHRefIdeal.τ) (Cert.UpHRefIdeal.main (F := Ideal))) ⟨m', fun _ => 0, g'⟩ (fun r => ∀ c : Dev Cert.UpHRefIdeal.nD,
          r.2.mem ((c.tc : Thread Cert.UpHRefIdeal.nD Cert.UpHRefIdeal.τ).loc Cert.UpHRefIdeal.main_v7) = v0 c
          ∧ r.2.mem ((c.tc : Thread Cert.UpHRefIdeal.nD Cert.UpHRefIdeal.τ).loc Cert.UpHRefIdeal.main_arg0) = m' ((c.tc : Thread Cert.UpHRefIdeal.nD Cert.UpHRefIdeal.τ).loc Cert.UpHRefIdeal.main_arg0)
          ∧ r.2.mem ((c.tc : Thread Cert.UpHRefIdeal.nD Cert.UpHRefIdeal.τ).loc Cert.UpHRefIdeal.main_arg1) = m' ((c.tc : Thread Cert.UpHRefIdeal.nD Cert.UpHRefIdeal.τ).loc Cert.UpHRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v8) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_InH_InHIdeal : Prop :=
  True

def algebraic_InHIdeal_InHRefIdeal [hInHIdeal : Cert.InHIdeal.Facts] [hInHRefIdeal : Cert.InHRefIdeal.Facts] : Prop :=
  ∀ (m : (ℓ : Loc Cert.InHIdeal.nD Cert.InHIdeal.τ Cert.InHIdeal.sig) → Buf (Elt Ideal) ℓ) (g : Dev Cert.InHIdeal.nD → PrngReg)
    (m' : (ℓ : Loc Cert.InHRefIdeal.nD Cert.InHRefIdeal.τ Cert.InHRefIdeal.sig) → Buf (Elt Ideal) ℓ) (g' : Dev Cert.InHRefIdeal.nD → PrngReg), Pre_InHIdeal m →
    (∀ c : Dev Cert.InHIdeal.nD,
      m' ((c.tc : Thread Cert.InHRefIdeal.nD Cert.InHRefIdeal.τ).loc Cert.InHRefIdeal.main_arg0) = m ((c.tc : Thread Cert.InHIdeal.nD Cert.InHIdeal.τ).loc Cert.InHIdeal.main_arg0)
      ∧ m' ((c.tc : Thread Cert.InHRefIdeal.nD Cert.InHRefIdeal.τ).loc Cert.InHRefIdeal.main_arg1) = m ((c.tc : Thread Cert.InHIdeal.nD Cert.InHIdeal.τ).loc Cert.InHIdeal.main_arg1)) →
    ∃ (v0 : (c : Dev Cert.InHIdeal.nD) → Buf (Elt Ideal) ((c.tc : Thread Cert.InHIdeal.nD Cert.InHIdeal.τ).loc Cert.InHIdeal.main_v0)),
      θ_run (Cert.InHIdeal.defs (F := Ideal)) (onTc (τ := Cert.InHIdeal.τ) (Cert.InHIdeal.main (F := Ideal))) ⟨m, fun _ => 0, g⟩ (fun r => ∀ c : Dev Cert.InHIdeal.nD,
          r.2.mem ((c.tc : Thread Cert.InHIdeal.nD Cert.InHIdeal.τ).loc Cert.InHIdeal.main_v0) = v0 c
          ∧ r.2.mem ((c.tc : Thread Cert.InHIdeal.nD Cert.InHIdeal.τ).loc Cert.InHIdeal.main_arg0) = m ((c.tc : Thread Cert.InHIdeal.nD Cert.InHIdeal.τ).loc Cert.InHIdeal.main_arg0)
          ∧ r.2.mem ((c.tc : Thread Cert.InHIdeal.nD Cert.InHIdeal.τ).loc Cert.InHIdeal.main_arg1) = m ((c.tc : Thread Cert.InHIdeal.nD Cert.InHIdeal.τ).loc Cert.InHIdeal.main_arg1))
      ∧ θ_run (Cert.InHRefIdeal.defs (F := Ideal)) (onTc (τ := Cert.InHRefIdeal.τ) (Cert.InHRefIdeal.main (F := Ideal))) ⟨m', fun _ => 0, g'⟩ (fun r => ∀ c : Dev Cert.InHRefIdeal.nD,
          r.2.mem ((c.tc : Thread Cert.InHRefIdeal.nD Cert.InHRefIdeal.τ).loc Cert.InHRefIdeal.main_v5) = v0 c
          ∧ r.2.mem ((c.tc : Thread Cert.InHRefIdeal.nD Cert.InHRefIdeal.τ).loc Cert.InHRefIdeal.main_arg0) = m' ((c.tc : Thread Cert.InHRefIdeal.nD Cert.InHRefIdeal.τ).loc Cert.InHRefIdeal.main_arg0)
          ∧ r.2.mem ((c.tc : Thread Cert.InHRefIdeal.nD Cert.InHRefIdeal.τ).loc Cert.InHRefIdeal.main_arg1) = m' ((c.tc : Thread Cert.InHRefIdeal.nD Cert.InHRefIdeal.τ).loc Cert.InHRefIdeal.main_arg1))

def preserves_Att_AttIdeal : Prop :=
  True

def algebraic_AttIdeal_AttRefIdeal_pre_finite_att [hAttIdeal : Cert.AttIdeal.Facts] [hAttRefIdeal : Cert.AttRefIdeal.Facts] [hPre_finite_att : Cert.Pre_finite_att.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite_att m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v0_0)) (v1 : (c : Dev Cert.AttIdeal.nD) → Buf (Elt Ideal) ((c.tc : Thread Cert.AttIdeal.nD Cert.AttIdeal.τ).loc Cert.AttIdeal.main_v0_1)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0_0) = v0 c
          ∧ r.2.mem ((c.tc : Thread Cert.AttIdeal.nD Cert.AttIdeal.τ).loc Cert.AttIdeal.main_v0_1) = v1 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v73) = v0 c
          ∧ r.2.mem ((c.tc : Thread Cert.AttRefIdeal.nD Cert.AttRefIdeal.τ).loc Cert.AttRefIdeal.main_v71) = v1 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_v27) = v1 c
          ∧ r.2.mem ((c.tc : Thread Cert.MergeRefIdeal.nD Cert.MergeRefIdeal.τ).loc Cert.MergeRefIdeal.main_v28) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v8_0)) (v1 : (c : Dev Cert.NormIdeal.nD) → Buf (Elt Ideal) ((c.tc : Thread Cert.NormIdeal.nD Cert.NormIdeal.τ).loc Cert.NormIdeal.main_v8_1)) (v2 : (c : Dev Cert.NormIdeal.nD) → Buf (Elt Ideal) ((c.tc : Thread Cert.NormIdeal.nD Cert.NormIdeal.τ).loc Cert.NormIdeal.main_v8_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v8_0) = v0 c
          ∧ r.2.mem ((c.tc : Thread Cert.NormIdeal.nD Cert.NormIdeal.τ).loc Cert.NormIdeal.main_v8_1) = v1 c
          ∧ r.2.mem ((c.tc : Thread Cert.NormIdeal.nD Cert.NormIdeal.τ).loc Cert.NormIdeal.main_v8_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v35) = v0 c
          ∧ r.2.mem ((c.tc : Thread Cert.NormRefIdeal.nD Cert.NormRefIdeal.τ).loc Cert.NormRefIdeal.main_v36) = v1 c
          ∧ r.2.mem ((c.tc : Thread Cert.NormRefIdeal.nD Cert.NormRefIdeal.τ).loc Cert.NormRefIdeal.main_v18) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v5) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v6) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_CrossH_CrossHIdeal : Prop :=
  True

def algebraic_CrossHIdeal_CrossHRefIdeal [hCrossHIdeal : Cert.CrossHIdeal.Facts] [hCrossHRefIdeal : Cert.CrossHRefIdeal.Facts] : Prop :=
  ∀ (m : (ℓ : Loc Cert.CrossHIdeal.nD Cert.CrossHIdeal.τ Cert.CrossHIdeal.sig) → Buf (Elt Ideal) ℓ) (g : Dev Cert.CrossHIdeal.nD → PrngReg)
    (m' : (ℓ : Loc Cert.CrossHRefIdeal.nD Cert.CrossHRefIdeal.τ Cert.CrossHRefIdeal.sig) → Buf (Elt Ideal) ℓ) (g' : Dev Cert.CrossHRefIdeal.nD → PrngReg), Pre_CrossHIdeal m →
    (∀ c : Dev Cert.CrossHIdeal.nD,
      m' ((c.tc : Thread Cert.CrossHRefIdeal.nD Cert.CrossHRefIdeal.τ).loc Cert.CrossHRefIdeal.main_arg0) = m ((c.tc : Thread Cert.CrossHIdeal.nD Cert.CrossHIdeal.τ).loc Cert.CrossHIdeal.main_arg0)
      ∧ m' ((c.tc : Thread Cert.CrossHRefIdeal.nD Cert.CrossHRefIdeal.τ).loc Cert.CrossHRefIdeal.main_arg1) = m ((c.tc : Thread Cert.CrossHIdeal.nD Cert.CrossHIdeal.τ).loc Cert.CrossHIdeal.main_arg1)) →
    ∃ (v0 : (c : Dev Cert.CrossHIdeal.nD) → Buf (Elt Ideal) ((c.tc : Thread Cert.CrossHIdeal.nD Cert.CrossHIdeal.τ).loc Cert.CrossHIdeal.main_v0)),
      θ_run (Cert.CrossHIdeal.defs (F := Ideal)) (onTc (τ := Cert.CrossHIdeal.τ) (Cert.CrossHIdeal.main (F := Ideal))) ⟨m, fun _ => 0, g⟩ (fun r => ∀ c : Dev Cert.CrossHIdeal.nD,
          r.2.mem ((c.tc : Thread Cert.CrossHIdeal.nD Cert.CrossHIdeal.τ).loc Cert.CrossHIdeal.main_v0) = v0 c
          ∧ r.2.mem ((c.tc : Thread Cert.CrossHIdeal.nD Cert.CrossHIdeal.τ).loc Cert.CrossHIdeal.main_arg0) = m ((c.tc : Thread Cert.CrossHIdeal.nD Cert.CrossHIdeal.τ).loc Cert.CrossHIdeal.main_arg0)
          ∧ r.2.mem ((c.tc : Thread Cert.CrossHIdeal.nD Cert.CrossHIdeal.τ).loc Cert.CrossHIdeal.main_arg1) = m ((c.tc : Thread Cert.CrossHIdeal.nD Cert.CrossHIdeal.τ).loc Cert.CrossHIdeal.main_arg1))
      ∧ θ_run (Cert.CrossHRefIdeal.defs (F := Ideal)) (onTc (τ := Cert.CrossHRefIdeal.τ) (Cert.CrossHRefIdeal.main (F := Ideal))) ⟨m', fun _ => 0, g'⟩ (fun r => ∀ c : Dev Cert.CrossHRefIdeal.nD,
          r.2.mem ((c.tc : Thread Cert.CrossHRefIdeal.nD Cert.CrossHRefIdeal.τ).loc Cert.CrossHRefIdeal.main_v5) = v0 c
          ∧ r.2.mem ((c.tc : Thread Cert.CrossHRefIdeal.nD Cert.CrossHRefIdeal.τ).loc Cert.CrossHRefIdeal.main_arg0) = m' ((c.tc : Thread Cert.CrossHRefIdeal.nD Cert.CrossHRefIdeal.τ).loc Cert.CrossHRefIdeal.main_arg0)
          ∧ r.2.mem ((c.tc : Thread Cert.CrossHRefIdeal.nD Cert.CrossHRefIdeal.τ).loc Cert.CrossHRefIdeal.main_arg1) = m' ((c.tc : Thread Cert.CrossHRefIdeal.nD Cert.CrossHRefIdeal.τ).loc Cert.CrossHRefIdeal.main_arg1))

def preserves_CrossW_CrossWIdeal : Prop :=
  True

def algebraic_CrossWIdeal_CrossWRefIdeal [hCrossWIdeal : Cert.CrossWIdeal.Facts] [hCrossWRefIdeal : Cert.CrossWRefIdeal.Facts] : Prop :=
  ∀ (m : (ℓ : Loc Cert.CrossWIdeal.nD Cert.CrossWIdeal.τ Cert.CrossWIdeal.sig) → Buf (Elt Ideal) ℓ) (g : Dev Cert.CrossWIdeal.nD → PrngReg)
    (m' : (ℓ : Loc Cert.CrossWRefIdeal.nD Cert.CrossWRefIdeal.τ Cert.CrossWRefIdeal.sig) → Buf (Elt Ideal) ℓ) (g' : Dev Cert.CrossWRefIdeal.nD → PrngReg), Pre_CrossWIdeal m →
    (∀ c : Dev Cert.CrossWIdeal.nD,
      m' ((c.tc : Thread Cert.CrossWRefIdeal.nD Cert.CrossWRefIdeal.τ).loc Cert.CrossWRefIdeal.main_arg0) = m ((c.tc : Thread Cert.CrossWIdeal.nD Cert.CrossWIdeal.τ).loc Cert.CrossWIdeal.main_arg0)
      ∧ m' ((c.tc : Thread Cert.CrossWRefIdeal.nD Cert.CrossWRefIdeal.τ).loc Cert.CrossWRefIdeal.main_arg1) = m ((c.tc : Thread Cert.CrossWIdeal.nD Cert.CrossWIdeal.τ).loc Cert.CrossWIdeal.main_arg1)) →
    ∃ (v0 : (c : Dev Cert.CrossWIdeal.nD) → Buf (Elt Ideal) ((c.tc : Thread Cert.CrossWIdeal.nD Cert.CrossWIdeal.τ).loc Cert.CrossWIdeal.main_v0)),
      θ_run (Cert.CrossWIdeal.defs (F := Ideal)) (onTc (τ := Cert.CrossWIdeal.τ) (Cert.CrossWIdeal.main (F := Ideal))) ⟨m, fun _ => 0, g⟩ (fun r => ∀ c : Dev Cert.CrossWIdeal.nD,
          r.2.mem ((c.tc : Thread Cert.CrossWIdeal.nD Cert.CrossWIdeal.τ).loc Cert.CrossWIdeal.main_v0) = v0 c
          ∧ r.2.mem ((c.tc : Thread Cert.CrossWIdeal.nD Cert.CrossWIdeal.τ).loc Cert.CrossWIdeal.main_arg0) = m ((c.tc : Thread Cert.CrossWIdeal.nD Cert.CrossWIdeal.τ).loc Cert.CrossWIdeal.main_arg0)
          ∧ r.2.mem ((c.tc : Thread Cert.CrossWIdeal.nD Cert.CrossWIdeal.τ).loc Cert.CrossWIdeal.main_arg1) = m ((c.tc : Thread Cert.CrossWIdeal.nD Cert.CrossWIdeal.τ).loc Cert.CrossWIdeal.main_arg1))
      ∧ θ_run (Cert.CrossWRefIdeal.defs (F := Ideal)) (onTc (τ := Cert.CrossWRefIdeal.τ) (Cert.CrossWRefIdeal.main (F := Ideal))) ⟨m', fun _ => 0, g'⟩ (fun r => ∀ c : Dev Cert.CrossWRefIdeal.nD,
          r.2.mem ((c.tc : Thread Cert.CrossWRefIdeal.nD Cert.CrossWRefIdeal.τ).loc Cert.CrossWRefIdeal.main_v6) = v0 c
          ∧ r.2.mem ((c.tc : Thread Cert.CrossWRefIdeal.nD Cert.CrossWRefIdeal.τ).loc Cert.CrossWRefIdeal.main_arg0) = m' ((c.tc : Thread Cert.CrossWRefIdeal.nD Cert.CrossWRefIdeal.τ).loc Cert.CrossWRefIdeal.main_arg0)
          ∧ r.2.mem ((c.tc : Thread Cert.CrossWRefIdeal.nD Cert.CrossWRefIdeal.τ).loc Cert.CrossWRefIdeal.main_arg1) = m' ((c.tc : Thread Cert.CrossWRefIdeal.nD Cert.CrossWRefIdeal.τ).loc Cert.CrossWRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_CrossQ_CrossQIdeal : Prop :=
  True

def algebraic_CrossQIdeal_CrossQRefIdeal [hCrossQIdeal : Cert.CrossQIdeal.Facts] [hCrossQRefIdeal : Cert.CrossQRefIdeal.Facts] : Prop :=
  ∀ (m : (ℓ : Loc Cert.CrossQIdeal.nD Cert.CrossQIdeal.τ Cert.CrossQIdeal.sig) → Buf (Elt Ideal) ℓ) (g : Dev Cert.CrossQIdeal.nD → PrngReg)
    (m' : (ℓ : Loc Cert.CrossQRefIdeal.nD Cert.CrossQRefIdeal.τ Cert.CrossQRefIdeal.sig) → Buf (Elt Ideal) ℓ) (g' : Dev Cert.CrossQRefIdeal.nD → PrngReg), Pre_CrossQIdeal m →
    (∀ c : Dev Cert.CrossQIdeal.nD,
      m' ((c.tc : Thread Cert.CrossQRefIdeal.nD Cert.CrossQRefIdeal.τ).loc Cert.CrossQRefIdeal.main_arg0) = m ((c.tc : Thread Cert.CrossQIdeal.nD Cert.CrossQIdeal.τ).loc Cert.CrossQIdeal.main_arg0)
      ∧ m' ((c.tc : Thread Cert.CrossQRefIdeal.nD Cert.CrossQRefIdeal.τ).loc Cert.CrossQRefIdeal.main_arg1) = m ((c.tc : Thread Cert.CrossQIdeal.nD Cert.CrossQIdeal.τ).loc Cert.CrossQIdeal.main_arg1)) →
    ∃ (v0 : (c : Dev Cert.CrossQIdeal.nD) → Buf (Elt Ideal) ((c.tc : Thread Cert.CrossQIdeal.nD Cert.CrossQIdeal.τ).loc Cert.CrossQIdeal.main_v0)),
      θ_run (Cert.CrossQIdeal.defs (F := Ideal)) (onTc (τ := Cert.CrossQIdeal.τ) (Cert.CrossQIdeal.main (F := Ideal))) ⟨m, fun _ => 0, g⟩ (fun r => ∀ c : Dev Cert.CrossQIdeal.nD,
          r.2.mem ((c.tc : Thread Cert.CrossQIdeal.nD Cert.CrossQIdeal.τ).loc Cert.CrossQIdeal.main_v0) = v0 c
          ∧ r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
          ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ θ_run (Cert.CrossQRefIdeal.defs (F := Ideal)) (onTc (τ := Cert.CrossQRefIdeal.τ) (Cert.CrossQRefIdeal.main (F := Ideal))) ⟨m', fun _ => 0, g'⟩ (fun r => ∀ c : Dev Cert.CrossQRefIdeal.nD,
          r.2.mem ((c.tc : Thread Cert.CrossQRefIdeal.nD Cert.CrossQRefIdeal.τ).loc Cert.CrossQRefIdeal.main_v3) = v0 c
          ∧ r.2.mem ((c.tc : Thread Cert.CrossQRefIdeal.nD Cert.CrossQRefIdeal.τ).loc Cert.CrossQRefIdeal.main_arg0) = m' ((c.tc : Thread Cert.CrossQRefIdeal.nD Cert.CrossQRefIdeal.τ).loc Cert.CrossQRefIdeal.main_arg0)
          ∧ r.2.mem ((c.tc : Thread Cert.CrossQRefIdeal.nD Cert.CrossQRefIdeal.τ).loc Cert.CrossQRefIdeal.main_arg1) = m' ((c.tc : Thread Cert.CrossQRefIdeal.nD Cert.CrossQRefIdeal.τ).loc Cert.CrossQRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_BrGla_BrGlaIdeal : Prop :=
  True

def algebraic_BrGlaIdeal_BrGlaRefIdeal [hBrGlaIdeal : Cert.BrGlaIdeal.Facts] [hBrGlaRefIdeal : Cert.BrGlaRefIdeal.Facts] : Prop :=
  ∀ (m : (ℓ : Loc Cert.BrGlaIdeal.nD Cert.BrGlaIdeal.τ Cert.BrGlaIdeal.sig) → Buf (Elt Ideal) ℓ) (g : Dev Cert.BrGlaIdeal.nD → PrngReg)
    (m' : (ℓ : Loc Cert.BrGlaRefIdeal.nD Cert.BrGlaRefIdeal.τ Cert.BrGlaRefIdeal.sig) → Buf (Elt Ideal) ℓ) (g' : Dev Cert.BrGlaRefIdeal.nD → PrngReg), Pre_BrGlaIdeal m →
    (∀ c : Dev Cert.BrGlaIdeal.nD,
      m' ((c.tc : Thread Cert.BrGlaRefIdeal.nD Cert.BrGlaRefIdeal.τ).loc Cert.BrGlaRefIdeal.main_arg0) = m ((c.tc : Thread Cert.BrGlaIdeal.nD Cert.BrGlaIdeal.τ).loc Cert.BrGlaIdeal.main_arg0)
      ∧ m' ((c.tc : Thread Cert.BrGlaRefIdeal.nD Cert.BrGlaRefIdeal.τ).loc Cert.BrGlaRefIdeal.main_arg1) = m ((c.tc : Thread Cert.BrGlaIdeal.nD Cert.BrGlaIdeal.τ).loc Cert.BrGlaIdeal.main_arg1)) →
    ∃ (v0 : (c : Dev Cert.BrGlaIdeal.nD) → Buf (Elt Ideal) ((c.tc : Thread Cert.BrGlaIdeal.nD Cert.BrGlaIdeal.τ).loc Cert.BrGlaIdeal.main_v0)),
      θ_run (Cert.BrGlaIdeal.defs (F := Ideal)) (onTc (τ := Cert.BrGlaIdeal.τ) (Cert.BrGlaIdeal.main (F := Ideal))) ⟨m, fun _ => 0, g⟩ (fun r => ∀ c : Dev Cert.BrGlaIdeal.nD,
          r.2.mem ((c.tc : Thread Cert.BrGlaIdeal.nD Cert.BrGlaIdeal.τ).loc Cert.BrGlaIdeal.main_v0) = v0 c
          ∧ r.2.mem ((c.tc : Thread Cert.BrGlaIdeal.nD Cert.BrGlaIdeal.τ).loc Cert.BrGlaIdeal.main_arg0) = m ((c.tc : Thread Cert.BrGlaIdeal.nD Cert.BrGlaIdeal.τ).loc Cert.BrGlaIdeal.main_arg0)
          ∧ r.2.mem ((c.tc : Thread Cert.BrGlaIdeal.nD Cert.BrGlaIdeal.τ).loc Cert.BrGlaIdeal.main_arg1) = m ((c.tc : Thread Cert.BrGlaIdeal.nD Cert.BrGlaIdeal.τ).loc Cert.BrGlaIdeal.main_arg1))
      ∧ θ_run (Cert.BrGlaRefIdeal.defs (F := Ideal)) (onTc (τ := Cert.BrGlaRefIdeal.τ) (Cert.BrGlaRefIdeal.main (F := Ideal))) ⟨m', fun _ => 0, g'⟩ (fun r => ∀ c : Dev Cert.BrGlaRefIdeal.nD,
          r.2.mem ((c.tc : Thread Cert.BrGlaRefIdeal.nD Cert.BrGlaRefIdeal.τ).loc Cert.BrGlaRefIdeal.main_v4) = v0 c
          ∧ r.2.mem ((c.tc : Thread Cert.BrGlaRefIdeal.nD Cert.BrGlaRefIdeal.τ).loc Cert.BrGlaRefIdeal.main_arg0) = m' ((c.tc : Thread Cert.BrGlaRefIdeal.nD Cert.BrGlaRefIdeal.τ).loc Cert.BrGlaRefIdeal.main_arg0)
          ∧ r.2.mem ((c.tc : Thread Cert.BrGlaRefIdeal.nD Cert.BrGlaRefIdeal.τ).loc Cert.BrGlaRefIdeal.main_arg1) = m' ((c.tc : Thread Cert.BrGlaRefIdeal.nD Cert.BrGlaRefIdeal.τ).loc Cert.BrGlaRefIdeal.main_arg1))

def preserves_BrPool_BrPoolIdeal : Prop :=
  True

def algebraic_BrPoolIdeal_BrPoolRefIdeal [hBrPoolIdeal : Cert.BrPoolIdeal.Facts] [hBrPoolRefIdeal : Cert.BrPoolRefIdeal.Facts] : Prop :=
  ∀ (m : (ℓ : Loc Cert.BrPoolIdeal.nD Cert.BrPoolIdeal.τ Cert.BrPoolIdeal.sig) → Buf (Elt Ideal) ℓ) (g : Dev Cert.BrPoolIdeal.nD → PrngReg)
    (m' : (ℓ : Loc Cert.BrPoolRefIdeal.nD Cert.BrPoolRefIdeal.τ Cert.BrPoolRefIdeal.sig) → Buf (Elt Ideal) ℓ) (g' : Dev Cert.BrPoolRefIdeal.nD → PrngReg), Pre_BrPoolIdeal m →
    (∀ c : Dev Cert.BrPoolIdeal.nD,
      m' ((c.tc : Thread Cert.BrPoolRefIdeal.nD Cert.BrPoolRefIdeal.τ).loc Cert.BrPoolRefIdeal.main_arg0) = m ((c.tc : Thread Cert.BrPoolIdeal.nD Cert.BrPoolIdeal.τ).loc Cert.BrPoolIdeal.main_arg0)
      ∧ m' ((c.tc : Thread Cert.BrPoolRefIdeal.nD Cert.BrPoolRefIdeal.τ).loc Cert.BrPoolRefIdeal.main_arg1) = m ((c.tc : Thread Cert.BrPoolIdeal.nD Cert.BrPoolIdeal.τ).loc Cert.BrPoolIdeal.main_arg1)) →
    ∃ (v0 : (c : Dev Cert.BrPoolIdeal.nD) → Buf (Elt Ideal) ((c.tc : Thread Cert.BrPoolIdeal.nD Cert.BrPoolIdeal.τ).loc Cert.BrPoolIdeal.main_v0)),
      θ_run (Cert.BrPoolIdeal.defs (F := Ideal)) (onTc (τ := Cert.BrPoolIdeal.τ) (Cert.BrPoolIdeal.main (F := Ideal))) ⟨m, fun _ => 0, g⟩ (fun r => ∀ c : Dev Cert.BrPoolIdeal.nD,
          r.2.mem ((c.tc : Thread Cert.BrPoolIdeal.nD Cert.BrPoolIdeal.τ).loc Cert.BrPoolIdeal.main_v0) = v0 c
          ∧ r.2.mem ((c.tc : Thread Cert.BrPoolIdeal.nD Cert.BrPoolIdeal.τ).loc Cert.BrPoolIdeal.main_arg0) = m ((c.tc : Thread Cert.BrPoolIdeal.nD Cert.BrPoolIdeal.τ).loc Cert.BrPoolIdeal.main_arg0)
          ∧ r.2.mem ((c.tc : Thread Cert.BrPoolIdeal.nD Cert.BrPoolIdeal.τ).loc Cert.BrPoolIdeal.main_arg1) = m ((c.tc : Thread Cert.BrPoolIdeal.nD Cert.BrPoolIdeal.τ).loc Cert.BrPoolIdeal.main_arg1))
      ∧ θ_run (Cert.BrPoolRefIdeal.defs (F := Ideal)) (onTc (τ := Cert.BrPoolRefIdeal.τ) (Cert.BrPoolRefIdeal.main (F := Ideal))) ⟨m', fun _ => 0, g'⟩ (fun r => ∀ c : Dev Cert.BrPoolRefIdeal.nD,
          r.2.mem ((c.tc : Thread Cert.BrPoolRefIdeal.nD Cert.BrPoolRefIdeal.τ).loc Cert.BrPoolRefIdeal.main_v4) = v0 c
          ∧ r.2.mem ((c.tc : Thread Cert.BrPoolRefIdeal.nD Cert.BrPoolRefIdeal.τ).loc Cert.BrPoolRefIdeal.main_arg0) = m' ((c.tc : Thread Cert.BrPoolRefIdeal.nD Cert.BrPoolRefIdeal.τ).loc Cert.BrPoolRefIdeal.main_arg0)
          ∧ r.2.mem ((c.tc : Thread Cert.BrPoolRefIdeal.nD Cert.BrPoolRefIdeal.τ).loc Cert.BrPoolRefIdeal.main_arg1) = m' ((c.tc : Thread Cert.BrPoolRefIdeal.nD Cert.BrPoolRefIdeal.τ).loc Cert.BrPoolRefIdeal.main_arg1))

def preserves_OGla_OGlaIdeal : Prop :=
  True

def algebraic_OGlaIdeal_OGlaRefIdeal [hOGlaIdeal : Cert.OGlaIdeal.Facts] [hOGlaRefIdeal : Cert.OGlaRefIdeal.Facts] : Prop :=
  ∀ (m : (ℓ : Loc Cert.OGlaIdeal.nD Cert.OGlaIdeal.τ Cert.OGlaIdeal.sig) → Buf (Elt Ideal) ℓ) (g : Dev Cert.OGlaIdeal.nD → PrngReg)
    (m' : (ℓ : Loc Cert.OGlaRefIdeal.nD Cert.OGlaRefIdeal.τ Cert.OGlaRefIdeal.sig) → Buf (Elt Ideal) ℓ) (g' : Dev Cert.OGlaRefIdeal.nD → PrngReg), Pre_OGlaIdeal m →
    (∀ c : Dev Cert.OGlaIdeal.nD,
      m' ((c.tc : Thread Cert.OGlaRefIdeal.nD Cert.OGlaRefIdeal.τ).loc Cert.OGlaRefIdeal.main_arg0) = m ((c.tc : Thread Cert.OGlaIdeal.nD Cert.OGlaIdeal.τ).loc Cert.OGlaIdeal.main_arg0)
      ∧ m' ((c.tc : Thread Cert.OGlaRefIdeal.nD Cert.OGlaRefIdeal.τ).loc Cert.OGlaRefIdeal.main_arg1) = m ((c.tc : Thread Cert.OGlaIdeal.nD Cert.OGlaIdeal.τ).loc Cert.OGlaIdeal.main_arg1)) →
    ∃ (v0 : (c : Dev Cert.OGlaIdeal.nD) → Buf (Elt Ideal) ((c.tc : Thread Cert.OGlaIdeal.nD Cert.OGlaIdeal.τ).loc Cert.OGlaIdeal.main_v0)),
      θ_run (Cert.OGlaIdeal.defs (F := Ideal)) (onTc (τ := Cert.OGlaIdeal.τ) (Cert.OGlaIdeal.main (F := Ideal))) ⟨m, fun _ => 0, g⟩ (fun r => ∀ c : Dev Cert.OGlaIdeal.nD,
          r.2.mem ((c.tc : Thread Cert.OGlaIdeal.nD Cert.OGlaIdeal.τ).loc Cert.OGlaIdeal.main_v0) = v0 c
          ∧ r.2.mem ((c.tc : Thread Cert.OGlaIdeal.nD Cert.OGlaIdeal.τ).loc Cert.OGlaIdeal.main_arg0) = m ((c.tc : Thread Cert.OGlaIdeal.nD Cert.OGlaIdeal.τ).loc Cert.OGlaIdeal.main_arg0)
          ∧ r.2.mem ((c.tc : Thread Cert.OGlaIdeal.nD Cert.OGlaIdeal.τ).loc Cert.OGlaIdeal.main_arg1) = m ((c.tc : Thread Cert.OGlaIdeal.nD Cert.OGlaIdeal.τ).loc Cert.OGlaIdeal.main_arg1))
      ∧ θ_run (Cert.OGlaRefIdeal.defs (F := Ideal)) (onTc (τ := Cert.OGlaRefIdeal.τ) (Cert.OGlaRefIdeal.main (F := Ideal))) ⟨m', fun _ => 0, g'⟩ (fun r => ∀ c : Dev Cert.OGlaRefIdeal.nD,
          r.2.mem ((c.tc : Thread Cert.OGlaRefIdeal.nD Cert.OGlaRefIdeal.τ).loc Cert.OGlaRefIdeal.main_v5) = v0 c
          ∧ r.2.mem ((c.tc : Thread Cert.OGlaRefIdeal.nD Cert.OGlaRefIdeal.τ).loc Cert.OGlaRefIdeal.main_arg0) = m' ((c.tc : Thread Cert.OGlaRefIdeal.nD Cert.OGlaRefIdeal.τ).loc Cert.OGlaRefIdeal.main_arg0)
          ∧ r.2.mem ((c.tc : Thread Cert.OGlaRefIdeal.nD Cert.OGlaRefIdeal.τ).loc Cert.OGlaRefIdeal.main_arg1) = m' ((c.tc : Thread Cert.OGlaRefIdeal.nD Cert.OGlaRefIdeal.τ).loc Cert.OGlaRefIdeal.main_arg1))

def preserves_OPool_OPoolIdeal : Prop :=
  True

def algebraic_OPoolIdeal_OPoolRefIdeal [hOPoolIdeal : Cert.OPoolIdeal.Facts] [hOPoolRefIdeal : Cert.OPoolRefIdeal.Facts] : Prop :=
  ∀ (m : (ℓ : Loc Cert.OPoolIdeal.nD Cert.OPoolIdeal.τ Cert.OPoolIdeal.sig) → Buf (Elt Ideal) ℓ) (g : Dev Cert.OPoolIdeal.nD → PrngReg)
    (m' : (ℓ : Loc Cert.OPoolRefIdeal.nD Cert.OPoolRefIdeal.τ Cert.OPoolRefIdeal.sig) → Buf (Elt Ideal) ℓ) (g' : Dev Cert.OPoolRefIdeal.nD → PrngReg), Pre_OPoolIdeal m →
    (∀ c : Dev Cert.OPoolIdeal.nD,
      m' ((c.tc : Thread Cert.OPoolRefIdeal.nD Cert.OPoolRefIdeal.τ).loc Cert.OPoolRefIdeal.main_arg0) = m ((c.tc : Thread Cert.OPoolIdeal.nD Cert.OPoolIdeal.τ).loc Cert.OPoolIdeal.main_arg0)
      ∧ m' ((c.tc : Thread Cert.OPoolRefIdeal.nD Cert.OPoolRefIdeal.τ).loc Cert.OPoolRefIdeal.main_arg1) = m ((c.tc : Thread Cert.OPoolIdeal.nD Cert.OPoolIdeal.τ).loc Cert.OPoolIdeal.main_arg1)) →
    ∃ (v0 : (c : Dev Cert.OPoolIdeal.nD) → Buf (Elt Ideal) ((c.tc : Thread Cert.OPoolIdeal.nD Cert.OPoolIdeal.τ).loc Cert.OPoolIdeal.main_v0)),
      θ_run (Cert.OPoolIdeal.defs (F := Ideal)) (onTc (τ := Cert.OPoolIdeal.τ) (Cert.OPoolIdeal.main (F := Ideal))) ⟨m, fun _ => 0, g⟩ (fun r => ∀ c : Dev Cert.OPoolIdeal.nD,
          r.2.mem ((c.tc : Thread Cert.OPoolIdeal.nD Cert.OPoolIdeal.τ).loc Cert.OPoolIdeal.main_v0) = v0 c
          ∧ r.2.mem ((c.tc : Thread Cert.OPoolIdeal.nD Cert.OPoolIdeal.τ).loc Cert.OPoolIdeal.main_arg0) = m ((c.tc : Thread Cert.OPoolIdeal.nD Cert.OPoolIdeal.τ).loc Cert.OPoolIdeal.main_arg0)
          ∧ r.2.mem ((c.tc : Thread Cert.OPoolIdeal.nD Cert.OPoolIdeal.τ).loc Cert.OPoolIdeal.main_arg1) = m ((c.tc : Thread Cert.OPoolIdeal.nD Cert.OPoolIdeal.τ).loc Cert.OPoolIdeal.main_arg1))
      ∧ θ_run (Cert.OPoolRefIdeal.defs (F := Ideal)) (onTc (τ := Cert.OPoolRefIdeal.τ) (Cert.OPoolRefIdeal.main (F := Ideal))) ⟨m', fun _ => 0, g'⟩ (fun r => ∀ c : Dev Cert.OPoolRefIdeal.nD,
          r.2.mem ((c.tc : Thread Cert.OPoolRefIdeal.nD Cert.OPoolRefIdeal.τ).loc Cert.OPoolRefIdeal.main_v5) = v0 c
          ∧ r.2.mem ((c.tc : Thread Cert.OPoolRefIdeal.nD Cert.OPoolRefIdeal.τ).loc Cert.OPoolRefIdeal.main_arg0) = m' ((c.tc : Thread Cert.OPoolRefIdeal.nD Cert.OPoolRefIdeal.τ).loc Cert.OPoolRefIdeal.main_arg0)
          ∧ r.2.mem ((c.tc : Thread Cert.OPoolRefIdeal.nD Cert.OPoolRefIdeal.τ).loc Cert.OPoolRefIdeal.main_arg1) = m' ((c.tc : Thread Cert.OPoolRefIdeal.nD Cert.OPoolRefIdeal.τ).loc Cert.OPoolRefIdeal.main_arg1))

def preserves_BrW_BrWIdeal : Prop :=
  True

def algebraic_BrWIdeal_BrWRefIdeal [hBrWIdeal : Cert.BrWIdeal.Facts] [hBrWRefIdeal : Cert.BrWRefIdeal.Facts] : Prop :=
  ∀ (m : (ℓ : Loc Cert.BrWIdeal.nD Cert.BrWIdeal.τ Cert.BrWIdeal.sig) → Buf (Elt Ideal) ℓ) (g : Dev Cert.BrWIdeal.nD → PrngReg)
    (m' : (ℓ : Loc Cert.BrWRefIdeal.nD Cert.BrWRefIdeal.τ Cert.BrWRefIdeal.sig) → Buf (Elt Ideal) ℓ) (g' : Dev Cert.BrWRefIdeal.nD → PrngReg), Pre_BrWIdeal m →
    (∀ c : Dev Cert.BrWIdeal.nD,
      m' ((c.tc : Thread Cert.BrWRefIdeal.nD Cert.BrWRefIdeal.τ).loc Cert.BrWRefIdeal.main_arg0) = m ((c.tc : Thread Cert.BrWIdeal.nD Cert.BrWIdeal.τ).loc Cert.BrWIdeal.main_arg0)
      ∧ m' ((c.tc : Thread Cert.BrWRefIdeal.nD Cert.BrWRefIdeal.τ).loc Cert.BrWRefIdeal.main_arg1) = m ((c.tc : Thread Cert.BrWIdeal.nD Cert.BrWIdeal.τ).loc Cert.BrWIdeal.main_arg1)) →
    ∃ (v0 : (c : Dev Cert.BrWIdeal.nD) → Buf (Elt Ideal) ((c.tc : Thread Cert.BrWIdeal.nD Cert.BrWIdeal.τ).loc Cert.BrWIdeal.main_v0)),
      θ_run (Cert.BrWIdeal.defs (F := Ideal)) (onTc (τ := Cert.BrWIdeal.τ) (Cert.BrWIdeal.main (F := Ideal))) ⟨m, fun _ => 0, g⟩ (fun r => ∀ c : Dev Cert.BrWIdeal.nD,
          r.2.mem ((c.tc : Thread Cert.BrWIdeal.nD Cert.BrWIdeal.τ).loc Cert.BrWIdeal.main_v0) = v0 c
          ∧ r.2.mem ((c.tc : Thread Cert.BrWIdeal.nD Cert.BrWIdeal.τ).loc Cert.BrWIdeal.main_arg0) = m ((c.tc : Thread Cert.BrWIdeal.nD Cert.BrWIdeal.τ).loc Cert.BrWIdeal.main_arg0)
          ∧ r.2.mem ((c.tc : Thread Cert.BrWIdeal.nD Cert.BrWIdeal.τ).loc Cert.BrWIdeal.main_arg1) = m ((c.tc : Thread Cert.BrWIdeal.nD Cert.BrWIdeal.τ).loc Cert.BrWIdeal.main_arg1))
      ∧ θ_run (Cert.BrWRefIdeal.defs (F := Ideal)) (onTc (τ := Cert.BrWRefIdeal.τ) (Cert.BrWRefIdeal.main (F := Ideal))) ⟨m', fun _ => 0, g'⟩ (fun r => ∀ c : Dev Cert.BrWRefIdeal.nD,
          r.2.mem ((c.tc : Thread Cert.BrWRefIdeal.nD Cert.BrWRefIdeal.τ).loc Cert.BrWRefIdeal.main_v6) = v0 c
          ∧ r.2.mem ((c.tc : Thread Cert.BrWRefIdeal.nD Cert.BrWRefIdeal.τ).loc Cert.BrWRefIdeal.main_arg0) = m' ((c.tc : Thread Cert.BrWRefIdeal.nD Cert.BrWRefIdeal.τ).loc Cert.BrWRefIdeal.main_arg0)
          ∧ r.2.mem ((c.tc : Thread Cert.BrWRefIdeal.nD Cert.BrWRefIdeal.τ).loc Cert.BrWRefIdeal.main_arg1) = m' ((c.tc : Thread Cert.BrWRefIdeal.nD Cert.BrWRefIdeal.τ).loc Cert.BrWRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v5) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvW_KvWIdeal : Prop :=
  True

def algebraic_KvWIdeal_KvWRefIdeal [hKvWIdeal : Cert.KvWIdeal.Facts] [hKvWRefIdeal : Cert.KvWRefIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWRefIdeal.nD Cert.KvWRefIdeal.τ Cert.KvWRefIdeal.sig) → Buf (Elt Ideal) ℓ) (g' : Dev Cert.KvWRefIdeal.nD → PrngReg), Pre_KvWIdeal m →
    (∀ c : Dev Cert.KvWIdeal.nD,
      m' ((c.tc : Thread Cert.KvWRefIdeal.nD Cert.KvWRefIdeal.τ).loc Cert.KvWRefIdeal.main_arg0) = m ((c.tc : Thread Cert.KvWIdeal.nD Cert.KvWIdeal.τ).loc Cert.KvWIdeal.main_arg0)
      ∧ m' ((c.tc : Thread Cert.KvWRefIdeal.nD Cert.KvWRefIdeal.τ).loc Cert.KvWRefIdeal.main_arg1) = m ((c.tc : Thread Cert.KvWIdeal.nD Cert.KvWIdeal.τ).loc Cert.KvWIdeal.main_arg1)) →
    ∃ (v0 : (c : Dev Cert.KvWIdeal.nD) → Buf (Elt Ideal) ((c.tc : Thread Cert.KvWIdeal.nD Cert.KvWIdeal.τ).loc Cert.KvWIdeal.main_v0)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v0) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ θ_run (Cert.KvWRefIdeal.defs (F := Ideal)) (onTc (τ := Cert.KvWRefIdeal.τ) (Cert.KvWRefIdeal.main (F := Ideal))) ⟨m', fun _ => 0, g'⟩ (fun r => ∀ c : Dev Cert.KvWRefIdeal.nD,
          r.2.mem ((c.tc : Thread Cert.KvWRefIdeal.nD Cert.KvWRefIdeal.τ).loc Cert.KvWRefIdeal.main_v8) = v0 c
          ∧ r.2.mem ((c.tc : Thread Cert.KvWRefIdeal.nD Cert.KvWRefIdeal.τ).loc Cert.KvWRefIdeal.main_arg0) = m' ((c.tc : Thread Cert.KvWRefIdeal.nD Cert.KvWRefIdeal.τ).loc Cert.KvWRefIdeal.main_arg0)
          ∧ r.2.mem ((c.tc : Thread Cert.KvWRefIdeal.nD Cert.KvWRefIdeal.τ).loc Cert.KvWRefIdeal.main_arg1) = m' ((c.tc : Thread Cert.KvWRefIdeal.nD Cert.KvWRefIdeal.τ).loc Cert.KvWRefIdeal.main_arg1))

def preserves_KvH_KvHIdeal : Prop :=
  True

def algebraic_KvHIdeal_KvHRefIdeal [hKvHIdeal : Cert.KvHIdeal.Facts] [hKvHRefIdeal : Cert.KvHRefIdeal.Facts] : Prop :=
  ∀ (m : (ℓ : Loc Cert.KvHIdeal.nD Cert.KvHIdeal.τ Cert.KvHIdeal.sig) → Buf (Elt Ideal) ℓ) (g : Dev Cert.KvHIdeal.nD → PrngReg)
    (m' : (ℓ : Loc Cert.KvHRefIdeal.nD Cert.KvHRefIdeal.τ Cert.KvHRefIdeal.sig) → Buf (Elt Ideal) ℓ) (g' : Dev Cert.KvHRefIdeal.nD → PrngReg), Pre_KvHIdeal m →
    (∀ c : Dev Cert.KvHIdeal.nD,
      m' ((c.tc : Thread Cert.KvHRefIdeal.nD Cert.KvHRefIdeal.τ).loc Cert.KvHRefIdeal.main_arg0) = m ((c.tc : Thread Cert.KvHIdeal.nD Cert.KvHIdeal.τ).loc Cert.KvHIdeal.main_arg0)
      ∧ m' ((c.tc : Thread Cert.KvHRefIdeal.nD Cert.KvHRefIdeal.τ).loc Cert.KvHRefIdeal.main_arg1) = m ((c.tc : Thread Cert.KvHIdeal.nD Cert.KvHIdeal.τ).loc Cert.KvHIdeal.main_arg1)) →
    ∃ (v0 : (c : Dev Cert.KvHIdeal.nD) → Buf (Elt Ideal) ((c.tc : Thread Cert.KvHIdeal.nD Cert.KvHIdeal.τ).loc Cert.KvHIdeal.main_v0)),
      θ_run (Cert.KvHIdeal.defs (F := Ideal)) (onTc (τ := Cert.KvHIdeal.τ) (Cert.KvHIdeal.main (F := Ideal))) ⟨m, fun _ => 0, g⟩ (fun r => ∀ c : Dev Cert.KvHIdeal.nD,
          r.2.mem ((c.tc : Thread Cert.KvHIdeal.nD Cert.KvHIdeal.τ).loc Cert.KvHIdeal.main_v0) = v0 c
          ∧ r.2.mem ((c.tc : Thread Cert.KvHIdeal.nD Cert.KvHIdeal.τ).loc Cert.KvHIdeal.main_arg0) = m ((c.tc : Thread Cert.KvHIdeal.nD Cert.KvHIdeal.τ).loc Cert.KvHIdeal.main_arg0)
          ∧ r.2.mem ((c.tc : Thread Cert.KvHIdeal.nD Cert.KvHIdeal.τ).loc Cert.KvHIdeal.main_arg1) = m ((c.tc : Thread Cert.KvHIdeal.nD Cert.KvHIdeal.τ).loc Cert.KvHIdeal.main_arg1))
      ∧ θ_run (Cert.KvHRefIdeal.defs (F := Ideal)) (onTc (τ := Cert.KvHRefIdeal.τ) (Cert.KvHRefIdeal.main (F := Ideal))) ⟨m', fun _ => 0, g'⟩ (fun r => ∀ c : Dev Cert.KvHRefIdeal.nD,
          r.2.mem ((c.tc : Thread Cert.KvHRefIdeal.nD Cert.KvHRefIdeal.τ).loc Cert.KvHRefIdeal.main_v6) = v0 c
          ∧ r.2.mem ((c.tc : Thread Cert.KvHRefIdeal.nD Cert.KvHRefIdeal.τ).loc Cert.KvHRefIdeal.main_arg0) = m' ((c.tc : Thread Cert.KvHRefIdeal.nD Cert.KvHRefIdeal.τ).loc Cert.KvHRefIdeal.main_arg0)
          ∧ r.2.mem ((c.tc : Thread Cert.KvHRefIdeal.nD Cert.KvHRefIdeal.τ).loc Cert.KvHRefIdeal.main_arg1) = m' ((c.tc : Thread Cert.KvHRefIdeal.nD Cert.KvHRefIdeal.τ).loc Cert.KvHRefIdeal.main_arg1))

def Claim : Prop :=
  ∃ (hKernel : Cert.Kernel.Facts) (hKernelIdeal : Cert.KernelIdeal.Facts) (hReferenceIdeal : Cert.ReferenceIdeal.Facts) (hUpW : Cert.UpW.Facts) (hUpWIdeal : Cert.UpWIdeal.Facts) (hUpWRefIdeal : Cert.UpWRefIdeal.Facts) (hUpH : Cert.UpH.Facts) (hUpHIdeal : Cert.UpHIdeal.Facts) (hUpHRefIdeal : Cert.UpHRefIdeal.Facts) (hInW : Cert.InW.Facts) (hInWIdeal : Cert.InWIdeal.Facts) (hInWRefIdeal : Cert.InWRefIdeal.Facts) (hInH : Cert.InH.Facts) (hInHIdeal : Cert.InHIdeal.Facts) (hInHRefIdeal : Cert.InHRefIdeal.Facts) (hAtt : Cert.Att.Facts) (hAttIdeal : Cert.AttIdeal.Facts) (hAttRefIdeal : Cert.AttRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hAct : Cert.Act.Facts) (hActIdeal : Cert.ActIdeal.Facts) (hActRefIdeal : Cert.ActRefIdeal.Facts) (hDownW : Cert.DownW.Facts) (hDownWIdeal : Cert.DownWIdeal.Facts) (hDownWRefIdeal : Cert.DownWRefIdeal.Facts) (hCrossH : Cert.CrossH.Facts) (hCrossHIdeal : Cert.CrossHIdeal.Facts) (hCrossHRefIdeal : Cert.CrossHRefIdeal.Facts) (hCrossW : Cert.CrossW.Facts) (hCrossWIdeal : Cert.CrossWIdeal.Facts) (hCrossWRefIdeal : Cert.CrossWRefIdeal.Facts) (hUp : Cert.Up.Facts) (hUpIdeal : Cert.UpIdeal.Facts) (hUpRefIdeal : Cert.UpRefIdeal.Facts) (hProj : Cert.Proj.Facts) (hProjIdeal : Cert.ProjIdeal.Facts) (hProjRefIdeal : Cert.ProjRefIdeal.Facts) (hDown : Cert.Down.Facts) (hDownIdeal : Cert.DownIdeal.Facts) (hDownRefIdeal : Cert.DownRefIdeal.Facts) (hCrossQ : Cert.CrossQ.Facts) (hCrossQIdeal : Cert.CrossQIdeal.Facts) (hCrossQRefIdeal : Cert.CrossQRefIdeal.Facts) (hMixOut : Cert.MixOut.Facts) (hMixOutIdeal : Cert.MixOutIdeal.Facts) (hMixOutRefIdeal : Cert.MixOutRefIdeal.Facts) (hBrGla : Cert.BrGla.Facts) (hBrGlaIdeal : Cert.BrGlaIdeal.Facts) (hBrGlaRefIdeal : Cert.BrGlaRefIdeal.Facts) (hBrPool : Cert.BrPool.Facts) (hBrPoolIdeal : Cert.BrPoolIdeal.Facts) (hBrPoolRefIdeal : Cert.BrPoolRefIdeal.Facts) (hOGla : Cert.OGla.Facts) (hOGlaIdeal : Cert.OGlaIdeal.Facts) (hOGlaRefIdeal : Cert.OGlaRefIdeal.Facts) (hOPool : Cert.OPool.Facts) (hOPoolIdeal : Cert.OPoolIdeal.Facts) (hOPoolRefIdeal : Cert.OPoolRefIdeal.Facts) (hBrW : Cert.BrW.Facts) (hBrWIdeal : Cert.BrWIdeal.Facts) (hBrWRefIdeal : Cert.BrWRefIdeal.Facts) (hKv : Cert.Kv.Facts) (hKvIdeal : Cert.KvIdeal.Facts) (hKvRefIdeal : Cert.KvRefIdeal.Facts) (hKvW : Cert.KvW.Facts) (hKvWIdeal : Cert.KvWIdeal.Facts) (hKvWRefIdeal : Cert.KvWRefIdeal.Facts) (hKvH : Cert.KvH.Facts) (hKvHIdeal : Cert.KvHIdeal.Facts) (hKvHRefIdeal : Cert.KvHRefIdeal.Facts) (hPre_finite : Cert.Pre_finite.Facts) (hPre_finite_att : Cert.Pre_finite_att.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpW (hUpW := hUpW)
    ∧ quiescent_UpWIdeal (hUpWIdeal := hUpWIdeal)
    ∧ quiescent_UpWRefIdeal (hUpWRefIdeal := hUpWRefIdeal)
    ∧ quiescent_UpH (hUpH := hUpH)
    ∧ quiescent_UpHIdeal (hUpHIdeal := hUpHIdeal)
    ∧ quiescent_UpHRefIdeal (hUpHRefIdeal := hUpHRefIdeal)
    ∧ quiescent_InW (hInW := hInW)
    ∧ quiescent_InWIdeal (hInWIdeal := hInWIdeal)
    ∧ quiescent_InWRefIdeal (hInWRefIdeal := hInWRefIdeal)
    ∧ quiescent_InH (hInH := hInH)
    ∧ quiescent_InHIdeal (hInHIdeal := hInHIdeal)
    ∧ quiescent_InHRefIdeal (hInHRefIdeal := hInHRefIdeal)
    ∧ quiescent_Att (hAtt := hAtt)
    ∧ quiescent_AttIdeal (hAttIdeal := hAttIdeal)
    ∧ quiescent_AttIdeal_pre_finite_att (hAttIdeal := hAttIdeal) (hPre_finite_att := hPre_finite_att)
    ∧ quiescent_AttRefIdeal (hAttRefIdeal := hAttRefIdeal)
    ∧ quiescent_AttRefIdeal_pre_finite_att (hAttRefIdeal := hAttRefIdeal) (hPre_finite_att := hPre_finite_att)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_Act (hAct := hAct)
    ∧ quiescent_ActIdeal (hActIdeal := hActIdeal)
    ∧ quiescent_ActRefIdeal (hActRefIdeal := hActRefIdeal)
    ∧ quiescent_DownW (hDownW := hDownW)
    ∧ quiescent_DownWIdeal (hDownWIdeal := hDownWIdeal)
    ∧ quiescent_DownWRefIdeal (hDownWRefIdeal := hDownWRefIdeal)
    ∧ quiescent_CrossH (hCrossH := hCrossH)
    ∧ quiescent_CrossHIdeal (hCrossHIdeal := hCrossHIdeal)
    ∧ quiescent_CrossHRefIdeal (hCrossHRefIdeal := hCrossHRefIdeal)
    ∧ quiescent_CrossW (hCrossW := hCrossW)
    ∧ quiescent_CrossWIdeal (hCrossWIdeal := hCrossWIdeal)
    ∧ quiescent_CrossWRefIdeal (hCrossWRefIdeal := hCrossWRefIdeal)
    ∧ quiescent_Up (hUp := hUp)
    ∧ quiescent_UpIdeal (hUpIdeal := hUpIdeal)
    ∧ quiescent_UpRefIdeal (hUpRefIdeal := hUpRefIdeal)
    ∧ quiescent_Proj (hProj := hProj)
    ∧ quiescent_ProjIdeal (hProjIdeal := hProjIdeal)
    ∧ quiescent_ProjRefIdeal (hProjRefIdeal := hProjRefIdeal)
    ∧ quiescent_Down (hDown := hDown)
    ∧ quiescent_DownIdeal (hDownIdeal := hDownIdeal)
    ∧ quiescent_DownRefIdeal (hDownRefIdeal := hDownRefIdeal)
    ∧ quiescent_CrossQ (hCrossQ := hCrossQ)
    ∧ quiescent_CrossQIdeal (hCrossQIdeal := hCrossQIdeal)
    ∧ quiescent_CrossQRefIdeal (hCrossQRefIdeal := hCrossQRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_BrGla (hBrGla := hBrGla)
    ∧ quiescent_BrGlaIdeal (hBrGlaIdeal := hBrGlaIdeal)
    ∧ quiescent_BrGlaRefIdeal (hBrGlaRefIdeal := hBrGlaRefIdeal)
    ∧ quiescent_BrPool (hBrPool := hBrPool)
    ∧ quiescent_BrPoolIdeal (hBrPoolIdeal := hBrPoolIdeal)
    ∧ quiescent_BrPoolRefIdeal (hBrPoolRefIdeal := hBrPoolRefIdeal)
    ∧ quiescent_OGla (hOGla := hOGla)
    ∧ quiescent_OGlaIdeal (hOGlaIdeal := hOGlaIdeal)
    ∧ quiescent_OGlaRefIdeal (hOGlaRefIdeal := hOGlaRefIdeal)
    ∧ quiescent_OPool (hOPool := hOPool)
    ∧ quiescent_OPoolIdeal (hOPoolIdeal := hOPoolIdeal)
    ∧ quiescent_OPoolRefIdeal (hOPoolRefIdeal := hOPoolRefIdeal)
    ∧ quiescent_BrW (hBrW := hBrW)
    ∧ quiescent_BrWIdeal (hBrWIdeal := hBrWIdeal)
    ∧ quiescent_BrWRefIdeal (hBrWRefIdeal := hBrWRefIdeal)
    ∧ quiescent_Kv (hKv := hKv)
    ∧ quiescent_KvIdeal (hKvIdeal := hKvIdeal)
    ∧ quiescent_KvRefIdeal (hKvRefIdeal := hKvRefIdeal)
    ∧ quiescent_KvW (hKvW := hKvW)
    ∧ quiescent_KvWIdeal (hKvWIdeal := hKvWIdeal)
    ∧ quiescent_KvWRefIdeal (hKvWRefIdeal := hKvWRefIdeal)
    ∧ quiescent_KvH (hKvH := hKvH)
    ∧ quiescent_KvHIdeal (hKvHIdeal := hKvHIdeal)
    ∧ quiescent_KvHRefIdeal (hKvHRefIdeal := hKvHRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpW_UpWIdeal
    ∧ algebraic_UpWIdeal_UpWRefIdeal (hUpWIdeal := hUpWIdeal) (hUpWRefIdeal := hUpWRefIdeal)
    ∧ preserves_UpH_UpHIdeal
    ∧ algebraic_UpHIdeal_UpHRefIdeal (hUpHIdeal := hUpHIdeal) (hUpHRefIdeal := hUpHRefIdeal)
    ∧ preserves_InW_InWIdeal
    ∧ algebraic_InWIdeal_InWRefIdeal (hInWIdeal := hInWIdeal) (hInWRefIdeal := hInWRefIdeal)
    ∧ preserves_InH_InHIdeal
    ∧ algebraic_InHIdeal_InHRefIdeal (hInHIdeal := hInHIdeal) (hInHRefIdeal := hInHRefIdeal)
    ∧ preserves_Att_AttIdeal
    ∧ algebraic_AttIdeal_AttRefIdeal_pre_finite_att (hAttIdeal := hAttIdeal) (hAttRefIdeal := hAttRefIdeal) (hPre_finite_att := hPre_finite_att)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_Act_ActIdeal
    ∧ algebraic_ActIdeal_ActRefIdeal (hActIdeal := hActIdeal) (hActRefIdeal := hActRefIdeal)
    ∧ preserves_DownW_DownWIdeal
    ∧ algebraic_DownWIdeal_DownWRefIdeal (hDownWIdeal := hDownWIdeal) (hDownWRefIdeal := hDownWRefIdeal)
    ∧ preserves_CrossH_CrossHIdeal
    ∧ algebraic_CrossHIdeal_CrossHRefIdeal (hCrossHIdeal := hCrossHIdeal) (hCrossHRefIdeal := hCrossHRefIdeal)
    ∧ preserves_CrossW_CrossWIdeal
    ∧ algebraic_CrossWIdeal_CrossWRefIdeal (hCrossWIdeal := hCrossWIdeal) (hCrossWRefIdeal := hCrossWRefIdeal)
    ∧ preserves_Up_UpIdeal
    ∧ algebraic_UpIdeal_UpRefIdeal (hUpIdeal := hUpIdeal) (hUpRefIdeal := hUpRefIdeal)
    ∧ preserves_Proj_ProjIdeal
    ∧ algebraic_ProjIdeal_ProjRefIdeal (hProjIdeal := hProjIdeal) (hProjRefIdeal := hProjRefIdeal)
    ∧ preserves_Down_DownIdeal
    ∧ algebraic_DownIdeal_DownRefIdeal (hDownIdeal := hDownIdeal) (hDownRefIdeal := hDownRefIdeal)
    ∧ preserves_CrossQ_CrossQIdeal
    ∧ algebraic_CrossQIdeal_CrossQRefIdeal (hCrossQIdeal := hCrossQIdeal) (hCrossQRefIdeal := hCrossQRefIdeal)
    ∧ preserves_MixOut_MixOutIdeal
    ∧ algebraic_MixOutIdeal_MixOutRefIdeal (hMixOutIdeal := hMixOutIdeal) (hMixOutRefIdeal := hMixOutRefIdeal)
    ∧ preserves_BrGla_BrGlaIdeal
    ∧ algebraic_BrGlaIdeal_BrGlaRefIdeal (hBrGlaIdeal := hBrGlaIdeal) (hBrGlaRefIdeal := hBrGlaRefIdeal)
    ∧ preserves_BrPool_BrPoolIdeal
    ∧ algebraic_BrPoolIdeal_BrPoolRefIdeal (hBrPoolIdeal := hBrPoolIdeal) (hBrPoolRefIdeal := hBrPoolRefIdeal)
    ∧ preserves_OGla_OGlaIdeal
    ∧ algebraic_OGlaIdeal_OGlaRefIdeal (hOGlaIdeal := hOGlaIdeal) (hOGlaRefIdeal := hOGlaRefIdeal)
    ∧ preserves_OPool_OPoolIdeal
    ∧ algebraic_OPoolIdeal_OPoolRefIdeal (hOPoolIdeal := hOPoolIdeal) (hOPoolRefIdeal := hOPoolRefIdeal)
    ∧ preserves_BrW_BrWIdeal
    ∧ algebraic_BrWIdeal_BrWRefIdeal (hBrWIdeal := hBrWIdeal) (hBrWRefIdeal := hBrWRefIdeal)
    ∧ preserves_Kv_KvIdeal
    ∧ algebraic_KvIdeal_KvRefIdeal (hKvIdeal := hKvIdeal) (hKvRefIdeal := hKvRefIdeal)
    ∧ preserves_KvW_KvWIdeal
    ∧ algebraic_KvWIdeal_KvWRefIdeal (hKvWIdeal := hKvWIdeal) (hKvWRefIdeal := hKvWRefIdeal)
    ∧ preserves_KvH_KvHIdeal
    ∧ algebraic_KvHIdeal_KvHRefIdeal (hKvHIdeal := hKvHIdeal) (hKvHRefIdeal := hKvHRefIdeal)
-- ==== Pre_finite.lean ====
abbrev S2048x8192 : Shape := ⟨2, ![2048, 8192]⟩
abbrev S2048x128 : Shape := ⟨2, ![2048, 128]⟩
abbrev S128x512 : Shape := ⟨2, ![128, 512]⟩
abbrev S1x512 : Shape := ⟨2, ![1, 512]⟩
abbrev S1x1024 : Shape := ⟨2, ![1, 1024]⟩
abbrev S2048x1024 : Shape := ⟨2, ![2048, 1024]⟩
abbrev S_ : Shape := ⟨0, ![]⟩

class Facts : Prop where
  bcast_S_S2048x8192 : S_.BroadcastsInDim S2048x8192 (![] : Fin 0 → Fin S2048x8192.rank)
  bcast_S_S2048x128 : S_.BroadcastsInDim S2048x128 (![] : Fin 0 → Fin S2048x128.rank)
  bitsLt_bf16_f32 : FTy.bits .bf16 < FTy.bits .f32
  bcast_S_S128x512 : S_.BroadcastsInDim S128x512 (![] : Fin 0 → Fin S128x512.rank)
  bcast_S_S1x512 : S_.BroadcastsInDim S1x512 (![] : Fin 0 → Fin S1x512.rank)
  bcast_S_S1x1024 : S_.BroadcastsInDim S1x1024 (![] : Fin 0 → Fin S1x1024.rank)
  bcast_S_S2048x1024 : S_.BroadcastsInDim S2048x1024 (![] : Fin 0 → Fin S2048x1024.rank)

variable [Facts]

def fn_part1 {F : FTy → Type} [FloatOps F] (main_v2 : IVec S2048x8192 1) (main_v5 : IVec S2048x128 1) (main_v9 : IVec S128x512 1) (main_v12 : IVec S1x512 1) (main_v15 : IVec S1x1024 1) (main_v16 : FVec F S2048x1024 .f32) (main_v17 : FVec F S2048x1024 .f32) : IVec S2048x8192 1 × IVec S2048x128 1 × IVec S128x512 1 × IVec S1x512 1 × IVec S1x1024 1 × IVec S2048x1024 1 :=
  let main_v18 : IVec S2048x1024 1 := cmpf .olt main_v16 main_v17
  (main_v2, main_v5, main_v9, main_v12, main_v15, main_v18)

def fn {F : FTy → Type} [FloatOps F] (main_arg0 : FVec F S2048x8192 .f32) (main_arg1 : FVec F S2048x128 .f32) (main_arg2 : FVec F S128x512 .bf16) (main_arg3 : FVec F S1x512 .f32) (main_arg4 : FVec F S1x1024 .f32) (main_arg5 : FVec F S2048x1024 .f32) : IVec S2048x8192 1 × IVec S2048x128 1 × IVec S128x512 1 × IVec S1x512 1 × IVec S1x1024 1 × IVec S2048x1024 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x512 .f32 := (extf .f32 · bitsLt_bf16_f32) main_arg2
  let main_v7 : FVec F S128x512 .f32 := Host.absf main_v6
  let main_cst_1 : FVec F S_ .f32 := constant S_ .f32 0x7F800000#32
  let main_v8 : FVec F S128x512 .f32 := broadcastInDim S128x512 ![] bcast_S_S128x512 main_cst_1
  let main_v9 : IVec S128x512 1 := cmpf .olt main_v7 main_v8
  let main_v10 : FVec F S1x512 .f32 := Host.absf main_arg3
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S2048x1024 .f32 := Host.absf main_arg5
  let main_cst_4 : FVec F S_ .f32 := constant S_ .f32 0x7F800000#32
  let main_v17 : FVec F S2048x1024 .f32 := broadcastInDim S2048x1024 ![] bcast_S_S2048x1024 main_cst_4
  fn_part1 (F := F) main_v2 main_v5 main_v9 main_v12 main_v15 main_v16 main_v17
-- ==== Pre_finite_att.lean ====
abbrev S2048x2048 : Shape := ⟨2, ![2048, 2048]⟩
abbrev S256x4096 : Shape := ⟨2, ![256, 4096]⟩
abbrev S256x2048 : Shape := ⟨2, ![256, 2048]⟩
abbrev S_ : Shape := ⟨0, ![]⟩

class Facts : Prop where
  slices_S256x4096_S256x2048_0_0 : S256x4096.Slices ![0, 0] S256x2048
  bitsLt_bf16_f32 : FTy.bits .bf16 < FTy.bits .f32
  bcast_S_S2048x2048 : S_.BroadcastsInDim S2048x2048 (![] : Fin 0 → Fin S2048x2048.rank)
  bcast_S_S256x2048 : S_.BroadcastsInDim S256x2048 (![] : Fin 0 → Fin S256x2048.rank)

variable [Facts]

def fn {F : FTy → Type} [FloatOps F] (main_arg0 : FVec F S2048x2048 .bf16) (main_arg1 : FVec F S256x4096 .bf16) (main_arg2 : FVec F S2048x2048 .bf16) : IVec S2048x2048 1 × IVec S256x2048 1 :=
  let main_v0 : FVec F S256x2048 .bf16 := (extractStridedSlice S256x2048 ![0, 0] · slices_S256x4096_S256x2048_0_0) main_arg1
  let main_v1 : FVec F S2048x2048 .f32 := (extf .f32 · bitsLt_bf16_f32) main_arg0
  let main_v2 : FVec F S2048x2048 .f32 := Host.absf main_v1
  let main_cst : FVec F S_ .f32 := constant S_ .f32 0x7F800000#32
  let main_v3 : FVec F S2048x2048 .f32 := broadcastInDim S2048x2048 ![] bcast_S_S2048x2048 main_cst
  let main_v4 : IVec S2048x2048 1 := cmpf .olt main_v2 main_v3
  let main_v5 : FVec F S256x2048 .f32 := (extf .f32 · bitsLt_bf16_f32) main_v0
  let main_v6 : FVec F S256x2048 .f32 := Host.absf main_v5
  let main_cst_0 : FVec F S_ .f32 := constant S_ .f32 0x7F800000#32
  let main_v7 : FVec F S256x2048 .f32 := broadcastInDim S256x2048 ![] bcast_S_S256x2048 main_cst_0
  let main_v8 : IVec S256x2048 1 := cmpf .olt main_v6 main_v7
  (main_v4, main_v8)
-- ==== Kernel.lean ====
abbrev S2048x8192 : Shape := ⟨2, ![2048, 8192]⟩
abbrev S2048x128 : Shape := ⟨2, ![2048, 128]⟩
abbrev S128x512 : Shape := ⟨2, ![128, 512]⟩
abbrev S1x512 : Shape := ⟨2, ![1, 512]⟩
abbrev S1x1024 : Shape := ⟨2, ![1, 1024]⟩
abbrev S2048x1024 : Shape := ⟨2, ![2048, 1024]⟩
abbrev S2048x512 : Shape := ⟨2, ![2048, 512]⟩
abbrev S2048x4x128 : Shape := ⟨3, ![2048, 4, 128]⟩
abbrev S4x2048x128 : Shape := ⟨3, ![4, 2048, 128]⟩
abbrev S_ : Shape := ⟨0, ![]⟩
abbrev S2048x4x256 : Shape := ⟨3, ![2048, 4, 256]⟩
abbrev S4x2048x256 : Shape := ⟨3, ![4, 2048, 256]⟩
abbrev S2048x2048 : Shape := ⟨2, ![2048, 2048]⟩
abbrev S2048x2048x1 : Shape := ⟨3, ![2048, 2048, 1]⟩
abbrev S4x2048x1x128 : Shape := ⟨4, ![4, 2048, 1, 128]⟩
abbrev S4x1x2048x128 : Shape := ⟨4, ![4, 1, 2048, 128]⟩
abbrev S4x2048x2048x128 : Shape := ⟨4, ![4, 2048, 2048, 128]⟩
abbrev S4x2048x2048 : Shape := ⟨3, ![4, 2048, 2048]⟩
abbrev S16 : Shape := ⟨1, ![16]⟩
abbrev S16x1 : Shape := ⟨2, ![16, 1]⟩
abbrev S2048 : Shape := ⟨1, ![2048]⟩
abbrev S1x2048 : Shape := ⟨2, ![1, 2048]⟩
abbrev S16x2048 : Shape := ⟨2, ![16, 2048]⟩
abbrev S4x2049x128 : Shape := ⟨3, ![4, 2049, 128]⟩
abbrev S4x16x128 : Shape := ⟨3, ![4, 16, 128]⟩
abbrev S16x1x2048x1 : Shape := ⟨4, ![16, 1, 2048, 1]⟩
abbrev S16x4x128 : Shape := ⟨3, ![16, 4, 128]⟩
abbrev S16x4x1x128 : Shape := ⟨4, ![16, 4, 1, 128]⟩
abbrev S1x4x2048x128 : Shape := ⟨4, ![1, 4, 2048, 128]⟩
abbrev S16x4x2048x128 : Shape := ⟨4, ![16, 4, 2048, 128]⟩
abbrev S4x16x128x256 : Shape := ⟨4, ![4, 16, 128, 256]⟩
abbrev S16x4x256x128 : Shape := ⟨4, ![16, 4, 256, 128]⟩
abbrev S2048x3072 : Shape := ⟨2, ![2048, 3072]⟩
abbrev S128x1024 : Shape := ⟨2, ![128, 1024]⟩
abbrev S128x128 : Shape := ⟨2, ![128, 128]⟩
abbrev S1x4x256x128 : Shape := ⟨4, ![1, 4, 256, 128]⟩
abbrev S128x3072 : Shape := ⟨2, ![128, 3072]⟩
abbrev S4x256x128 : Shape := ⟨3, ![4, 256, 128]⟩
abbrev S1x128 : Shape := ⟨2, ![1, 128]⟩
abbrev S128x256 : Shape := ⟨2, ![128, 256]⟩
abbrev S128 : Shape := ⟨1, ![128]⟩
abbrev S128x1 : Shape := ⟨2, ![128, 1]⟩
abbrev S1x256 : Shape := ⟨2, ![1, 256]⟩
abbrev S256 : Shape := ⟨1, ![256]⟩
abbrev S1x1x256x128 : Shape := ⟨4, ![1, 1, 256, 128]⟩
abbrev S256x128 : Shape := ⟨2, ![256, 128]⟩
abbrev S1x256x128 : Shape := ⟨3, ![1, 256, 128]⟩
abbrev S512 : Shape := ⟨1, ![512]⟩

abbrev nBuf : Space → Nat
  | .hbm => 120
  | .vmem => 25
  | .smem => 0
  | _ => 0

abbrev bufTy : (tb : Table) → Fin (tcTables nBuf tb) → BufTy
  | .hbm, ⟨0, _⟩ => ⟨S2048x8192, .f32⟩
  | .hbm, ⟨1, _⟩ => ⟨S2048x128, .f32⟩
  | .hbm, ⟨2, _⟩ => ⟨S128x512, .bf16⟩
  | .hbm, ⟨3, _⟩ => ⟨S1x512, .f32⟩
  | .hbm, ⟨4, _⟩ => ⟨S1x1024, .f32⟩
  | .hbm, ⟨5, _⟩ => ⟨S2048x1024, .f32⟩
  | .hbm, ⟨6, _⟩ => ⟨S2048x512, .f32⟩
  | .hbm, ⟨7, _⟩ => ⟨S2048x4x128, .f32⟩
  | .hbm, ⟨8, _⟩ => ⟨S4x2048x128, .f32⟩
  | .hbm, ⟨9, _⟩ => ⟨S_, .f32⟩
  | .hbm, ⟨10, _⟩ => ⟨S4x2048x128, .f32⟩
  | .hbm, ⟨11, _⟩ => ⟨S4x2048x128, .f32⟩
  | .hbm, ⟨12, _⟩ => ⟨S2048x512, .f32⟩
  | .hbm, ⟨13, _⟩ => ⟨S2048x4x128, .f32⟩
  | .hbm, ⟨14, _⟩ => ⟨S4x2048x128, .f32⟩
  | .hbm, ⟨15, _⟩ => ⟨S2048x1024, .f32⟩
  | .hbm, ⟨16, _⟩ => ⟨S2048x4x256, .f32⟩
  | .hbm, ⟨17, _⟩ => ⟨S4x2048x256, .f32⟩
  | .hbm, ⟨18, _⟩ => ⟨S128x512, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S2048x512, .i1⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S2048x4x128, .f32⟩
  | .hbm, ⟨42, _⟩ => ⟨S4x2048x128, .f32⟩
  | .hbm, ⟨43, _⟩ => ⟨S_, .i1⟩
  | .hbm, ⟨44, _⟩ => ⟨S2048x2048, .i1⟩
  | .hbm, ⟨45, _⟩ => ⟨S2048x2048, .i32⟩
  | .hbm, ⟨46, _⟩ => ⟨S_, .i32⟩
  | .hbm, ⟨47, _⟩ => ⟨S2048x2048, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S_, .i1⟩
  | .hbm, ⟨52, _⟩ => ⟨S2048x2048, .i1⟩
  | .hbm, ⟨53, _⟩ => ⟨S2048x2048, .i1⟩
  | .hbm, ⟨54, _⟩ => ⟨S2048x2048x1, .i1⟩
  | .hbm, ⟨55, _⟩ => ⟨S_, .f32⟩
  | .hbm, ⟨56, _⟩ => ⟨S_, .f32⟩
  | .hbm, ⟨57, _⟩ => ⟨S4x2048x128, .f32⟩
  | .hbm, ⟨58, _⟩ => ⟨S4x2048x1x128, .f32⟩
  | .hbm, ⟨59, _⟩ => ⟨S4x1x2048x128, .f32⟩
  | .hbm, ⟨60, _⟩ => ⟨S4x2048x2048x128, .f32⟩
  | .hbm, ⟨61, _⟩ => ⟨S4x2048x2048x128, .f32⟩
  | .hbm, ⟨62, _⟩ => ⟨S4x2048x2048x128, .f32⟩
  | .hbm, ⟨63, _⟩ => ⟨S_, .f32⟩
  | .hbm, ⟨64, _⟩ => ⟨S_, .f32⟩
  | .hbm, ⟨65, _⟩ => ⟨S4x2048x2048x128, .i1⟩
  | .hbm, ⟨66, _⟩ => ⟨S4x2048x2048x128, .f32⟩
  | .hbm, ⟨67, _⟩ => ⟨S4x2048x2048x128, .f32⟩
  | .hbm, ⟨68, _⟩ => ⟨S4x2048x2048x128, .f32⟩
  | .hbm, ⟨69, _⟩ => ⟨S4x2048x1x128, .f32⟩
  | .hbm, ⟨70, _⟩ => ⟨S4x1x2048x128, .f32⟩
  | .hbm, ⟨71, _⟩ => ⟨S4x2048x2048x128, .f32⟩
  | .hbm, ⟨72, _⟩ => ⟨S4x2048x2048x128, .f32⟩
  | .hbm, ⟨73, _⟩ => ⟨S4x2048x2048x128, .f32⟩
  | .hbm, ⟨74, _⟩ => ⟨S4x2048x2048x128, .f32⟩
  | .hbm, ⟨75, _⟩ => ⟨S_, .f32⟩
  | .hbm, ⟨76, _⟩ => ⟨S4x2048x2048, .f32⟩
  | .hbm, ⟨77, _⟩ => ⟨S4x2048x256, .f32⟩
  | .hbm, ⟨78, _⟩ => ⟨S2048x4x256, .f32⟩
  | .hbm, ⟨79, _⟩ => ⟨S2048x1024, .f32⟩
  | .hbm, ⟨80, _⟩ => ⟨S_, .f32⟩
  | .hbm, ⟨81, _⟩ => ⟨S_, .f32⟩
  | .hbm, ⟨82, _⟩ => ⟨S4x2048x128, .f32⟩
  | .hbm, ⟨83, _⟩ => ⟨S16, .i32⟩
  | .hbm, ⟨84, _⟩ => ⟨S_, .i32⟩
  | .hbm, ⟨85, _⟩ => ⟨S16, .i32⟩
  | .hbm, ⟨86, _⟩ => ⟨S16, .i32⟩
  | .hbm, ⟨87, _⟩ => ⟨S16x1, .i32⟩
  | .hbm, ⟨88, _⟩ => ⟨S2048, .i32⟩
  | .hbm, ⟨89, _⟩ => ⟨S1x2048, .i32⟩
  | .hbm, ⟨90, _⟩ => ⟨S16x2048, .i32⟩
  | .hbm, ⟨91, _⟩ => ⟨S16x2048, .i32⟩
  | .hbm, ⟨92, _⟩ => ⟨S16x2048, .i1⟩
  | .hbm, ⟨93, _⟩ => ⟨S_, .i32⟩
  | .hbm, ⟨94, _⟩ => ⟨S_, .f32⟩
  | .hbm, ⟨95, _⟩ => ⟨S4x2049x128, .f32⟩
  | .hbm, ⟨96, _⟩ => ⟨S4x16x128, .f32⟩
  | .hbm, ⟨97, _⟩ => ⟨S16x1x2048x1, .i1⟩
  | .hbm, ⟨98, _⟩ => ⟨S16x4x128, .f32⟩
  | .hbm, ⟨99, _⟩ => ⟨S16x4x1x128, .f32⟩
  | .hbm, ⟨100, _⟩ => ⟨S1x4x2048x128, .f32⟩
  | .hbm, ⟨101, _⟩ => ⟨S16x4x2048x128, .f32⟩
  | .hbm, ⟨102, _⟩ => ⟨S16x4x2048x128, .f32⟩
  | .hbm, ⟨103, _⟩ => ⟨S16x4x2048x128, .f32⟩
  | .hbm, ⟨104, _⟩ => ⟨S_, .f32⟩
  | .hbm, ⟨105, _⟩ => ⟨S_, .f32⟩
  | .hbm, ⟨106, _⟩ => ⟨S16x4x2048x128, .i1⟩
  | .hbm, ⟨107, _⟩ => ⟨S16x4x2048x128, .f32⟩
  | .hbm, ⟨108, _⟩ => ⟨S16x4x2048x128, .f32⟩
  | .hbm, ⟨109, _⟩ => ⟨S16x4x2048x128, .f32⟩
  | .hbm, ⟨110, _⟩ => ⟨S1x4x2048x128, .f32⟩
  | .hbm, ⟨111, _⟩ => ⟨S16x4x2048x128, .f32⟩
  | .hbm, ⟨112, _⟩ => ⟨S16x4x2048x128, .f32⟩
  | .hbm, ⟨113, _⟩ => ⟨S4x16x128x256, .f32⟩
  | .hbm, ⟨114, _⟩ => ⟨S16x4x256x128, .f32⟩
  | .hbm, ⟨115, _⟩ => ⟨S2048x3072, .bf16⟩
  | .hbm, ⟨116, _⟩ => ⟨S2048x128, .bf16⟩
  | .hbm, ⟨117, _⟩ => ⟨S128x512, .f32⟩
  | .hbm, ⟨118, _⟩ => ⟨S1x512, .f32⟩
  | .hbm, ⟨119, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x512, .bf16⟩
  | .local _ .vmem, ⟨9, _⟩ => ⟨S1x512, .f32⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S1x4x256x128, .f32⟩
  | .local _ .vmem, ⟨14, _⟩ => ⟨S1x4x256x128, .f32⟩
  | .local _ .vmem, ⟨15, _⟩ => ⟨S128x1024, .f32⟩
  | .local _ .vmem, ⟨16, _⟩ => ⟨S128x1024, .f32⟩
  | .local _ .vmem, ⟨17, _⟩ => ⟨S128x3072, .bf16⟩
  | .local _ .vmem, ⟨18, _⟩ => ⟨S128x3072, .bf16⟩
  | .local _ .vmem, ⟨19, _⟩ => ⟨S128x128, .bf16⟩
  | .local _ .vmem, ⟨20, _⟩ => ⟨S128x128, .bf16⟩
  | .local _ .vmem, ⟨21, _⟩ => ⟨S128x512, .f32⟩
  | .local _ .vmem, ⟨22, _⟩ => ⟨S1x512, .f32⟩
  | .local _ .vmem, ⟨23, _⟩ => ⟨S1x1024, .f32⟩
  | .local _ .vmem, ⟨24, _⟩ => ⟨S4x256x128, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_0 : Ref sig .tc := ⟨.hbm, 51, rfl⟩
abbrev main_call1_v5 : Ref sig .tc := ⟨.hbm, 52, rfl⟩
abbrev main_v21 : Ref sig .tc := ⟨.hbm, 53, rfl⟩
abbrev main_v22 : Ref sig .tc := ⟨.hbm, 54, rfl⟩
abbrev main_call2_call0_cst : Ref sig .tc := ⟨.hbm, 55, rfl⟩
abbrev main_call2_call0_v0 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_1 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_2 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_call4_call0_cst : Ref sig .tc := ⟨.hbm, 80, rfl⟩
abbrev main_call4_call0_v0 : Ref sig .tc := ⟨.hbm, 81, rfl⟩
abbrev main_v41 : Ref sig .tc := ⟨.hbm, 82, rfl⟩
abbrev main_v42 : Ref sig .tc := ⟨.hbm, 83, rfl⟩
abbrev main_c_3 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_c_4 : Ref sig .tc := ⟨.hbm, 93, rfl⟩
abbrev main_call5_v0 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_5 : Ref sig .tc := ⟨.hbm, 104, rfl⟩
abbrev main_call6_v0 : Ref sig .tc := ⟨.hbm, 105, rfl⟩
abbrev main_call6_v1 : Ref sig .tc := ⟨.hbm, 106, rfl⟩
abbrev main_call6_v2 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67_0 : Ref sig .tc := ⟨.hbm, 115, rfl⟩
abbrev main_v67_1 : Ref sig .tc := ⟨.hbm, 116, rfl⟩
abbrev main_v67_2 : Ref sig .tc := ⟨.hbm, 117, rfl⟩
abbrev main_v67_3 : Ref sig .tc := ⟨.hbm, 118, rfl⟩
abbrev main_v67_4 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2048x8192 : Shape := ⟨2, ![2048, 8192]⟩
abbrev S2048x128 : Shape := ⟨2, ![2048, 128]⟩
abbrev S128x512 : Shape := ⟨2, ![128, 512]⟩
abbrev S1x512 : Shape := ⟨2, ![1, 512]⟩
abbrev S1x1024 : Shape := ⟨2, ![1, 1024]⟩
abbrev S2048x1024 : Shape := ⟨2, ![2048, 1024]⟩
abbrev S2048x3072 : Shape := ⟨2, ![2048, 3072]⟩
abbrev S2048x512 : Shape := ⟨2, ![2048, 512]⟩
abbrev S2048x4x128 : Shape := ⟨3, ![2048, 4, 128]⟩
abbrev S4x2048x128 : Shape := ⟨3, ![4, 2048, 128]⟩
abbrev S_ : Shape := ⟨0, ![]⟩
abbrev S2048x4x256 : Shape := ⟨3, ![2048, 4, 256]⟩
abbrev S4x2048x256 : Shape := ⟨3, ![4, 2048, 256]⟩
abbrev S2048x2048 : Shape := ⟨2, ![2048, 2048]⟩
abbrev S2048x2048x1 : Shape := ⟨3, ![2048, 2048, 1]⟩
abbrev S4x2048x1x128 : Shape := ⟨4, ![4, 2048, 1, 128]⟩
abbrev S4x1x2048x128 : Shape := ⟨4, ![4, 1, 2048, 128]⟩
abbrev S4x2048x2048x128 : Shape := ⟨4, ![4, 2048, 2048, 128]⟩
abbrev S4x2048x2048 : Shape := ⟨3, ![4, 2048, 2048]⟩
abbrev S4x2048 : Shape := ⟨2, ![4, 2048]⟩
abbrev S4x2048x1 : Shape := ⟨3, ![4, 2048, 1]⟩
abbrev S1024 : Shape := ⟨1, ![1024]⟩
abbrev S4x256x2048 : Shape := ⟨3, ![4, 256, 2048]⟩
abbrev S512 : Shape := ⟨1, ![512]⟩
abbrev S512x128 : Shape := ⟨2, ![512, 128]⟩

abbrev nBuf : Space → Nat
  | .hbm => 255
  | .vmem => 0
  | .smem => 0
  | _ => 0

abbrev hbmTy0_0 (i : Nat) : BufTy := match i % 128 with
  | 0 => ⟨S2048x8192, .f32⟩
  | 1 => ⟨S2048x128, .f32⟩
  | 2 => ⟨S128x512, .bf16⟩
  | 3 => ⟨S1x512, .f32⟩
  | 4 => ⟨S1x1024, .f32⟩
  | 5 => ⟨S2048x1024, .f32⟩
  | 6 => ⟨S2048x3072, .f32⟩
  | 7 => ⟨S128x512, .f32⟩
  | 8 => ⟨S2048x512, .f32⟩
  | 9 => ⟨S2048x4x128, .f32⟩
  | 10 => ⟨S4x2048x128, .f32⟩
  | 11 => ⟨S_, .f32⟩
  | 12 => ⟨S4x2048x128, .f32⟩
  | 13 => ⟨S4x2048x128, .f32⟩
  | 14 => ⟨S2048x512, .f32⟩
  | 15 => ⟨S2048x4x128, .f32⟩
  | 16 => ⟨S4x2048x128, .f32⟩
  | 17 => ⟨S2048x1024, .f32⟩
  | 18 => ⟨S2048x4x256, .f32⟩
  | 19 => ⟨S4x2048x256, .f32⟩
  | 20 => ⟨S2048x1024, .f32⟩
  | 21 => ⟨S2048x512, .f32⟩
  | 22 => ⟨S2048x512, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S2048x512, .f32⟩
  | 29 => ⟨S2048x512, .f32⟩
  | 30 => ⟨S2048x512, .i1⟩
  | 31 => ⟨S2048x512, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S2048x512, .f32⟩
  | 38 => ⟨S2048x512, .f32⟩
  | 39 => ⟨S_, .f32⟩
  | 40 => ⟨S2048x512, .f32⟩
  | 41 => ⟨S2048x512, .i1⟩
  | 42 => ⟨S_, .f32⟩
  | 43 => ⟨S2048x512, .f32⟩
  | 44 => ⟨S2048x512, .f32⟩
  | 45 => ⟨S_, .f32⟩
  | 46 => ⟨S2048x512, .f32⟩
  | 47 => ⟨S2048x512, .i1⟩
  | 48 => ⟨S_, .f32⟩
  | 49 => ⟨S2048x512, .f32⟩
  | 50 => ⟨S2048x512, .f32⟩
  | 51 => ⟨S2048x512, .f32⟩
  | 52 => ⟨S2048x512, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S2048x512, .f32⟩
  | 61 => ⟨S2048x512, .i1⟩
  | 62 => ⟨S_, .f32⟩
  | 63 => ⟨S2048x512, .f32⟩
  | 64 => ⟨S2048x512, .f32⟩
  | 65 => ⟨S2048x512, .f32⟩
  | 66 => ⟨S2048x512, .f32⟩
  | 67 => ⟨S2048x512, .f32⟩
  | 68 => ⟨S_, .f32⟩
  | 69 => ⟨S2048x512, .f32⟩
  | 70 => ⟨S2048x512, .f32⟩
  | 71 => ⟨S2048x512, .f32⟩
  | 72 => ⟨S_, .f32⟩
  | 73 => ⟨S2048x512, .f32⟩
  | 74 => ⟨S2048x512, .f32⟩
  | 75 => ⟨S2048x4x128, .f32⟩
  | 76 => ⟨S4x2048x128, .f32⟩
  | 77 => ⟨S_, .i1⟩
  | 78 => ⟨S2048x2048, .i1⟩
  | 79 => ⟨S2048x2048, .i32⟩
  | 80 => ⟨S_, .i32⟩
  | 81 => ⟨S2048x2048, .i32⟩
  | 82 => ⟨S2048x2048, .i32⟩
  | 83 => ⟨S2048x2048, .i32⟩
  | 84 => ⟨S2048x2048, .i1⟩
  | 85 => ⟨S_, .i1⟩
  | 86 => ⟨S2048x2048, .i1⟩
  | 87 => ⟨S2048x2048, .i1⟩
  | 88 => ⟨S2048x2048x1, .i1⟩
  | 89 => ⟨S_, .f32⟩
  | 90 => ⟨S_, .f32⟩
  | 91 => ⟨S4x2048x128, .f32⟩
  | 92 => ⟨S4x2048x1x128, .f32⟩
  | 93 => ⟨S4x1x2048x128, .f32⟩
  | 94 => ⟨S4x2048x2048x128, .f32⟩
  | 95 => ⟨S4x2048x2048x128, .f32⟩
  | 96 => ⟨S4x2048x2048x128, .f32⟩
  | 97 => ⟨S_, .f32⟩
  | 98 => ⟨S_, .f32⟩
  | 99 => ⟨S4x2048x2048x128, .i1⟩
  | 100 => ⟨S4x2048x2048x128, .f32⟩
  | 101 => ⟨S4x2048x2048x128, .f32⟩
  | 102 => ⟨S_, .f32⟩
  | 103 => ⟨S4x2048x2048x128, .f32⟩
  | 104 => ⟨S4x2048x2048x128, .f32⟩
  | 105 => ⟨S4x2048x1x128, .f32⟩
  | 106 => ⟨S4x1x2048x128, .f32⟩
  | 107 => ⟨S4x2048x2048x128, .f32⟩
  | 108 => ⟨S4x2048x2048x128, .f32⟩
  | 109 => ⟨S4x2048x2048x128, .f32⟩
  | 110 => ⟨S4x2048x2048x128, .f32⟩
  | 111 => ⟨S_, .f32⟩
  | 112 => ⟨S4x2048x2048, .f32⟩
  | 113 => ⟨S4x2048x256, .f32⟩
  | 114 => ⟨S4x2048x256, .f32⟩
  | 115 => ⟨S_, .f32⟩
  | 116 => ⟨S4x2048, .f32⟩
  | 117 => ⟨S4x2048x1, .f32⟩
  | 118 => ⟨S_, .f32⟩
  | 119 => ⟨S4x2048x1, .f32⟩
  | 120 => ⟨S4x2048x1, .f32⟩
  | 121 => ⟨S_, .f32⟩
  | 122 => ⟨S4x2048x1, .f32⟩
  | 123 => ⟨S4x2048x1, .f32⟩
  | 124 => ⟨S4x2048x1, .f32⟩
  | 125 => ⟨S4x2048x1, .f32⟩
  | 126 => ⟨S_, .f32⟩
  | 127 => ⟨S4x2048x1, .f32⟩
  | _ => ⟨S2048x8192, .f32⟩

abbrev hbmTy0_1 (i : Nat) : BufTy := match i % 128 with
  | 0 => ⟨S4x2048x1, .f32⟩
  | 1 => ⟨S4x2048x256, .f32⟩
  | 2 => ⟨S4x2048x256, .f32⟩
  | 3 => ⟨S2048x4x256, .f32⟩
  | 4 => ⟨S2048x1024, .f32⟩
  | 5 => ⟨S2048x1024, .f32⟩
  | 6 => ⟨S2048x1024, .f32⟩
  | 7 => ⟨S2048x1024, .f32⟩
  | 8 => ⟨S2048x1024, .f32⟩
  | 9 => ⟨S_, .f32⟩
  | 10 => ⟨S2048x1024, .f32⟩
  | 11 => ⟨S2048x1024, .f32⟩
  | 12 => ⟨S_, .f32⟩
  | 13 => ⟨S2048x1024, .f32⟩
  | 14 => ⟨S2048x1024, .f32⟩
  | 15 => ⟨S_, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S_, .f32⟩
  | 29 => ⟨S1024, .f32⟩
  | 30 => ⟨S1x1024, .f32⟩
  | 31 => ⟨S2048x1024, .f32⟩
  | 32 => ⟨S2048x1024, .f32⟩
  | 33 => ⟨S2048x4x256, .f32⟩
  | 34 => ⟨S4x2048x256, .f32⟩
  | 35 => ⟨S4x2048x256, .f32⟩
  | 36 => ⟨S_, .f32⟩
  | 37 => ⟨S4x2048, .f32⟩
  | 38 => ⟨S4x2048x1, .f32⟩
  | 39 => ⟨S4x2048x256, .f32⟩
  | 40 => ⟨S4x2048x256, .f32⟩
  | 41 => ⟨S4x2048x1, .f32⟩
  | 42 => ⟨S_, .f32⟩
  | 43 => ⟨S4x2048x1, .f32⟩
  | 44 => ⟨S4x2048x1, .f32⟩
  | 45 => ⟨S_, .f32⟩
  | 46 => ⟨S4x2048, .f32⟩
  | 47 => ⟨S4x2048x256, .f32⟩
  | 48 => ⟨S4x2048x256, .f32⟩
  | 49 => ⟨S4x2048x256, .f32⟩
  | 50 => ⟨S4x2048x256, .f32⟩
  | 51 => ⟨S4x2048x256, .f32⟩
  | 52 => ⟨S4x256x2048, .f32⟩
  | 53 => ⟨S4x2048x256, .f32⟩
  | 54 => ⟨S4x2048x2048, .f32⟩
  | 55 => ⟨S4x2048x2048x128, .f32⟩
  | 56 => ⟨S4x2048x2048x128, .f32⟩
  | 57 => ⟨S4x2048x2048x128, .f32⟩
  | 58 => ⟨S4x2048x2048x128, .f32⟩
  | 59 => ⟨S4x2048x2048x128, .f32⟩
  | 60 => ⟨S_, .f32⟩
  | 61 => ⟨S4x2048x128, .f32⟩
  | 62 => ⟨S4x1x2048x128, .f32⟩
  | 63 => ⟨S4x2048x2048x128, .f32⟩
  | 64 => ⟨S4x2048x2048x128, .f32⟩
  | 65 => ⟨S_, .f32⟩
  | 66 => ⟨S4x2048x128, .f32⟩
  | 67 => ⟨S4x2048x1x128, .f32⟩
  | 68 => ⟨S_, .f32⟩
  | 69 => ⟨S4x2048x128, .f32⟩
  | 70 => ⟨S_, .f32⟩
  | 71 => ⟨S4x2048x128, .f32⟩
  | 72 => ⟨S4x2048x2048x128, .f32⟩
  | 73 => ⟨S_, .f32⟩
  | 74 => ⟨S4x2048x2048x128, .f32⟩
  | 75 => ⟨S4x2048x2048x128, .f32⟩
  | 76 => ⟨S_, .f32⟩
  | 77 => ⟨S4x2048x128, .f32⟩
  | 78 => ⟨S4x2048x1x128, .f32⟩
  | 79 => ⟨S4x2048x2048x128, .f32⟩
  | 80 => ⟨S_, .f32⟩
  | 81 => ⟨S4x2048x128, .f32⟩
  | 82 => ⟨S4x1x2048x128, .f32⟩
  | 83 => ⟨S_, .f32⟩
  | 84 => ⟨S4x2048x128, .f32⟩
  | 85 => ⟨S_, .f32⟩
  | 86 => ⟨S4x2048x128, .f32⟩
  | 87 => ⟨S4x2048x128, .f32⟩
  | 88 => ⟨S_, .f32⟩
  | 89 => ⟨S_, .f32⟩
  | 90 => ⟨S4x2048x128, .f32⟩
  | 91 => ⟨S2048x4x128, .f32⟩
  | 92 => ⟨S2048x512, .f32⟩
  | 93 => ⟨S_, .f32⟩
  | 94 => ⟨S2048x512, .f32⟩
  | 95 => ⟨S2048x512, .f32⟩
  | 96 => ⟨S2048x512, .f32⟩
  | 97 => ⟨S2048x512, .f32⟩
  | 98 => ⟨S2048x512, .f32⟩
  | 99 => ⟨S_, .f32⟩
  | 100 => ⟨S512, .f32⟩
  | 101 => ⟨S1x512, .f32⟩
  | 102 => ⟨S512x128, .f32⟩
  | 103 => ⟨S128x512, .f32⟩
  | 104 => ⟨S2048x128, .f32⟩
  | 105 => ⟨S_, .f32⟩
  | 106 => ⟨S2048x3072, .f32⟩
  | 107 => ⟨S2048x4x256, .f32⟩
  | 108 => ⟨S2048x1024, .f32⟩
  | 109 => ⟨S_, .f32⟩
  | 110 => ⟨S2048x3072, .f32⟩
  | 111 => ⟨S2048x3072, .f32⟩
  | 112 => ⟨S2048x4x128, .f32⟩
  | 113 => ⟨S2048x512, .f32⟩
  | 114 => ⟨S_, .f32⟩
  | 115 => ⟨S2048x3072, .f32⟩
  | 116 => ⟨S2048x3072, .f32⟩
  | 117 => ⟨S_, .f32⟩
  | 118 => ⟨S4x2048x128, .f32⟩
  | 119 => ⟨S4x2048x128, .f32⟩
  | 120 => ⟨S2048x4x128, .f32⟩
  | 121 => ⟨S2048x512, .f32⟩
  | 122 => ⟨S_, .f32⟩
  | 123 => ⟨S2048x3072, .f32⟩
  | 124 => ⟨S2048x3072, .f32⟩
  | 125 => ⟨S2048x3072, .bf16⟩
  | 126 => ⟨S2048x128, .bf16⟩
  | _ => ⟨S2048x8192, .f32⟩

abbrev hbmTy (i : Nat) : BufTy := match i / 128 with
  | 0 => hbmTy0_0 i
  | 1 => hbmTy0_1 i
  | _ => ⟨S2048x8192, .f32⟩

abbrev bufTy : (tb : Table) → Fin (tcTables nBuf tb) → BufTy
  | .hbm, ⟨i, _⟩ => hbmTy i
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v17_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v17_2 : Ref sig .tc := ⟨.hbm, 70, rfl⟩
abbrev main_v17_0 : Ref sig .tc := ⟨.hbm, 71, rfl⟩
abbrev main_cst_0 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_c : Ref sig .tc := ⟨.hbm, 77, rfl⟩
abbrev main_v22 : Ref sig .tc := ⟨.hbm, 78, rfl⟩
abbrev main_call1_v0 : Ref sig .tc := ⟨.hbm, 79, rfl⟩
abbrev main_call1_c : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_c_0 : Ref sig .tc := ⟨.hbm, 85, rfl⟩
abbrev main_call1_v5 : Ref sig .tc := ⟨.hbm, 86, rfl⟩
abbrev main_v23 : Ref sig .tc := ⟨.hbm, 87, rfl⟩
abbrev main_v24 : Ref sig .tc := ⟨.hbm, 88, rfl⟩
abbrev main_call2_call0_cst : Ref sig .tc := ⟨.hbm, 89, rfl⟩
abbrev main_call2_call0_v0 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_cst_1 : Ref sig .tc := ⟨.hbm, 97, rfl⟩
abbrev main_call3_v0 : Ref sig .tc := ⟨.hbm, 98, rfl⟩
abbrev main_v31_1 : Ref sig .tc := ⟨.hbm, 99, rfl⟩
abbrev main_call3_v2 : Ref sig .tc := ⟨.hbm, 100, rfl⟩
abbrev main_v31_0 : Ref sig .tc := ⟨.hbm, 101, rfl⟩
abbrev main_call3_cst : Ref sig .tc := ⟨.hbm, 102, rfl⟩
abbrev main_v31_2 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_cst_2 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_cst_3 : Ref sig .tc := ⟨.hbm, 115, rfl⟩
abbrev main_v42 : Ref sig .tc := ⟨.hbm, 116, rfl⟩
abbrev main_v43 : Ref sig .tc := ⟨.hbm, 117, rfl⟩
abbrev main_cst_4 : Ref sig .tc := ⟨.hbm, 118, rfl⟩
abbrev main_v44 : Ref sig .tc := ⟨.hbm, 119, rfl⟩
abbrev main_v45 : Ref sig .tc := ⟨.hbm, 120, rfl⟩
abbrev main_cst_5 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_cst_6 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_call4_v0 : Ref sig .tc := ⟨.hbm, 135, rfl⟩
abbrev main_call4_v1 : Ref sig .tc := ⟨.hbm, 136, rfl⟩
abbrev main_call4_cst : Ref sig .tc := ⟨.hbm, 137, rfl⟩
abbrev main_call4_v2 : Ref sig .tc := ⟨.hbm, 138, rfl⟩
abbrev main_call4_v3 : Ref sig .tc := ⟨.hbm, 139, rfl⟩
abbrev main_call4_cst_0 : Ref sig .tc := ⟨.hbm, 140, rfl⟩
abbrev main_call4_v4 : Ref sig .tc := ⟨.hbm, 141, rfl⟩
abbrev main_v58_2 : Ref sig .tc := ⟨.hbm, 142, rfl⟩
abbrev main_call4_cst_1 : Ref sig .tc := ⟨.hbm, 143, rfl⟩
abbrev main_call4_v6 : Ref sig .tc := ⟨.hbm, 144, rfl⟩
abbrev main_call4_v7 : Ref sig .tc := ⟨.hbm, 145, rfl⟩
abbrev main_v58_1 : Ref sig .tc := ⟨.hbm, 146, rfl⟩
abbrev main_v58_0 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_call5_v0 : Ref sig .tc := ⟨.hbm, 151, rfl⟩
abbrev main_call5_v1 : Ref sig .tc := ⟨.hbm, 152, rfl⟩
abbrev main_call5_v2 : Ref sig .tc := ⟨.hbm, 153, rfl⟩
abbrev main_v62 : Ref sig .tc := ⟨.hbm, 154, rfl⟩
abbrev main_v63 : Ref sig .tc := ⟨.hbm, 155, rfl⟩
abbrev main_cst_7 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_cst_8 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_cst_9 : Ref sig .tc := ⟨.hbm, 170, rfl⟩
abbrev main_v76 : Ref sig .tc := ⟨.hbm, 171, rfl⟩
abbrev main_v77 : Ref sig .tc := ⟨.hbm, 172, rfl⟩
abbrev main_cst_10 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_cst_11 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_cst_12 : Ref sig .tc := ⟨.hbm, 193, rfl⟩
abbrev main_v96 : Ref sig .tc := ⟨.hbm, 194, rfl⟩
abbrev main_v97 : Ref sig .tc := ⟨.hbm, 195, rfl⟩
abbrev main_cst_13 : Ref sig .tc := ⟨.hbm, 196, rfl⟩
abbrev main_v98 : Ref sig .tc := ⟨.hbm, 197, rfl⟩
abbrev main_cst_14 : Ref sig .tc := ⟨.hbm, 198, rfl⟩
abbrev main_v99 : Ref sig .tc := ⟨.hbm, 199, rfl⟩
abbrev main_v100 : Ref sig .tc := ⟨.hbm, 200, rfl⟩
abbrev main_call6_cst : Ref sig .tc := ⟨.hbm, 201, rfl⟩
abbrev main_call6_v0 : Ref sig .tc := ⟨.hbm, 202, rfl⟩
abbrev main_v101 : Ref sig .tc := ⟨.hbm, 203, rfl⟩
abbrev main_cst_15 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_cst_16 : Ref sig .tc := ⟨.hbm, 208, rfl⟩
abbrev main_v105 : Ref sig .tc := ⟨.hbm, 209, rfl⟩
abbrev main_v106 : Ref sig .tc := ⟨.hbm, 210, rfl⟩
abbrev main_cst_17 : Ref sig .tc := ⟨.hbm, 211, rfl⟩
abbrev main_v107 : Ref sig .tc := ⟨.hbm, 212, rfl⟩
abbrev main_cst_18 : Ref sig .tc := ⟨.hbm, 213, rfl⟩
abbrev main_v108 : Ref sig .tc := ⟨.hbm, 214, rfl⟩
abbrev main_v109 : Ref sig .tc := ⟨.hbm, 215, rfl⟩
abbrev main_call7_call0_cst : Ref sig .tc := ⟨.hbm, 216, rfl⟩
abbrev main_call7_call0_v0 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_cst_19 : Ref sig .tc := ⟨.hbm, 221, rfl⟩
abbrev main_v113 : Ref sig .tc := ⟨.hbm, 222, rfl⟩
abbrev main_v114 : Ref sig .tc := ⟨.hbm, 223, rfl⟩
abbrev main_call8_v0 : Ref sig .tc := ⟨.hbm, 224, rfl⟩
abbrev main_call8_v1 : Ref sig .tc := ⟨.hbm, 225, rfl⟩
abbrev main_v115 : Ref sig .tc := ⟨.hbm, 226, rfl⟩
abbrev main_cst_20 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_cst_21 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_cst_22 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_cst_23 : Ref sig .tc := ⟨.hbm, 242, rfl⟩
abbrev main_v128 : Ref sig .tc := ⟨.hbm, 243, rfl⟩
abbrev main_v129 : Ref sig .tc := ⟨.hbm, 244, rfl⟩
abbrev main_cst_24 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_cst_25 : Ref sig .tc := ⟨.hbm, 250, rfl⟩
abbrev main_v134 : Ref sig .tc := ⟨.hbm, 251, rfl⟩
abbrev main_v135 : Ref sig .tc := ⟨.hbm, 252, rfl⟩
abbrev main_v136 : Ref sig .tc := ⟨.hbm, 253, rfl⟩
abbrev main_v137 : Ref sig .tc := ⟨.hbm, 254, rfl⟩

abbrev nD : Nat := 1
abbrev τ : Topo := Topo.v7x

variable {F : FTy → Type} [FloatOps F]
-- ==== UpW.lean ====
abbrev S2048x2048 : Shape := ⟨2, ![2048, 2048]⟩
abbrev S2048x11264 : Shape := ⟨2, ![2048, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x11264, .f32⟩
  | .hbm, ⟨7, _⟩ => ⟨S11264x2048, .f32⟩
  | .hbm, ⟨8, _⟩ => ⟨S2048x11264, .f32⟩
  | .hbm, ⟨9, _⟩ => ⟨S2048x4x2816, .f32⟩
  | .hbm, ⟨10, _⟩ => ⟨S4x2048x2816, .f32⟩
  | .hbm, ⟨11, _⟩ => ⟨S4x2048x2816, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpH.lean ====
abbrev S2048x11264 : Shape := ⟨2, ![2048, 11264]⟩
abbrev S4x2048x2816 : Shape := ⟨3, ![4, 2048, 2816]⟩
abbrev S2048x2048 : Shape := ⟨2, ![2048, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S4x2048x2816, .bf16⟩
  | .hbm, ⟨2, _⟩ => ⟨S2048x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpHRefIdeal.lean ====
abbrev S2048x11264 : Shape := ⟨2, ![2048, 11264]⟩
abbrev S4x2048x2816 : Shape := ⟨3, ![4, 2048, 2816]⟩
abbrev S2048x4x2816 : Shape := ⟨3, ![2048, 4, 2816]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4x2048x2816, .bf16⟩
  | .hbm, ⟨2, _⟩ => ⟨S4x2048x2816, .f32⟩
  | .hbm, ⟨3, _⟩ => ⟨S2048x4x2816, .f32⟩
  | .hbm, ⟨4, _⟩ => ⟨S2048x11264, .f32⟩
  | .hbm, ⟨5, _⟩ => ⟨S_, .f32⟩
  | .hbm, ⟨6, _⟩ => ⟨S2048x2048, .f32⟩
  | .hbm, ⟨7, _⟩ => ⟨S2048x11264, .f32⟩
  | .hbm, ⟨8, _⟩ => ⟨S2048x11264, .f32⟩
  | .hbm, ⟨9, _⟩ => ⟨S2048x2048, .f32⟩
  | .hbm, ⟨10, _⟩ => ⟨S2048x2048, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InW.lean ====
abbrev S2048x8192 : Shape := ⟨2, ![2048, 8192]⟩
abbrev S2048x2048 : Shape := ⟨2, ![2048, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InH.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InHRefIdeal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Att.lean ====
abbrev S2048x2048 : Shape := ⟨2, ![2048, 2048]⟩
abbrev S256x4096 : Shape := ⟨2, ![256, 4096]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S256x4096, .bf16⟩
  | .hbm, ⟨2, _⟩ => ⟨S2048x2048, .bf16⟩
  | .hbm, ⟨3, _⟩ => ⟨S2048x2048, .bf16⟩
  | .hbm, ⟨4, _⟩ => ⟨S256x4096, .f32⟩
  | .local _ .vmem, ⟨0, _⟩ => ⟨S512x2048, .bf16⟩
  | .local _ .vmem, ⟨1, _⟩ => ⟨S512x2048, .bf16⟩
  | .local _ .vmem, ⟨2, _⟩ => ⟨S256x4096, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S256x4096, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttRefIdeal.lean ====
abbrev S2048x2048 : Shape := ⟨2, ![2048, 2048]⟩
abbrev S256x4096 : Shape := ⟨2, ![256, 4096]⟩
abbrev S2048x4x512 : Shape := ⟨3, ![2048, 4, 512]⟩
abbrev S256x2x4x512 : Shape := ⟨4, ![256, 2, 4, 512]⟩
abbrev S256x1x4x512 : Shape := ⟨4, ![256, 1, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩
abbrev S4x512x256 : Shape := ⟨3, ![4, 512, 256]⟩
abbrev S4x256x512 : Shape := ⟨3, ![4, 256, 512]⟩
abbrev S4x2048x512 : Shape := ⟨3, ![4, 2048, 512]⟩

abbrev nBuf : Space → Nat
  | .hbm => 93
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x4096, .bf16⟩
  | .hbm, ⟨2, _⟩ => ⟨S2048x2048, .bf16⟩
  | .hbm, ⟨3, _⟩ => ⟨S2048x2048, .f32⟩
  | .hbm, ⟨4, _⟩ => ⟨S256x4096, .f32⟩
  | .hbm, ⟨5, _⟩ => ⟨S2048x4x512, .f32⟩
  | .hbm, ⟨6, _⟩ => ⟨S256x2x4x512, .f32⟩
  | .hbm, ⟨7, _⟩ => ⟨S256x1x4x512, .f32⟩
  | .hbm, ⟨8, _⟩ => ⟨S256x4x512, .f32⟩
  | .hbm, ⟨9, _⟩ => ⟨S256x1x4x512, .f32⟩
  | .hbm, ⟨10, _⟩ => ⟨S256x4x512, .f32⟩
  | .hbm, ⟨11, _⟩ => ⟨S4x2048x256, .f32⟩
  | .hbm, ⟨12, _⟩ => ⟨S_, .f32⟩
  | .hbm, ⟨13, _⟩ => ⟨S4x2048x256, .f32⟩
  | .hbm, ⟨14, _⟩ => ⟨S4x2048x256, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S4x2048x256, .f32⟩
  | .hbm, ⟨19, _⟩ => ⟨S4x2048x256, .i1⟩
  | .hbm, ⟨20, _⟩ => ⟨S4x2048x256, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .i1⟩
  | .hbm, ⟨29, _⟩ => ⟨S_, .f32⟩
  | .hbm, ⟨30, _⟩ => ⟨S4x2048, .f32⟩
  | .hbm, ⟨31, _⟩ => ⟨S4x2048, .i1⟩
  | .hbm, ⟨32, _⟩ => ⟨S_, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S4x2048, .f32⟩
  | .hbm, ⟨40, _⟩ => ⟨S4x2048x1, .f32⟩
  | .hbm, ⟨41, _⟩ => ⟨S4x2048x256, .f32⟩
  | .hbm, ⟨42, _⟩ => ⟨S4x2048x256, .f32⟩
  | .hbm, ⟨43, _⟩ => ⟨S4x2048x256, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S4x2048x256, .f32⟩
  | .hbm, ⟨48, _⟩ => ⟨S4x2048x256, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x512x2048, .f32⟩
  | .hbm, ⟨54, _⟩ => ⟨S2048x4x512, .f32⟩
  | .hbm, ⟨55, _⟩ => ⟨S2048x2048, .f32⟩
  | .hbm, ⟨56, _⟩ => ⟨S2048x2048, .f32⟩
  | .hbm, ⟨57, _⟩ => ⟨S2048x4x512, .f32⟩
  | .hbm, ⟨58, _⟩ => ⟨S4x512x2048, .f32⟩
  | .hbm, ⟨59, _⟩ => ⟨S4x2048x256, .f32⟩
  | .hbm, ⟨60, _⟩ => ⟨S4x512x256, .f32⟩
  | .hbm, ⟨61, _⟩ => ⟨S256x4x512, .f32⟩
  | .hbm, ⟨62, _⟩ => ⟨S4x2048x256, .f32⟩
  | .hbm, ⟨63, _⟩ => ⟨S4x2048x256, .f32⟩
  | .hbm, ⟨64, _⟩ => ⟨S4x2048x256, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S4x2048x1, .f32⟩
  | .hbm, ⟨69, _⟩ => ⟨S4x2048x256, .f32⟩
  | .hbm, ⟨70, _⟩ => ⟨S4x2048x256, .f32⟩
  | .hbm, ⟨71, _⟩ => ⟨S_, .f32⟩
  | .hbm, ⟨72, _⟩ => ⟨S4x2048, .f32⟩
  | .hbm, ⟨73, _⟩ => ⟨S4x2048x256, .f32⟩
  | .hbm, ⟨74, _⟩ => ⟨S4x2048x256, .f32⟩
  | .hbm, ⟨75, _⟩ => ⟨S4x2048x256, .f32⟩
  | .hbm, ⟨76, _⟩ => ⟨S_, .f32⟩
  | .hbm, ⟨77, _⟩ => ⟨S4x2048x256, .f32⟩
  | .hbm, ⟨78, _⟩ => ⟨S4x2048x256, .f32⟩
  | .hbm, ⟨79, _⟩ => ⟨S4x256x512, .f32⟩
  | .hbm, ⟨80, _⟩ => ⟨S256x4x512, .f32⟩
  | .hbm, ⟨81, _⟩ => ⟨S4x2048x512, .f32⟩
  | .hbm, ⟨82, _⟩ => ⟨S2048x4x512, .f32⟩
  | .hbm, ⟨83, _⟩ => ⟨S256x1x4x512, .f32⟩
  | .hbm, ⟨84, _⟩ => ⟨S_, .f32⟩
  | .hbm, ⟨85, _⟩ => ⟨S256x2x4x512, .f32⟩
  | .hbm, ⟨86, _⟩ => ⟨S256x1x4x512, .f32⟩
  | .hbm, ⟨87, _⟩ => ⟨S_, .f32⟩
  | .hbm, ⟨88, _⟩ => ⟨S256x2x4x512, .f32⟩
  | .hbm, ⟨89, _⟩ => ⟨S256x2x4x512, .f32⟩
  | .hbm, ⟨90, _⟩ => ⟨S256x4096, .f32⟩
  | .hbm, ⟨91, _⟩ => ⟨S2048x2048, .f32⟩
  | .hbm, ⟨92, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Merge.lean ====
abbrev S2048x2048 : Shape := ⟨2, ![2048, 2048]⟩
abbrev S2048x8192 : Shape := ⟨2, ![2048, 8192]⟩
abbrev S2048x4096 : Shape := ⟨2, ![2048, 4096]⟩
abbrev S128x2048 : Shape := ⟨2, ![128, 2048]⟩
abbrev S128x4096 : Shape := ⟨2, ![128, 4096]⟩

abbrev nBuf : Space → Nat
  | .hbm => 7
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x8192, .f32⟩
  | .hbm, ⟨4, _⟩ => ⟨S2048x2048, .bf16⟩
  | .hbm, ⟨5, _⟩ => ⟨S2048x2048, .bf16⟩
  | .hbm, ⟨6, _⟩ => ⟨S2048x4096, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x4096, .bf16⟩
  | .local _ .vmem, ⟨15, _⟩ => ⟨S128x4096, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S2048x2048 : Shape := ⟨2, ![2048, 2048]⟩
abbrev S2048x8192 : Shape := ⟨2, ![2048, 8192]⟩
abbrev S2048x4096 : Shape := ⟨2, ![2048, 4096]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x8192, .f32⟩
  | .hbm, ⟨4, _⟩ => ⟨S2048x2048, .f32⟩
  | .hbm, ⟨5, _⟩ => ⟨S2048x2048, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x4096, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x4096, .f32⟩
  | .hbm, ⟨33, _⟩ => ⟨S2048x4096, .f32⟩
  | .hbm, ⟨34, _⟩ => ⟨S2048x4096, .f32⟩
  | .hbm, ⟨35, _⟩ => ⟨S2048x2048, .bf16⟩
  | .hbm, ⟨36, _⟩ => ⟨S2048x2048, .bf16⟩
  | .hbm, ⟨37, _⟩ => ⟨S2048x4096, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S128x2048 : Shape := ⟨2, ![128, 2048]⟩
abbrev S128x1 : Shape := ⟨2, ![128, 1]⟩
abbrev S128 : Shape := ⟨1, ![128]⟩

abbrev nBuf : Space → Nat
  | .hbm => 18
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .bf16⟩
  | .hbm, ⟨17, _⟩ => ⟨S1x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .f32⟩
  | .local _ .vmem, ⟨3, _⟩ => ⟨S128x2048, .f32⟩
  | .local _ .vmem, ⟨4, _⟩ => ⟨S128x1, .f32⟩
  | .local _ .vmem, ⟨5, _⟩ => ⟨S128x1, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .bf16⟩
  | .local _ .vmem, ⟨12, _⟩ => ⟨S128x2048, .bf16⟩
  | .local _ .vmem, ⟨13, _⟩ => ⟨S1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Act.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ActRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S5632x2048, .f32⟩
  | .hbm, ⟨3, _⟩ => ⟨S_, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownW.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CrossH.lean ====
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossHRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CrossW.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossWRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S2048x2048 : Shape := ⟨2, ![2048, 2048]⟩
abbrev S4x2048x2816 : Shape := ⟨3, ![4, 2048, 2816]⟩
abbrev S2048x11264 : Shape := ⟨2, ![2048, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x2048 : Shape := ⟨2, ![2048, 2048]⟩
abbrev S4x2048x2816 : Shape := ⟨3, ![4, 2048, 2816]⟩
abbrev S2048x4x2816 : Shape := ⟨3, ![2048, 4, 2816]⟩
abbrev S2048x11264 : Shape := ⟨2, ![2048, 11264]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2816, .bf16⟩
  | .hbm, ⟨2, _⟩ => ⟨S2048x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S2048x11264, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proj.lean ====
abbrev S2048x2048 : Shape := ⟨2, ![2048, 2048]⟩
abbrev S8192x2048 : Shape := ⟨2, ![8192, 2048]⟩
abbrev S2048x8192 : Shape := ⟨2, ![2048, 8192]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S2048x2048 : Shape := ⟨2, ![2048, 2048]⟩
abbrev S8192x2048 : Shape := ⟨2, ![8192, 2048]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x2048, .f32⟩
  | .hbm, ⟨3, _⟩ => ⟨S8192x2048, .f32⟩
  | .hbm, ⟨4, _⟩ => ⟨S2048x8192, .f32⟩
  | .hbm, ⟨5, _⟩ => ⟨S2048x8192, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CrossQ.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossQRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BrGla.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrGlaRefIdeal.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S1024x2048, .f32⟩
  | .hbm, ⟨5, _⟩ => ⟨S2048x2048, .f32⟩
  | .hbm, ⟨6, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BrPool.lean ====
abbrev S2048x1024 : Shape := ⟨2, ![2048, 1024]⟩
abbrev S2048x2048 : Shape := ⟨2, ![2048, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrPoolRefIdeal.lean ====
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S1024x2048, .f32⟩
  | .hbm, ⟨5, _⟩ => ⟨S2048x2048, .f32⟩
  | .hbm, ⟨6, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OGla.lean ====
abbrev S2048x2048 : Shape := ⟨2, ![2048, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OGlaRefIdeal.lean ====
abbrev S2048x2048 : Shape := ⟨2, ![2048, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x1024, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OPool.lean ====
abbrev S2048x2048 : Shape := ⟨2, ![2048, 2048]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OPoolRefIdeal.lean ====
abbrev S2048x2048 : Shape := ⟨2, ![2048, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x1024, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BrW.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrWRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kv.lean ====
abbrev S256x2048 : Shape := ⟨2, ![256, 2048]⟩
abbrev S4x2048x1024 : Shape := ⟨3, ![4, 2048, 1024]⟩
abbrev S256x4096 : Shape := ⟨2, ![256, 4096]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S4x2048x1024, .bf16⟩
  | .hbm, ⟨2, _⟩ => ⟨S256x4096, .bf16⟩
  | .local _ .vmem, ⟨0, _⟩ => ⟨S256x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S256x2048 : Shape := ⟨2, ![256, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S256x4096 : Shape := ⟨2, ![256, 4096]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x2048x1024, .bf16⟩
  | .hbm, ⟨2, _⟩ => ⟨S256x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S256x4096, .f32⟩
  | .hbm, ⟨7, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvW.lean ====
abbrev S256x2048 : Shape := ⟨2, ![256, 2048]⟩
abbrev S256x4096 : Shape := ⟨2, ![256, 4096]⟩
abbrev S4x2048x1024 : Shape := ⟨3, ![4, 2048, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S4x2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024x1024, .bf16⟩
  | .local _ .vmem, ⟨5, _⟩ => ⟨S1x1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWRefIdeal.lean ====
abbrev S256x2048 : Shape := ⟨2, ![256, 2048]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S_, .f32⟩
  | .hbm, ⟨3, _⟩ => ⟨S2048x4096, .f32⟩
  | .hbm, ⟨4, _⟩ => ⟨S256x2048, .f32⟩
  | .hbm, ⟨5, _⟩ => ⟨S256x4096, .f32⟩
  | .hbm, ⟨6, _⟩ => ⟨S256x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | .hbm, ⟨11, _⟩ => ⟨S4x2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvH.lean ====
abbrev S256x4096 : Shape := ⟨2, ![256, 4096]⟩
abbrev S4x2048x1024 : Shape := ⟨3, ![4, 2048, 1024]⟩
abbrev S256x2048 : Shape := ⟨2, ![256, 2048]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x4096, .bf16⟩
  | .hbm, ⟨1, _⟩ => ⟨S4x2048x1024, .bf16⟩
  | .hbm, ⟨2, _⟩ => ⟨S256x2048, .f32⟩
  | .local _ .vmem, ⟨0, _⟩ => ⟨S256x1024, .bf16⟩
  | .local _ .vmem, ⟨1, _⟩ => ⟨S256x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvHRefIdeal.lean ====
abbrev S256x4096 : Shape := ⟨2, ![256, 4096]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S_ : Shape := ⟨0, ![]⟩
abbrev S256x2048 : Shape := ⟨2, ![256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4x2048x1024, .bf16⟩
  | .hbm, ⟨2, _⟩ => ⟨S4x2048x1024, .f32⟩
  | .hbm, ⟨3, _⟩ => ⟨S2048x4x1024, .f32⟩
  | .hbm, ⟨4, _⟩ => ⟨S2048x4096, .f32⟩
  | .hbm, ⟨5, _⟩ => ⟨S_, .f32⟩
  | .hbm, ⟨6, _⟩ => ⟨S256x2048, .f32⟩
  | .hbm, ⟨7, _⟩ => ⟨S256x4096, .f32⟩
  | .hbm, ⟨8, _⟩ => ⟨S256x4096, .f32⟩
  | .hbm, ⟨9, _⟩ => ⟨S256x2048, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Lift.lean ====
/- Hand-written, untrusted: REAL-VALUED ARRAYS. `c2 F` is the array of rank two whose entry at row `i`, column `j` is the real
   number `F i j` (`c3`, `c4` of rank three and four); every operation of the two programs takes such arrays to such an array.
   The coordinates are natural numbers, so that a slice or a reshape is arithmetic on them. -/
module

public import Idealize.ShloMosaic.Lib.Pointwise
public import Idealize.ShloMosaic.PureOps.Ideal

@[expose] public section

set_option maxRecDepth 16384

noncomputable section

namespace Cert.Gla

open Idealize.ShloMosaic

variable {a b c e : ℕ} {φ ψ : FTy}

/-- The vector of the entries `F i`. -/
def c1 (F : ℕ → ℝ) : FVec Ideal ⟨1, ![a]⟩ φ := fun j => ((F (j 0).val : ℝ) : EReal)

/-- The matrix of the entries `F i j`. -/
def c2 (F : ℕ → ℕ → ℝ) : FVec Ideal ⟨2, ![a, b]⟩ φ := fun j => ((F (j 0).val (j 1).val : ℝ) : EReal)

/-- The array of rank three of the entries `F i j k`. -/
def c3 (F : ℕ → ℕ → ℕ → ℝ) : FVec Ideal ⟨3, ![a, b, c]⟩ φ := fun j => ((F (j 0).val (j 1).val (j 2).val : ℝ) : EReal)

/-- The array of rank four of the entries `F i j k l`. -/
def c4 (F : ℕ → ℕ → ℕ → ℕ → ℝ) : FVec Ideal ⟨4, ![a, b, c, e]⟩ φ :=
  fun j => ((F (j 0).val (j 1).val (j 2).val (j 3).val : ℝ) : EReal)

/-- The mask of the entries where the first coordinate reaches the second. -/
def low2 : IVec ⟨2, ![a, b]⟩ 1 := fun j => BitVec.ofBool (decide ((j 1).val ≤ (j 0).val))

/-- The mask of an array of rank four by its two middle coordinates. -/
def low4 : IVec ⟨4, ![a, b, c, e]⟩ 1 := fun j => BitVec.ofBool (decide ((j 2).val ≤ (j 1).val))

/-- Two matrices agree where their entries inside the shape do. -/
theorem c2_congr {F G : ℕ → ℕ → ℝ} (h : ∀ i < a, ∀ j < b, F i j = G i j) :
    (c2 F : FVec Ideal ⟨2, ![a, b]⟩ φ) = c2 G := funext fun j => congrArg _ (h _ (j 0).isLt _ (j 1).isLt)

theorem c3_congr {F G : ℕ → ℕ → ℕ → ℝ} (h : ∀ i < a, ∀ j < b, ∀ k < c, F i j k = G i j k) :
    (c3 F : FVec Ideal ⟨3, ![a, b, c]⟩ φ) = c3 G :=
  funext fun j => congrArg _ (h _ (j 0).isLt _ (j 1).isLt _ (j 2).isLt)

theorem c4_congr {F G : ℕ → ℕ → ℕ → ℕ → ℝ} (h : ∀ i < a, ∀ j < b, ∀ k < c, ∀ l < e, F i j k l = G i j k l) :
    (c4 F : FVec Ideal ⟨4, ![a, b, c, e]⟩ φ) = c4 G :=
  funext fun j => congrArg _ (h _ (j 0).isLt _ (j 1).isLt _ (j 2).isLt _ (j 3).isLt)

/-! ### Scalars -/

/-- A finite sum of reals, in the extended reals. -/
theorem coe_sum {ι : Type} (t : Finset ι) (f : ι → ℝ) : ((∑ k ∈ t, f k : ℝ) : EReal) = ∑ k ∈ t, (f k : EReal) :=
  map_sum (⟨⟨Real.toEReal, EReal.coe_zero⟩, EReal.coe_add⟩ : ℝ →+ EReal) f t

theorem div_coe (x y : ℝ) (h : y ≠ 0) : Ideal.div (x : EReal) (y : EReal) = ((x / y : ℝ) : EReal) := by
  unfold Ideal.div
  rw [if_neg (by exact_mod_cast h), div_eq_mul_inv, EReal.coe_mul, EReal.coe_inv]

theorem rsqrt_coe (x : ℝ) (h : 0 < x) : Ideal.rsqrt (x : EReal) = (((Real.sqrt x)⁻¹ : ℝ) : EReal) := by
  change (if x < 0 then (⊥ : EReal) else if x = 0 then ⊤ else _) = _
  rw [if_neg (by linarith), if_neg (by linarith)]

theorem log_coe (x : ℝ) (h : 0 < x) : Ideal.log (x : EReal) = ((Real.log x : ℝ) : EReal) := by
  change (if x ≤ 0 then (⊥ : EReal) else _) = _
  rw [if_neg (by linarith)]

theorem log1p_coe (x : ℝ) (h : 0 < 1 + x) : Ideal.log1p (x : EReal) = ((Real.log (1 + x) : ℝ) : EReal) := by
  unfold Ideal.log1p
  rw [show (1 : EReal) = ((1 : ℝ) : EReal) from rfl, ← EReal.coe_add, log_coe _ h]

theorem max_coe (x y : ℝ) : max (x : EReal) (y : EReal) = ((max x y : ℝ) : EReal) := (EReal.coe_strictMono.monotone.map_max).symm
theorem min_coe (x y : ℝ) : min (x : EReal) (y : EReal) = ((min x y : ℝ) : EReal) := (EReal.coe_strictMono.monotone.map_min).symm
theorem abs_coe (x : ℝ) : max (x : EReal) (-(x : EReal)) = ((|x| : ℝ) : EReal) := by
  rw [← EReal.coe_neg, max_coe]; rfl

/-- The real number the bits of the key scale `1/√128` stand for. -/
def kap : ℝ := (Ideal.ofBits .f32 0x3DB504F3#32).toReal
/-- The real number the bits of the norm's `1e-6` stand for. -/
def eps : ℝ := (Ideal.ofBits .f32 0x358637BD#32).toReal

theorem of_kap : Ideal.ofBits .f32 0x3DB504F3#32 = ((kap : ℝ) : EReal) := by
  have h : ∃ r : ℝ, Ideal.ofBits .f32 0x3DB504F3#32 = (r : EReal) := by
    simp [Ideal.ofBits, Ideal.ieee, -EReal.coe_mul]
  obtain ⟨r, hr⟩ := h
  unfold kap; rw [hr, EReal.toReal_coe]
theorem of_eps' : Ideal.ofBits .f32 0x358637BD#32 = ((8796093 * 2 ^ (-43 : ℤ) : ℝ) : EReal) := by
  simp [Ideal.ofBits, Ideal.ieee, -EReal.coe_mul]
theorem of_eps : Ideal.ofBits .f32 0x358637BD#32 = ((eps : ℝ) : EReal) := by
  unfold eps; rw [of_eps', EReal.toReal_coe]
theorem eps_pos : 0 < eps := by
  unfold eps; rw [of_eps', EReal.toReal_coe]; positivity
theorem of_zero : Ideal.ofBits .f32 0x00000000#32 = ((0 : ℝ) : EReal) := by
  simp [Ideal.ofBits, Ideal.ieee]
theorem of_one : Ideal.ofBits .f32 0x3F800000#32 = ((1 : ℝ) : EReal) := by
  simp [Ideal.ofBits, Ideal.ieee, -EReal.coe_mul]; norm_num
theorem of_half : Ideal.ofBits .f32 0x3F000000#32 = ((1 / 2 : ℝ) : EReal) := by
  simp [Ideal.ofBits, Ideal.ieee, -EReal.coe_mul]; norm_num
theorem of_nhalf : Ideal.ofBits .f32 0xBF000000#32 = ((-1 / 2 : ℝ) : EReal) := by
  simp [Ideal.ofBits, Ideal.ieee, -EReal.coe_mul]; norm_num
theorem of_16 : Ideal.ofBits .f32 0x41800000#32 = ((16 : ℝ) : EReal) := by
  simp [Ideal.ofBits, Ideal.ieee, -EReal.coe_mul]; norm_num
theorem of_16th : Ideal.ofBits .f32 0x3D800000#32 = ((1 / 16 : ℝ) : EReal) := by
  simp [Ideal.ofBits, Ideal.ieee, -EReal.coe_mul]; norm_num
theorem of_256 : Ideal.ofBits .f32 0x43800000#32 = ((256 : ℝ) : EReal) := by
  simp [Ideal.ofBits, Ideal.ieee, -EReal.coe_mul]; norm_num
theorem of_bot : Ideal.ofBits .f32 0xFF800000#32 = ⊥ := by
  simp [Ideal.ofBits, Ideal.ieee]
theorem of_top : Ideal.ofBits .f32 0x7F800000#32 = ⊤ := by
  simp [Ideal.ofBits, Ideal.ieee]

/-! ### Constants -/

theorem broadcast_const (t : Shape) (x : BitVec 32) : broadcast t (Scalar.ofBits (F := Ideal) .f32 x) = constant t .f32 x := rfl
theorem bcast_const (t : Shape) (x : BitVec 32) (h) :
    broadcastInDim t ![] h (constant (F := Ideal) ⟨0, ![]⟩ .f32 x) = constant t .f32 x := rfl
theorem const_c2 {x : BitVec 32} {r : ℝ} (h : Ideal.ofBits .f32 x = (r : EReal)) :
    constant (F := Ideal) ⟨2, ![a, b]⟩ .f32 x = c2 fun _ _ => r := funext fun _ => h
theorem const_c3 {x : BitVec 32} {r : ℝ} (h : Ideal.ofBits .f32 x = (r : EReal)) :
    constant (F := Ideal) ⟨3, ![a, b, c]⟩ .f32 x = c3 fun _ _ _ => r := funext fun _ => h
theorem const_c4 {x : BitVec 32} {r : ℝ} (h : Ideal.ofBits .f32 x = (r : EReal)) :
    constant (F := Ideal) ⟨4, ![a, b, c, e]⟩ .f32 x = c4 fun _ _ _ _ => r := funext fun _ => h

/-! ### Matrices, entry by entry -/

section
variable (F G : ℕ → ℕ → ℝ)

theorem addf_c2 : addf (c2 F : FVec Ideal ⟨2, ![a, b]⟩ φ) (c2 G) = c2 fun i j => F i j + G i j :=
  funext fun _ => (EReal.coe_add _ _).symm
theorem subf_c2 : subf (c2 F : FVec Ideal ⟨2, ![a, b]⟩ φ) (c2 G) = c2 fun i j => F i j - G i j :=
  funext fun _ => (EReal.coe_sub _ _).symm
theorem mulf_c2 : mulf (c2 F : FVec Ideal ⟨2, ![a, b]⟩ φ) (c2 G) = c2 fun i j => F i j * G i j :=
  funext fun _ => (EReal.coe_mul _ _).symm
theorem divf_c2 (h : ∀ i j, G i j ≠ 0) : divf (c2 F : FVec Ideal ⟨2, ![a, b]⟩ φ) (c2 G) = c2 fun i j => F i j / G i j :=
  funext fun _ => div_coe _ _ (h _ _)
theorem hdivf_c2 (h : ∀ i j, G i j ≠ 0) : Host.divf (c2 F : FVec Ideal ⟨2, ![a, b]⟩ φ) (c2 G) = c2 fun i j => F i j / G i j :=
  funext fun _ => div_coe _ _ (h _ _)
theorem maximumf_c2 : maximumf (c2 F : FVec Ideal ⟨2, ![a, b]⟩ φ) (c2 G) = c2 fun i j => max (F i j) (G i j) :=
  funext fun _ => max_coe _ _
theorem minimumf_c2 : minimumf (c2 F : FVec Ideal ⟨2, ![a, b]⟩ φ) (c2 G) = c2 fun i j => min (F i j) (G i j) :=
  funext fun _ => min_coe _ _
theorem absf_c2 : absf (c2 F : FVec Ideal ⟨2, ![a, b]⟩ φ) = c2 fun i j => |F i j| := funext fun _ => abs_coe _
theorem habsf_c2 : Host.absf (c2 F : FVec Ideal ⟨2, ![a, b]⟩ φ) = c2 fun i j => |F i j| := funext fun _ => abs_coe _
theorem hnegf_c2 : Host.negf (c2 F : FVec Ideal ⟨2, ![a, b]⟩ φ) = c2 fun i j => -F i j :=
  funext fun _ => (EReal.coe_neg _).symm
theorem exp_c2 : exp (c2 F : FVec Ideal ⟨2, ![a, b]⟩ φ) = c2 fun i j => Real.exp (F i j) := funext fun _ => rfl
theorem hexp_c2 : Host.exp (c2 F : FVec Ideal ⟨2, ![a, b]⟩ φ) = c2 fun i j => Real.exp (F i j) := funext fun _ => rfl
theorem tanh_c2 : tanh (c2 F : FVec Ideal ⟨2, ![a, b]⟩ φ) = c2 fun i j => Real.tanh (F i j) := funext fun _ => rfl
theorem log_c2 (h : ∀ i j, 0 < F i j) : log (c2 F : FVec Ideal ⟨2, ![a, b]⟩ φ) = c2 fun i j => Real.log (F i j) :=
  funext fun _ => log_coe _ (h _ _)
theorem hlog1p_c2 (h : ∀ i j, 0 < 1 + F i j) :
    Host.log1p (c2 F : FVec Ideal ⟨2, ![a, b]⟩ φ) = c2 fun i j => Real.log (1 + F i j) :=
  funext fun _ => log1p_coe _ (h _ _)
theorem rsqrt_c2 (h : ∀ i j, 0 < F i j) : rsqrt (c2 F : FVec Ideal ⟨2, ![a, b]⟩ φ) = c2 fun i j => (Real.sqrt (F i j))⁻¹ :=
  funext fun _ => rsqrt_coe _ (h _ _)
theorem truncf_c2 (h : ψ.bits < φ.bits) : truncf ψ (c2 F : FVec Ideal ⟨2, ![a, b]⟩ φ) h = c2 F := rfl
theorem extf_c2 (h : φ.bits < ψ.bits) : extf ψ (c2 F : FVec Ideal ⟨2, ![a, b]⟩ φ) h = c2 F := rfl
theorem select_c2 : select low2 (c2 F : FVec Ideal ⟨2, ![a, b]⟩ φ) (c2 G) = c2 fun i j => if j ≤ i then F i j else G i j := by
  funext j
  change Scalar.select (BitVec.ofBool (decide ((j 1).val ≤ (j 0).val))) _ _ = _
  by_cases h : (j 1).val ≤ (j 0).val
  · simp [c2, h, Scalar.select]
  · simp [c2, h, Scalar.select]
theorem slice_c2 (p q a' b' : ℕ) (h : Shape.Slices ⟨2, ![a, b]⟩ ![p, q] ⟨2, ![a', b']⟩) :
    extractStridedSlice ⟨2, ![a', b']⟩ ![p, q] (c2 F : FVec Ideal ⟨2, ![a, b]⟩ φ) h = c2 fun i j => F (p + i) (q + j) :=
  funext fun _ => rfl
theorem cast22 (h : Shape.ShapeCasts ⟨2, ![a, b]⟩ ⟨2, ![a, b]⟩) :
    shapeCast ⟨2, ![a, b]⟩ (c2 F : FVec Ideal ⟨2, ![a, b]⟩ φ) h = c2 F := by
  funext j
  change c2 F (Shape.reshapeEquiv h j) = _
  rw [Shape.reshapeEquiv_self]
end

/-! ### Arrays of rank three and four, entry by entry -/

section
variable (F G : ℕ → ℕ → ℕ → ℝ) (P R : ℕ → ℕ → ℕ → ℕ → ℝ)

theorem addf_c3 : addf (c3 F : FVec Ideal ⟨3, ![a, b, c]⟩ φ) (c3 G) = c3 fun i j k => F i j k + G i j k :=
  funext fun _ => (EReal.coe_add _ _).symm
theorem subf_c3 : subf (c3 F : FVec Ideal ⟨3, ![a, b, c]⟩ φ) (c3 G) = c3 fun i j k => F i j k - G i j k :=
  funext fun _ => (EReal.coe_sub _ _).symm
theorem mulf_c3 : mulf (c3 F : FVec Ideal ⟨3, ![a, b, c]⟩ φ) (c3 G) = c3 fun i j k => F i j k * G i j k :=
  funext fun _ => (EReal.coe_mul _ _).symm
theorem hdivf_c3 (h : ∀ i j k, G i j k ≠ 0) :
    Host.divf (c3 F : FVec Ideal ⟨3, ![a, b, c]⟩ φ) (c3 G) = c3 fun i j k => F i j k / G i j k :=
  funext fun _ => div_coe _ _ (h _ _ _)
theorem hrsqrt_c3 (h : ∀ i j k, 0 < F i j k) :
    Host.rsqrt (c3 F : FVec Ideal ⟨3, ![a, b, c]⟩ φ) = c3 fun i j k => (Real.sqrt (F i j k))⁻¹ :=
  funext fun _ => rsqrt_coe _ (h _ _ _)
theorem mulf_c4 : mulf (c4 P : FVec Ideal ⟨4, ![a, b, c, e]⟩ φ) (c4 R) = c4 fun i j k l => P i j k l * R i j k l :=
  funext fun _ => (EReal.coe_mul _ _).symm
theorem subf_c4 : subf (c4 P : FVec Ideal ⟨4, ![a, b, c, e]⟩ φ) (c4 R) = c4 fun i j k l => P i j k l - R i j k l :=
  funext fun _ => (EReal.coe_sub _ _).symm
theorem hnegf_c4 : Host.negf (c4 P : FVec Ideal ⟨4, ![a, b, c, e]⟩ φ) = c4 fun i j k l => -P i j k l :=
  funext fun _ => (EReal.coe_neg _).symm
theorem select_c4 : select low4 (c4 P : FVec Ideal ⟨4, ![a, b, c, e]⟩ φ) (c4 R)
    = c4 fun i j k l => if k ≤ j then P i j k l else R i j k l := by
  funext j
  change Scalar.select (BitVec.ofBool (decide ((j 2).val ≤ (j 1).val))) _ _ = _
  by_cases h : (j 2).val ≤ (j 1).val
  · simp [c4, h, Scalar.select]
  · simp [c4, h, Scalar.select]
/-- The exponential of an array cut off with `-∞` above the diagonal. -/
theorem hexp_select_c4 : Host.exp (select low4 (c4 P : FVec Ideal ⟨4, ![a, b, c, e]⟩ .f32) (constant _ .f32 0xFF800000#32))
    = c4 fun i j k l => if k ≤ j then Real.exp (P i j k l) else 0 := by
  funext j
  change Ideal.exp (Scalar.select (BitVec.ofBool (decide ((j 2).val ≤ (j 1).val))) _ (Ideal.ofBits .f32 0xFF800000#32)) = _
  rw [of_bot]
  by_cases h : (j 2).val ≤ (j 1).val
  · simp [c4, h, Scalar.select]
  · simp [c4, h, Scalar.select]
end

end Cert.Gla
end
-- ==== Proof.Math.lean ====
/- Hand-written, untrusted: THE REAL MATHEMATICS of the gradient of gated linear attention, for one head. The scan is read
   in one piece (every pair of a query row and an earlier key row, weighted by the decay between them); cut into sixteen
   chunks of 128 rows, with the state before a chunk and the state's gradient behind it, each sum splits into the chunk's
   own part and a part that the carried value stands for. -/
module

public import Mathlib.Analysis.SpecialFunctions.Exp
public import Mathlib.Algebra.BigOperators.Fin

@[expose] public section

noncomputable section

namespace Cert.Gla

open Finset

/-- A sum over a chunk's rows is a sum over all rows, cut off outside the chunk. -/
theorem sum_chunk (c : ℕ) (hc : c < 16) (f : ℕ → ℝ) :
    ∑ j : Fin 128, f (128 * c + j) = ∑ s : Fin 2048, if 128 * c ≤ s.val ∧ s.val < 128 * (c + 1) then f s else 0 := by
  rw [← Finset.sum_filter]
  refine Finset.sum_nbij' (fun j => ⟨128 * c + j.val, by omega⟩) (fun s => ⟨(s.val - 128 * c) % 128, by omega⟩) ?_ ?_ ?_ ?_ ?_
  · intro j _; simp only [mem_filter, mem_univ, true_and]; omega
  · intro s _; exact mem_univ _
  · intro j _; apply Fin.ext; dsimp only; omega
  · intro s hs; simp only [mem_filter, mem_univ, true_and] at hs; apply Fin.ext; dsimp only; omega
  · intro j _; rfl

variable (Q K G V O : ℕ → ℕ → ℝ)

/-- The running sum of the log decay up to and with row `t`. -/
def cum (t d : ℕ) : ℝ := ∑ s : Fin 2048, if s.val ≤ t then G s d else 0

/-- The sum of the log decay before chunk `c`. -/
def pre (c d : ℕ) : ℝ := ∑ s : Fin 2048, if s.val < 128 * c then G s d else 0

/-- The decay from key row `s` to query row `t`, zero where the key is later. -/
def dec (t s d : ℕ) : ℝ := if s ≤ t then Real.exp (cum G t d - cum G s d) else 0

/-- The attention weight of key row `s` at query row `t`. -/
def att (t s : ℕ) : ℝ := ∑ d : Fin 128, Q t d * K s d * dec G t s d

/-- The output's gradient against the value rows. -/
def pair (t s : ℕ) : ℝ := ∑ v : Fin 256, O t v * V s v

/-- The gradient of `q`. -/
def dq (t d : ℕ) : ℝ := ∑ s : Fin 2048, pair V O t s * dec G t s d * K s d

/-- The gradient of `k`. -/
def dk (s d : ℕ) : ℝ := ∑ t : Fin 2048, Q t d * (pair V O t s * dec G t s d)

/-- The gradient of `v`. -/
def dv (s v : ℕ) : ℝ := ∑ t : Fin 2048, O t v * att Q K G t s

/-- What one pair of rows gives to the gradient of the log decay between them. -/
def wt (t s d : ℕ) : ℝ := Q t d * K s d * pair V O t s * dec G t s d

/-- The gradient of the running sum at row `t`. -/
def db (t d : ℕ) : ℝ := (∑ s : Fin 2048, wt Q K G V O t s d) - ∑ u : Fin 2048, wt Q K G V O u t d

/-- The gradient of the log decay. -/
def dg (i d : ℕ) : ℝ := ∑ t : Fin 2048, if i ≤ t.val then db Q K G V O t d else 0

/-- The state before chunk `c`. -/
def st (c v d : ℕ) : ℝ :=
  ∑ s : Fin 2048, if s.val < 128 * c then V s v * (K s d * Real.exp (pre G c d - cum G s d)) else 0

/-- The gradient of the state before chunk `c`, from the rows of that chunk and the later ones. -/
def ds (c v d : ℕ) : ℝ :=
  ∑ t : Fin 2048, if 128 * c ≤ t.val then O t v * (Q t d * Real.exp (cum G t d - pre G c d)) else 0

/-- The running sum inside a chunk. -/
def loc (c i d : ℕ) : ℝ := ∑ j : Fin 128, if j.val ≤ i then G (128 * c + j) d else 0

theorem loc_eq (c : ℕ) (hc : c < 16) (i : Fin 128) (d : ℕ) : loc G c i d = cum G (128 * c + i) d - pre G c d := by
  have h := sum_chunk c hc (fun s => if s ≤ 128 * c + i.val then G s d else 0)
  have h' : loc G c i d = ∑ j : Fin 128, (fun s : ℕ => if s ≤ 128 * c + i.val then G s d else 0) (128 * c + j) := by
    unfold loc; exact Finset.sum_congr rfl fun j _ => by simp
  rw [h', h]; unfold cum pre; rw [← Finset.sum_sub_distrib]
  refine Finset.sum_congr rfl fun s _ => ?_
  have := i.isLt
  change _ = (if s.val ≤ 128 * c + i.val then G s d else 0) - (if s.val < 128 * c then G s d else 0)
  split_ifs <;> first | (exfalso; omega) | ring

/-- The whole chunk's log decay. -/
theorem loc_last (c : ℕ) (hc : c < 16) (d : ℕ) : loc G c 127 d = pre G (c + 1) d - pre G c d := by
  have e : cum G (128 * c + 127) d = pre G (c + 1) d := by
    unfold cum pre
    refine Finset.sum_congr rfl fun s _ => if_congr ?_ rfl rfl
    omega
  rw [show (127 : ℕ) = ((⟨127, by omega⟩ : Fin 128) : ℕ) from rfl, loc_eq G c hc, e]

/-- The chunk's part of the attention weights, in the kernel's factors. -/
theorem att_chunk (c : ℕ) (hc : c < 16) (i j : Fin 128) :
    (if j.val ≤ i.val then ∑ d : Fin 128, Q (128 * c + i) d * Real.exp (loc G c i d) * (K (128 * c + j) d * Real.exp (-loc G c j d)) else 0)
      = att Q K G (128 * c + i) (128 * c + j) := by
  unfold att dec
  by_cases h : j.val ≤ i.val
  · rw [if_pos h]
    refine Finset.sum_congr rfl fun d _ => ?_
    rw [if_pos (by omega), loc_eq G c hc, loc_eq G c hc,
      show cum G (128 * c + i) d - cum G (128 * c + j) d = (cum G (128 * c + i) d - pre G c d) + -(cum G (128 * c + j) d - pre G c d) by ring, Real.exp_add]
    ring
  · rw [if_neg h]
    refine (Finset.sum_eq_zero fun d _ => ?_).symm
    rw [if_neg (by omega), mul_zero]

/-- The gradient of `q` at a chunk's row: the chunk's keys, and the state before it. -/
theorem dq_chunk (c : ℕ) (hc : c < 16) (i : Fin 128) (d : ℕ) :
    ((∑ j : Fin 128, (if j.val ≤ i.val then pair V O (128 * c + i) (128 * c + j) else 0) * (K (128 * c + j) d * Real.exp (-loc G c j d)))
        + ∑ v : Fin 256, O (128 * c + i) v * st K G V c v d) * Real.exp (loc G c i d)
      = dq K G V O (128 * c + i) d := by
  have h1 : ∀ j : Fin 128, (if j.val ≤ i.val then pair V O (128 * c + i) (128 * c + j) else 0) * (K (128 * c + j) d * Real.exp (-loc G c j d)) * Real.exp (loc G c i d)
      = (fun s => pair V O (128 * c + i) s * dec G (128 * c + i) s d * K s d) (128 * c + j) := by
    intro j
    unfold dec
    by_cases h : j.val ≤ i.val
    · beta_reduce
      rw [if_pos h, if_pos (by omega), loc_eq G c hc, loc_eq G c hc,
        show cum G (128 * c + i) d - cum G (128 * c + j) d = (cum G (128 * c + i) d - pre G c d) + -(cum G (128 * c + j) d - pre G c d) by ring, Real.exp_add]
      ring
    · beta_reduce
      rw [if_neg h, if_neg (by omega)]; ring
  have h2 : (∑ v : Fin 256, O (128 * c + i) v * st K G V c v d) * Real.exp (loc G c i d)
      = ∑ s : Fin 2048, if s.val < 128 * c then pair V O (128 * c + i) s * dec G (128 * c + i) s d * K s d else 0 := by
    unfold st pair
    simp only [Finset.mul_sum, Finset.sum_mul]
    rw [Finset.sum_comm]
    refine Finset.sum_congr rfl fun s _ => ?_
    by_cases h : s.val < 128 * c
    · simp only [if_pos h]
      refine Finset.sum_congr rfl fun v _ => ?_
      unfold dec
      rw [if_pos (by omega), loc_eq G c hc,
        show cum G (128 * c + i) d - cum G s d = (cum G (128 * c + i) d - pre G c d) + (pre G c d - cum G s d) by ring, Real.exp_add]
      ring
    · simp only [if_neg h, mul_zero, zero_mul, Finset.sum_const_zero]
  rw [add_mul, Finset.sum_mul, h2, Finset.sum_congr rfl fun j _ => h1 j, sum_chunk c hc (fun s => pair V O (128 * c + i) s * dec G (128 * c + i) s d * K s d), ← Finset.sum_add_distrib]
  unfold dq
  refine Finset.sum_congr rfl fun s _ => ?_
  have := i.isLt
  by_cases h : s.val ≤ (128 * c + i)
  · split_ifs <;> first | (exfalso; omega) | ring
  · have hz : dec G (128 * c + i) s d = 0 := by unfold dec; rw [if_neg h]
    rw [hz]; split_ifs <;> ring

/-- The gradient of the key with the chunk's whole decay: what the rows behind the chunk give. -/
theorem dkhat_chunk (c : ℕ) (hc : c < 16) (j : Fin 128) (d : ℕ) :
    (∑ v : Fin 256, V (128 * c + j) v * ds Q G O (c + 1) v d) * Real.exp (loc G c 127 d - loc G c j d)
      = ∑ t : Fin 2048, if 128 * (c + 1) ≤ t.val then Q t d * (pair V O t (128 * c + j) * dec G t (128 * c + j) d) else 0 := by
  unfold ds pair
  simp only [Finset.mul_sum, Finset.sum_mul]
  rw [Finset.sum_comm]
  refine Finset.sum_congr rfl fun t _ => ?_
  have := j.isLt
  by_cases h : 128 * (c + 1) ≤ t.val
  · simp only [if_pos h, Finset.mul_sum]
    refine Finset.sum_congr rfl fun v _ => ?_
    unfold dec
    rw [if_pos (by omega), loc_last G c hc, loc_eq G c hc,
      show cum G t d - cum G (128 * c + j) d = (cum G t d - pre G (c + 1) d) + (pre G (c + 1) d - pre G c d - (cum G (128 * c + j) d - pre G c d)) by ring,
      Real.exp_add (cum G t d - pre G (c + 1) d)]
    ring
  · simp only [if_neg h, mul_zero, zero_mul, Finset.sum_const_zero]

/-- The gradient of `k` at a chunk's row: the chunk's queries, and the later ones through the state's gradient. -/
theorem dk_chunk (c : ℕ) (hc : c < 16) (j : Fin 128) (d : ℕ) :
    (∑ i : Fin 128, (if j.val ≤ i.val then pair V O (128 * c + i) (128 * c + j) else 0) * (Q (128 * c + i) d * Real.exp (loc G c i d))) * Real.exp (-loc G c j d)
      + (∑ v : Fin 256, V (128 * c + j) v * ds Q G O (c + 1) v d) * Real.exp (loc G c 127 d - loc G c j d)
      = dk Q G V O (128 * c + j) d := by
  have h1 : ∀ i : Fin 128, (if j.val ≤ i.val then pair V O (128 * c + i) (128 * c + j) else 0) * (Q (128 * c + i) d * Real.exp (loc G c i d)) * Real.exp (-loc G c j d)
      = (fun t => Q t d * (pair V O t (128 * c + j) * dec G t (128 * c + j) d)) (128 * c + i) := by
    intro i
    unfold dec
    by_cases h : j.val ≤ i.val
    · beta_reduce
      rw [if_pos h, if_pos (by omega), loc_eq G c hc, loc_eq G c hc,
        show cum G (128 * c + i) d - cum G (128 * c + j) d = (cum G (128 * c + i) d - pre G c d) + -(cum G (128 * c + j) d - pre G c d) by ring, Real.exp_add]
      ring
    · beta_reduce
      rw [if_neg h, if_neg (by omega)]; ring
  rw [dkhat_chunk Q G V O c hc, Finset.sum_mul, Finset.sum_congr rfl fun i _ => h1 i, sum_chunk c hc (fun t => Q t d * (pair V O t (128 * c + j) * dec G t (128 * c + j) d)), ← Finset.sum_add_distrib]
  unfold dk
  refine Finset.sum_congr rfl fun t _ => ?_
  have := j.isLt
  by_cases h : (128 * c + j) ≤ t.val
  · split_ifs <;> first | (exfalso; omega) | ring
  · have hz : dec G t (128 * c + j) d = 0 := by unfold dec; rw [if_neg h]
    rw [hz]; split_ifs <;> ring

/-- The gradient of `v` at a chunk's row. -/
theorem dv_chunk (c : ℕ) (hc : c < 16) (j : Fin 128) (v : ℕ) :
    (∑ i : Fin 128, att Q K G (128 * c + i) (128 * c + j) * O (128 * c + i) v)
      + ∑ d : Fin 128, K (128 * c + j) d * Real.exp (loc G c 127 d - loc G c j d) * ds Q G O (c + 1) v d
      = dv Q K G O (128 * c + j) v := by
  have h2 : (∑ d : Fin 128, K (128 * c + j) d * Real.exp (loc G c 127 d - loc G c j d) * ds Q G O (c + 1) v d)
      = ∑ t : Fin 2048, if 128 * (c + 1) ≤ t.val then O t v * att Q K G t (128 * c + j) else 0 := by
    unfold ds att
    simp only [Finset.mul_sum]
    rw [Finset.sum_comm]
    refine Finset.sum_congr rfl fun t _ => ?_
    have := j.isLt
    by_cases h : 128 * (c + 1) ≤ t.val
    · simp only [if_pos h]
      refine Finset.sum_congr rfl fun d _ => ?_
      unfold dec
      rw [if_pos (by omega), loc_last G c hc, loc_eq G c hc,
        show cum G t d - cum G (128 * c + j) d = (cum G t d - pre G (c + 1) d) + (pre G (c + 1) d - pre G c d - (cum G (128 * c + j) d - pre G c d)) by ring,
        Real.exp_add (cum G t d - pre G (c + 1) d)]
      ring
    · simp only [if_neg h, mul_zero, Finset.sum_const_zero]
  rw [h2, Finset.sum_congr rfl fun (i : Fin 128) _ => mul_comm (att Q K G (128 * c + i) (128 * c + j)) (O (128 * c + i) v), sum_chunk c hc fun t => O t v * att Q K G t (128 * c + j), ← Finset.sum_add_distrib]
  unfold dv
  refine Finset.sum_congr rfl fun t _ => ?_
  have := j.isLt
  by_cases h : (128 * c + j) ≤ t.val
  · split_ifs <;> first | (exfalso; omega) | ring
  · have hz : att Q K G t (128 * c + j) = 0 := by
      unfold att dec; exact Finset.sum_eq_zero fun d _ => by rw [if_neg h, mul_zero]
    rw [hz]; split_ifs <;> ring

/-- The state's gradient, one chunk further back. -/
theorem ds_step (c : ℕ) (hc : c < 16) (v d : ℕ) :
    ds Q G O (c + 1) v d * Real.exp (loc G c 127 d)
      + ∑ i : Fin 128, O (128 * c + i) v * (Q (128 * c + i) d * Real.exp (loc G c i d)) = ds Q G O c v d := by
  have h1 : ∀ i : Fin 128, O (128 * c + i) v * (Q (128 * c + i) d * Real.exp (loc G c i d))
      = (fun t => O t v * (Q t d * Real.exp (cum G t d - pre G c d))) (128 * c + i) := fun i => by rw [loc_eq G c hc]
  rw [Finset.sum_congr rfl fun i _ => h1 i, sum_chunk c hc (fun t => O t v * (Q t d * Real.exp (cum G t d - pre G c d)))]
  unfold ds
  rw [Finset.sum_mul, ← Finset.sum_add_distrib]
  refine Finset.sum_congr rfl fun t _ => ?_
  by_cases h : 128 * (c + 1) ≤ t.val
  · rw [if_pos h, if_neg (by omega), if_pos (by omega), loc_last G c hc,
      show cum G t d - pre G c d = (cum G t d - pre G (c + 1) d) + (pre G (c + 1) d - pre G c d) by ring, Real.exp_add]
    ring
  · rw [if_neg h]; split_ifs <;> first | (exfalso; omega) | ring

/-- Behind the 127 chunk there is nothing. -/
theorem ds_last (v d : ℕ) : ds Q G O 16 v d = 0 := by
  unfold ds; exact Finset.sum_eq_zero fun t _ => if_neg (by omega)

/-- The gradient of the running sum, from the gradients of `q` and `k`. -/
theorem db_eq (t d : ℕ) : dq K G V O t d * Q t d - dk Q G V O t d * K t d = db Q K G V O t d := by
  unfold dq dk db wt
  rw [Finset.sum_mul, Finset.sum_mul]
  congr 1 <;> exact Finset.sum_congr rfl fun _ _ => by ring

/-- A pair with the key later weighs nothing. -/
theorem wt_of_lt (t s d : ℕ) (h : t < s) : wt Q K G V O t s d = 0 := by
  unfold wt dec; rw [if_neg (by omega), mul_zero]

/-- The gradient of the running sum behind a row, summed: the pairs that straddle it. -/
theorem sum_db (n d : ℕ) : (∑ t : Fin 2048, if n ≤ t.val then db Q K G V O t d else 0)
      = ∑ t : Fin 2048, if n ≤ t.val then (∑ s : Fin 2048, if s.val < n then wt Q K G V O t s d else 0) else 0 := by
  have e1 : (∑ t : Fin 2048, if n ≤ t.val then db Q K G V O t d else 0)
      = (∑ t : Fin 2048, ∑ s : Fin 2048, if n ≤ t.val then wt Q K G V O t s d else 0)
        - ∑ t : Fin 2048, ∑ s : Fin 2048, if n ≤ s.val then wt Q K G V O t s d else 0 := by
    rw [Finset.sum_comm (f := fun t s : Fin 2048 => if n ≤ s.val then wt Q K G V O t s d else 0), ← Finset.sum_sub_distrib]
    refine Finset.sum_congr rfl fun t _ => ?_
    unfold db
    by_cases h : n ≤ t.val
    · simp only [if_pos h]
    · simp only [if_neg h, Finset.sum_const_zero, sub_zero]
  rw [e1, ← Finset.sum_sub_distrib]
  refine Finset.sum_congr rfl fun t _ => ?_
  rw [← Finset.sum_sub_distrib]
  by_cases h : n ≤ t.val
  · simp only [if_pos h]
    refine Finset.sum_congr rfl fun s _ => ?_
    split_ifs <;> first | (exfalso; omega) | ring
  · simp only [if_neg h]
    refine Finset.sum_eq_zero fun s _ => ?_
    split_ifs with h2
    · rw [wt_of_lt Q K G V O t s d (by omega)]; ring
    · ring

/-- What the kernel carries of the log decay's gradient from behind the chunk: the chunk's keys and the earlier ones,
    each against the later queries. -/
theorem dlast_chunk (c : ℕ) (hc : c < 16) (d : ℕ) :
    (∑ j : Fin 128, (∑ v : Fin 256, V (128 * c + j) v * ds Q G O (c + 1) v d) * (K (128 * c + j) d * Real.exp (loc G c 127 d - loc G c j d)))
      + Real.exp (loc G c 127 d) * (∑ v : Fin 256, ds Q G O (c + 1) v d * st K G V c v d)
      = ∑ t : Fin 2048, if 128 * (c + 1) ≤ t.val then db Q K G V O t d else 0 := by
  have h1 : ∀ j : Fin 128, (∑ v : Fin 256, V (128 * c + j) v * ds Q G O (c + 1) v d) * (K (128 * c + j) d * Real.exp (loc G c 127 d - loc G c j d))
      = (fun s => ∑ t : Fin 2048, if 128 * (c + 1) ≤ t.val then wt Q K G V O t s d else 0) (128 * c + j) := by
    intro j
    have e := dkhat_chunk Q G V O c hc j d
    calc _ = K (128 * c + j) d * ((∑ v : Fin 256, V (128 * c + j) v * ds Q G O (c + 1) v d) * Real.exp (loc G c 127 d - loc G c j d)) := by ring
      _ = _ := by
        rw [e, Finset.mul_sum]
        refine Finset.sum_congr rfl fun t _ => ?_
        split_ifs
        · unfold wt; ring
        · ring
  have h2 : Real.exp (loc G c 127 d) * (∑ v : Fin 256, ds Q G O (c + 1) v d * st K G V c v d)
      = ∑ s : Fin 2048, if s.val < 128 * c then (∑ t : Fin 2048, if 128 * (c + 1) ≤ t.val then wt Q K G V O t s d else 0) else 0 := by
    have e : ∀ v, Real.exp (loc G c 127 d) * (ds Q G O (c + 1) v d * st K G V c v d)
        = ∑ s : Fin 2048, ∑ t : Fin 2048, Real.exp (loc G c 127 d) * ((if 128 * (c + 1) ≤ t.val then O t v * (Q t d * Real.exp (cum G t d - pre G (c + 1) d)) else 0)
            * (if s.val < 128 * c then V s v * (K s d * Real.exp (pre G c d - cum G s d)) else 0)) := by
      intro v
      unfold ds st
      rw [Finset.sum_mul_sum, Finset.sum_comm, Finset.mul_sum]
      exact Finset.sum_congr rfl fun s _ => Finset.mul_sum _ _ _
    rw [Finset.mul_sum, Finset.sum_congr rfl fun (v : Fin 256) _ => e v, Finset.sum_comm]
    refine Finset.sum_congr rfl fun s _ => ?_
    rw [Finset.sum_comm]
    by_cases hs : s.val < 128 * c
    · simp only [if_pos hs]
      refine Finset.sum_congr rfl fun t _ => ?_
      by_cases ht : 128 * (c + 1) ≤ t.val
      · simp only [if_pos ht]
        unfold wt pair dec
        rw [if_pos (by omega), loc_last G c hc, Finset.mul_sum, Finset.sum_mul]
        refine Finset.sum_congr rfl fun v _ => ?_
        rw [show cum G t d - cum G s d = (cum G t d - pre G (c + 1) d) + ((pre G (c + 1) d - pre G c d) + (pre G c d - cum G s d)) by ring,
          Real.exp_add, Real.exp_add]
        ring
      · simp only [if_neg ht, zero_mul, mul_zero, Finset.sum_const_zero]
    · simp only [if_neg hs, mul_zero, Finset.sum_const_zero]
  rw [h2, Finset.sum_congr rfl fun j _ => h1 j,
    sum_chunk c hc (fun s => ∑ t : Fin 2048, if 128 * (c + 1) ≤ t.val then wt Q K G V O t s d else 0), ← Finset.sum_add_distrib, sum_db]
  have h3 : ∀ s : Fin 2048, ((if 128 * c ≤ s.val ∧ s.val < 128 * (c + 1) then (∑ t : Fin 2048, if 128 * (c + 1) ≤ t.val then wt Q K G V O t s d else 0) else 0)
        + if s.val < 128 * c then (∑ t : Fin 2048, if 128 * (c + 1) ≤ t.val then wt Q K G V O t s d else 0) else 0)
      = ∑ t : Fin 2048, if 128 * (c + 1) ≤ t.val then (if s.val < 128 * (c + 1) then wt Q K G V O t s d else 0) else 0 := by
    intro s
    by_cases hs : s.val < 128 * (c + 1)
    · simp only [if_pos hs]; split_ifs <;> first | (exfalso; omega) | ring
    · rw [if_neg (by omega), if_neg (by omega)]
      simp only [if_neg hs, ite_self, Finset.sum_const_zero, add_zero]
  rw [Finset.sum_congr rfl fun s _ => h3 s, Finset.sum_comm]
  refine Finset.sum_congr rfl fun t _ => ?_
  by_cases ht : 128 * (c + 1) ≤ t.val
  · simp only [if_pos ht]
  · simp only [if_neg ht, Finset.sum_const_zero]

/-- The gradient of the log decay at a chunk's row: the chunk's later rows, and what is carried. -/
theorem dg_chunk (c : ℕ) (hc : c < 16) (i : Fin 128) (d : ℕ) :
    (∑ j : Fin 128, if i.val ≤ j.val then db Q K G V O (128 * c + j) d else 0)
      + (∑ t : Fin 2048, if 128 * (c + 1) ≤ t.val then db Q K G V O t d else 0) = dg Q K G V O (128 * c + i) d := by
  have h := sum_chunk c hc (fun t => if 128 * c + i.val ≤ t then db Q K G V O t d else 0)
  have h' : (∑ j : Fin 128, if i.val ≤ j.val then db Q K G V O (128 * c + j) d else 0)
      = ∑ j : Fin 128, (fun t : ℕ => if 128 * c + i.val ≤ t then db Q K G V O t d else 0) (128 * c + j) :=
    Finset.sum_congr rfl fun j _ => by simp
  rw [h', h, ← Finset.sum_add_distrib]
  unfold dg
  refine Finset.sum_congr rfl fun t _ => ?_
  have := i.isLt
  change _ = if 128 * c + i.val ≤ t.val then db Q K G V O t d else 0
  split_ifs <;> first | (exfalso; omega) | ring

/-- A sum over all rows is the sum of the chunks' sums. -/
theorem sum_rows (f : ℕ → ℝ) : ∑ t : Fin 2048, f t = ∑ c : Fin 16, ∑ i : Fin 128, f (128 * c + i) := by
  rw [Finset.sum_congr rfl fun (c : Fin 16) _ => sum_chunk c c.isLt f, Finset.sum_comm]
  refine Finset.sum_congr rfl fun s _ => ?_
  have hs := s.isLt
  rw [Finset.sum_eq_single (⟨s.val / 128, by omega⟩ : Fin 16)]
  · rw [if_pos (by dsimp only; omega)]
  · intro c _ hc
    refine if_neg fun h => hc (Fin.ext ?_)
    dsimp only; omega
  · intro h; exact absurd (mem_univ _) h

end Cert.Gla

end
-- ==== Proof.Model.lean ====
/- Hand-written, untrusted: THE GRADIENT IN REAL NUMBERS. The layer's arguments as real matrices, what the forward lines and
   their gradient make of them, head by head, in the reference's own form; Math.lean has the sums over pairs of rows. -/
module

public import proofs.«01_k».proof.Proof.Lift
public import proofs.«01_k».proof.Proof.Math

@[expose] public section

noncomputable section

namespace Cert.Gla

/-- The call's arguments: the projections, the low-rank decay's input, its second factor and bias, the norm's weight, and
    the gradient of the layer's result. -/
structure Inp where
  x : ℕ → ℕ → ℝ
  a : ℕ → ℕ → ℝ
  w : ℕ → ℕ → ℝ
  b : ℕ → ℕ → ℝ
  g : ℕ → ℕ → ℝ
  d : ℕ → ℕ → ℝ

namespace Inp

variable (I : Inp) (n t u j : ℕ)

/-- Head `n`'s scaled query. -/
def q : ℝ := I.x t (n * 128 + u) * kap
/-- Head `n`'s key. -/
def k : ℝ := I.x t (512 + (n * 128 + u))
/-- Head `n`'s value. -/
def v : ℝ := I.x t (1024 + (n * 256 + u))
/-- The output gate before its activation. -/
def r : ℝ := I.x t (2048 + j)
/-- The decay's logit. -/
def gp : ℝ := ∑ k : Fin 128, I.a t k * I.w k j + I.b 0 j
/-- `log (1 + exp y)`, as it is computed. -/
def sp (y : ℝ) : ℝ := max y 0 + Real.log (1 + Real.exp (-|y|))
/-- Head `n`'s log decay. -/
def gl : ℝ := -(sp (-(I.gp t (n * 128 + u)))) / 16
/-- Head `n`'s output before the norm. -/
def o : ℝ := ∑ s : Fin 2048, att (I.q n) (I.k n) (I.gl n) t s * I.v n s u
/-- Its mean square, with the norm's small constant. -/
def ms : ℝ := (∑ u : Fin 256, I.o n t u * I.o n t u) / 256 + eps
/-- The norm's factor. -/
def rs : ℝ := (Real.sqrt (I.ms n t))⁻¹
/-- The normalised output. -/
def on : ℝ := I.o (j / 256) t (j % 256) * I.rs (j / 256) t
/-- The gate's sigmoid. -/
def sg : ℝ := 1 / (1 + Real.exp (-I.r t j))
/-- The gradient of the weighted norm's result. -/
def dog : ℝ := I.d t j * (I.r t j * I.sg t j)
/-- The gradient of head `n`'s normalised output. -/
def don : ℝ := I.dog t (n * 256 + u) * I.g 0 (n * 256 + u)
/-- What the mean square passes back. -/
def z : ℝ := (∑ u : Fin 256, I.o n t u * I.don n t u) * (-1 / 2 * (I.rs n t / I.ms n t)) / 256
/-- The gradient of head `n`'s output. -/
def dO : ℝ := I.don n t u * I.rs n t + I.o n t u * I.z n t + I.z n t * I.o n t u
/-- The gradient of the gate. -/
def dr : ℝ := I.on t j * I.g 0 j * I.d t j * I.sg t j + I.r t j * (I.on t j * I.g 0 j * I.d t j) * (I.sg t j * (1 - I.sg t j))
/-- The gradient of the log decay. -/
def dgl : ℝ := dg (I.q n) (I.k n) (I.gl n) (I.v n) (I.dO n) t u
/-- The gradient of the decay's logit. -/
def dgp : ℝ := -(-(I.dgl (j / 128) t (j % 128) / 16) * Real.exp (-I.gp t j - sp (-I.gp t j)))

/-- The gradient of the projections: the queries', the keys', the values', the gate's columns. -/
def dx : ℝ := (if 2048 ≤ j ∧ j < 3072 then I.dr t (j - 2048) else 0)
  + (if 1024 ≤ j ∧ j < 2048 then dv (I.q ((j - 1024) / 256)) (I.k ((j - 1024) / 256)) (I.gl ((j - 1024) / 256)) (I.dO ((j - 1024) / 256)) t ((j - 1024) % 256) else 0)
  + (if 512 ≤ j ∧ j < 1024 then dk (I.q ((j - 512) / 128)) (I.gl ((j - 512) / 128)) (I.v ((j - 512) / 128)) (I.dO ((j - 512) / 128)) t ((j - 512) % 128) else 0)
  + (if 0 ≤ j ∧ j < 512 then dq (I.k (j / 128)) (I.gl (j / 128)) (I.v (j / 128)) (I.dO (j / 128)) t (j % 128) * kap else 0)
/-- The gradient of the low-rank decay's input. -/
def da : ℝ := ∑ n : Fin 512, I.dgp t n * I.w j n
/-- The gradient of its second factor. -/
def dw : ℝ := ∑ s : Fin 2048, I.dgp s j * I.a s t
/-- The gradient of its bias. -/
def dbias : ℝ := ∑ s : Fin 2048, I.dgp s j
/-- The gradient of the norm's weight. -/
def dgain : ℝ := ∑ s : Fin 2048, I.on s j * I.dog s j

theorem ms_pos : 0 < I.ms n t :=
  add_pos_of_nonneg_of_pos (div_nonneg (Finset.sum_nonneg fun _ _ => mul_self_nonneg _) (by norm_num)) eps_pos

end Inp

end Cert.Gla
end
-- ==== Proof.Finite.lean ====
/- Hand-written, untrusted: THE PRECONDITION READ. Arguments whose every element's absolute value lies below `+∞` are arrays of real
   numbers. -/
module

public import proofs.«01_k».proof.Pre_finite
public import proofs.«01_k».proof.Proof.Model

@[expose] public section

noncomputable section

namespace Cert.Gla.Finite

open Idealize.ShloMosaic Cert.Pre_finite

/-- The side conditions the precondition states. -/
theorem facts : Cert.Pre_finite.Facts := by
  constructor <;> decide

variable {a b : ℕ}

/-- An extended real of finite absolute value is a real. -/
theorem coe_of_abs (x : EReal) (h : max x (-x) < ⊤) : ((x.toReal : ℝ) : EReal) = x :=
  EReal.coe_toReal (fun e => by simp [e] at h) (fun e => by simp [e] at h)

/-- The matrix's entries as reals. -/
def mat (x : FVec Ideal ⟨2, ![a, b]⟩ .f32) : ℕ → ℕ → ℝ :=
  fun i j => if h : i < a ∧ j < b then EReal.toReal (x (ix2 ⟨i, h.1⟩ ⟨j, h.2⟩)) else 0

/-- A matrix that passes the test is the matrix of its real entries. -/
theorem eq_mat (x : FVec Ideal ⟨2, ![a, b]⟩ .f32) (hb)
    (h : cmpf .olt (Host.absf x) (broadcastInDim ⟨2, ![a, b]⟩ ![] hb (constant (F := Ideal) ⟨0, ![]⟩ .f32 0x7F800000#32)) = fun _ => 1#1) :
    x = c2 (mat x) := by
  funext j
  have e : BitVec.ofBool (decide (max (x j : EReal) (-(x j : EReal)) < Ideal.ofBits .f32 0x7F800000#32)) = 1#1 := congrFun h j
  rw [of_top] at e
  have hlt : max (x j : EReal) (-(x j : EReal)) < ⊤ := by
    by_contra hn
    rw [decide_eq_false hn] at e
    exact absurd e (by decide)
  have hm : mat x (j 0).val (j 1).val = EReal.toReal (x j) := by
    unfold mat
    rw [dif_pos ⟨(j 0).isLt, (j 1).isLt⟩]
    exact congrArg (fun i => EReal.toReal (x i)) (eq_ix2 j).symm
  exact (coe_of_abs _ hlt).symm.trans (congrArg Real.toEReal hm.symm)

end Cert.Gla.Finite
end
-- ==== Proof.Shapes.lean ====
/- Hand-written, untrusted: THE RE-INDEXINGS of real-valued arrays (Lift.lean) that the two programs' host parts use: the
   split of a row into heads and back, the broadcasts along a new axis, the sums along an axis. -/
module

public import proofs.«01_k».proof.Proof.Lift

@[expose] public section

set_option maxRecDepth 16384

noncomputable section

namespace Cert.Gla

open Idealize.ShloMosaic

variable {φ : FTy} (M : ℕ → ℕ → ℝ) (F : ℕ → ℕ → ℕ → ℝ) (P : ℕ → ℕ → ℕ → ℕ → ℝ)

theorem split512 (h) : shapeCast ⟨3, ![2048, 4, 128]⟩ (c2 M : FVec Ideal ⟨2, ![2048, 512]⟩ φ) h = c3 fun t n d => M t (n * 128 + d) := by
  funext j; rw [eq_ix3 j]; pointwise [c2, c3]
theorem split1024 (h) : shapeCast ⟨3, ![2048, 4, 256]⟩ (c2 M : FVec Ideal ⟨2, ![2048, 1024]⟩ φ) h = c3 fun t n d => M t (n * 256 + d) := by
  funext j; rw [eq_ix3 j]; pointwise [c2, c3]
theorem join512 (h) : shapeCast ⟨2, ![2048, 512]⟩ (c3 F : FVec Ideal ⟨3, ![2048, 4, 128]⟩ φ) h = c2 fun t n => F t (n / 128) (n % 128) := by
  funext j; rw [eq_ix2 j]; pointwise [c2, c3]
theorem join1024 (h) : shapeCast ⟨2, ![2048, 1024]⟩ (c3 F : FVec Ideal ⟨3, ![2048, 4, 256]⟩ φ) h = c2 fun t n => F t (n / 256) (n % 256) := by
  funext j; rw [eq_ix2 j]; pointwise [c2, c3]
theorem swap128 (h) : transpose ⟨3, ![4, 2048, 128]⟩ [1, 0, 2] (c3 F : FVec Ideal ⟨3, ![2048, 4, 128]⟩ φ) h = c3 fun i j k => F j i k := by
  funext j; rw [eq_ix3 j]; pointwise [c3]
theorem swap256 (h) : transpose ⟨3, ![4, 2048, 256]⟩ [1, 0, 2] (c3 F : FVec Ideal ⟨3, ![2048, 4, 256]⟩ φ) h = c3 fun i j k => F j i k := by
  funext j; rw [eq_ix3 j]; pointwise [c3]
theorem back128 (h) : transpose ⟨3, ![2048, 4, 128]⟩ [1, 0, 2] (c3 F : FVec Ideal ⟨3, ![4, 2048, 128]⟩ φ) h = c3 fun i j k => F j i k := by
  funext j; rw [eq_ix3 j]; pointwise [c3]
theorem back256 (h) : transpose ⟨3, ![2048, 4, 256]⟩ [1, 0, 2] (c3 F : FVec Ideal ⟨3, ![4, 2048, 256]⟩ φ) h = c3 fun i j k => F j i k := by
  funext j; rw [eq_ix3 j]; pointwise [c3]
theorem flip256 (h) : transpose ⟨3, ![4, 2048, 256]⟩ [0, 2, 1] (c3 F : FVec Ideal ⟨3, ![4, 256, 2048]⟩ φ) h = c3 fun i j k => F i k j := by
  funext j; rw [eq_ix3 j]; pointwise [c3]
theorem tr512 (h) : transpose ⟨2, ![128, 512]⟩ [1, 0] (c2 M : FVec Ideal ⟨2, ![512, 128]⟩ φ) h = c2 fun i j => M j i := by
  funext j; rw [eq_ix2 j]; pointwise [c2]

theorem rows512 (h) : broadcastInDim ⟨2, ![2048, 512]⟩ ![0, 1] h (c2 M : FVec Ideal ⟨2, ![1, 512]⟩ φ) = c2 fun _ j => M 0 j := by
  funext j; rw [eq_ix2 j]; pointwise [c2]
theorem rows1024 (h) : broadcastInDim ⟨2, ![2048, 1024]⟩ ![0, 1] h (c2 M : FVec Ideal ⟨2, ![1, 1024]⟩ φ) = c2 fun _ j => M 0 j := by
  funext j; rw [eq_ix2 j]; pointwise [c2]
theorem key_axis (h) : broadcastInDim ⟨4, ![4, 2048, 1, 128]⟩ ![0, 1, 3] h (c3 F : FVec Ideal ⟨3, ![4, 2048, 128]⟩ φ) = c4 fun n t _ d => F n t d := by
  funext j; rw [eq_ix4 j]; pointwise [c3, c4]
theorem query_axis (h) : broadcastInDim ⟨4, ![4, 1, 2048, 128]⟩ ![0, 2, 3] h (c3 F : FVec Ideal ⟨3, ![4, 2048, 128]⟩ φ) = c4 fun n _ s d => F n s d := by
  funext j; rw [eq_ix4 j]; pointwise [c3, c4]
theorem key_rep (h) : broadcastInDim ⟨4, ![4, 2048, 2048, 128]⟩ ![0, 1, 2, 3] h (c4 P : FVec Ideal ⟨4, ![4, 2048, 1, 128]⟩ φ) = c4 fun n t _ d => P n t 0 d := by
  funext j; rw [eq_ix4 j]; pointwise [c4]
theorem query_rep (h) : broadcastInDim ⟨4, ![4, 2048, 2048, 128]⟩ ![0, 1, 2, 3] h (c4 P : FVec Ideal ⟨4, ![4, 1, 2048, 128]⟩ φ) = c4 fun n _ s d => P n 0 s d := by
  funext j; rw [eq_ix4 j]; pointwise [c4]
theorem feat_rep (h) : broadcastInDim ⟨4, ![4, 2048, 2048, 128]⟩ ![0, 1, 2] h (c3 F : FVec Ideal ⟨3, ![4, 2048, 2048]⟩ φ) = c4 fun n t s _ => F n t s := by
  funext j; rw [eq_ix4 j]; pointwise [c3, c4]
theorem one_axis (h) : broadcastInDim ⟨3, ![4, 2048, 1]⟩ ![0, 1] h (c2 M : FVec Ideal ⟨2, ![4, 2048]⟩ φ) = c3 fun n t _ => M n t := by
  funext j; rw [eq_ix3 j]; pointwise [c2, c3]
theorem one_rep (h) : broadcastInDim ⟨3, ![4, 2048, 256]⟩ ![0, 1, 2] h (c3 F : FVec Ideal ⟨3, ![4, 2048, 1]⟩ φ) = c3 fun n t _ => F n t 0 := by
  funext j; rw [eq_ix3 j]; pointwise [c3]
theorem val_rep (h) : broadcastInDim ⟨3, ![4, 2048, 256]⟩ ![0, 1] h (c2 M : FVec Ideal ⟨2, ![4, 2048]⟩ φ) = c3 fun n t _ => M n t := by
  funext j; rw [eq_ix3 j]; pointwise [c2, c3]
theorem one_cast (h) : shapeCast ⟨3, ![4, 2048, 1]⟩ (c2 M : FVec Ideal ⟨2, ![4, 2048]⟩ φ) h = c3 fun n t _ => M n t := by
  funext j; rw [eq_ix3 j]; pointwise [c2, c3]
theorem q_cast (h) : shapeCast ⟨4, ![4, 1, 2048, 128]⟩ (c3 F : FVec Ideal ⟨3, ![4, 2048, 128]⟩ φ) h = c4 fun n _ s d => F n s d := by
  funext j; rw [eq_ix4 j]; pointwise [c3, c4]
theorem k_cast (h) : shapeCast ⟨4, ![4, 2048, 1, 128]⟩ (c3 F : FVec Ideal ⟨3, ![4, 2048, 128]⟩ φ) h = c4 fun n t _ d => F n t d := by
  funext j; rw [eq_ix4 j]; pointwise [c3, c4]

theorem sum_d (h hu) : Host.reduceAdd (axes := [3]) (t := ⟨3, ![4, 2048, 2048]⟩) (c4 P : FVec Ideal ⟨4, ![4, 2048, 2048, 128]⟩ .f32) (constant ⟨0, ![]⟩ .f32 0x00000000#32) h hu
    = c3 fun n t s => ∑ d : Fin 128, P n t s d := by
  funext j; rw [eq_ix3 j]; pointwise [c3, c4]; simp only [coe_sum]
theorem sum_t (h hu) : Host.reduceAdd (axes := [1]) (t := ⟨3, ![4, 2048, 128]⟩) (c4 P : FVec Ideal ⟨4, ![4, 2048, 2048, 128]⟩ .f32) (constant ⟨0, ![]⟩ .f32 0x00000000#32) h hu
    = c3 fun n s d => ∑ t : Fin 2048, P n t s d := by
  funext j; rw [eq_ix3 j]; pointwise [c3, c4]; simp only [coe_sum]
theorem sum_s (h hu) : Host.reduceAdd (axes := [2]) (t := ⟨3, ![4, 2048, 128]⟩) (c4 P : FVec Ideal ⟨4, ![4, 2048, 2048, 128]⟩ .f32) (constant ⟨0, ![]⟩ .f32 0x00000000#32) h hu
    = c3 fun n t d => ∑ s : Fin 2048, P n t s d := by
  funext j; rw [eq_ix3 j]; pointwise [c3, c4]; simp only [coe_sum]
theorem sum_q1 (h hu) : Host.reduceAdd (axes := [1]) (t := ⟨3, ![4, 2048, 128]⟩) (c4 P : FVec Ideal ⟨4, ![4, 1, 2048, 128]⟩ .f32) (constant ⟨0, ![]⟩ .f32 0x00000000#32) h hu
    = c3 fun n s d => P n 0 s d := by
  funext j; rw [eq_ix3 j]; pointwise [c3, c4]; exact Fin.sum_univ_one _
theorem sum_k1 (h hu) : Host.reduceAdd (axes := [2]) (t := ⟨3, ![4, 2048, 128]⟩) (c4 P : FVec Ideal ⟨4, ![4, 2048, 1, 128]⟩ .f32) (constant ⟨0, ![]⟩ .f32 0x00000000#32) h hu
    = c3 fun n t d => P n t 0 d := by
  funext j; rw [eq_ix3 j]; pointwise [c3, c4]; exact Fin.sum_univ_one _
theorem sum_v (h hu) : Host.reduceAdd (axes := [2]) (t := ⟨2, ![4, 2048]⟩) (c3 F : FVec Ideal ⟨3, ![4, 2048, 256]⟩ .f32) (constant ⟨0, ![]⟩ .f32 0x00000000#32) h hu
    = c2 fun n t => ∑ v : Fin 256, F n t v := by
  funext j; rw [eq_ix2 j]; pointwise [c2, c3]; simp only [coe_sum]
theorem sum_v1 (h hu) : Host.reduceAdd (axes := [2]) (t := ⟨2, ![4, 2048]⟩) (c3 F : FVec Ideal ⟨3, ![4, 2048, 1]⟩ .f32) (constant ⟨0, ![]⟩ .f32 0x00000000#32) h hu
    = c2 fun n t => F n t 0 := by
  funext j; rw [eq_ix2 j]; pointwise [c2, c3]; exact Fin.sum_univ_one _
theorem sum_rows512 (h hu h') : shapeCast ⟨2, ![1, 512]⟩ (Host.reduceAdd (axes := [0]) (t := ⟨1, ![512]⟩) (c2 M : FVec Ideal ⟨2, ![2048, 512]⟩ .f32) (constant ⟨0, ![]⟩ .f32 0x00000000#32) h hu) h'
    = c2 fun _ n => ∑ t : Fin 2048, M t n := by
  funext j; rw [eq_ix2 j]; pointwise [c2]; simp only [coe_sum]
theorem sum_rows1024 (h hu h') : shapeCast ⟨2, ![1, 1024]⟩ (Host.reduceAdd (axes := [0]) (t := ⟨1, ![1024]⟩) (c2 M : FVec Ideal ⟨2, ![2048, 1024]⟩ .f32) (constant ⟨0, ![]⟩ .f32 0x00000000#32) h hu) h'
    = c2 fun _ n => ∑ t : Fin 2048, M t n := by
  funext j; rw [eq_ix2 j]; pointwise [c2]; simp only [coe_sum]

/-- A matrix placed among zero columns, from column `lo` on. -/
theorem pad_cols (w lo hi : ℕ) (h hu) : pad ⟨2, ![2048, 3072]⟩ ![0, lo] ![0, hi] ![0, 0] (c2 M : FVec Ideal ⟨2, ![2048, w]⟩ .f32) (constant (F := Ideal) ⟨0, ![]⟩ .f32 0x00000000#32) h hu
    = c2 fun t n => if lo ≤ n ∧ n < lo + w then M t (n - lo) else 0 := by
  funext j; rw [eq_ix2 j]; pointwise [c2]
  by_cases hj : lo ≤ (j 1).val ∧ (j 1).val - lo < w
  · rw [dif_pos hj, if_pos (by omega)]
    simp [Shape.Idx.norm_def]
  · rw [dif_neg hj, if_neg (by omega), EReal.coe_zero]

/-- A left fold of sums is the sum. -/
theorem foldl_sum (n : ℕ) (g : Fin n → EReal) : (List.finRange n).foldl (fun r k => r + g k) 0 = ∑ k, g k := by
  rw [Fin.sum_univ_def]
  have h : ∀ (l : List (Fin n)) (r : EReal), l.foldl (fun r k => r + g k) r = r + (l.map g).sum := by
    intro l
    induction l with
    | nil => intro r; simp
    | cons k l ih => intro r; rw [List.foldl_cons, ih, List.map_cons, List.sum_cons, add_assoc]
  rw [h, zero_add]

/-- A window sum along the middle axis: the window's rows that are rows of the array. -/
theorem window_sum (lo hi : ℕ) (h hu) (n : Fin 4) (t : Fin 2048) (d : Fin 128) :
    Host.reduceWindowAdd ![1, 2048, 1] ![1, 1, 1] ![0, lo, 0] ![0, hi, 0] (c3 F : FVec Ideal ⟨3, ![4, 2048, 128]⟩ .f32)
        (constant ⟨0, ![]⟩ .f32 0x00000000#32) h hu (ix3 n t d : (⟨3, ![4, 2048, 128]⟩ : Shape).Idx)
      = ∑ k : Fin 2048, if lo ≤ t.val + k.val ∧ t.val + k.val - lo < 2048 then ((F n (t.val + k.val - lo) d : ℝ) : EReal) else 0 := by
  have hz : (constant (F := Ideal) ⟨0, ![]⟩ .f32 0x00000000#32) = fun _ => 0 := funext fun _ => of_zero.trans EReal.coe_zero
  unfold Host.reduceWindowAdd
  rw [Ideal.hostReduceWindowAdd_def, hz]
  unfold Ideal.hostReduceWindowAdd Host.reduceWindow
  dsimp only
  rw [foldl_sum]
  let G : (⟨3, ![1, 2048, 1]⟩ : Shape).Idx → EReal := fun w =>
    if lo ≤ t.val + (w 1).val ∧ t.val + (w 1).val - lo < 2048 then ((F n (t.val + (w 1).val - lo) d : ℝ) : EReal) else 0
  refine (Finset.sum_congr rfl fun k _ => (?_ : _ = G ((Shape.rowMajor ⟨3, ![1, 2048, 1]⟩).symm k))).trans ?_
  · let w := (Shape.rowMajor ⟨3, ![1, 2048, 1]⟩).symm k
    change _ = G w
    have h0 : (w 0).val = 0 := by have := (w 0).isLt; change _ < 1 at this; omega
    have h2 : (w 2).val = 0 := by have := (w 2).isLt; change _ < 1 at this; omega
    have hn := n.isLt
    have hd := d.isLt
    by_cases hk : lo ≤ t.val + (w 1).val ∧ t.val + (w 1).val - lo < 2048
    · rw [dif_pos ?_]
      · simp only [G, if_pos hk]
        unfold c3
        have e0 : n.val * 1 + (w 0).val - 0 = n.val := by omega
        have e2 : d.val * 1 + (w 2).val - 0 = d.val := by omega
        have e1 : t.val * 1 + (w 1).val - lo = t.val + (w 1).val - lo := by omega
        change ((F (n.val * 1 + (w 0).val - 0) (t.val * 1 + (w 1).val - lo) (d.val * 1 + (w 2).val - 0) : ℝ) : EReal) = _
        rw [e0, e1, e2]
      · intro a
        match a with
        | ⟨0, _⟩ =>
          change 0 ≤ n.val * 1 + (w 0).val ∧ n.val * 1 + (w 0).val - 0 < 4
          omega
        | ⟨1, _⟩ =>
          change lo ≤ t.val * 1 + (w 1).val ∧ t.val * 1 + (w 1).val - lo < 2048
          omega
        | ⟨2, _⟩ =>
          change 0 ≤ d.val * 1 + (w 2).val ∧ d.val * 1 + (w 2).val - 0 < 128
          omega
    · rw [dif_neg ?_]
      · simp only [G, if_neg hk]
      · intro H
        have H1 : lo ≤ t.val * 1 + (w 1).val ∧ t.val * 1 + (w 1).val - lo < 2048 := H 1
        omega
  · rw [Equiv.sum_comp, sum_idx3]
    exact (Fin.sum_univ_one _).trans (Finset.sum_congr rfl fun k _ => Fin.sum_univ_one _)

/-- The running sum along the rows. -/
theorem cumsum (h hu) : Host.reduceWindowAdd ![1, 2048, 1] ![1, 1, 1] ![0, 2047, 0] ![0, 0, 0] (c3 F : FVec Ideal ⟨3, ![4, 2048, 128]⟩ .f32)
      (constant ⟨0, ![]⟩ .f32 0x00000000#32) h hu
    = (c3 fun n t d => ∑ s : Fin 2048, if s.val ≤ t then F n s d else 0 : FVec Ideal ⟨3, ![4, 2048, 128]⟩ .f32) := by
  suffices key : ∀ (n : Fin 4) (t : Fin 2048) (d : Fin 128), Host.reduceWindowAdd ![1, 2048, 1] ![1, 1, 1] ![0, 2047, 0] ![0, 0, 0]
      (c3 F : FVec Ideal ⟨3, ![4, 2048, 128]⟩ .f32) (constant ⟨0, ![]⟩ .f32 0x00000000#32) h hu (ix3 n t d : (⟨3, ![4, 2048, 128]⟩ : Shape).Idx)
      = ((∑ s : Fin 2048, if s.val ≤ t.val then F n s d else 0 : ℝ) : EReal) by
    funext j
    rw [eq_ix3 j]
    exact key (j 0) (j 1) (j 2)
  intro n t d
  rw [window_sum, coe_sum, ← Finset.sum_filter]
  have e : ∀ s : Fin 2048, ((if s.val ≤ t.val then F n s d else 0 : ℝ) : EReal)
      = if s.val ≤ t.val then ((F n s d : ℝ) : EReal) else 0 := fun s => by split_ifs <;> simp
  rw [Finset.sum_congr rfl fun s _ => e s, ← Finset.sum_filter]
  refine Finset.sum_bij' (fun k _ => ⟨(t.val + k.val - 2047) % 2048, by omega⟩) (fun s _ => ⟨(s.val + 2047 - t.val) % 2048, by omega⟩) ?_ ?_ ?_ ?_ ?_
  · intro k hk; simp only [Finset.mem_filter, Finset.mem_univ, true_and] at hk ⊢; omega
  · intro s hs; simp only [Finset.mem_filter, Finset.mem_univ, true_and] at hs ⊢; omega
  · intro k hk; simp only [Finset.mem_filter, Finset.mem_univ, true_and] at hk; apply Fin.ext; dsimp only; omega
  · intro s hs; simp only [Finset.mem_filter, Finset.mem_univ, true_and] at hs; apply Fin.ext; dsimp only; omega
  · intro k hk; simp only [Finset.mem_filter, Finset.mem_univ, true_and] at hk
    simp only [Nat.mod_eq_of_lt hk.2]

/-- The running sum from the last row back. -/
theorem revsum (h hu) : Host.reduceWindowAdd ![1, 2048, 1] ![1, 1, 1] ![0, 0, 0] ![0, 2047, 0] (c3 F : FVec Ideal ⟨3, ![4, 2048, 128]⟩ .f32)
      (constant ⟨0, ![]⟩ .f32 0x00000000#32) h hu
    = (c3 fun n t d => ∑ s : Fin 2048, if t ≤ s.val then F n s d else 0 : FVec Ideal ⟨3, ![4, 2048, 128]⟩ .f32) := by
  suffices key : ∀ (n : Fin 4) (t : Fin 2048) (d : Fin 128), Host.reduceWindowAdd ![1, 2048, 1] ![1, 1, 1] ![0, 0, 0] ![0, 2047, 0]
      (c3 F : FVec Ideal ⟨3, ![4, 2048, 128]⟩ .f32) (constant ⟨0, ![]⟩ .f32 0x00000000#32) h hu (ix3 n t d : (⟨3, ![4, 2048, 128]⟩ : Shape).Idx)
      = ((∑ s : Fin 2048, if t.val ≤ s.val then F n s d else 0 : ℝ) : EReal) by
    funext j
    rw [eq_ix3 j]
    exact key (j 0) (j 1) (j 2)
  intro n t d
  rw [window_sum, coe_sum, ← Finset.sum_filter]
  have e : ∀ s : Fin 2048, ((if t.val ≤ s.val then F n s d else 0 : ℝ) : EReal)
      = if t.val ≤ s.val then ((F n s d : ℝ) : EReal) else 0 := fun s => by split_ifs <;> simp
  rw [Finset.sum_congr rfl fun s _ => e s, ← Finset.sum_filter]
  refine Finset.sum_bij' (fun k _ => ⟨(t.val + k.val - 0) % 2048, by omega⟩) (fun s _ => ⟨(s.val - t.val) % 2048, by omega⟩) ?_ ?_ ?_ ?_ ?_
  · intro k hk; simp only [Finset.mem_filter, Finset.mem_univ, true_and] at hk ⊢; omega
  · intro s hs; simp only [Finset.mem_filter, Finset.mem_univ, true_and] at hs ⊢; omega
  · intro k hk; simp only [Finset.mem_filter, Finset.mem_univ, true_and] at hk; apply Fin.ext; dsimp only; omega
  · intro s hs; simp only [Finset.mem_filter, Finset.mem_univ, true_and] at hs; apply Fin.ext; dsimp only; omega
  · intro k hk; simp only [Finset.mem_filter, Finset.mem_univ, true_and] at hk
    simp only [Nat.mod_eq_of_lt hk.2]

end Cert.Gla
end
-- ==== Proof.Ref.lean ====
/- Hand-written, untrusted: THE REFERENCE'S VALUES. On real arguments each of the reference's named terms is the real array
   of Model.lean. -/
module

public import proofs.«01_k».proof.Proof.Shapes
public import proofs.«01_k».proof.Proof.Model
public import proofs.«01_k».proof.Proof.Gen.ReferenceIdeal.Run

@[expose] public section

set_option maxRecDepth 16384

noncomputable section

namespace Cert.Gla.Ref

open Idealize.ShloMosaic Cert.ReferenceIdeal Cert.ReferenceIdeal.Gen Cert.ReferenceIdeal.Value

section
variable (M N : ℕ → ℕ → ℝ) (F G : ℕ → ℕ → ℕ → ℝ)

theorem dot_gp : Host.dotGeneral dot_S2048x128_S128x512_S2048x512_1_0_0_1_n_n none (c2 M : FVec Ideal _ .f32) (c2 N : FVec Ideal _ .f32)
    = (c2 fun t n => ∑ k : Fin 128, M t k * N k n : FVec Ideal _ .f32) := by
  funext j; rw [eq_ix2 j]; pointwise [c2, dot_S2048x128_S128x512_S2048x512_1_0_0_1_n_n]; simp only [coe_sum, EReal.coe_mul]
theorem dot_o : Host.dotGeneral dot_S4x2048x2048_S4x2048x256_S4x2048x256_2_1_1_2_0_0 none (c3 F : FVec Ideal _ .f32) (c3 G : FVec Ideal _ .f32)
    = (c3 fun n t v => ∑ s : Fin 2048, F n t s * G n s v : FVec Ideal _ .f32) := by
  funext j; rw [eq_ix3 j]; pointwise [c3, dot_S4x2048x2048_S4x2048x256_S4x2048x256_2_1_1_2_0_0]; simp only [coe_sum, EReal.coe_mul]
theorem dot_pair : Host.dotGeneral dot_S4x2048x256_S4x2048x256_S4x2048x2048_2_2_1_1_0_0 none (c3 F : FVec Ideal _ .f32) (c3 G : FVec Ideal _ .f32)
    = (c3 fun n t s => ∑ v : Fin 256, F n t v * G n s v : FVec Ideal _ .f32) := by
  funext j; rw [eq_ix3 j]; pointwise [c3, dot_S4x2048x256_S4x2048x256_S4x2048x2048_2_2_1_1_0_0]; simp only [coe_sum, EReal.coe_mul]
theorem dot_dv : Host.dotGeneral dot_S4x2048x256_S4x2048x2048_S4x256x2048_1_1_2_2_0_0 none (c3 F : FVec Ideal _ .f32) (c3 G : FVec Ideal _ .f32)
    = (c3 fun n v s => ∑ t : Fin 2048, F n t v * G n t s : FVec Ideal _ .f32) := by
  funext j; rw [eq_ix3 j]; pointwise [c3, dot_S4x2048x256_S4x2048x2048_S4x256x2048_1_1_2_2_0_0]; simp only [coe_sum, EReal.coe_mul]
theorem dot_da : Host.dotGeneral dot_S2048x512_S128x512_S2048x128_1_1_0_0_n_n none (c2 M : FVec Ideal _ .f32) (c2 N : FVec Ideal _ .f32)
    = (c2 fun t k => ∑ n : Fin 512, M t n * N k n : FVec Ideal _ .f32) := by
  funext j; rw [eq_ix2 j]; pointwise [c2, dot_S2048x512_S128x512_S2048x128_1_1_0_0_n_n]; simp only [coe_sum, EReal.coe_mul]
theorem dot_dw : Host.dotGeneral dot_S2048x512_S2048x128_S512x128_0_0_1_1_n_n none (c2 M : FVec Ideal _ .f32) (c2 N : FVec Ideal _ .f32)
    = (c2 fun n k => ∑ t : Fin 2048, M t n * N t k : FVec Ideal _ .f32) := by
  funext j; rw [eq_ix2 j]; pointwise [c2, dot_S2048x512_S2048x128_S512x128_0_0_1_1_n_n]; simp only [coe_sum, EReal.coe_mul]
end

/-- The arguments are real arrays. -/
structure Args (V : Valuation τ sig (Elt Ideal)) (I : Inp) : Prop where
  h0 : V (Proc.devRef .tc main_arg0) = (c2 I.x : FVec Ideal S2048x8192 .f32)
  h1 : V (Proc.devRef .tc main_arg1) = (c2 I.a : FVec Ideal S2048x128 .f32)
  h2 : V (Proc.devRef .tc main_arg2) = (c2 I.w : FVec Ideal S128x512 .bf16)
  h3 : V (Proc.devRef .tc main_arg3) = (c2 I.b : FVec Ideal S1x512 .f32)
  h4 : V (Proc.devRef .tc main_arg4) = (c2 I.g : FVec Ideal S1x1024 .f32)
  h5 : V (Proc.devRef .tc main_arg5) = (c2 I.d : FVec Ideal S2048x1024 .f32)

variable {V : Valuation τ sig (Elt Ideal)} {I : Inp} (h : Args V I)
include h

theorem v0_eq : res_main_v0 V = (c2 I.x : FVec Ideal S2048x3072 .f32) := by
  unfold res_main_v0; rw [h.h0, slice_c2]; simp only [Nat.zero_add]
theorem v1_eq : res_main_v1 V = (c2 I.w : FVec Ideal S128x512 .f32) := by
  unfold res_main_v1; rw [h.h2]; rfl
theorem v12_eq : res_main_v12 V = (c3 fun n t u => I.v n t u : FVec Ideal S4x2048x256 .f32) := by
  unfold res_main_v12; rw [v0_eq h, slice_c2, split1024, swap256]; simp only [Nat.zero_add]; rfl
theorem v13_eq : res_main_v13 V = (c2 fun t j => I.r t j : FVec Ideal S2048x1024 .f32) := by
  unfold res_main_v13; rw [v0_eq h, slice_c2]; simp only [Nat.zero_add]; rfl
theorem logit_eq : res_main_call0_v0 V = (c2 fun t j => -I.gp t j : FVec Ideal S2048x512 .f32) := by
  unfold res_main_call0_v0; rw [h.h1, v1_eq h, h.h3, dot_gp, rows512, addf_c2, hnegf_c2]; rfl

omit h in
theorem une_self {φ : FTy} {s : Shape} (x : FVec Ideal s φ) : cmpf .une x x = fun _ => 0#1 := by
  funext j; change Ideal.cmp .une (x j) (x j) = _; simp [Ideal.cmp]
omit h in
theorem select_zero {s : Shape} {α : Type} (x y : s.Idx → α) : select (fun _ => 0#1) x y = y := by
  funext j; rfl

theorem softplus_eq : res_main_call0_v1_0 V = (c2 fun t j => Inp.sp (-I.gp t j) : FVec Ideal S2048x512 .f32) := by
  unfold res_main_call0_v1_0 res_main_call0_call0_v3 res_main_call0_call0_cst
  rw [une_self, select_zero, logit_eq h, bcast_const, const_c2 of_zero, maximumf_c2, subf_c2, habsf_c2, hnegf_c2, hexp_c2,
    hlog1p_c2 _ (fun i j => by positivity), addf_c2]
  simp only [sub_zero]; rfl

theorem v25_eq : res_main_v25 V = (c3 fun n t u => cum (I.gl n) t u : FVec Ideal S4x2048x128 .f32) := by
  unfold res_main_v25
  rw [softplus_eq h, bcast_const, bcast_const, const_c2 of_16, hnegf_c2, hdivf_c2 _ _ (fun i j => by norm_num), split512, swap128, cumsum]
  rfl

omit h in
/-- Two row numbers compared as machine words compare as numbers. -/
theorem low_bit (x y : ℕ) (hx : x < 2048) (hy : y < 2048) :
    Scalar.select (IntOp.cmpi .sge (IntOp.addi (BitVec.ofNat 32 x) 0#32) (BitVec.ofNat 32 y)) 1#1 0#1 = BitVec.ofBool (decide (y ≤ x)) := by
  have e : IntOp.cmpi .sge (IntOp.addi (BitVec.ofNat 32 x) 0#32) (BitVec.ofNat 32 y) = BitVec.ofBool (decide (y ≤ x)) := by
    have hx' : (BitVec.ofNat 32 x).toInt = (x : Int) := by rw [BitVec.toInt_ofNat']; rw [Int.bmod_eq_of_le] <;> omega
    have hy' : (BitVec.ofNat 32 y).toInt = (y : Int) := by rw [BitVec.toInt_ofNat']; rw [Int.bmod_eq_of_le] <;> omega
    simp [IntOp.cmpi, IntOp.addi, BitVec.sle, hx', hy']
  rw [e]
  by_cases hx : y ≤ x <;> simp [hx, Scalar.select]

omit h in
theorem mask_eq : res_main_v31_1 V = (low4 : IVec S4x2048x2048x128 1) := by
  funext j
  rw [eq_ix4 j]
  unfold res_main_v31_1
  pointwise [low4]
  exact low_bit (j 1).val (j 2).val (j 1).isLt (j 2).isLt

theorem decay_eq : res_main_v32 V = (c4 fun n t s u => dec (I.gl n) t s u : FVec Ideal S4x2048x2048x128 .f32) := by
  unfold res_main_v32
  rw [mask_eq, v25_eq h, key_axis, query_axis, key_rep, query_rep, subf_c4, id, bcast_const, hexp_select_c4]
  rfl

theorem v33_eq : res_main_v33 V = (c4 fun n t _ u => I.q n t u : FVec Ideal S4x2048x1x128 .f32) := by
  unfold res_main_v33
  rw [v0_eq h, slice_c2, split512, swap128, bcast_const, const_c3 of_kap, mulf_c3, key_axis]; simp only [Nat.zero_add]; rfl
theorem v34_eq : res_main_v34 V = (c4 fun n _ s u => I.k n s u : FVec Ideal S4x1x2048x128 .f32) := by
  unfold res_main_v34
  rw [v0_eq h, slice_c2, split512, swap128, query_axis]; simp only [Nat.zero_add]; rfl
theorem v37_eq : res_main_v37 V = (c4 fun n t s u => I.q n t u * I.k n s u : FVec Ideal S4x2048x2048x128 .f32) := by
  unfold res_main_v37
  rw [v33_eq h, v34_eq h, key_rep, query_rep, mulf_c4]
theorem v39_eq : res_main_v39 V = (c3 fun n t s => att (I.q n) (I.k n) (I.gl n) t s : FVec Ideal S4x2048x2048 .f32) := by
  unfold res_main_v39
  rw [v37_eq h, decay_eq h, mulf_c4, sum_d]; rfl
theorem v40_eq : res_main_v40 V = (c3 fun n t u => I.o n t u : FVec Ideal S4x2048x256 .f32) := by
  unfold res_main_v40
  rw [v39_eq h, v12_eq h, dot_o]; rfl
theorem v47_eq : res_main_v47 V = (c3 fun n t _ => I.ms n t : FVec Ideal S4x2048x1 .f32) := by
  unfold res_main_v47
  rw [v40_eq h, mulf_c3, sum_v, one_axis, bcast_const, bcast_const, const_c3 of_256, const_c3 of_eps,
    hdivf_c3 _ _ (fun i j k => by norm_num), addf_c3]; rfl
theorem v48_eq : res_main_v48 V = (c3 fun n t _ => I.rs n t : FVec Ideal S4x2048x1 .f32) := by
  unfold res_main_v48
  rw [v47_eq h, hrsqrt_c3 _ (fun i j _ => I.ms_pos i j)]; rfl
theorem v55_eq : res_main_v55 V = (c2 fun t j => I.on t j : FVec Ideal S2048x1024 .f32) := by
  unfold res_main_v55
  rw [v40_eq h, v48_eq h, one_rep, mulf_c3, back256]; erw [join1024]; rfl
theorem v57_eq : res_main_v57 V = (c2 fun t j => I.on t j * I.g 0 j : FVec Ideal S2048x1024 .f32) := by
  unfold res_main_v57
  rw [v55_eq h, h.h4, rows1024, mulf_c2]
theorem sig_eq : res_main_v58_2 V = (c2 fun t j => I.sg t j : FVec Ideal S2048x1024 .f32) := by
  unfold res_main_v58_2
  rw [v13_eq h, bcast_const, const_c2 of_one, hnegf_c2, hexp_c2, addf_c2, hdivf_c2 _ _ (fun i j => by positivity)]; rfl
theorem v61_eq : res_main_v61 V = (c2 fun t j => I.dog t j : FVec Ideal S2048x1024 .f32) := by
  unfold res_main_v61 res_main_v58_0
  rw [v13_eq h, sig_eq h, h.h5, mulf_c2, mulf_c2]; rfl
theorem v60_eq : res_main_v60 V = (c2 fun t j => I.on t j * I.g 0 j * I.d t j : FVec Ideal S2048x1024 .f32) := by
  unfold res_main_v60
  rw [v57_eq h, h.h5, mulf_c2]
theorem v69_eq : res_main_v69 V = (c3 fun n t u => I.don n t u : FVec Ideal S4x2048x256 .f32) := by
  unfold res_main_v69
  rw [v61_eq h, h.h4, rows1024, mulf_c2, split1024, swap256]; rfl
theorem v79_eq : res_main_v79 V = (c3 fun n t _ => I.z n t : FVec Ideal S4x2048x256 .f32) := by
  unfold res_main_v79
  rw [v40_eq h, v69_eq h, v48_eq h, v47_eq h, mulf_c3, sum_v, one_cast, bcast_const, bcast_const, const_c3 of_nhalf, const_c3 of_256,
    hdivf_c3 _ _ (fun i j _ => (I.ms_pos i j).ne'), mulf_c3, mulf_c3, hdivf_c3 _ _ (fun i j k => by norm_num), sum_v1, val_rep]; rfl
theorem v83_eq : res_main_v83 V = (c3 fun n t u => I.dO n t u : FVec Ideal S4x2048x256 .f32) := by
  unfold res_main_v83
  rw [v69_eq h, v48_eq h, v40_eq h, v79_eq h, one_rep, mulf_c3, mulf_c3, mulf_c3, addf_c3, addf_c3]; rfl
theorem v87_eq : res_main_v87 V = (c4 fun n t s _ => pair (I.v n) (I.dO n) t s : FVec Ideal S4x2048x2048x128 .f32) := by
  unfold res_main_v87
  rw [v83_eq h, v12_eq h, dot_pair, feat_rep]; rfl
theorem v89_eq : res_main_v89 V = (c4 fun n t s u => pair (I.v n) (I.dO n) t s * dec (I.gl n) t s u : FVec Ideal S4x2048x2048x128 .f32) := by
  unfold res_main_v89
  rw [v87_eq h, decay_eq h, mulf_c4]
theorem v101_eq : res_main_v101 V = (c4 fun n t s u => wt (I.q n) (I.k n) (I.gl n) (I.v n) (I.dO n) t s u : FVec Ideal S4x2048x2048x128 .f32) := by
  unfold res_main_v101
  rw [mask_eq, v37_eq h, v87_eq h, decay_eq h, mulf_c4, mulf_c4, bcast_const, const_c4 of_zero, select_c4]
  refine c4_congr fun n _ t _ s _ u _ => ?_
  unfold wt
  by_cases hs : s ≤ t
  · rw [if_pos hs]
  · rw [if_neg hs]; unfold dec; rw [if_neg hs, mul_zero]

omit h in
/-- A real number is not infinite. -/
theorem oeq_top (f : ℕ → ℕ → ℝ) : cmpf .oeq (c2 f : FVec Ideal S2048x512 .f32) (constant S2048x512 .f32 0x7F800000#32) = fun _ => 0#1 := by
  funext j
  have e : constant (F := Ideal) S2048x512 .f32 0x7F800000#32 j = (⊤ : EReal) := of_top
  unfold cmpf
  rw [e]
  change Ideal.cmp .oeq ((f (j 0).val (j 1).val : ℝ) : EReal) ⊤ = 0#1
  simp [Ideal.cmp]

theorem v115_eq : res_main_v115 V = (c2 fun t j => I.dgp t j : FVec Ideal S2048x512 .f32) := by
  unfold res_main_v115
  rw [v101_eq h, logit_eq h, softplus_eq h, hnegf_c4, sum_t, q_cast, sum_q1, sum_s, k_cast, sum_k1, addf_c3, bcast_const, bcast_const, bcast_const, revsum,
    back128]
  erw [join512]
  rw [const_c2 of_16, hdivf_c2 _ _ (fun i j => by norm_num), hnegf_c2, oeq_top, oeq_top]
  erw [select_zero, select_zero]
  rw [subf_c2, hexp_c2, mulf_c2, hnegf_c2]
  refine c2_congr fun t _ j _ => ?_
  unfold Inp.dgp Inp.dgl dg db
  simp only [Finset.sum_neg_distrib, neg_add_eq_sub]

/-- The gradient of the projections. -/
theorem res0 : truncf .bf16 (addf (addf (addf (pad S2048x3072 ![0, 2048] ![0, 0] ![0, 0] (addf (mulf (res_main_v60 V) (res_main_v58_2 V)) (mulf (mulf (res_main_v13 V) (res_main_v60 V)) (mulf (res_main_v58_2 V) (subf (broadcastInDim S2048x1024 ![] bcast_S_S2048x1024 (constant S_ .f32 0x3F800000#32)) (res_main_v58_2 V))))) (constant S_ .f32 0x00000000#32) pads_S2048x1024_S2048x3072_000_204800 h_S_) (pad S2048x3072 ![0, 1024] ![0, 1024] ![0, 0] (shapeCast _ (transpose S2048x4x256 [1, 0, 2] (transpose S4x2048x256 [0, 2, 1] (Host.dotGeneral (φ₁ := .f32) (φ₂ := .f32) dot_S4x2048x256_S4x2048x2048_S4x256x2048_1_1_2_2_0_0 none (res_main_v83 V) (res_main_v39 V)) transposes_S4x256x2048_S4x2048x256_0_2_1) transposes_S4x2048x256_S2048x4x256_1_0_2) shapeCasts_S2048x4x256_S2048x1024) (constant S_ .f32 0x00000000#32) pads_S2048x1024_S2048x3072_000_102410240 h_S_)) (pad S2048x3072 ![0, 512] ![0, 2048] ![0, 0] (shapeCast _ (transpose S2048x4x128 [1, 0, 2] (Host.reduceAdd (shapeCast _ (Host.reduceAdd (mulf (broadcastInDim S4x2048x2048x128 ![0, 1, 2, 3] bcast_S4x2048x1x128_S4x2048x2048x128_0_1_2_3 (res_main_v33 V)) (res_main_v89 V)) (constant S_ .f32 0x00000000#32) reducesTo_S4x2048x2048x128_S4x2048x128_d1 h_S_) shapeCasts_S4x2048x128_S4x1x2048x128) (constant S_ .f32 0x00000000#32) reducesTo_S4x1x2048x128_S4x2048x128_d1 h_S_) transposes_S4x2048x128_S2048x4x128_1_0_2) shapeCasts_S2048x4x128_S2048x512) (constant S_ .f32 0x00000000#32) pads_S2048x512_S2048x3072_000_51220480 h_S_)) (pad S2048x3072 ![0, 0] ![0, 2560] ![0, 0] (shapeCast _ (transpose S2048x4x128 [1, 0, 2] (mulf (Host.reduceAdd (shapeCast _ (Host.reduceAdd (mulf (res_main_v89 V) (broadcastInDim S4x2048x2048x128 ![0, 1, 2, 3] bcast_S4x1x2048x128_S4x2048x2048x128_0_1_2_3 (res_main_v34 V))) (constant S_ .f32 0x00000000#32) reducesTo_S4x2048x2048x128_S4x2048x128_d2 h_S_) shapeCasts_S4x2048x128_S4x2048x1x128) (constant S_ .f32 0x00000000#32) reducesTo_S4x2048x1x128_S4x2048x128_d2 h_S_) (broadcastInDim S4x2048x128 ![] bcast_S_S4x2048x128 (constant S_ .f32 0x3DB504F3#32))) transposes_S4x2048x128_S2048x4x128_1_0_2) shapeCasts_S2048x4x128_S2048x512) (constant S_ .f32 0x00000000#32) pads_S2048x512_S2048x3072_000_025600 h_S_)) bitsLt_bf16_f32
    = (c2 fun t j => I.dx t j : FVec Ideal S2048x3072 .bf16) := by
  rw [v60_eq h, sig_eq h, v13_eq h, v83_eq h, v39_eq h, v33_eq h, v89_eq h, v34_eq h, bcast_const, const_c2 of_one, subf_c2, mulf_c2, mulf_c2, mulf_c2, mulf_c2,
    addf_c2, pad_cols, dot_dv, flip256, back256, key_rep, query_rep, mulf_c4, mulf_c4, sum_t, sum_s, q_cast, k_cast, sum_q1, sum_k1,
    bcast_const, const_c3 of_kap, mulf_c3, back128, back128]
  erw [join1024, join512, join512]
  rw [pad_cols, pad_cols, pad_cols, addf_c2, addf_c2, addf_c2, truncf_c2]
  rfl

/-- The gradient of the low-rank decay's input. -/
theorem res1 : truncf .bf16 (Host.dotGeneral (φ₁ := .f32) (φ₂ := .f32) dot_S2048x512_S128x512_S2048x128_1_1_0_0_n_n none (res_main_v115 V) (res_main_v1 V)) bitsLt_bf16_f32
    = (c2 fun t j => I.da t j : FVec Ideal S2048x128 .bf16) := by
  rw [v115_eq h, v1_eq h, dot_da]; rfl

/-- The gradient of its second factor. -/
theorem res2 : transpose S128x512 [1, 0] (Host.dotGeneral (φ₁ := .f32) (φ₂ := .f32) dot_S2048x512_S2048x128_S512x128_0_0_1_1_n_n none (res_main_v115 V) (V (Proc.devRef .tc main_arg1))) transposes_S512x128_S128x512_1_0
    = (c2 fun t j => I.dw t j : FVec Ideal S128x512 .f32) := by
  rw [v115_eq h, h.h1, dot_dw, tr512]; rfl

/-- The gradient of its bias. -/
theorem res3 : shapeCast S1x512 (Host.reduceAdd (res_main_v115 V) (constant S_ .f32 0x00000000#32) reducesTo_S2048x512_S512_d0 h_S_) shapeCasts_S512_S1x512
    = (c2 fun _ j => I.dbias j : FVec Ideal S1x512 .f32) := by
  rw [v115_eq h, sum_rows512]; rfl

/-- The gradient of the norm's weight. -/
theorem res4 : shapeCast S1x1024 (Host.reduceAdd (mulf (res_main_v55 V) (res_main_v61 V)) (constant S_ .f32 0x00000000#32) reducesTo_S2048x1024_S1024_d0 h_S_) shapeCasts_S1024_S1x1024
    = (c2 fun _ j => I.dgain j : FVec Ideal S1x1024 .f32) := by
  rw [v55_eq h, v61_eq h, mulf_c2, sum_rows1024]; rfl

end Cert.Gla.Ref
end
-- ==== Proof.Host.lean ====
/- Hand-written, untrusted: WHAT THE FORWARD LINES LEAVE. The host lines before the kernel compute what the forward pass saves for
   it: the layer's output before the norm, and the state at each chunk's start. -/
module

public import proofs.«01_k».proof.Proof.Ref
public import proofs.«01_k».proof.Proof.Gen.KernelIdeal.Launch
public import Idealize.ShloMosaic.Lib.StableHlo.RunRead

@[expose] public section

set_option maxRecDepth 16384

noncomputable section

namespace Cert.Gla.Fwd

open Idealize.ShloMosaic Cert.KernelIdeal Cert.KernelIdeal.Gen Idealize.ShloMosaic.TcCoe Idealize.ShloMosaic.StableHlo

/-- The arguments are real arrays. -/
structure KArgs (V : Valuation τ sig (Elt Ideal)) (I : Inp) : Prop where
  h0 : V (Proc.devRef .tc main_arg0) = (c2 I.x : FVec Ideal S2048x8192 .f32)
  h1 : V (Proc.devRef .tc main_arg1) = (c2 I.a : FVec Ideal S2048x128 .f32)
  h2 : V (Proc.devRef .tc main_arg2) = (c2 I.w : FVec Ideal S128x512 .bf16)
  h3 : V (Proc.devRef .tc main_arg3) = (c2 I.b : FVec Ideal S1x512 .f32)
  h4 : V (Proc.devRef .tc main_arg4) = (c2 I.g : FVec Ideal S1x1024 .f32)
  h5 : V (Proc.devRef .tc main_arg5) = (c2 I.d : FVec Ideal S2048x1024 .f32)

abbrev opsA : List (HloOp τ sig (Elt Ideal)) := List.flatten [hostOps0, hostOps0_1, hostOps0_2]
abbrev opsB : List (HloOp τ sig (Elt Ideal)) := List.flatten [hostOps0_3, hostOps0_4, hostOps0_5, hostOps0_6, hostOps0_7, hostOps0_8]
abbrev opsC : List (HloOp τ sig (Elt Ideal)) := List.flatten [hostOps0_9, hostOps0_10, hostOps0_11, hostOps0_12, hostOps0_13, hostOps0_14]

/-- The running sums of the log decays. -/
def csum (g : FVec Ideal S4x2048x128 .f32) : FVec Ideal S4x2048x128 .f32 :=
  Host.reduceWindowAdd ![1, 2048, 1] ![1, 1, 1] ![0, 2047, 0] ![0, 0, 0] g (broadcastInDim S_ ![] bcast_S_S_ (constant S_ .f32 0x00000000#32)) reduceWindows_S4x2048x128_S4x2048x128_w1s1p0_0_w2048s1p2047_0_w1s1p0_0 h_S_
/-- The pairs of rows in order. -/
def lower (b : IVec S2048x2048 1) : IVec S4x2048x2048x128 1 :=
  broadcastInDim S4x2048x2048x128 ![1, 2, 3] bcast_S2048x2048x1_S4x2048x2048x128_1_2_3 (broadcastInDim S2048x2048x1 ![0, 1] bcast_S2048x2048_S2048x2048x1_0_1
    (select (cmpi .sge (addi (iotaInDim S2048x2048 32 0) (broadcastInDim S2048x2048 ![] bcast_S_S2048x2048 (constantI S_ 32 0#32))) (iotaInDim S2048x2048 32 1))
      b (broadcastInDim S2048x2048 ![] bcast_S_S2048x2048 (constantI S_ 1 0#1))))
/-- A new axis for the pairs' second row, and for their first. -/
def keyAx (x : FVec Ideal S4x2048x128 .f32) : FVec Ideal S4x2048x2048x128 .f32 :=
  broadcastInDim S4x2048x2048x128 ![0, 1, 2, 3] bcast_S4x2048x1x128_S4x2048x2048x128_0_1_2_3 (broadcastInDim S4x2048x1x128 ![0, 1, 3] bcast_S4x2048x128_S4x2048x1x128_0_1_3 x)
def queryAx (x : FVec Ideal S4x2048x128 .f32) : FVec Ideal S4x2048x2048x128 .f32 :=
  broadcastInDim S4x2048x2048x128 ![0, 1, 2, 3] bcast_S4x1x2048x128_S4x2048x2048x128_0_1_2_3 (broadcastInDim S4x1x2048x128 ![0, 2, 3] bcast_S4x2048x128_S4x1x2048x128_0_2_3 x)
/-- The decay between two rows. -/
def decays (b : IVec S2048x2048 1) (g : FVec Ideal S4x2048x128 .f32) : FVec Ideal S4x2048x2048x128 .f32 :=
  Host.exp (select (lower b) (subf (keyAx (csum g)) (queryAx (csum g))) (broadcastInDim S4x2048x2048x128 ![] bcast_S_S4x2048x2048x128 (id (constant S_ .f32 0xFF800000#32))))
/-- The layer's output before the norm. -/
def outs (q k g : FVec Ideal S4x2048x128 .f32) (v : FVec Ideal S4x2048x256 .f32) (b : IVec S2048x2048 1) : FVec Ideal S2048x1024 .f32 :=
  shapeCast S2048x1024 (transpose S2048x4x256 [1, 0, 2] (Host.dotGeneral dot_S4x2048x2048_S4x2048x256_S4x2048x256_2_1_1_2_0_0 none
    (Host.reduceAdd (mulf (mulf (keyAx q) (queryAx k)) (decays b g)) (constant S_ .f32 0x00000000#32) reducesTo_S4x2048x2048x128_S4x2048x2048_d3 h_S_) v)
      transposes_S4x2048x256_S2048x4x256_1_0_2) shapeCasts_S2048x4x256_S2048x1024
/-- The row before a chunk lies before the chunk. -/
def before : IVec S16x4x2048x128 1 :=
  broadcastInDim S16x4x2048x128 ![0, 1, 2, 3] bcast_S16x1x2048x1_S16x4x2048x128_0_1_2_3 (broadcastInDim S16x1x2048x1 ![0, 2] bcast_S16x2048_S16x1x2048x1_0_2
    (cmpi .sgt (broadcastInDim S16x2048 ![0, 1] bcast_S16x1_S16x2048_0_1 (broadcastInDim S16x1 ![0] bcast_S16_S16x1_0
        (muli (iotaInDim S16 32 0) (broadcastInDim S16 ![] bcast_S_S16 (constantI S_ 32 128#32)))))
      (broadcastInDim S16x2048 ![0, 1] bcast_S1x2048_S16x2048_0_1 (broadcastInDim S1x2048 ![1] bcast_S2048_S1x2048_1 (iotaInDim S2048 32 0)))))
/-- The running sums at the chunks' starts. -/
def starts (b : FVec Ideal S4x2048x128 .f32) : FVec Ideal S16x4x128 .f32 :=
  transpose S16x4x128 [1, 0, 2] (Host.slice S4x16x128 ![0, 0, 0] ![1, 128, 1]
    (pad S4x2049x128 ![0, 1, 0] ![0, 0, 0] ![0, 0, 0] b (sitofp (F := Ideal) .f32 (constantI S_ 32 0#32)) pads_S4x2048x128_S4x2049x128_000_100_000 h_S_)
    slicesBy_S4x2049x128_S4x16x128_0s1_0s128_0s1) transposes_S4x16x128_S16x4x128_1_0_2
/-- A row's array repeated for every chunk. -/
def each (x : FVec Ideal S4x2048x128 .f32) : FVec Ideal S16x4x2048x128 .f32 :=
  broadcastInDim S16x4x2048x128 ![0, 1, 2, 3] bcast_S1x4x2048x128_S16x4x2048x128_0_1_2_3 (broadcastInDim S1x4x2048x128 ![1, 2, 3] bcast_S4x2048x128_S1x4x2048x128_1_2_3 x)
/-- A chunk's array repeated for every row. -/
def eachRow (x : FVec Ideal S16x4x128 .f32) : FVec Ideal S16x4x2048x128 .f32 :=
  broadcastInDim S16x4x2048x128 ![0, 1, 2, 3] bcast_S16x4x1x128_S16x4x2048x128_0_1_2_3 (broadcastInDim S16x4x1x128 ![0, 1, 3] bcast_S16x4x128_S16x4x1x128_0_1_3 x)
/-- The states at the chunks' starts. -/
def states (k g : FVec Ideal S4x2048x128 .f32) (v : FVec Ideal S4x2048x256 .f32) : FVec Ideal S16x4x256x128 .f32 :=
  transpose S16x4x256x128 [1, 0, 3, 2] (Host.dotGeneral dot_S16x4x2048x128_S4x2048x256_S4x16x128x256_2_1_03_2_1_0 none
    (mulf (each k) (Host.exp (select before (subf (eachRow (starts (csum g))) (each (csum g))) (broadcastInDim S16x4x2048x128 ![] bcast_S_S16x4x2048x128 (id (constant S_ .f32 0xFF800000#32)))))) v)
    transposes_S4x16x128x256_S16x4x256x128_1_0_3_2
/-- A head's columns. -/
def cols (off : ℕ) (h : S2048x8192.Slices ![0, off] S2048x512) (x : FVec Ideal S2048x8192 .f32) : FVec Ideal S4x2048x128 .f32 :=
  transpose S4x2048x128 [1, 0, 2] (shapeCast S2048x4x128 (extractStridedSlice S2048x512 ![0, off] x h) shapeCasts_S2048x512_S2048x4x128) transposes_S2048x4x128_S4x2048x128_1_0_2
/-- The decay's negated logit, and the logarithm of one plus its exponential. -/
def nlogit (a : FVec Ideal S2048x128 .f32) (w : FVec Ideal S128x512 .bf16) (b : FVec Ideal S1x512 .f32) : FVec Ideal S2048x512 .f32 :=
  Host.negf (addf (Host.dotGeneral dot_S2048x128_S128x512_S2048x512_1_0_0_1_n_n none a (extf .f32 w bitsLt_bf16_f32)) (broadcastInDim S2048x512 ![0, 1] bcast_S1x512_S2048x512_0_1 b))
def softp (x : FVec Ideal S2048x512 .f32) : FVec Ideal S2048x512 .f32 :=
  select (cmpf .une (subf x (broadcastInDim S2048x512 ![] bcast_S_S2048x512 (constant S_ .f32 0x00000000#32))) (subf x (broadcastInDim S2048x512 ![] bcast_S_S2048x512 (constant S_ .f32 0x00000000#32))))
    (addf x (broadcastInDim S2048x512 ![] bcast_S_S2048x512 (constant S_ .f32 0x00000000#32)))
    (addf (maximumf x (broadcastInDim S2048x512 ![] bcast_S_S2048x512 (constant S_ .f32 0x00000000#32)))
      (Host.log1p (Host.exp (Host.negf (Host.absf (subf x (broadcastInDim S2048x512 ![] bcast_S_S2048x512 (constant S_ .f32 0x00000000#32))))))))

section
variable (X : Valuation τ sig (Elt Ideal))
theorem opsA_v4 : after opsA X (Proc.devRef .tc main_v4) = mulf (cols 0 slices_S2048x8192_S2048x512_0_0 (X (Proc.devRef .tc main_arg0))) (broadcastInDim S4x2048x128 ![] bcast_S_S4x2048x128 (constant S_ .f32 0x3DB504F3#32)) := by
  after_reads_simp; rfl
theorem opsA_v7 : after opsA X (Proc.devRef .tc main_v7) = cols 512 slices_S2048x8192_S2048x512_0_512 (X (Proc.devRef .tc main_arg0)) := by
  after_reads_simp; rfl
theorem opsA_v10 : after opsA X (Proc.devRef .tc main_v10)
    = transpose S4x2048x256 [1, 0, 2] (shapeCast S2048x4x256 (extractStridedSlice S2048x1024 ![0, 1024] (X (Proc.devRef .tc main_arg0)) slices_S2048x8192_S2048x1024_0_1024) shapeCasts_S2048x1024_S2048x4x256) transposes_S2048x4x256_S4x2048x256_1_0_2 := by
  after_reads_simp; rfl
theorem opsA_v19 : after opsA X (Proc.devRef .tc main_v19)
    = transpose S4x2048x128 [1, 0, 2] (shapeCast S2048x4x128 (Host.divf (Host.negf (softp (nlogit (X (Proc.devRef .tc main_arg1)) (X (Proc.devRef .tc main_arg2)) (X (Proc.devRef .tc main_arg3)))))
        (broadcastInDim S2048x512 ![] bcast_S_S2048x512 (constant S_ .f32 0x41800000#32))) shapeCasts_S2048x512_S2048x4x128) transposes_S2048x4x128_S4x2048x128_1_0_2 := by
  after_reads_simp; simp only [TRef.toBuf, TRef.ofBuf, cast_eq]; rfl
theorem opsA_v20 : after opsA X (Proc.devRef .tc main_v20) = fun _ => 1#1 := by
  after_reads_simp; rfl
theorem opsB_v40 : after opsB X (Proc.devRef .tc main_v40)
    = outs (X (Proc.devRef .tc main_v4)) (X (Proc.devRef .tc main_v7)) (X (Proc.devRef .tc main_v19)) (X (Proc.devRef .tc main_v10)) (X (Proc.devRef .tc main_v20)) := by
  after_reads_simp; simp only [TRef.toBuf, TRef.ofBuf, cast_eq]; rfl
theorem opsB_v7 : after opsB X (Proc.devRef .tc main_v7) = X (Proc.devRef .tc main_v7) := by after_reads_simp
theorem opsB_v10 : after opsB X (Proc.devRef .tc main_v10) = X (Proc.devRef .tc main_v10) := by after_reads_simp
theorem opsB_v19 : after opsB X (Proc.devRef .tc main_v19) = X (Proc.devRef .tc main_v19) := by after_reads_simp
theorem opsC_v40 : after opsC X (Proc.devRef .tc main_v40) = X (Proc.devRef .tc main_v40) := by after_reads_simp
theorem opsC_v66 : after opsC X (Proc.devRef .tc main_v66) = states (X (Proc.devRef .tc main_v7)) (X (Proc.devRef .tc main_v19)) (X (Proc.devRef .tc main_v10)) := by
  after_reads_simp; rfl
end

/-! ### On real arrays -/

theorem cols_eq (M : ℕ → ℕ → ℝ) (off : ℕ) (h) : cols off h (c2 M) = c3 fun n t u => M t (off + (n * 128 + u)) := by
  unfold cols
  rw [slice_c2, split512, swap128]; simp only [Nat.zero_add]
theorem csum_eq (G : ℕ → ℕ → ℕ → ℝ) : csum (c3 G) = c3 fun n t d => cum (G n) t d := by
  unfold csum
  rw [bcast_const, cumsum]; rfl
theorem keyAx_eq (G : ℕ → ℕ → ℕ → ℝ) : keyAx (c3 G) = c4 fun n t _ d => G n t d := by
  unfold keyAx; rw [key_axis, key_rep]
theorem queryAx_eq (G : ℕ → ℕ → ℕ → ℝ) : queryAx (c3 G) = c4 fun n _ s d => G n s d := by
  unfold queryAx; rw [query_axis, query_rep]
theorem lower_eq : lower (fun _ => 1#1) = low4 := by
  funext j
  rw [eq_ix4 j]
  unfold lower
  pointwise [low4]
  exact Ref.low_bit (j 1).val (j 2).val (j 1).isLt (j 2).isLt
theorem decays_eq (G : ℕ → ℕ → ℕ → ℝ) : decays (fun _ => 1#1) (c3 G) = c4 fun n t s u => dec (G n) t s u := by
  unfold decays
  rw [lower_eq, csum_eq, keyAx_eq, queryAx_eq, subf_c4, id, bcast_const, hexp_select_c4]; rfl
theorem dot_o (F G : ℕ → ℕ → ℕ → ℝ) : Host.dotGeneral dot_S4x2048x2048_S4x2048x256_S4x2048x256_2_1_1_2_0_0 none (c3 F : FVec Ideal _ .f32) (c3 G : FVec Ideal _ .f32)
    = (c3 fun n t v => ∑ s : Fin 2048, F n t s * G n s v : FVec Ideal _ .f32) := by
  funext j; rw [eq_ix3 j]; pointwise [c3, dot_S4x2048x2048_S4x2048x256_S4x2048x256_2_1_1_2_0_0]; simp only [coe_sum, EReal.coe_mul]
theorem outs_c2 (Q K G V : ℕ → ℕ → ℕ → ℝ) : outs (c3 Q) (c3 K) (c3 G) (c3 V) (fun _ => 1#1)
    = c2 fun t j => ∑ s : Fin 2048, att (Q (j / 256)) (K (j / 256)) (G (j / 256)) t s * V (j / 256) s (j % 256) := by
  unfold outs
  rw [keyAx_eq, queryAx_eq, decays_eq, mulf_c4, mulf_c4, sum_d, dot_o, back256, join1024]; rfl
theorem dot_gp (M N : ℕ → ℕ → ℝ) : Host.dotGeneral dot_S2048x128_S128x512_S2048x512_1_0_0_1_n_n none (c2 M : FVec Ideal _ .f32) (c2 N : FVec Ideal _ .f32)
    = (c2 fun t n => ∑ k : Fin 128, M t k * N k n : FVec Ideal _ .f32) := by
  funext j; rw [eq_ix2 j]; pointwise [c2, dot_S2048x128_S128x512_S2048x512_1_0_0_1_n_n]; simp only [coe_sum, EReal.coe_mul]
theorem softp_eq (M : ℕ → ℕ → ℝ) : softp (c2 M) = c2 fun i j => Inp.sp (M i j) := by
  unfold softp
  rw [Ref.une_self, Ref.select_zero, bcast_const, const_c2 of_zero, maximumf_c2, subf_c2, habsf_c2, hnegf_c2, hexp_c2,
    hlog1p_c2 _ (fun i j => by positivity), addf_c2]
  simp only [sub_zero]; rfl
theorem nlogit_eq (I : Inp) : nlogit (c2 I.a) (c2 I.w) (c2 I.b) = c2 fun t j => -I.gp t j := by
  unfold nlogit
  rw [extf_c2, dot_gp, rows512, addf_c2, hnegf_c2]; rfl

/-- A row number against a chunk's first. -/
theorem chunk_bit (x y : ℕ) (hx : x < 16) (hy : y < 2048) :
    IntOp.cmpi .sgt (IntOp.muli (BitVec.ofNat 32 x) 128#32) (BitVec.ofNat 32 y) = BitVec.ofBool (decide (y < 128 * x)) := by
  have hx' : (BitVec.ofNat 32 x * 128#32).toInt = (128 * x : Int) := by
    rw [show (128#32 : BitVec 32) = BitVec.ofNat 32 128 from rfl, ← BitVec.ofNat_mul, BitVec.toInt_ofNat']; rw [Int.bmod_eq_of_le] <;> push_cast <;> omega
  have hy' : (BitVec.ofNat 32 y).toInt = (y : Int) := by rw [BitVec.toInt_ofNat']; rw [Int.bmod_eq_of_le] <;> omega
  simp [IntOp.cmpi, IntOp.muli, BitVec.slt, hx', hy']
  norm_cast
theorem before_at (j : S16x4x2048x128.Idx) : before j = BitVec.ofBool (decide ((j 2).val < 128 * (j 0).val)) := by
  rw [eq_ix4 j]
  unfold before
  pointwise []
  exact chunk_bit (j 0).val (j 2).val (j 0).isLt (j 2).isLt
theorem zero_i : sitofp (F := Ideal) .f32 (constantI S_ 32 0#32) = constant S_ .f32 0x00000000#32 := by
  funext j
  change ((((0#32 : BitVec 32).toInt : ℝ)) : EReal) = Ideal.ofBits .f32 0x00000000#32
  rw [of_zero]; simp
theorem starts_eq (F : ℕ → ℕ → ℕ → ℝ) : starts (c3 F) = c3 fun c n d => if c = 0 then 0 else F n (128 * c - 1) d := by
  unfold starts
  rw [zero_i]
  funext j; rw [eq_ix3 j]; pointwise [c3]
  by_cases hc : (j 0).val = 0
  · rw [dif_neg (by omega), if_pos hc]; simp
  · have := (j 0).isLt
    rw [dif_pos (by change (j 0).val < 16 at this; omega), if_neg hc]
theorem each_eq (G : ℕ → ℕ → ℕ → ℝ) : each (c3 G) = c4 fun _ n s d => G n s d := by
  funext j; rw [eq_ix4 j]; unfold each; pointwise [c3, c4]
theorem eachRow_eq (G : ℕ → ℕ → ℕ → ℝ) : eachRow (c3 G) = c4 fun c n _ d => G c n d := by
  funext j; rw [eq_ix4 j]; unfold eachRow; pointwise [c3, c4]
theorem exp_before (P : ℕ → ℕ → ℕ → ℕ → ℝ) : Host.exp (select before (c4 P : FVec Ideal S16x4x2048x128 .f32) (constant _ .f32 0xFF800000#32))
    = c4 fun c n s d => if s < 128 * c then Real.exp (P c n s d) else 0 := by
  funext j
  change Ideal.exp (Scalar.select (before j) (c4 P j) (Ideal.ofBits .f32 0xFF800000#32)) = _
  rw [before_at, of_bot]
  by_cases h : (j 2).val < 128 * (j 0).val
  · simp [c4, h, Scalar.select]
  · simp [c4, h, Scalar.select]
theorem dot_st (P : ℕ → ℕ → ℕ → ℕ → ℝ) (G : ℕ → ℕ → ℕ → ℝ) :
    Host.dotGeneral dot_S16x4x2048x128_S4x2048x256_S4x16x128x256_2_1_03_2_1_0 none (c4 P : FVec Ideal _ .f32) (c3 G : FVec Ideal _ .f32)
    = (c4 fun n c d v => ∑ s : Fin 2048, P c n s d * G n s v : FVec Ideal _ .f32) := by
  funext j; rw [eq_ix4 j]; pointwise [c3, c4, dot_S16x4x2048x128_S4x2048x256_S4x16x128x256_2_1_03_2_1_0]; simp only [coe_sum, EReal.coe_mul]
theorem flip4 (P : ℕ → ℕ → ℕ → ℕ → ℝ) (h) : transpose S16x4x256x128 [1, 0, 3, 2] (c4 P : FVec Ideal S4x16x128x256 .f32) h = c4 fun c n v d => P n c d v := by
  funext j; rw [eq_ix4 j]; pointwise [c4]
/-- The running sum before a chunk is that at the row before it. -/
theorem pre_cum (G : ℕ → ℕ → ℝ) (c d : ℕ) : (if c = 0 then 0 else cum G (128 * c - 1) d) = pre G c d := by
  unfold cum pre
  split_ifs with h
  · subst h; simp
  · exact Finset.sum_congr rfl fun s _ => by
      congr 1; exact propext (by omega)
theorem states_eq (K G V : ℕ → ℕ → ℕ → ℝ) : states (c3 K) (c3 G) (c3 V) = c4 fun c n v u => st (K n) (G n) (V n) c v u := by
  unfold states
  rw [csum_eq, starts_eq, each_eq, each_eq, eachRow_eq, subf_c4, id, bcast_const, exp_before, mulf_c4, dot_st, flip4]
  refine c4_congr fun c _ n _ v _ u _ => ?_
  unfold st
  refine Finset.sum_congr rfl fun s _ => ?_
  rw [pre_cum]
  split_ifs <;> ring

variable {X : Valuation τ sig (Elt Ideal)} {I : Inp} (h : KArgs X I)
include h
theorem v4_eq : after opsA X (Proc.devRef .tc main_v4) = (c3 fun n t u => I.q n t u : FVec Ideal S4x2048x128 .f32) := by
  rw [opsA_v4, h.h0, cols_eq, bcast_const, const_c3 of_kap, mulf_c3]; simp only [Nat.zero_add]; rfl
theorem v7_eq : after opsA X (Proc.devRef .tc main_v7) = (c3 fun n t u => I.k n t u : FVec Ideal S4x2048x128 .f32) := by
  rw [opsA_v7, h.h0, cols_eq]; rfl
theorem v10_eq : after opsA X (Proc.devRef .tc main_v10) = (c3 fun n t u => I.v n t u : FVec Ideal S4x2048x256 .f32) := by
  rw [opsA_v10, h.h0, slice_c2, split1024, swap256]; simp only [Nat.zero_add]; rfl
theorem v19_eq : after opsA X (Proc.devRef .tc main_v19) = (c3 fun n t u => I.gl n t u : FVec Ideal S4x2048x128 .f32) := by
  rw [opsA_v19, h.h1, h.h2, h.h3, nlogit_eq, softp_eq, bcast_const, const_c2 of_16, hnegf_c2, hdivf_c2 _ _ (fun i j => by norm_num), split512, swap128]; rfl
/-- The saved output. -/
theorem v40_eq : after opsC (after opsB (after opsA X)) (Proc.devRef .tc main_v40) = (c2 fun t j => I.o (j / 256) t (j % 256) : FVec Ideal S2048x1024 .f32) := by
  rw [opsC_v40, opsB_v40, v4_eq h, v7_eq h, v19_eq h, v10_eq h, opsA_v20]; exact outs_c2 I.q I.k I.gl I.v
/-- The saved states. -/
theorem v66_eq : after opsC (after opsB (after opsA X)) (Proc.devRef .tc main_v66) = (c4 fun c n v u => st (I.k n) (I.gl n) (I.v n) c v u : FVec Ideal S16x4x256x128 .f32) := by
  rw [opsC_v66, opsB_v7, opsB_v19, opsB_v10, v7_eq h, v19_eq h, v10_eq h, states_eq]

end Cert.Gla.Fwd
end
-- ==== Proof.Ops.lean ====
/- Hand-written, untrusted: THE KERNEL'S OPERATIONS on real-valued arrays (Lift.lean): the products, the sums along an axis,
   the masks, the broadcasts of a row or a column, the four heads side by side. -/
module

public import proofs.«01_k».proof.Proof.Lift
public import proofs.«01_k».proof.Proof.Gen.KernelIdeal.Skeleton

@[expose] public section

set_option maxRecDepth 16384

noncomputable section

namespace Cert.Gla.Ker

open Idealize.ShloMosaic Cert.KernelIdeal Cert.KernelIdeal.Gen

variable {φ ψ : FTy} (M N : ℕ → ℕ → ℝ)

theorem mm_qk (p) : matmul dot_S128x128_S128x128_S128x128_1_1_0_0_n_n p (c2 M : FVec Ideal _ .f32) (c2 N : FVec Ideal _ .f32) (constant _ .f32 0x00000000#32)
    = (c2 fun i j => ∑ d : Fin 128, M i d * N j d : FVec Ideal _ .f32) := by
  funext j; rw [eq_ix2 j]; pointwise [c2, dot_S128x128_S128x128_S128x128_1_1_0_0_n_n]; simp only [coe_sum, EReal.coe_mul]
theorem mm_dov (p) : matmul dot_S128x256_S128x256_S128x128_1_1_0_0_n_n p (c2 M : FVec Ideal _ .f32) (c2 N : FVec Ideal _ .f32) (constant _ .f32 0x00000000#32)
    = (c2 fun i j => ∑ v : Fin 256, M i v * N j v : FVec Ideal _ .f32) := by
  funext j; rw [eq_ix2 j]; pointwise [c2, dot_S128x256_S128x256_S128x128_1_1_0_0_n_n]; simp only [coe_sum, EReal.coe_mul]
theorem mm_ado (p) : matmul dot_S128x128_S128x256_S128x256_0_0_1_1_n_n p (c2 M : FVec Ideal _ .f32) (c2 N : FVec Ideal _ .f32) (constant _ .f32 0x00000000#32)
    = (c2 fun j v => ∑ i : Fin 128, M i j * N i v : FVec Ideal _ .f32) := by
  funext j; rw [eq_ix2 j]; pointwise [c2, dot_S128x128_S128x256_S128x256_0_0_1_1_n_n]; simp only [coe_sum, EReal.coe_mul]
theorem mm_kds (p) : matmul dot_S128x128_S256x128_S128x256_1_1_0_0_n_n p (c2 M : FVec Ideal _ .f32) (c2 N : FVec Ideal _ .f32) (constant _ .f32 0x00000000#32)
    = (c2 fun j v => ∑ d : Fin 128, M j d * N v d : FVec Ideal _ .f32) := by
  funext j; rw [eq_ix2 j]; pointwise [c2, dot_S128x128_S256x128_S128x256_1_1_0_0_n_n]; simp only [coe_sum, EReal.coe_mul]
theorem mm_dak (p) : matmul dot_S128x128_S128x128_S128x128_1_0_0_1_n_n p (c2 M : FVec Ideal _ .f32) (c2 N : FVec Ideal _ .f32) (constant _ .f32 0x00000000#32)
    = (c2 fun i d => ∑ j : Fin 128, M i j * N j d : FVec Ideal _ .f32) := by
  funext j; rw [eq_ix2 j]; pointwise [c2, dot_S128x128_S128x128_S128x128_1_0_0_1_n_n]; simp only [coe_sum, EReal.coe_mul]
theorem mm_dos (p) : matmul dot_S128x256_S256x128_S128x128_1_0_0_1_n_n p (c2 M : FVec Ideal _ .f32) (c2 N : FVec Ideal _ .f32) (constant _ .f32 0x00000000#32)
    = (c2 fun i d => ∑ v : Fin 256, M i v * N v d : FVec Ideal _ .f32) := by
  funext j; rw [eq_ix2 j]; pointwise [c2, dot_S128x256_S256x128_S128x128_1_0_0_1_n_n]; simp only [coe_sum, EReal.coe_mul]
theorem mm_daq (p) : matmul dot_S128x128_S128x128_S128x128_0_0_1_1_n_n p (c2 M : FVec Ideal _ .f32) (c2 N : FVec Ideal _ .f32) (constant _ .f32 0x00000000#32)
    = (c2 fun j d => ∑ i : Fin 128, M i j * N i d : FVec Ideal _ .f32) := by
  funext j; rw [eq_ix2 j]; pointwise [c2, dot_S128x128_S128x128_S128x128_0_0_1_1_n_n]; simp only [coe_sum, EReal.coe_mul]
theorem mm_doq (p) : matmul dot_S128x256_S128x128_S256x128_0_0_1_1_n_n p (c2 M : FVec Ideal _ .f32) (c2 N : FVec Ideal _ .f32) (constant _ .f32 0x00000000#32)
    = (c2 fun v d => ∑ i : Fin 128, M i v * N i d : FVec Ideal _ .f32) := by
  funext j; rw [eq_ix2 j]; pointwise [c2, dot_S128x256_S128x128_S256x128_0_0_1_1_n_n]; simp only [coe_sum, EReal.coe_mul]
theorem mm_gp (p) : matmul dot_S128x128_S128x512_S128x512_1_0_0_1_n_n p (c2 M : FVec Ideal _ φ) (c2 N : FVec Ideal _ φ) (constant _ .f32 0x00000000#32)
    = (c2 fun i n => ∑ k : Fin 128, M i k * N k n : FVec Ideal _ .f32) := by
  funext j; rw [eq_ix2 j]; pointwise [c2, dot_S128x128_S128x512_S128x512_1_0_0_1_n_n]; simp only [coe_sum, EReal.coe_mul]
theorem mm_dw (p) : matmul dot_S128x128_S128x512_S128x512_0_0_1_1_n_n p (c2 M : FVec Ideal _ φ) (c2 N : FVec Ideal _ φ) (constant _ .f32 0x00000000#32)
    = (c2 fun k n => ∑ i : Fin 128, M i k * N i n : FVec Ideal _ .f32) := by
  funext j; rw [eq_ix2 j]; pointwise [c2, dot_S128x128_S128x512_S128x512_0_0_1_1_n_n]; simp only [coe_sum, EReal.coe_mul]
theorem mm_da (p) : matmul dot_S128x512_S128x512_S128x128_1_1_0_0_n_n p (c2 M : FVec Ideal _ φ) (c2 N : FVec Ideal _ φ) (constant _ .f32 0x00000000#32)
    = (c2 fun i k => ∑ n : Fin 512, M i n * N k n : FVec Ideal _ .f32) := by
  funext j; rw [eq_ix2 j]; pointwise [c2, dot_S128x512_S128x512_S128x128_1_1_0_0_n_n]; simp only [coe_sum, EReal.coe_mul]

/-- The sums along an axis. -/
def sumRow512 (x : FVec Ideal S128x512 .f32) : FVec Ideal S1x512 .f32 := shapeCast S1x512 (multiReduction .add [0] S512 x 0x00000000#32 reduces_S128x512_S512 (.inl rfl) rfl) shapeCasts_S512_S1x512
def sumRow256 (x : FVec Ideal S128x256 .f32) : FVec Ideal S1x256 .f32 := shapeCast S1x256 (multiReduction .add [0] S256 x 0x00000000#32 reduces_S128x256_S256 (.inl rfl) rfl) shapeCasts_S256_S1x256
def sumRow128 (x : FVec Ideal S128x128 .f32) : FVec Ideal S1x128 .f32 := shapeCast S1x128 (multiReduction .add [0] S128 x 0x00000000#32 reduces_S128x128_S128 (.inl rfl) rfl) shapeCasts_S128_S1x128
def sumState (x : FVec Ideal S256x128 .f32) : FVec Ideal S1x128 .f32 := shapeCast S1x128 (multiReduction .add [0] S128 x 0x00000000#32 reduces_S256x128_S128 (.inl rfl) rfl) shapeCasts_S128_S1x128
def sumCol (x : FVec Ideal S128x256 .f32) : FVec Ideal S128x1 .f32 := shapeCast S128x1 (multiReduction .add [1] S128 x 0x00000000#32 reduces_S128x256_S128 (.inl rfl) rfl) shapeCasts_S128_S128x1
theorem sumRow512_c2 : sumRow512 (c2 M) = c2 fun _ j => ∑ i : Fin 128, M i j := by
  funext j; rw [eq_ix2 j]; pointwise [sumRow512, c2]; simp only [coe_sum]
theorem sumRow256_c2 : sumRow256 (c2 M) = c2 fun _ j => ∑ i : Fin 128, M i j := by
  funext j; rw [eq_ix2 j]; pointwise [sumRow256, c2]; simp only [coe_sum]
theorem sumRow128_c2 : sumRow128 (c2 M) = c2 fun _ j => ∑ i : Fin 128, M i j := by
  funext j; rw [eq_ix2 j]; pointwise [sumRow128, c2]; simp only [coe_sum]
theorem sumState_c2 : sumState (c2 M) = c2 fun _ j => ∑ i : Fin 256, M i j := by
  funext j; rw [eq_ix2 j]; pointwise [sumState, c2]; simp only [coe_sum]
theorem sumCol_c2 : sumCol (c2 M) = c2 fun i _ => ∑ v : Fin 256, M i v := by
  funext j; rw [eq_ix2 j]; pointwise [sumCol, c2]; simp only [coe_sum]

theorem rows128 (h) : broadcastTo S128x128 (c2 M : FVec Ideal S1x128 φ) h = c2 fun _ j => M 0 j := by
  funext j; rw [eq_ix2 j]; pointwise [c2]
theorem rows256 (h) : broadcastTo S128x256 (c2 M : FVec Ideal S1x256 φ) h = c2 fun _ j => M 0 j := by
  funext j; rw [eq_ix2 j]; pointwise [c2]
theorem rows512 (h) : broadcastTo S128x512 (c2 M : FVec Ideal S1x512 φ) h = c2 fun _ j => M 0 j := by
  funext j; rw [eq_ix2 j]; pointwise [c2]
theorem rows_state (h) : broadcastTo S256x128 (c2 M : FVec Ideal S1x128 φ) h = c2 fun _ j => M 0 j := by
  funext j; rw [eq_ix2 j]; pointwise [c2]
theorem cols (h) : broadcastTo S128x256 (c2 M : FVec Ideal S128x1 φ) h = c2 fun i _ => M i 0 := by
  funext j; rw [eq_ix2 j]; pointwise [c2]
theorem drop3 (F : ℕ → ℕ → ℕ → ℝ) (h) : shapeCast S256x128 (c3 F : FVec Ideal S1x256x128 φ) h = c2 fun i j => F 0 i j := by
  funext j; rw [eq_ix2 j]; pointwise [c2, c3]
theorem drop4 (F : ℕ → ℕ → ℕ → ℕ → ℝ) (h) : shapeCast S256x128 (c4 F : FVec Ideal S1x1x256x128 φ) h = c2 fun i j => F 0 0 i j := by
  funext j; rw [eq_ix2 j]; pointwise [c2, c4]
theorem lift3 (h) : shapeCast S1x256x128 (c2 M : FVec Ideal S256x128 φ) h = c3 fun _ i j => M i j := by
  funext j; rw [eq_ix3 j]; pointwise [c2, c3]

/-- Two numbers below 128 compared as machine words compare as numbers. -/
theorem sge_bit (x y : ℕ) (hx : x < 128) (hy : y < 128) :
    IntOp.cmpi .sge (BitVec.ofNat 32 x) (BitVec.ofNat 32 y) = BitVec.ofBool (decide (y ≤ x)) := by
  have hx' : (BitVec.ofNat 32 x).toInt = (x : Int) := by rw [BitVec.toInt_ofNat']; rw [Int.bmod_eq_of_le] <;> omega
  have hy' : (BitVec.ofNat 32 y).toInt = (y : Int) := by rw [BitVec.toInt_ofNat']; rw [Int.bmod_eq_of_le] <;> omega
  simp [IntOp.cmpi, BitVec.sle, hx', hy']

theorem iota0 (h) (j : S128x128.Idx) : iota .tc S128x128 32 [0] h j = BitVec.ofNat 32 (j 0).val := by
  simp [iota]
theorem iota1 (h) (j : S128x128.Idx) : iota .tc S128x128 32 [1] h j = BitVec.ofNat 32 (j 1).val := by
  simp [iota]

theorem pay10_eq : k0_pay10 = low2 := by
  funext j
  change IntOp.cmpi .sge (iota .tc S128x128 32 [0] _ j) (iota .tc S128x128 32 [1] _ j) = _
  rw [iota0, iota1]
  exact sge_bit (j 0).val (j 1).val (j 0).isLt (j 1).isLt

/-- A bit as a number. -/
theorem bit_real (p : Prop) [Decidable p] :
    ((((BitVec.ofBool (decide p)).setWidth 32).toInt : ℝ) : EReal) = (((if p then 1 else 0 : ℝ)) : EReal) := by
  by_cases h : p <;> simp [h]

theorem low_real (h) : sitofp .f32 (extui 32 k0_pay10 h) = (c2 fun i j => if j ≤ i then 1 else 0 : FVec Ideal S128x128 .f32) := by
  rw [pay10_eq]; funext j; exact bit_real ((j 1).val ≤ (j 0).val)

theorem pay12_eq : k0_pay12 = (c2 fun i j => if i ≤ j then 1 else 0 : FVec Ideal S128x128 .f32) := by
  funext j
  change ((((IntOp.cmpi .sge (iota .tc S128x128 32 [1] _ j) (iota .tc S128x128 32 [0] _ j)).setWidth 32).toInt : ℝ) : EReal) = _
  rw [iota0, iota1, sge_bit (j 1).val (j 0).val (j 1).isLt (j 0).isLt]
  exact bit_real ((j 0).val ≤ (j 1).val)

/-- Four heads side by side. -/
theorem heads (A B C D : ℕ → ℕ → ℝ) (h) : concatenate S128x512 1 [⟨S128x128, (c2 A : FVec Ideal S128x128 .f32)⟩, ⟨S128x128, c2 B⟩, ⟨S128x128, c2 C⟩, ⟨S128x128, c2 D⟩] h
    = (c2 fun i j => if j < 128 then A i j else if j - 128 < 128 then B i (j - 128) else if j - 128 - 128 < 128 then C i (j - 128 - 128) else D i (j - 128 - 128 - 128) : FVec Ideal S128x512 .f32) := by
  funext j; rw [eq_ix2 j]; pointwise [c2]
  split_ifs <;> rfl

end Cert.Gla.Ker
end
-- ==== Proof.Head.lean ====
/- Hand-written, untrusted: ONE HEAD OF ONE CHUNK, as the kernel computes it. `Blk` holds the blocks a head's part reads; the
   values it computes from them are named after it, in the kernel's operations. `Num` is the same in real numbers, and
   `Num.blk` its arrays: each value of the arrays is the array of the value. -/
module

public import proofs.«01_k».proof.Proof.Ops

@[expose] public section

set_option maxRecDepth 16384

noncomputable section

namespace Cert.Gla.Ker

open Idealize.ShloMosaic Cert.KernelIdeal Cert.KernelIdeal.Gen

/-- The blocks of one head: running decay, query, key, value, output, gate, gradient, norm weight, state, state gradient. -/
structure Blk where
  b : FVec Ideal S128x128 .f32
  q : FVec Ideal S128x128 .f32
  k : FVec Ideal S128x128 .f32
  v : FVec Ideal S128x256 .f32
  o : FVec Ideal S128x256 .f32
  r : FVec Ideal S128x256 .f32
  d : FVec Ideal S128x256 .f32
  g : FVec Ideal S1x256 .f32
  s : FVec Ideal S256x128 .f32
  t : FVec Ideal S256x128 .f32

namespace Blk
variable (x : Blk)

def zero (s : Shape) : FVec Ideal s .f32 := broadcast s (Scalar.ofBits .f32 0x00000000#32)
def half : FVec Ideal S128x256 .f32 := broadcast S128x256 (Scalar.ofBits .f32 0x3F000000#32)
def ones : FVec Ideal S128x256 .f32 := broadcast S128x256 (Scalar.ofBits .f32 0x3F800000#32)
def scale : FVec Ideal S128x128 .f32 := broadcast S128x128 (Scalar.ofBits .f32 0x3DB504F3#32)
/-- The decay of the whole chunk. -/
def bl : FVec Ideal S1x128 .f32 := extractStridedSlice S1x128 ![127, 0] x.b slices_S128x128_o127_0_S1x128
def el : FVec Ideal S1x128 .f32 := exp x.bl
def ep : FVec Ideal S128x128 .f32 := exp x.b
def en : FVec Ideal S128x128 .f32 := exp (subf (zero _) x.b)
def ek : FVec Ideal S128x128 .f32 := exp (subf (broadcastTo S128x128 x.bl broadcasts_S1x128_S128x128) x.b)
def qt : FVec Ideal S128x128 .f32 := mulf (mulf x.q scale) x.ep
def kt : FVec Ideal S128x128 .f32 := mulf x.k x.en
def kh : FVec Ideal S128x128 .f32 := mulf x.k x.ek
/-- The attention weights inside the chunk. -/
def att : FVec Ideal S128x128 .f32 :=
  select k0_pay10 (matmul dot_S128x128_S128x128_S128x128_1_1_0_0_n_n (some .bf16x3) x.qt x.kt (constant _ .f32 0x00000000#32)) (zero _)
/-- The norm's factor and the normalised output. -/
def rs : FVec Ideal S128x1 .f32 := rsqrt (addf (divf (sumCol (mulf x.o x.o)) (broadcast S128x1 (Scalar.ofBits .f32 0x43800000#32))) (broadcast S128x1 (Scalar.ofBits .f32 0x358637BD#32)))
def on : FVec Ideal S128x256 .f32 := mulf x.o (broadcastTo S128x256 x.rs broadcasts_S128x1_S128x256)
def sg : FVec Ideal S128x256 .f32 := addf (mulf half (tanh (mulf half x.r))) half
def dog : FVec Ideal S128x256 .f32 := mulf x.d (mulf x.r x.sg)
/-- The gradients of the gate and of the norm's weight. -/
def dr : FVec Ideal S128x256 .f32 :=
  mulf (mulf x.d (mulf x.on (broadcastTo S128x256 x.g broadcasts_S1x256_S128x256))) (mulf x.sg (addf ones (mulf x.r (subf ones x.sg))))
def dgg : FVec Ideal S1x256 .f32 :=
  sumRow256 (mulf x.dog x.on)
/-- The gradient of the head's output. -/
def don : FVec Ideal S128x256 .f32 := mulf x.dog (broadcastTo S128x256 x.g broadcasts_S1x256_S128x256)
def dO : FVec Ideal S128x256 .f32 :=
  mulf (broadcastTo S128x256 x.rs broadcasts_S128x1_S128x256) (subf x.don (mulf x.on (broadcastTo S128x256
    (divf (sumCol (mulf x.don x.on)) (broadcast S128x1 (Scalar.ofBits .f32 0x43800000#32))) broadcasts_S128x1_S128x256)))
def da : FVec Ideal S128x128 .f32 :=
  select k0_pay10 (matmul dot_S128x256_S128x256_S128x128_1_1_0_0_n_n (some .bf16x3) x.dO x.v (constant _ .f32 0x00000000#32)) (zero _)
def dv : FVec Ideal S128x256 .f32 :=
  addf (matmul dot_S128x128_S128x256_S128x256_0_0_1_1_n_n (some .bf16x3) x.att x.dO (constant _ .f32 0x00000000#32))
    (matmul dot_S128x128_S256x128_S128x256_1_1_0_0_n_n (some .bf16x3) x.kh x.t (constant _ .f32 0x00000000#32))
def dqt : FVec Ideal S128x128 .f32 :=
  addf (matmul dot_S128x128_S128x128_S128x128_1_0_0_1_n_n (some .bf16x3) x.da x.kt (constant _ .f32 0x00000000#32))
    (matmul dot_S128x256_S256x128_S128x128_1_0_0_1_n_n (some .bf16x3) x.dO x.s (constant _ .f32 0x00000000#32))
def dkt : FVec Ideal S128x128 .f32 := matmul dot_S128x128_S128x128_S128x128_0_0_1_1_n_n (some .bf16x3) x.da x.qt (constant _ .f32 0x00000000#32)
def dkh : FVec Ideal S128x128 .f32 := matmul dot_S128x256_S256x128_S128x128_1_0_0_1_n_n (some .bf16x3) x.v x.t (constant _ .f32 0x00000000#32)
/-- The state gradient handed to the chunk before. -/
def dt : FVec Ideal S256x128 .f32 :=
  addf (mulf x.t (broadcastTo S256x128 x.el broadcasts_S1x128_S256x128))
    (matmul dot_S128x256_S128x128_S256x128_0_0_1_1_n_n (some .bf16x3) x.dO x.qt (constant _ .f32 0x00000000#32))
def dq : FVec Ideal S128x128 .f32 := mulf (mulf x.dqt x.ep) scale
def dk : FVec Ideal S128x128 .f32 := addf (mulf x.dkt x.en) (mulf x.dkh x.ek)
def db : FVec Ideal S128x128 .f32 := subf (subf (mulf x.dqt x.qt) (mulf x.dkt x.kt)) (mulf x.dkh x.kh)
def dlast : FVec Ideal S1x128 .f32 :=
  addf (sumRow128 (mulf x.dkh x.kh))
    (mulf x.el (sumState (mulf x.t x.s)))
/-- The gradient of the log decay. -/
def dl : FVec Ideal S128x128 .f32 :=
  addf (matmul dot_S128x128_S128x128_S128x128_1_0_0_1_n_n (some .fp32) k0_pay12 x.db (constant _ .f32 0x00000000#32))
    (broadcastTo S128x128 x.dlast broadcasts_S1x128_S128x128)
end Blk

/-- One head of one chunk in real numbers. -/
structure Num where
  b : ℕ → ℕ → ℝ
  q : ℕ → ℕ → ℝ
  k : ℕ → ℕ → ℝ
  v : ℕ → ℕ → ℝ
  o : ℕ → ℕ → ℝ
  r : ℕ → ℕ → ℝ
  d : ℕ → ℕ → ℝ
  g : ℕ → ℕ → ℝ
  s : ℕ → ℕ → ℝ
  t : ℕ → ℕ → ℝ

namespace Num
variable (x : Num) (i j : ℕ)

/-- Its arrays. -/
def blk : Blk := ⟨c2 x.b, c2 x.q, c2 x.k, c2 x.v, c2 x.o, c2 x.r, c2 x.d, c2 x.g, c2 x.s, c2 x.t⟩

def el : ℝ := Real.exp (x.b 127 j)
def ep : ℝ := Real.exp (x.b i j)
def en : ℝ := Real.exp (-x.b i j)
def ek : ℝ := Real.exp (x.b 127 j - x.b i j)
def qt : ℝ := x.q i j * kap * x.ep i j
def kt : ℝ := x.k i j * x.en i j
def kh : ℝ := x.k i j * x.ek i j
def att : ℝ := if j ≤ i then ∑ d : Fin 128, x.qt i d * x.kt j d else 0
def ms : ℝ := (∑ v : Fin 256, x.o i v * x.o i v) / 256 + eps
def rs : ℝ := (Real.sqrt (x.ms i))⁻¹
def on : ℝ := x.o i j * x.rs i
def sg : ℝ := 1 / 2 * Real.tanh (1 / 2 * x.r i j) + 1 / 2
def dog : ℝ := x.d i j * (x.r i j * x.sg i j)
def dr : ℝ := x.d i j * (x.on i j * x.g 0 j) * (x.sg i j * (1 + x.r i j * (1 - x.sg i j)))
def dgg : ℝ := ∑ i : Fin 128, x.dog i j * x.on i j
def don : ℝ := x.dog i j * x.g 0 j
def dO : ℝ := x.rs i * (x.don i j - x.on i j * ((∑ v : Fin 256, x.don i v * x.on i v) / 256))
def da : ℝ := if j ≤ i then ∑ v : Fin 256, x.dO i v * x.v j v else 0
def dv : ℝ := (∑ t : Fin 128, x.att t i * x.dO t j) + ∑ d : Fin 128, x.kh i d * x.t j d
def dqt : ℝ := (∑ s : Fin 128, x.da i s * x.kt s j) + ∑ v : Fin 256, x.dO i v * x.s v j
def dkt : ℝ := ∑ t : Fin 128, x.da t i * x.qt t j
def dkh : ℝ := ∑ v : Fin 256, x.v i v * x.t v j
def dt : ℝ := x.t i j * x.el j + ∑ s : Fin 128, x.dO s i * x.qt s j
def dq : ℝ := x.dqt i j * x.ep i j * kap
def dk : ℝ := x.dkt i j * x.en i j + x.dkh i j * x.ek i j
def db : ℝ := x.dqt i j * x.qt i j - x.dkt i j * x.kt i j - x.dkh i j * x.kh i j
def dlast : ℝ := (∑ s : Fin 128, x.dkh s j * x.kh s j) + x.el j * ∑ v : Fin 256, x.t v j * x.s v j
def dl : ℝ := (∑ s : Fin 128, (if i ≤ s.val then 1 else 0) * x.db s j) + x.dlast j

theorem ms_pos : 0 < x.ms i :=
  add_pos_of_nonneg_of_pos (div_nonneg (Finset.sum_nonneg fun _ _ => mul_self_nonneg _) (by norm_num)) eps_pos

theorem zero_c2 (a b : ℕ) : Blk.zero ⟨2, ![a, b]⟩ = c2 fun _ _ => 0 := by unfold Blk.zero; rw [broadcast_const, const_c2 of_zero]
theorem half_c2 : Blk.half = c2 fun _ _ => 1 / 2 := by unfold Blk.half; rw [broadcast_const, const_c2 of_half]
theorem ones_c2 : Blk.ones = c2 fun _ _ => 1 := by unfold Blk.ones; rw [broadcast_const, const_c2 of_one]
theorem scale_c2 : Blk.scale = c2 fun _ _ => kap := by unfold Blk.scale; rw [broadcast_const, const_c2 of_kap]

theorem bl_c2 : x.blk.bl = c2 fun _ j => x.b 127 j := by
  change extractStridedSlice S1x128 ![127, 0] (c2 x.b : FVec Ideal S128x128 .f32) _ = _
  rw [slice_c2]
  refine c2_congr fun i hi j _ => ?_
  rw [show i = 0 by omega, Nat.zero_add]
theorem el_c2 : x.blk.el = c2 fun _ j => x.el j := by unfold Blk.el; rw [bl_c2, exp_c2]; rfl
theorem ep_c2 : x.blk.ep = c2 x.ep := exp_c2 _
theorem en_c2 : x.blk.en = c2 x.en := by
  change exp (subf (Blk.zero _) (c2 x.b)) = _
  rw [zero_c2, subf_c2, exp_c2]; simp only [zero_sub]; rfl
theorem ek_c2 : x.blk.ek = c2 x.ek := by
  change exp (subf (broadcastTo S128x128 x.blk.bl _) (c2 x.b)) = _
  rw [bl_c2, rows128, subf_c2, exp_c2]; rfl
theorem qt_c2 : x.blk.qt = c2 x.qt := by
  change mulf (mulf (c2 x.q) Blk.scale) x.blk.ep = _
  rw [scale_c2, ep_c2, mulf_c2, mulf_c2]; rfl
theorem kt_c2 : x.blk.kt = c2 x.kt := by change mulf (c2 x.k) x.blk.en = _; rw [en_c2, mulf_c2]; rfl
theorem kh_c2 : x.blk.kh = c2 x.kh := by change mulf (c2 x.k) x.blk.ek = _; rw [ek_c2, mulf_c2]; rfl
theorem att_c2 : x.blk.att = c2 x.att := by unfold Blk.att; rw [qt_c2, kt_c2, mm_qk, zero_c2, pay10_eq, select_c2]; rfl
theorem rs_c2 : x.blk.rs = c2 fun i _ => x.rs i := by
  change rsqrt (addf (divf (sumCol (mulf (c2 x.o) (c2 x.o))) _) _) = _
  rw [mulf_c2, sumCol_c2, broadcast_const, broadcast_const, const_c2 of_256, const_c2 of_eps, divf_c2 _ _ (fun _ _ => by norm_num), addf_c2]
  exact rsqrt_c2 (fun i _ => x.ms i) fun i _ => x.ms_pos i
theorem on_c2 : x.blk.on = c2 x.on := by
  change mulf (c2 x.o) (broadcastTo _ x.blk.rs _) = _
  rw [rs_c2, cols, mulf_c2]; rfl
theorem sg_c2 : x.blk.sg = c2 x.sg := by
  change addf (mulf Blk.half (tanh (mulf Blk.half (c2 x.r)))) Blk.half = _
  rw [half_c2, mulf_c2, tanh_c2, mulf_c2, addf_c2]; rfl
theorem dog_c2 : x.blk.dog = c2 x.dog := by
  change mulf (c2 x.d) (mulf (c2 x.r) x.blk.sg) = _
  rw [sg_c2, mulf_c2, mulf_c2]; rfl
theorem dr_c2 : x.blk.dr = c2 x.dr := by
  change mulf (mulf (c2 x.d) (mulf x.blk.on (broadcastTo S128x256 (c2 x.g : FVec Ideal S1x256 .f32) _))) (mulf x.blk.sg (addf Blk.ones (mulf (c2 x.r) (subf Blk.ones x.blk.sg)))) = _
  rw [on_c2, rows256, sg_c2, ones_c2, subf_c2, mulf_c2, mulf_c2, mulf_c2, addf_c2, mulf_c2, mulf_c2]; rfl
theorem dgg_c2 : x.blk.dgg = c2 fun _ j => x.dgg j := by unfold Blk.dgg; rw [dog_c2, on_c2, mulf_c2, sumRow256_c2]; rfl
theorem don_c2 : x.blk.don = c2 x.don := by
  change mulf x.blk.dog (broadcastTo _ (c2 x.g : FVec Ideal S1x256 .f32) _) = _
  rw [dog_c2, rows256, mulf_c2]; rfl
theorem dO_c2 : x.blk.dO = c2 x.dO := by
  unfold Blk.dO
  rw [don_c2, on_c2, rs_c2, cols, mulf_c2, sumCol_c2, broadcast_const, const_c2 of_256, divf_c2 _ _ (fun _ _ => by norm_num), cols, mulf_c2, subf_c2, mulf_c2]
  rfl
theorem da_c2 : x.blk.da = c2 x.da := by
  unfold Blk.da
  change select _ (matmul _ _ _ (c2 x.v) _) _ = _
  rw [dO_c2, mm_dov, zero_c2, pay10_eq, select_c2]; rfl
theorem dv_c2 : x.blk.dv = c2 x.dv := by
  unfold Blk.dv
  change addf _ (matmul _ _ _ (c2 x.t) _) = _
  rw [att_c2, dO_c2, kh_c2, mm_ado, mm_kds, addf_c2]; rfl
theorem dqt_c2 : x.blk.dqt = c2 x.dqt := by
  unfold Blk.dqt
  change addf _ (matmul _ _ _ (c2 x.s) _) = _
  rw [da_c2, kt_c2, dO_c2, mm_dak, mm_dos, addf_c2]; rfl
theorem dkt_c2 : x.blk.dkt = c2 x.dkt := by unfold Blk.dkt; rw [da_c2, qt_c2, mm_daq]; rfl
theorem dkh_c2 : x.blk.dkh = c2 x.dkh := by
  change matmul dot_S128x256_S256x128_S128x128_1_0_0_1_n_n _ (c2 x.v) (c2 x.t) _ = _
  rw [mm_dos]; rfl
theorem dt_c2 : x.blk.dt = c2 x.dt := by
  change addf (mulf (c2 x.t) (broadcastTo S256x128 x.blk.el _)) (matmul _ _ x.blk.dO x.blk.qt _) = _
  rw [el_c2, rows_state, dO_c2, qt_c2, mm_doq, mulf_c2, addf_c2]; rfl
theorem dq_c2 : x.blk.dq = c2 x.dq := by unfold Blk.dq; rw [dqt_c2, ep_c2, scale_c2, mulf_c2, mulf_c2]; rfl
theorem dk_c2 : x.blk.dk = c2 x.dk := by unfold Blk.dk; rw [dkt_c2, en_c2, dkh_c2, ek_c2, mulf_c2, mulf_c2, addf_c2]; rfl
theorem db_c2 : x.blk.db = c2 x.db := by
  unfold Blk.db; rw [dqt_c2, qt_c2, dkt_c2, kt_c2, dkh_c2, kh_c2, mulf_c2, mulf_c2, mulf_c2, subf_c2, subf_c2]; rfl
theorem dlast_c2 : x.blk.dlast = c2 fun _ j => x.dlast j := by
  unfold Blk.dlast
  change addf _ (mulf _ (sumState (mulf (c2 x.t) (c2 x.s)))) = _
  rw [dkh_c2, kh_c2, el_c2, mulf_c2, mulf_c2, sumRow128_c2, sumState_c2, mulf_c2, addf_c2]; rfl
theorem dl_c2 : x.blk.dl = c2 x.dl := by
  unfold Blk.dl; rw [pay12_eq, db_c2, mm_dak, dlast_c2, rows128, addf_c2]; rfl

end Num

end Cert.Gla.Ker
end
-- ==== Proof.Chunk.lean ====
/- Hand-written, untrusted: A CHUNK'S VALUES ARE THE GRADIENT'S. `Inp.num I n c` is head `n` of chunk `c` (Head.lean) of the
   layer's arguments, with the state before the chunk and the state gradient after it: what it makes is the gradient of
   Model.lean at the chunk's rows. -/
module

public import proofs.«01_k».proof.Proof.Head
public import proofs.«01_k».proof.Proof.Model

@[expose] public section

noncomputable section

namespace Cert.Gla

open Cert.Gla.Ker

/-- The logistic function by the hyperbolic tangent. -/
theorem sig_tanh (x : ℝ) : 1 / 2 * Real.tanh (1 / 2 * x) + 1 / 2 = 1 / (1 + Real.exp (-x)) := by
  rw [Real.tanh_eq_sinh_div_cosh, Real.sinh_eq, Real.cosh_eq]
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have p := Real.exp_pos (1 / 2 * x)
  have p' := Real.exp_pos (-(1 / 2 * x))
  rw [h]
  have e : Real.exp (-(1 / 2 * x)) = (Real.exp (1 / 2 * x))⁻¹ := eq_inv_of_mul_eq_one_right h1
  rw [e]
  field_simp
  ring

/-- `log (1 + exp y)` at `-x`, by the lesser of `x` and zero. -/
theorem sp_min (x : ℝ) : (min x 0 - Real.log (1 + Real.exp (0 - |x|))) * (1 / 16) = -(Inp.sp (-x)) / 16 := by
  unfold Inp.sp
  rw [abs_neg, zero_sub, show max (-x) 0 = -min x 0 by rw [← max_neg_neg, neg_zero]]
  ring

/-- The logistic function as the exponential of a log. -/
theorem sig_sp (x : ℝ) : Real.exp (-x - Inp.sp (-x)) = 1 / (1 + Real.exp x) := by
  have h : Real.exp (Inp.sp (-x)) = 1 + Real.exp (-x) := by
    unfold Inp.sp
    rw [Real.exp_add, Real.exp_log (by positivity), abs_neg]
    rcases le_total 0 x with h | h
    · rw [max_eq_right (by linarith), abs_of_nonneg h]; simp
    · rw [max_eq_left (by linarith), abs_of_nonpos h, neg_neg, mul_add, ← Real.exp_add]; simp [add_comm]
  rw [Real.exp_sub, h]
  have : Real.exp x * Real.exp (-x) = 1 := by rw [← Real.exp_add]; simp
  have e : Real.exp (-x) = (Real.exp x)⁻¹ := eq_inv_of_mul_eq_one_right this
  have p := Real.exp_pos x
  rw [e]
  field_simp
  ring

namespace Inp
variable (I : Inp) (n c : ℕ)

/-- Head `n` of chunk `c`. -/
def num : Num where
  b := loc (I.gl n) c
  q i u := I.x (128 * c + i) (n * 128 + u)
  k i u := I.k n (128 * c + i) u
  v i u := I.v n (128 * c + i) u
  o i u := I.o n (128 * c + i) u
  r i u := I.r (128 * c + i) (n * 256 + u)
  d i u := I.d (128 * c + i) (n * 256 + u)
  g _ u := I.g 0 (n * 256 + u)
  s := st (I.k n) (I.gl n) (I.v n) c
  t := ds (I.q n) (I.gl n) (I.dO n) (c + 1)

theorem num_on (i u : ℕ) (hu : u < 256) : (I.num n c).on i u = I.on (128 * c + i) (n * 256 + u) := by
  unfold on
  rw [show (n * 256 + u) / 256 = n by omega, show (n * 256 + u) % 256 = u by omega]
  rfl
theorem num_sg (i u : ℕ) : (I.num n c).sg i u = I.sg (128 * c + i) (n * 256 + u) := sig_tanh _
theorem num_dog (i u : ℕ) : (I.num n c).dog i u = I.dog (128 * c + i) (n * 256 + u) := by
  unfold Num.dog dog; rw [num_sg]; rfl
theorem num_don (i u : ℕ) : (I.num n c).don i u = I.don n (128 * c + i) u := by
  unfold Num.don don; rw [num_dog]; rfl
theorem num_dr (i u : ℕ) (hu : u < 256) : (I.num n c).dr i u = I.dr (128 * c + i) (n * 256 + u) := by
  unfold Num.dr dr; rw [num_sg, num_on _ _ _ _ _ hu]
  change I.d (128 * c + i) (n * 256 + u) * (_ * I.g 0 (n * 256 + u)) * (_ * (1 + I.r (128 * c + i) (n * 256 + u) * _)) = _
  ring
theorem num_dO (i u : ℕ) : (I.num n c).dO i u = I.dO n (128 * c + i) u := by
  unfold Num.dO dO z
  have hs : (∑ v : Fin 256, (I.num n c).don i v * (I.num n c).on i v)
      = (∑ v : Fin 256, I.o n (128 * c + i) v * I.don n (128 * c + i) v) * I.rs n (128 * c + i) := by
    rw [Finset.sum_mul]
    refine Finset.sum_congr rfl fun v _ => ?_
    rw [num_don]
    change _ * (I.o n (128 * c + i) v * I.rs n (128 * c + i)) = _
    ring
  rw [hs, num_don]
  have p := I.ms_pos n (128 * c + i)
  have hr : I.rs n (128 * c + i) * I.rs n (128 * c + i) = 1 / I.ms n (128 * c + i) := by
    unfold rs; rw [← mul_inv, Real.mul_self_sqrt p.le, one_div]
  change I.rs n (128 * c + i) * (_ - I.o n (128 * c + i) u * I.rs n (128 * c + i) * _) = _
  generalize (∑ v : Fin 256, I.o n (128 * c + i) v * I.don n (128 * c + i) v) = S
  calc _ = I.don n (128 * c + i) u * I.rs n (128 * c + i)
        - I.o n (128 * c + i) u * (S * I.rs n (128 * c + i)) / 256 * (I.rs n (128 * c + i) * I.rs n (128 * c + i)) := by ring
    _ = _ := by rw [hr]; ring

variable {I n c}

theorem num_att (hc : c < 16) (i j : Fin 128) :
    (I.num n c).att i j = att (I.q n) (I.k n) (I.gl n) (128 * c + i) (128 * c + j) := by
  rw [← att_chunk (I.q n) (I.k n) (I.gl n) c hc i j]; rfl
theorem num_da (i j : ℕ) :
    (I.num n c).da i j = if j ≤ i then pair (I.v n) (I.dO n) (128 * c + i) (128 * c + j) else 0 := by
  unfold Num.da; simp only [num_dO]; rfl
theorem num_dqt (hc : c < 16) (i : Fin 128) (u : ℕ) :
    (I.num n c).dqt i u * (I.num n c).ep i u = dq (I.k n) (I.gl n) (I.v n) (I.dO n) (128 * c + i) u := by
  rw [← dq_chunk (I.k n) (I.gl n) (I.v n) (I.dO n) c hc i u]
  unfold Num.dqt; simp only [num_da, num_dO]; rfl
theorem num_dq (hc : c < 16) (i : Fin 128) (u : ℕ) :
    (I.num n c).dq i u = dq (I.k n) (I.gl n) (I.v n) (I.dO n) (128 * c + i) u * kap := by
  unfold Num.dq; rw [num_dqt hc]
theorem num_dk (hc : c < 16) (i : Fin 128) (u : ℕ) :
    (I.num n c).dk i u = dk (I.q n) (I.gl n) (I.v n) (I.dO n) (128 * c + i) u := by
  rw [← dk_chunk (I.q n) (I.gl n) (I.v n) (I.dO n) c hc i u]
  unfold Num.dk Num.dkt; simp only [num_da]; rfl
theorem num_dv (hc : c < 16) (i : Fin 128) (u : ℕ) :
    (I.num n c).dv i u = dv (I.q n) (I.k n) (I.gl n) (I.dO n) (128 * c + i) u := by
  rw [← dv_chunk (I.q n) (I.k n) (I.gl n) (I.dO n) c hc i u]
  unfold Num.dv; simp only [num_att hc, num_dO]; rfl
theorem num_dt (hc : c < 16) (i u : ℕ) : (I.num n c).dt i u = ds (I.q n) (I.gl n) (I.dO n) c i u := by
  rw [← ds_step (I.q n) (I.gl n) (I.dO n) c hc i u]
  unfold Num.dt; simp only [num_dO]; rfl
theorem num_db (hc : c < 16) (i : Fin 128) (u : ℕ) :
    (I.num n c).db i u = db (I.q n) (I.k n) (I.gl n) (I.v n) (I.dO n) (128 * c + i) u := by
  rw [← db_eq, ← num_dqt hc, ← num_dk hc]
  unfold Num.db Num.dk Num.qt Num.kt Num.kh
  change (I.num n c).dqt i u * (I.q n (128 * c + i) u * _) - _ * (I.k n (128 * c + i) u * _) - _ * (I.k n (128 * c + i) u * _) = _
  ring
theorem num_dlast (hc : c < 16) (u : ℕ) :
    (I.num n c).dlast u = ∑ t : Fin 2048, if 128 * (c + 1) ≤ t.val then db (I.q n) (I.k n) (I.gl n) (I.v n) (I.dO n) t u else 0 := by
  rw [← dlast_chunk (I.q n) (I.k n) (I.gl n) (I.v n) (I.dO n) c hc u]; rfl
theorem num_dl (hc : c < 16) (i : Fin 128) (u : ℕ) : (I.num n c).dl i u = I.dgl n (128 * c + i) u := by
  unfold dgl
  rw [← dg_chunk _ _ _ _ _ c hc i u, ← num_dlast hc]
  unfold Num.dl
  congr 1
  refine Finset.sum_congr rfl fun s _ => ?_
  rw [num_db hc]; split_ifs <;> ring
theorem num_dgg (j : ℕ) (hj : j < 256) :
    (I.num n c).dgg j = ∑ i : Fin 128, I.on (128 * c + i) (n * 256 + j) * I.dog (128 * c + i) (n * 256 + j) := by
  unfold Num.dgg
  exact Finset.sum_congr rfl fun i _ => by rw [num_dog, num_on _ _ _ _ _ hj, mul_comm]

end Inp

end Cert.Gla
end
-- ==== Proof.Blocks.lean ====
/- Hand-written, untrusted: WHAT A GRID POINT READS. The blocks of chunk `c` of the layer's arguments, the four heads' parts of
   them (Head.lean's `Blk`), and the decay's logit and running decay the heads share. -/
module

public import proofs.«01_k».proof.Proof.Chunk
public import proofs.«01_k».proof.Proof.Gen.KernelIdeal.Frame

@[expose] public section

set_option maxRecDepth 16384

noncomputable section

namespace Cert.Gla.Ker

open Idealize.ShloMosaic Cert.KernelIdeal Cert.KernelIdeal.Gen

/-- A load of part of a real-valued array. -/
theorem ld2 {a b : ℕ} (F : ℕ → ℕ → ℝ) (p q a' b' : ℕ) (h : ∀ x, (![p, q] : Fin 2 → ℕ) x + (![a', b'] : Fin 2 → ℕ) x ≤ (![a, b] : Fin 2 → ℕ) x) :
    View.ld (Val := Elt Ideal) (e' := .f32) (c2 F : FVec Ideal ⟨2, ![a, b]⟩ .f32) (Rect.unit (s := ⟨2, ![a, b]⟩) ![p, q] ![a', b'] h)
      = (c2 fun i j => F (p + i) (q + j) : FVec Ideal ⟨2, ![a', b']⟩ .f32) := by
  rw [View.ld_unit]; rfl
theorem ld3 {a b c : ℕ} (F : ℕ → ℕ → ℕ → ℝ) (p q r a' b' c' : ℕ) (h : ∀ x, (![p, q, r] : Fin 3 → ℕ) x + (![a', b', c'] : Fin 3 → ℕ) x ≤ (![a, b, c] : Fin 3 → ℕ) x) :
    View.ld (Val := Elt Ideal) (e' := .f32) (c3 F : FVec Ideal ⟨3, ![a, b, c]⟩ .f32) (Rect.unit (s := ⟨3, ![a, b, c]⟩) ![p, q, r] ![a', b', c'] h)
      = (c3 fun i j k => F (p + i) (q + j) (r + k) : FVec Ideal ⟨3, ![a', b', c']⟩ .f32) := by
  rw [View.ld_unit]; rfl
theorem ld4 {a b c d : ℕ} (F : ℕ → ℕ → ℕ → ℕ → ℝ) (p q r s a' b' c' d' : ℕ) (h : ∀ x, (![p, q, r, s] : Fin 4 → ℕ) x + (![a', b', c', d'] : Fin 4 → ℕ) x ≤ (![a, b, c, d] : Fin 4 → ℕ) x) :
    View.ld (Val := Elt Ideal) (e' := .f32) (c4 F : FVec Ideal ⟨4, ![a, b, c, d]⟩ .f32) (Rect.unit (s := ⟨4, ![a, b, c, d]⟩) ![p, q, r, s] ![a', b', c', d'] h)
      = (c4 fun i j k l => F (p + i) (q + j) (r + k) (s + l) : FVec Ideal ⟨4, ![a', b', c', d']⟩ .f32) := by
  rw [View.ld_unit]; rfl

/-- The loads of a head's columns, of its state, of its state gradient. -/
def ldCols (x : FVec Ideal S128x1024 .f32) (ov : ℕ) (h : ∀ a, (![0, ov] : Fin 2 → Nat) a + S128x256.size a ≤ S128x1024.size a) : FVec Ideal S128x256 .f32 :=
  View.ld (Val := Elt Ideal) (e' := .f32) x (Rect.unit (s := S128x1024) ![0, ov] S128x256.size h)
def ldRow (x : FVec Ideal S1x1024 .f32) (ov : ℕ) (h : ∀ a, (![0, ov] : Fin 2 → Nat) a + S1x256.size a ≤ S1x1024.size a) : FVec Ideal S1x256 .f32 :=
  View.ld (Val := Elt Ideal) (e' := .f32) x (Rect.unit (s := S1x1024) ![0, ov] S1x256.size h)
def ldState (x : FVec Ideal S1x4x256x128 .f32) (n : ℕ) (h : ∀ a, (![0, n, 0, 0] : Fin 4 → Nat) a + S1x1x256x128.size a ≤ S1x4x256x128.size a) : FVec Ideal S1x1x256x128 .f32 :=
  View.ld (Val := Elt Ideal) (e' := .f32) x (Rect.unit (s := S1x4x256x128) ![0, n, 0, 0] S1x1x256x128.size h)
def ldGrad (x : FVec Ideal S4x256x128 .f32) (n : ℕ) (h : ∀ a, (![n, 0, 0] : Fin 3 → Nat) a + S1x256x128.size a ≤ S4x256x128.size a) : FVec Ideal S1x256x128 .f32 :=
  View.ld (Val := Elt Ideal) (e' := .f32) x (Rect.unit (s := S4x256x128) ![n, 0, 0] S1x256x128.size h)
theorem ld_cols (F : ℕ → ℕ → ℝ) (ov : ℕ) (h) : ldCols (c2 F) ov h = c2 fun i j => F i (ov + j) := by
  refine (ld2 F 0 ov 128 256 h).trans (c2_congr fun i _ j _ => ?_); rw [Nat.zero_add]
theorem ld_row (F : ℕ → ℕ → ℝ) (ov : ℕ) (h) : ldRow (c2 F) ov h = c2 fun i j => F i (ov + j) := by
  refine (ld2 F 0 ov 1 256 h).trans (c2_congr fun i _ j _ => ?_); rw [Nat.zero_add]
theorem ld_state (F : ℕ → ℕ → ℕ → ℕ → ℝ) (n : ℕ) (h) : ldState (c4 F) n h = c4 fun i j k l => F i (n + j) k l := by
  refine (ld4 F 0 n 0 0 1 1 256 128 h).trans (c4_congr fun i _ j _ k _ l _ => ?_); simp only [Nat.zero_add]
theorem ld_grad (F : ℕ → ℕ → ℕ → ℝ) (n : ℕ) (h) : ldGrad (c3 F) n h = c3 fun j k l => F (n + j) k l := by
  refine (ld3 F n 0 0 1 256 128 h).trans (c3_congr fun j _ k _ l _ => ?_); simp only [Nat.zero_add]

/-- A head's blocks: columns of the shared ones. -/
def hd (B : FVec Ideal S128x512 .f32) (x0 x1 x2 x7 x9 : FVec Ideal S128x1024 .f32) (x6 : FVec Ideal S1x1024 .f32)
    (x8 : FVec Ideal S1x4x256x128 .f32) (z : FVec Ideal S4x256x128 .f32) (n ob ok ov : ℕ)
    (hb : Shape.Slices S128x512 ![0, ob] S128x128) (hq : Shape.Slices S128x1024 ![0, ob] S128x128)
    (hk : Shape.Slices S128x1024 ![0, ok] S128x128) (hv : ∀ a, (![0, ov] : Fin 2 → Nat) a + S128x256.size a ≤ S128x1024.size a)
    (hg : ∀ a, (![0, ov] : Fin 2 → Nat) a + S1x256.size a ≤ S1x1024.size a)
    (hs : ∀ a, (![0, n, 0, 0] : Fin 4 → Nat) a + S1x1x256x128.size a ≤ S1x4x256x128.size a)
    (ht : ∀ a, (![n, 0, 0] : Fin 3 → Nat) a + S1x256x128.size a ≤ S4x256x128.size a) : Blk where
  b := extractStridedSlice S128x128 ![0, ob] B hb
  q := extractStridedSlice S128x128 ![0, ob] x0 hq
  k := extractStridedSlice S128x128 ![0, ok] x0 hk
  v := ldCols x1 ov hv
  o := shapeCast S128x256 (ldCols x7 ov hv) shapeCasts_S128x256_S128x256
  r := ldCols x2 ov hv
  d := ldCols x9 ov hv
  g := ldRow x6 ov hg
  s := shapeCast S256x128 (ldState x8 n hs) shapeCasts_S1x1x256x128_S256x128
  t := shapeCast S256x128 (ldGrad z n ht) shapeCasts_S1x256x128_S256x128

/-- The four heads. -/
def hd0 B x0 x1 x2 x7 x9 x6 x8 z := hd B x0 x1 x2 x7 x9 x6 x8 z 0 0 512 0 slices_S128x512_o0_0_S128x128 slices_S128x1024_o0_0_S128x128
  slices_S128x1024_o0_512_S128x128 inb_S128x1024_S128x256_0_0 inb_S1x1024_S1x256_0_0 inb_S1x4x256x128_S1x1x256x128_0_0_0_0 inb_S4x256x128_S1x256x128_0_0_0
def hd1 B x0 x1 x2 x7 x9 x6 x8 z := hd B x0 x1 x2 x7 x9 x6 x8 z 1 128 640 256 slices_S128x512_o0_128_S128x128 slices_S128x1024_o0_128_S128x128
  slices_S128x1024_o0_640_S128x128 inb_S128x1024_S128x256_0_256 inb_S1x1024_S1x256_0_256 inb_S1x4x256x128_S1x1x256x128_0_1_0_0 inb_S4x256x128_S1x256x128_1_0_0
def hd2 B x0 x1 x2 x7 x9 x6 x8 z := hd B x0 x1 x2 x7 x9 x6 x8 z 2 256 768 512 slices_S128x512_o0_256_S128x128 slices_S128x1024_o0_256_S128x128
  slices_S128x1024_o0_768_S128x128 inb_S128x1024_S128x256_0_512 inb_S1x1024_S1x256_0_512 inb_S1x4x256x128_S1x1x256x128_0_2_0_0 inb_S4x256x128_S1x256x128_2_0_0
def hd3 B x0 x1 x2 x7 x9 x6 x8 z := hd B x0 x1 x2 x7 x9 x6 x8 z 3 384 896 768 slices_S128x512_o0_384_S128x128 slices_S128x1024_o0_384_S128x128
  slices_S128x1024_o0_896_S128x128 inb_S128x1024_S128x256_0_768 inb_S1x1024_S1x256_0_768 inb_S1x4x256x128_S1x1x256x128_0_3_0_0 inb_S4x256x128_S1x256x128_3_0_0

variable (I : Inp) (c : ℕ)

/-- The blocks of chunk `c`: queries and keys, values, gates, the decay's input, its factor and bias, the norm's weight, the
    outputs before the norm, the states, the gradient, the state gradients carried from the chunk after. -/
def X0 : FVec Ideal S128x1024 .f32 := c2 fun i j => I.x (128 * c + i) j
def X1 : FVec Ideal S128x1024 .f32 := c2 fun i j => I.x (128 * c + i) (1024 + j)
def X2 : FVec Ideal S128x1024 .f32 := c2 fun i j => I.x (128 * c + i) (2048 + j)
def X3 : FVec Ideal S128x128 .f32 := c2 fun i j => I.a (128 * c + i) j
def X4 : FVec Ideal S128x512 .bf16 := c2 I.w
def X5 : FVec Ideal S1x512 .f32 := c2 I.b
def X6 : FVec Ideal S1x1024 .f32 := c2 I.g
def X7 : FVec Ideal S128x1024 .f32 := c2 fun i j => I.o (j / 256) (128 * c + i) (j % 256)
def X8 : FVec Ideal S1x4x256x128 .f32 := c4 fun _ n v u => st (I.k n) (I.gl n) (I.v n) c v u
def X9 : FVec Ideal S128x1024 .f32 := c2 fun i j => I.d (128 * c + i) j
def Z : FVec Ideal S4x256x128 .f32 := c3 fun n v u => ds (I.q n) (I.gl n) (I.dO n) c v u
/-- The running decay of the chunk. -/
def BB : FVec Ideal S128x512 .f32 := c2 fun i j => loc (I.gl (j / 128)) c i (j % 128)

/-- A head's blocks are the head's numbers. -/
theorem hd_blk (n ob ok ov : ℕ) (eb : ob = n * 128) (ek : ok = 512 + n * 128) (ev : ov = n * 256) (hb hq hk hv hg hs ht) :
    hd (BB I c) (X0 I c) (X1 I c) (X2 I c) (X7 I c) (X9 I c) (X6 I) (X8 I c) (Z I (c + 1)) n ob ok ov hb hq hk hv hg hs ht = (I.num n c).blk := by
  subst eb ek ev
  have e0 : extractStridedSlice S128x128 ![0, n * 128] (BB I c) hb = c2 (I.num n c).b := by
    unfold BB; rw [slice_c2]
    refine c2_congr fun i _ j hj => ?_
    rw [show (n * 128 + j) / 128 = n by omega, show (n * 128 + j) % 128 = j by omega, Nat.zero_add]; rfl
  have e1 : extractStridedSlice S128x128 ![0, n * 128] (X0 I c) hq = c2 (I.num n c).q := by
    unfold X0; rw [slice_c2]; refine c2_congr fun i _ j hj => ?_; rw [Nat.zero_add]; rfl
  have e2 : extractStridedSlice S128x128 ![0, 512 + n * 128] (X0 I c) hk = c2 (I.num n c).k := by
    unfold X0; rw [slice_c2]; refine c2_congr fun i _ j hj => ?_; rw [Nat.zero_add, Nat.add_assoc]; rfl
  have e3 := ld_cols (fun i j => I.x (128 * c + i) (1024 + j)) (n * 256) hv
  have e4 : ldCols (X7 I c) (n * 256) hv = c2 (I.num n c).o := by
    unfold X7; rw [ld_cols]; refine c2_congr fun i _ j hj => ?_
    rw [show (n * 256 + j) / 256 = n by omega, show (n * 256 + j) % 256 = j by omega]; rfl
  have e5 := ld_cols (fun i j => I.x (128 * c + i) (2048 + j)) (n * 256) hv
  have e6 := ld_cols (fun i j => I.d (128 * c + i) j) (n * 256) hv
  have e7 : ldRow (X6 I) (n * 256) hg = c2 (I.num n c).g := by
    unfold X6; rw [ld_row]; refine c2_congr fun i hi j hj => ?_; rw [show i = 0 by omega]; rfl
  have e8 := ld_state (fun _ n v u => st (I.k n) (I.gl n) (I.v n) c v u) n hs
  have e9 := ld_grad (fun n v u => ds (I.q n) (I.gl n) (I.dO n) (c + 1) v u) n ht
  unfold hd
  rw [e0, e1, e2, shapeCast_self, e4, e7]
  unfold X1 X2 X9 X8 Z
  rw [e3, e5, e6, e8, e9, drop3, drop4]
  rfl

/-- The four heads of chunk `c`. -/
theorem hd0_blk : hd0 (BB I c) (X0 I c) (X1 I c) (X2 I c) (X7 I c) (X9 I c) (X6 I) (X8 I c) (Z I (c + 1)) = (I.num 0 c).blk := hd_blk I c _ _ _ _ rfl rfl rfl _ _ _ _ _ _ _
theorem hd1_blk : hd1 (BB I c) (X0 I c) (X1 I c) (X2 I c) (X7 I c) (X9 I c) (X6 I) (X8 I c) (Z I (c + 1)) = (I.num 1 c).blk := hd_blk I c _ _ _ _ rfl rfl rfl _ _ _ _ _ _ _
theorem hd2_blk : hd2 (BB I c) (X0 I c) (X1 I c) (X2 I c) (X7 I c) (X9 I c) (X6 I) (X8 I c) (Z I (c + 1)) = (I.num 2 c).blk := hd_blk I c _ _ _ _ rfl rfl rfl _ _ _ _ _ _ _
theorem hd3_blk : hd3 (BB I c) (X0 I c) (X1 I c) (X2 I c) (X7 I c) (X9 I c) (X6 I) (X8 I c) (Z I (c + 1)) = (I.num 3 c).blk := hd_blk I c _ _ _ _ rfl rfl rfl _ _ _ _ _ _ _

/-- The decay's logit at the chunk's rows. -/
theorem pay9_c2 : k0_pay9 (X3 I c) (X4 I) (X5 I) = c2 fun i j => I.gp (128 * c + i) j := by
  unfold k0_pay9 X3 X4 X5
  dsimp only
  rw [truncf_c2, mm_gp, rows512, addf_c2]; rfl

/-- The running decay: a sum over the rows before, as a product with a triangle of ones. -/
theorem pay11_c2 : k0_pay11 (X3 I c) (X4 I) (X5 I) = BB I c := by
  unfold k0_pay11
  dsimp only
  rw [low_real, pay9_c2, broadcast_const, broadcast_const, broadcast_const, const_c2 of_zero, const_c2 of_one, const_c2 of_16th, minimumf_c2, absf_c2,
    subf_c2, exp_c2, addf_c2, log_c2 _ (fun _ _ => by positivity), subf_c2, mulf_c2, ← const_c2 of_zero, mm_gp]
  refine c2_congr fun i _ j hj => ?_
  unfold loc
  refine Finset.sum_congr rfl fun s _ => ?_
  simp only [sp_min]
  unfold Inp.gl
  rw [show j / 128 * 128 + j % 128 = j by omega]
  split_ifs <;> ring

end Cert.Gla.Ker
end
-- ==== Proof.Points.lean ====
/- Hand-written, untrusted: WHAT A GRID POINT STORES. Each of the kernel's stores is a block of the gradient: the state gradients
   handed on, the gradient's columns, and the running sums of the weights' gradients. -/
module

public import proofs.«01_k».proof.Proof.Blocks
public import Idealize.ShloMosaic.Lib.Pipeline.ReadBack

@[expose] public section

set_option maxRecDepth 16384

noncomputable section

namespace Cert.Gla.Ker

open Idealize.ShloMosaic Cert.KernelIdeal Cert.KernelIdeal.Gen

section
variable (I : Inp) (n : ℕ)

/-- The four heads of chunk `n`, from the blocks a point reads. -/
def H0 : Blk := hd0 (k0_pay11 (X3 I n) (X4 I) (X5 I)) (X0 I n) (X1 I n) (X2 I n) (X7 I n) (X9 I n) (X6 I) (X8 I n) (Z I (n + 1))
def H1 : Blk := hd1 (k0_pay11 (X3 I n) (X4 I) (X5 I)) (X0 I n) (X1 I n) (X2 I n) (X7 I n) (X9 I n) (X6 I) (X8 I n) (Z I (n + 1))
def H2 : Blk := hd2 (k0_pay11 (X3 I n) (X4 I) (X5 I)) (X0 I n) (X1 I n) (X2 I n) (X7 I n) (X9 I n) (X6 I) (X8 I n) (Z I (n + 1))
def H3 : Blk := hd3 (k0_pay11 (X3 I n) (X4 I) (X5 I)) (X0 I n) (X1 I n) (X2 I n) (X7 I n) (X9 I n) (X6 I) (X8 I n) (Z I (n + 1))
theorem H0_eq : H0 I n = (I.num 0 n).blk := by unfold H0; rw [pay11_c2, hd0_blk]
theorem H1_eq : H1 I n = (I.num 1 n).blk := by unfold H1; rw [pay11_c2, hd1_blk]
theorem H2_eq : H2 I n = (I.num 2 n).blk := by unfold H2; rw [pay11_c2, hd2_blk]
theorem H3_eq : H3 I n = (I.num 3 n).blk := by unfold H3; rw [pay11_c2, hd3_blk]

theorem off2 : (![0, 0] : Fin 2 → Nat) = fun _ => 0 := funext fun a => by fin_cases a <;> rfl

/-! ### A store as a block of the whole -/

/-- A head's state gradient is a slab of the state gradients. -/
theorem cons_dt (m : ℕ) (hn : n < 16) (h) (inb) (x : Blk) (hx : x = (I.num m n).blk) (w : FVec Ideal S1x256x128 .f32) (hw : w = shapeCast S1x256x128 x.dt h)
    {L : List (View.Piece (Elt Ideal) S4x256x128 .f32)} (hL : View.PiecesOf (Z I n) L) :
    View.PiecesOf (Z I n) (⟨Rect.unit (s := S4x256x128) ![m, 0, 0] S1x256x128.size inb, w⟩ :: L) := by
  refine ⟨?_, hL⟩
  intro x
  subst hx
  dsimp only
  rw [hw, Num.dt_c2, lift3]
  have h0 : (x 0).val < 1 := (x 0).isLt
  have e0 : ((Rect.unit (s := S4x256x128) ![m, 0, 0] S1x256x128.size inb).emb x 0).val = m := by
    change m + 1 * (x 0).val = m; omega
  have e1 : ((Rect.unit (s := S4x256x128) ![m, 0, 0] S1x256x128.size inb).emb x 1).val = (x 1).val := by
    change 0 + 1 * (x 1).val = _; omega
  have e2 : ((Rect.unit (s := S4x256x128) ![m, 0, 0] S1x256x128.size inb).emb x 2).val = (x 2).val := by
    change 0 + 1 * (x 2).val = _; omega
  change ((_ : ℝ) : EReal) = ((ds (I.q _) (I.gl _) (I.dO _) n _ _ : ℝ) : EReal)
  rw [e0, e1, e2]; exact congrArg _ (Inp.num_dt hn _ _)

/-- A store of 128 columns is a block of the matrix. -/
theorem cons128 (F M : ℕ → ℕ → ℝ) (q : ℕ) (inb) (w : FVec Ideal S128x128 .bf16) (hw : w = c2 M) (hM : ∀ i < 128, ∀ j < 128, M i j = F i (q + j))
    {L : List (View.Piece (Elt Ideal) S128x3072 .bf16)} (hL : View.PiecesOf (c2 F : FVec Ideal S128x3072 .bf16) L) :
    View.PiecesOf (c2 F : FVec Ideal S128x3072 .bf16) (⟨Rect.unit (s := S128x3072) ![0, q] S128x128.size inb, w⟩ :: L) := by
  refine ⟨fun x => ?_, hL⟩
  have e0 : ((Rect.unit (s := S128x3072) ![0, q] S128x128.size inb).emb x 0).val = (x 0).val := by change 0 + 1 * (x 0).val = _; omega
  have e1 : ((Rect.unit (s := S128x3072) ![0, q] S128x128.size inb).emb x 1).val = q + (x 1).val := by change q + 1 * (x 1).val = _; omega
  change w x = ((F _ _ : ℝ) : EReal)
  rw [hw, e0, e1, ← hM _ (x 0).isLt _ (x 1).isLt]; rfl
/-- A store of 256 columns is. -/
theorem cons256 (F M : ℕ → ℕ → ℝ) (q : ℕ) (inb) (w : FVec Ideal S128x256 .bf16) (hw : w = c2 M) (hM : ∀ i < 128, ∀ j < 256, M i j = F i (q + j))
    {L : List (View.Piece (Elt Ideal) S128x3072 .bf16)} (hL : View.PiecesOf (c2 F : FVec Ideal S128x3072 .bf16) L) :
    View.PiecesOf (c2 F : FVec Ideal S128x3072 .bf16) (⟨Rect.unit (s := S128x3072) ![0, q] S128x256.size inb, w⟩ :: L) := by
  refine ⟨fun x => ?_, hL⟩
  have e0 : ((Rect.unit (s := S128x3072) ![0, q] S128x256.size inb).emb x 0).val = (x 0).val := by change 0 + 1 * (x 0).val = _; omega
  have e1 : ((Rect.unit (s := S128x3072) ![0, q] S128x256.size inb).emb x 1).val = q + (x 1).val := by change q + 1 * (x 1).val = _; omega
  change w x = ((F _ _ : ℝ) : EReal)
  rw [hw, e0, e1, ← hM _ (x 0).isLt _ (x 1).isLt]; rfl
/-- A store of 256 entries of a row is. -/
theorem consRow (F M : ℕ → ℕ → ℝ) (q : ℕ) (inb) (w : FVec Ideal S1x256 .f32) (hw : w = c2 M) (hM : ∀ i < 1, ∀ j < 256, M i j = F i (q + j))
    {L : List (View.Piece (Elt Ideal) S1x1024 .f32)} (hL : View.PiecesOf (c2 F : FVec Ideal S1x1024 .f32) L) :
    View.PiecesOf (c2 F : FVec Ideal S1x1024 .f32) (⟨Rect.unit (s := S1x1024) ![0, q] S1x256.size inb, w⟩ :: L) := by
  refine ⟨fun x => ?_, hL⟩
  have e0 : ((Rect.unit (s := S1x1024) ![0, q] S1x256.size inb).emb x 0).val = (x 0).val := by change 0 + 1 * (x 0).val = _; omega
  have e1 : ((Rect.unit (s := S1x1024) ![0, q] S1x256.size inb).emb x 1).val = q + (x 1).val := by change q + 1 * (x 1).val = _; omega
  change w x = ((F _ _ : ℝ) : EReal)
  rw [hw, e0, e1, ← hM _ (x 0).isLt _ (x 1).isLt]; rfl

/-- The rows of the gradient of the projections. -/
def DX (i j : ℕ) : ℝ := I.dx (128 * n + i) j

variable {n}
/-- The query's columns. -/
theorem dx_q (m : ℕ) (hm : m < 4) (hn : n < 16) (i : ℕ) (hi : i < 128) (j : ℕ) (hj : j < 128) : (I.num m n).dq i j = DX I n i (m * 128 + j) := by
  unfold DX Inp.dx
  rw [if_neg (by omega), if_neg (by omega), if_neg (by omega), if_pos (by omega), show (m * 128 + j) / 128 = m by omega, show (m * 128 + j) % 128 = j by omega]
  rw [← Inp.num_dq hn ⟨i, hi⟩]; ring
/-- The key's. -/
theorem dx_k (m : ℕ) (hm : m < 4) (hn : n < 16) (i : ℕ) (hi : i < 128) (j : ℕ) (hj : j < 128) : (I.num m n).dk i j = DX I n i (512 + m * 128 + j) := by
  unfold DX Inp.dx
  rw [if_neg (by omega), if_neg (by omega), if_pos (by omega), if_neg (by omega), show (512 + m * 128 + j - 512) / 128 = m by omega, show (512 + m * 128 + j - 512) % 128 = j by omega]
  rw [← Inp.num_dk hn ⟨i, hi⟩]; ring
/-- The value's. -/
theorem dx_v (m : ℕ) (hm : m < 4) (hn : n < 16) (i : ℕ) (hi : i < 128) (j : ℕ) (hj : j < 256) : (I.num m n).dv i j = DX I n i (1024 + m * 256 + j) := by
  unfold DX Inp.dx
  rw [if_neg (by omega), if_pos (by omega), if_neg (by omega), if_neg (by omega), show (1024 + m * 256 + j - 1024) / 256 = m by omega, show (1024 + m * 256 + j - 1024) % 256 = j by omega]
  rw [← Inp.num_dv hn ⟨i, hi⟩]; ring
/-- The gate's. -/
theorem dx_r (m : ℕ) (hm : m < 4) (i : ℕ) (hi : i < 128) (j : ℕ) (hj : j < 256) : (I.num m n).dr i j = DX I n i (2048 + m * 256 + j) := by
  unfold DX Inp.dx
  rw [if_pos (by omega), if_neg (by omega), if_neg (by omega), if_neg (by omega), show 2048 + m * 256 + j - 2048 = m * 256 + j by omega, Inp.num_dr _ _ _ _ _ hj]; ring

/-- The gradient of the decay's logit, from the four heads' gradients of the log decay. -/
def logit (G : FVec Ideal S128x512 .f32) (d0 d1 d2 d3 : FVec Ideal S128x128 .f32) : FVec Ideal S128x512 .f32 :=
  mulf (mulf (concatenate S128x512 1 [⟨S128x128, d0⟩, ⟨S128x128, d1⟩, ⟨S128x128, d2⟩, ⟨S128x128, d3⟩] concatenates_S128x128_S128x128_S128x128_S128x128_S128x512_d1)
      (broadcast S128x512 (Scalar.ofBits .f32 0x3D800000#32)))
    (addf (mulf (broadcast S128x512 (Scalar.ofBits .f32 0x3F000000#32)) (tanh (mulf (broadcast S128x512 (Scalar.ofBits .f32 0x3F000000#32))
      (subf (broadcast S128x512 (Scalar.ofBits .f32 0x00000000#32)) G)))) (broadcast S128x512 (Scalar.ofBits .f32 0x3F000000#32)))
variable (n)
/-- As a grid point computes it. -/
def LG : FVec Ideal S128x512 .f32 := logit (k0_pay9 (X3 I n) (X4 I) (X5 I)) (H0 I n).dl (H1 I n).dl (H2 I n).dl (H3 I n).dl
variable {n}
theorem LG_eq (hn : n < 16) : LG I n = c2 fun i j => I.dgp (128 * n + i) j := by
  unfold LG
  rw [H0_eq, H1_eq, H2_eq, H3_eq, Num.dl_c2, Num.dl_c2, Num.dl_c2, Num.dl_c2, pay9_c2]
  unfold logit
  rw [heads, broadcast_const, broadcast_const, broadcast_const, const_c2 of_zero, const_c2 of_half, const_c2 of_16th, subf_c2, mulf_c2, mulf_c2, tanh_c2,
    mulf_c2, addf_c2, mulf_c2]
  refine c2_congr fun i hi j hj => ?_
  have key : (if j < 128 then (I.num 0 n).dl i j else if j - 128 < 128 then (I.num 1 n).dl i (j - 128) else if j - 128 - 128 < 128 then (I.num 2 n).dl i (j - 128 - 128)
      else (I.num 3 n).dl i (j - 128 - 128 - 128)) = I.dgl (j / 128) (128 * n + i) (j % 128) := by
    have t (m u : ℕ) : (I.num m n).dl i u = I.dgl m (128 * n + i) u := Inp.num_dl hn ⟨i, hi⟩ u
    simp only [t]
    split_ifs
    · rw [show j / 128 = 0 by omega, show j % 128 = j by omega]
    · rw [show j / 128 = 1 by omega, show j % 128 = j - 128 by omega]
    · rw [show j / 128 = 2 by omega, show j % 128 = j - 128 - 128 by omega]
    · rw [show j / 128 = 3 by omega, show j % 128 = j - 128 - 128 - 128 by omega]
  rw [key, sig_tanh, zero_sub, neg_neg]
  unfold Inp.dgp
  rw [sig_sp]
  ring

/-- A chunk's part of the gradient of the decay's second factor. -/
theorem dw_step (hn : n < 16) (Y : ℕ → ℕ → ℝ) : k0_pay3 (LG I n) (c2 Y : FVec Ideal S128x512 .f32) (X3 I n) = c2 fun k j => Y k j + ∑ i : Fin 128, I.dgp (128 * n + i) j * I.a (128 * n + i) k := by
  rw [LG_eq I hn]
  unfold k0_pay3 k0_pay2 X3
  dsimp only
  rw [shapeCast_self, truncf_c2, truncf_c2, mm_dw, addf_c2]
  refine c2_congr fun k _ j _ => ?_
  congr 1
  exact Finset.sum_congr rfl fun i _ => mul_comm _ _
/-- Its part of the gradient of the decay's bias. -/
theorem dbias_step (hn : n < 16) (Y : ℕ → ℕ → ℝ) : k0_pay1 (LG I n) (c2 Y : FVec Ideal S1x512 .f32) = c2 fun k j => Y k j + ∑ i : Fin 128, I.dgp (128 * n + i) j := by
  change addf (shapeCast S1x512 (c2 Y : FVec Ideal S1x512 .f32) _) (sumRow512 (LG I n)) = _
  rw [LG_eq I hn, shapeCast_self, sumRow512_c2, addf_c2]
/-- Its rows of the gradient of the decay's input. -/
theorem da_step (hn : n < 16) : k0_pay4 (LG I n) (X4 I) = c2 fun i j => I.da (128 * n + i) j := by
  rw [LG_eq I hn]
  unfold k0_pay4 k0_pay2 X4
  dsimp only
  rw [truncf_c2, mm_da, truncf_c2]
  rfl
/-- Its part of the gradient of the norm's weight. -/
theorem dgg_step (m : ℕ) (x : Blk) (hx : x = (I.num m n).blk) (ov : ℕ) (h h') (e : ov = m * 256) (Y : ℕ → ℕ → ℝ) :
    addf (shapeCast S1x256 (ldRow (c2 Y) ov h) h') x.dgg = c2 fun i j => Y i (ov + j) + (I.num m n).dgg j := by
  rw [hx, Num.dgg_c2, shapeCast_self, ld_row, addf_c2]
variable (n)
/-- Over what was there, a chunk's part of the gradient of the norm's weight. -/
def GG (Y : ℕ → ℕ → ℝ) (i j : ℕ) : ℝ := Y i j + ∑ s : Fin 128, I.on (128 * n + s) j * I.dog (128 * n + s) j
variable {n}
theorem gg (m : ℕ) (_ : m < 4) (Y : ℕ → ℕ → ℝ) (i : ℕ) (_ : i < 1) (j : ℕ) (hj : j < 256) : Y i (m * 256 + j) + (I.num m n).dgg j = GG I n Y i (m * 256 + j) := by
  rw [Inp.num_dgg _ hj]; rfl

/-- The stores of a head's columns. -/
theorem dq_store (m : ℕ) (x : Blk) (hx : x = (I.num m n).blk) : truncf .bf16 x.dq bitsLt_bf16_f32 = c2 (I.num m n).dq := by rw [hx, Num.dq_c2, truncf_c2]
theorem dk_store (m : ℕ) (x : Blk) (hx : x = (I.num m n).blk) : truncf .bf16 x.dk bitsLt_bf16_f32 = c2 (I.num m n).dk := by rw [hx, Num.dk_c2, truncf_c2]
theorem dv_store (m : ℕ) (x : Blk) (hx : x = (I.num m n).blk) : truncf .bf16 x.dv bitsLt_bf16_f32 = c2 (I.num m n).dv := by rw [hx, Num.dv_c2, truncf_c2]
theorem dr_store (m : ℕ) (x : Blk) (hx : x = (I.num m n).blk) : truncf .bf16 x.dr bitsLt_bf16_f32 = c2 (I.num m n).dr := by rw [hx, Num.dr_c2, truncf_c2]
end

variable (c : Dev nD) (i : grid0.Coords)
variable (a1 : Memref sig .tc .vmem S128x1024 .f32) (h1 : a1.IsWhole)
variable (a2 : Memref sig .tc .vmem S128x1024 .f32) (h2 : a2.IsWhole)
variable (a3 : Memref sig .tc .vmem S128x1024 .f32) (h3 : a3.IsWhole)
variable (a4 : Memref sig .tc .vmem S128x128 .f32) (h4 : a4.IsWhole)
variable (a5 : Memref sig .tc .vmem S128x512 .bf16) (h5 : a5.IsWhole)
variable (a6 : Memref sig .tc .vmem S1x512 .f32) (h6 : a6.IsWhole)
variable (a7 : Memref sig .tc .vmem S1x1024 .f32) (h7 : a7.IsWhole)
variable (a8 : Memref sig .tc .vmem S128x1024 .f32) (h8 : a8.IsWhole)
variable (a9 : Memref sig .tc .vmem S1x4x256x128 .f32) (h9 : a9.IsWhole)
variable (a10 : Memref sig .tc .vmem S128x1024 .f32) (h10 : a10.IsWhole)
variable (a11 : Memref sig .tc .vmem S128x3072 .bf16) (h11 : a11.IsWhole)
variable (a12 : Memref sig .tc .vmem S128x128 .bf16) (h12 : a12.IsWhole)
variable (a13 : Memref sig .tc .vmem S128x512 .f32) (h13 : a13.IsWhole)
variable (a14 : Memref sig .tc .vmem S1x512 .f32) (h14 : a14.IsWhole)
variable (a15 : Memref sig .tc .vmem S1x1024 .f32) (h15 : a15.IsWhole)
variable (a16 : Memref sig .tc .vmem S4x256x128 .f32) (h16 : a16.IsWhole)
variable (I : Inp) (n : ℕ)

variable (Y12 Y13 Y14 : ℕ → ℕ → ℝ)

/-- A point hands on the state gradients before its chunk. -/
theorem scratch_B (hn : n < 16) (hc : ¬cond0_0 i) : sout0_B_0 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)) = Z I n := by
  unfold sout0_B_0
  refine (View.read_writes_eq_canon _ _ _ (scover0_B_0 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)))).trans ?_
  have hcov := scover0_B_0 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1))
  revert hcov
  unfold kernelRun0_B
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  funext y
  refine View.canon_apply_of_pieces _ _ (View.PiecesOf.mem ?_) y (hcov y)
  simp only [View.ld_unit_zero (S := S128x1024) off2, View.ld_unit_zero (S := S128x128) off2, View.ld_unit_zero (S := S128x512) off2, View.ld_unit_zero (S := S1x512) off2]
  clear hcov
  refine cons_dt I n 3 hn shapeCasts_S256x128_S1x256x128 _ (H3 I n) (H3_eq I n) _ rfl ?_
  refine cons_dt I n 2 hn shapeCasts_S256x128_S1x256x128 _ (H2 I n) (H2_eq I n) _ rfl ?_
  refine cons_dt I n 1 hn shapeCasts_S256x128_S1x256x128 _ (H1 I n) (H1_eq I n) _ rfl ?_
  refine cons_dt I n 0 hn shapeCasts_S256x128_S1x256x128 _ (H0 I n) (H0_eq I n) _ rfl ?_
  trivial

/-- A point stores its rows of the gradient of the projections. -/
theorem dx_B (hn : n < 16) (hc : ¬cond0_0 i) : out0_B_10 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)) = (c2 (DX I n) : FVec Ideal S128x3072 .bf16) := by
  unfold out0_B_10
  refine (View.read_writes_eq_canon _ _ _ (cover0_B_10 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)))).trans ?_
  have hcov := cover0_B_10 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1))
  revert hcov
  unfold kernelRun0_B
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  funext y
  refine View.canon_apply_of_pieces _ _ (View.PiecesOf.mem ?_) y (hcov y)
  simp only [View.ld_unit_zero (S := S128x1024) off2, View.ld_unit_zero (S := S128x128) off2, View.ld_unit_zero (S := S128x512) off2, View.ld_unit_zero (S := S1x512) off2]
  clear hcov
  refine cons256 (DX I n) _ 2816 _ _ (dr_store I 3 _ (H3_eq I n)) (dx_r I 3 (by decide)) ?_
  refine cons256 (DX I n) _ 1792 _ _ (dv_store I 3 _ (H3_eq I n)) (dx_v I 3 (by decide) hn) ?_
  refine cons128 (DX I n) _ 896 _ _ (dk_store I 3 _ (H3_eq I n)) (dx_k I 3 (by decide) hn) ?_
  refine cons128 (DX I n) _ 384 _ _ (dq_store I 3 _ (H3_eq I n)) (dx_q I 3 (by decide) hn) ?_
  refine cons256 (DX I n) _ 2560 _ _ (dr_store I 2 _ (H2_eq I n)) (dx_r I 2 (by decide)) ?_
  refine cons256 (DX I n) _ 1536 _ _ (dv_store I 2 _ (H2_eq I n)) (dx_v I 2 (by decide) hn) ?_
  refine cons128 (DX I n) _ 768 _ _ (dk_store I 2 _ (H2_eq I n)) (dx_k I 2 (by decide) hn) ?_
  refine cons128 (DX I n) _ 256 _ _ (dq_store I 2 _ (H2_eq I n)) (dx_q I 2 (by decide) hn) ?_
  refine cons256 (DX I n) _ 2304 _ _ (dr_store I 1 _ (H1_eq I n)) (dx_r I 1 (by decide)) ?_
  refine cons256 (DX I n) _ 1280 _ _ (dv_store I 1 _ (H1_eq I n)) (dx_v I 1 (by decide) hn) ?_
  refine cons128 (DX I n) _ 640 _ _ (dk_store I 1 _ (H1_eq I n)) (dx_k I 1 (by decide) hn) ?_
  refine cons128 (DX I n) _ 128 _ _ (dq_store I 1 _ (H1_eq I n)) (dx_q I 1 (by decide) hn) ?_
  refine cons256 (DX I n) _ 2048 _ _ (dr_store I 0 _ (H0_eq I n)) (dx_r I 0 (by decide)) ?_
  refine cons256 (DX I n) _ 1024 _ _ (dv_store I 0 _ (H0_eq I n)) (dx_v I 0 (by decide) hn) ?_
  refine cons128 (DX I n) _ 512 _ _ (dk_store I 0 _ (H0_eq I n)) (dx_k I 0 (by decide) hn) ?_
  refine cons128 (DX I n) _ 0 _ _ (dq_store I 0 _ (H0_eq I n)) (dx_q I 0 (by decide) hn) ?_
  trivial

/-- Its rows of the gradient of the decay's input. -/
theorem da_B (hn : n < 16) (hc : ¬cond0_0 i) : out0_B_11 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)) = (c2 fun i j => I.da (128 * n + i) j : FVec Ideal S128x128 .bf16) := by
  unfold out0_B_11
  refine (View.read_writes_eq_canon _ _ _ (cover0_B_11 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)))).trans ?_
  have hcov := cover0_B_11 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1))
  revert hcov
  unfold kernelRun0_B
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  clear hcov
  simp only [View.ld_unit_zero (S := S128x1024) off2, View.ld_unit_zero (S := S128x128) off2, View.ld_unit_zero (S := S128x512) off2, View.ld_unit_zero (S := S1x512) off2]
  rw [View.canon_cons_unit_zero off2]
  exact da_step I hn

/-- Its part of the gradient of the decay's second factor is added. -/
theorem dw_B (hn : n < 16) (hc : ¬cond0_0 i) : out0_B_12 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)) = (c2 fun k j => Y12 k j + ∑ i : Fin 128, I.dgp (128 * n + i) j * I.a (128 * n + i) k : FVec Ideal S128x512 .f32) := by
  unfold out0_B_12
  refine (View.read_writes_eq_canon _ _ _ (cover0_B_12 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)))).trans ?_
  have hcov := cover0_B_12 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1))
  revert hcov
  unfold kernelRun0_B
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  clear hcov
  simp only [View.ld_unit_zero (S := S128x1024) off2, View.ld_unit_zero (S := S128x128) off2, View.ld_unit_zero (S := S128x512) off2, View.ld_unit_zero (S := S1x512) off2]
  rw [View.canon_cons_unit_zero off2]
  exact dw_step I hn Y12

/-- Its part of the gradient of the decay's bias is added. -/
theorem dbias_B (hn : n < 16) (hc : ¬cond0_0 i) : out0_B_13 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)) = (c2 fun k j => Y13 k j + ∑ i : Fin 128, I.dgp (128 * n + i) j : FVec Ideal S1x512 .f32) := by
  unfold out0_B_13
  refine (View.read_writes_eq_canon _ _ _ (cover0_B_13 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)))).trans ?_
  have hcov := cover0_B_13 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1))
  revert hcov
  unfold kernelRun0_B
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  clear hcov
  simp only [View.ld_unit_zero (S := S128x1024) off2, View.ld_unit_zero (S := S128x128) off2, View.ld_unit_zero (S := S128x512) off2, View.ld_unit_zero (S := S1x512) off2]
  rw [View.canon_cons_unit_zero off2]
  exact dbias_step I hn Y13

/-- Its part of the gradient of the norm's weight is added. -/
theorem dgain_B (hn : n < 16) (hc : ¬cond0_0 i) : out0_B_14 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)) = (c2 (GG I n Y14) : FVec Ideal S1x1024 .f32) := by
  unfold out0_B_14
  refine (View.read_writes_eq_canon _ _ _ (cover0_B_14 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1)))).trans ?_
  have hcov := cover0_B_14 (F := Ideal) c i a1 h1 a2 h2 a3 h3 a4 h4 a5 h5 a6 h6 a7 h7 a8 h8 a9 h9 a10 h10 a11 h11 a12 h12 a13 h13 a14 h14 a15 h15 a16 h16 hc (X0 I n) (X1 I n) (X2 I n) (X3 I n) (X4 I) (X5 I) (X6 I) (X7 I n) (X8 I n) (X9 I n) (c2 Y12 : FVec Ideal S128x512 .f32) (c2 Y13 : FVec Ideal S1x512 .f32) (c2 Y14 : FVec Ideal S1x1024 .f32) (Z I (n + 1))
  revert hcov
  unfold kernelRun0_B
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  funext y
  refine View.canon_apply_of_pieces _ _ (View.PiecesOf.mem ?_) y (hcov y)
  clear hcov
  refine consRow (GG I n Y14) _ 768 _ _ (dgg_step I 3 (H3 I n) (H3_eq I n) _ inb_S1x1024_S1x256_0_768 shapeCasts_S1x256_S1x256 rfl Y14) (gg I 3 (by decide) Y14) ?_
  refine consRow (GG I n Y14) _ 512 _ _ (dgg_step I 2 (H2 I n) (H2_eq I n) _ inb_S1x1024_S1x256_0_512 shapeCasts_S1x256_S1x256 rfl Y14) (gg I 2 (by decide) Y14) ?_
  refine consRow (GG I n Y14) _ 256 _ _ (dgg_step I 1 (H1 I n) (H1_eq I n) _ inb_S1x1024_S1x256_0_256 shapeCasts_S1x256_S1x256 rfl Y14) (gg I 1 (by decide) Y14) ?_
  refine consRow (GG I n Y14) _ 0 _ _ (dgg_step I 0 (H0 I n) (H0_eq I n) _ inb_S1x1024_S1x256_0_0 shapeCasts_S1x256_S1x256 rfl Y14) (gg I 0 (by decide) Y14) ?_
  trivial

end Cert.Gla.Ker
end
-- ==== Proof.PointsA.lean ====
/- Hand-written, untrusted: WHAT THE FIRST GRID POINT STORES: the same as any other, over buffers it has just filled with zeros. -/
module

public import proofs.«01_k».proof.Proof.Points
public import Idealize.ShloMosaic.Lib.Pipeline.ReadBack

@[expose] public section

set_option maxRecDepth 16384

noncomputable section

namespace Cert.Gla.Ker

open Idealize.ShloMosaic Cert.KernelIdeal Cert.KernelIdeal.Gen

variable (c : Dev nD) (i : grid0.Coords)
variable (a1 : Memref sig .tc .vmem S128x1024 .f32) (h1 : a1.IsWhole)
variable (a2 : Memref sig .tc .vmem S128x1024 .f32) (h2 : a2.IsWhole)
variable (a3 : Memref sig .tc .vmem S128x1024 .f32) (h3 : a3.IsWhole)
variable (a4 : Memref sig .tc .vmem S128x128 .f32) (h4 : a4.IsWhole)
variable (a5 : Memref sig .tc .vmem S128x512 .bf16) (h5 : a5.IsWhole)
variable (a6 : Memref sig .tc .vmem S1x512 .f32) (h6 : a6.IsWhole)
variable (a7 : Memref sig .tc .vmem S1x1024 .f32) (h7 : a7.IsWhole)
variable (a8 : Memref sig .tc .vmem S128x1024 .f32) (h8 : a8.IsWhole)
variable (a9 : Memref sig .tc .vmem S1x4x256x128 .f32) (h9 : a9.IsWhole)
variable (a10 : Memref sig .tc .vmem S128x1024 .f32) (h10 : a10.IsWhole)
variable (a11 : Memref sig .tc .vmem S128x3072 .bf16) (h11 : a11.IsWhole)
variable (a12 : Memref sig .tc .vmem S128x128 .bf16) (h12 : a12.IsWhole)
variable (a13 : Memref sig .tc .vmem S128x512 .f32) (h13 : a13.IsWhole)
variable (a14 : Memref sig .tc .vmem S1x512 .f32) (h14 : a14.IsWhole)
variable (a15 : Memref sig .tc .vmem S1x1024 .f32) (h15 : a15.IsWhole)
variable (a16 : Memref sig .tc .vmem S4x256x128 .f32) (h16 : a16.IsWhole)
variable (I : Inp)

theorem pay5_eq : k0_pay5 (F := Ideal) = Z I (15 + 1) := by
  unfold k0_pay5 Z
  dsimp only
  rw [shapeCast_self, broadcast_const, const_c3 of_zero]
  exact c3_congr fun _ _ _ _ _ _ => (ds_last _ _ _ _ _).symm
theorem pay6_eq : k0_pay6 (F := Ideal) = (c2 fun _ _ => 0 : FVec Ideal S128x512 .f32) := const_c2 of_zero
theorem pay7_eq : k0_pay7 (F := Ideal) = (c2 fun _ _ => 0 : FVec Ideal S1x512 .f32) := const_c2 of_zero
theorem pay8_eq : k0_pay8 (F := Ideal) = (c2 fun _ _ => 0 : FVec Ideal S1x1024 .f32) := const_c2 of_zero
theorem lt15 : 15 < 16 := by decide

/-! ### The four stores over a fill reach every entry -/

theorem in_slab (m : ℕ) (inb) (y : S4x256x128.Idx) (h : (y 0).val = m) : y ∈ (Rect.unit (s := S4x256x128) ![m, 0, 0] S1x256x128.size inb).set := by
  have h1 : (y 1).val < 256 := (y 1).isLt
  have h2 : (y 2).val < 128 := (y 2).isLt
  refine Rect.mem_set_unit.mpr fun a => ?_
  match a with
  | 0 => change m ≤ (y 0).val ∧ (y 0).val < m + 1; omega
  | 1 => change 0 ≤ (y 1).val ∧ (y 1).val < 0 + 256; omega
  | 2 => change 0 ≤ (y 2).val ∧ (y 2).val < 0 + 128; omega
theorem in_row (q : ℕ) (inb) (y : S1x1024.Idx) (h : q ≤ (y 1).val) (h' : (y 1).val < q + 256) : y ∈ (Rect.unit (s := S1x1024) ![0, q] S1x256.size inb).set := by
  have h0 : (y 0).val < 1 := (y 0).isLt
  refine Rect.mem_set_unit.mpr fun a => ?_
  match a with
  | 0 => change 0 ≤ (y 0).val ∧ (y 0).val < 0 + 1; omega
  | 1 => exact ⟨h, h'⟩
theorem slabs (i0 i1 i2 i3) (w0 w1 w2 w3) (y : S4x256x128.Idx) : ∃ p ∈ ([⟨Rect.unit (s := S4x256x128) ![3, 0, 0] S1x256x128.size i3, w3⟩, ⟨Rect.unit (s := S4x256x128) ![2, 0, 0] S1x256x128.size i2, w2⟩,
    ⟨Rect.unit (s := S4x256x128) ![1, 0, 0] S1x256x128.size i1, w1⟩, ⟨Rect.unit (s := S4x256x128) ![0, 0, 0] S1x256x128.size i0, w0⟩] : List (View.Piece (Elt Ideal) S4x256x128 .f32)), y ∈ p.1.set := by
  have h : (y 0).val < 4 := (y 0).isLt
  rcases (by omega : (y 0).val = 3 ∨ (y 0).val = 2 ∨ (y 0).val = 1 ∨ (y 0).val = 0) with e | e | e | e
  · exact ⟨_, .head _, in_slab 3 i3 y e⟩
  · exact ⟨_, .tail _ (.head _), in_slab 2 i2 y e⟩
  · exact ⟨_, .tail _ (.tail _ (.head _)), in_slab 1 i1 y e⟩
  · exact ⟨_, .tail _ (.tail _ (.tail _ (.head _))), in_slab 0 i0 y e⟩
theorem rows (i0 i1 i2 i3) (w0 w1 w2 w3) (y : S1x1024.Idx) : ∃ p ∈ ([⟨Rect.unit (s := S1x1024) ![0, 768] S1x256.size i3, w3⟩, ⟨Rect.unit (s := S1x1024) ![0, 512] S1x256.size i2, w2⟩,
    ⟨Rect.unit (s := S1x1024) ![0, 256] S1x256.size i1, w1⟩, ⟨Rect.unit (s := S1x1024) ![0, 0] S1x256.size i0, w0⟩] : List (View.Piece (Elt Ideal) S1x1024 .f32)), y ∈ p.1.set := by
  have h : (y 1).val < 1024 := (y 1).isLt
  rcases (by omega : 768 ≤ (y 1).val ∨ (512 ≤ (y 1).val ∧ (y 1).val < 768) ∨ (256 ≤ (y 1).val ∧ (y 1).val < 512) ∨ (y 1).val < 256) with e | e | e | e
  · exact ⟨_, .head _, in_row 768 i3 y e (by omega)⟩
  · exact ⟨_, .tail _ (.head _), in_row 512 i2 y e.1 (by omega)⟩
  · exact ⟨_, .tail _ (.tail _ (.head _)), in_row 256 i1 y e.1 (by omega)⟩
  · exact ⟨_, .tail _ (.tail _ (.tail _ (.head _))), in_row 0 i0 y (Nat.zero_le _) (by omega)⟩

/-- It hands on the state gradients before its chunk. -/
theorem scratch_A (hc : cond0_0 i) : sout0_A_0 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15) = Z I 15 := by
  unfold sout0_A_0
  refine (View.read_writes_eq_canon _ _ _ (scover0_A_0 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15))).trans ?_
  have hcov := scover0_A_0 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15)
  revert hcov
  unfold kernelRun0_A
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  funext y
  clear hcov
  simp (disch := decide) only [View.readCov_skip, View.readCov_fill, pay5_eq I]
  simp only [View.ld_unit_zero (S := S128x1024) off2, View.ld_unit_zero (S := S128x128) off2, View.ld_unit_zero (S := S128x512) off2, View.ld_unit_zero (S := S1x512) off2]
  refine View.canon_append_of_piecesOf (Z I 15) [_] [_, _, _, _] ?_ y (slabs _ _ _ _ _ _ _ _ y)
  refine cons_dt I 15 3 lt15 shapeCasts_S256x128_S1x256x128 _ (H3 I 15) (H3_eq I 15) _ rfl ?_
  refine cons_dt I 15 2 lt15 shapeCasts_S256x128_S1x256x128 _ (H2 I 15) (H2_eq I 15) _ rfl ?_
  refine cons_dt I 15 1 lt15 shapeCasts_S256x128_S1x256x128 _ (H1 I 15) (H1_eq I 15) _ rfl ?_
  refine cons_dt I 15 0 lt15 shapeCasts_S256x128_S1x256x128 _ (H0 I 15) (H0_eq I 15) _ rfl ?_
  trivial

/-- It stores its rows of the gradient of the projections. -/
theorem dx_A (hc : cond0_0 i) : out0_A_10 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15) = (c2 (DX I 15) : FVec Ideal S128x3072 .bf16) := by
  unfold out0_A_10
  refine (View.read_writes_eq_canon _ _ _ (cover0_A_10 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15))).trans ?_
  have hcov := cover0_A_10 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15)
  revert hcov
  unfold kernelRun0_A
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  funext y
  refine View.canon_apply_of_pieces _ _ (View.PiecesOf.mem ?_) y (hcov y)
  clear hcov
  simp (disch := decide) only [View.readCov_skip, View.readCov_fill, pay5_eq I]
  simp only [View.ld_unit_zero (S := S128x1024) off2, View.ld_unit_zero (S := S128x128) off2, View.ld_unit_zero (S := S128x512) off2, View.ld_unit_zero (S := S1x512) off2]
  refine cons256 (DX I 15) _ 2816 _ _ (dr_store I 3 _ (H3_eq I 15)) (dx_r I 3 (by decide)) ?_
  refine cons256 (DX I 15) _ 1792 _ _ (dv_store I 3 _ (H3_eq I 15)) (dx_v I 3 (by decide) lt15) ?_
  refine cons128 (DX I 15) _ 896 _ _ (dk_store I 3 _ (H3_eq I 15)) (dx_k I 3 (by decide) lt15) ?_
  refine cons128 (DX I 15) _ 384 _ _ (dq_store I 3 _ (H3_eq I 15)) (dx_q I 3 (by decide) lt15) ?_
  refine cons256 (DX I 15) _ 2560 _ _ (dr_store I 2 _ (H2_eq I 15)) (dx_r I 2 (by decide)) ?_
  refine cons256 (DX I 15) _ 1536 _ _ (dv_store I 2 _ (H2_eq I 15)) (dx_v I 2 (by decide) lt15) ?_
  refine cons128 (DX I 15) _ 768 _ _ (dk_store I 2 _ (H2_eq I 15)) (dx_k I 2 (by decide) lt15) ?_
  refine cons128 (DX I 15) _ 256 _ _ (dq_store I 2 _ (H2_eq I 15)) (dx_q I 2 (by decide) lt15) ?_
  refine cons256 (DX I 15) _ 2304 _ _ (dr_store I 1 _ (H1_eq I 15)) (dx_r I 1 (by decide)) ?_
  refine cons256 (DX I 15) _ 1280 _ _ (dv_store I 1 _ (H1_eq I 15)) (dx_v I 1 (by decide) lt15) ?_
  refine cons128 (DX I 15) _ 640 _ _ (dk_store I 1 _ (H1_eq I 15)) (dx_k I 1 (by decide) lt15) ?_
  refine cons128 (DX I 15) _ 128 _ _ (dq_store I 1 _ (H1_eq I 15)) (dx_q I 1 (by decide) lt15) ?_
  refine cons256 (DX I 15) _ 2048 _ _ (dr_store I 0 _ (H0_eq I 15)) (dx_r I 0 (by decide)) ?_
  refine cons256 (DX I 15) _ 1024 _ _ (dv_store I 0 _ (H0_eq I 15)) (dx_v I 0 (by decide) lt15) ?_
  refine cons128 (DX I 15) _ 512 _ _ (dk_store I 0 _ (H0_eq I 15)) (dx_k I 0 (by decide) lt15) ?_
  refine cons128 (DX I 15) _ 0 _ _ (dq_store I 0 _ (H0_eq I 15)) (dx_q I 0 (by decide) lt15) ?_
  trivial

/-- Its rows of the gradient of the decay's input. -/
theorem da_A (hc : cond0_0 i) : out0_A_11 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15) = (c2 fun i j => I.da (128 * 15 + i) j : FVec Ideal S128x128 .bf16) := by
  unfold out0_A_11
  refine (View.read_writes_eq_canon _ _ _ (cover0_A_11 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15))).trans ?_
  have hcov := cover0_A_11 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15)
  revert hcov
  unfold kernelRun0_A
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  clear hcov
  simp (disch := decide) only [View.readCov_skip, View.readCov_fill, pay5_eq I]
  simp only [View.ld_unit_zero (S := S128x1024) off2, View.ld_unit_zero (S := S128x128) off2, View.ld_unit_zero (S := S128x512) off2, View.ld_unit_zero (S := S1x512) off2]
  rw [View.canon_cons_unit_zero off2]
  exact da_step I lt15

/-- Its part of the gradient of the decay's second factor. -/
theorem dw_A (hc : cond0_0 i) : out0_A_12 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15) = (c2 fun k j => 0 + ∑ i : Fin 128, I.dgp (128 * 15 + i) j * I.a (128 * 15 + i) k : FVec Ideal S128x512 .f32) := by
  unfold out0_A_12
  refine (View.read_writes_eq_canon _ _ _ (cover0_A_12 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15))).trans ?_
  have hcov := cover0_A_12 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15)
  revert hcov
  unfold kernelRun0_A
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  clear hcov
  simp (disch := decide) only [View.readCov_skip, View.readCov_fill, pay5_eq I, pay6_eq]
  simp only [View.ld_unit_zero (S := S128x1024) off2, View.ld_unit_zero (S := S128x128) off2, View.ld_unit_zero (S := S128x512) off2, View.ld_unit_zero (S := S1x512) off2]
  rw [View.canon_cons_unit_zero off2]
  exact dw_step I lt15 fun _ _ => 0

/-- Its part of the gradient of the decay's bias. -/
theorem dbias_A (hc : cond0_0 i) : out0_A_13 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15) = (c2 fun k j => 0 + ∑ i : Fin 128, I.dgp (128 * 15 + i) j : FVec Ideal S1x512 .f32) := by
  unfold out0_A_13
  refine (View.read_writes_eq_canon _ _ _ (cover0_A_13 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15))).trans ?_
  have hcov := cover0_A_13 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15)
  revert hcov
  unfold kernelRun0_A
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  clear hcov
  simp (disch := decide) only [View.readCov_skip, View.readCov_fill, pay5_eq I, pay7_eq]
  simp only [View.ld_unit_zero (S := S128x1024) off2, View.ld_unit_zero (S := S128x128) off2, View.ld_unit_zero (S := S128x512) off2, View.ld_unit_zero (S := S1x512) off2]
  rw [View.canon_cons_unit_zero off2]
  exact dbias_step I lt15 fun _ _ => 0

/-- Its part of the gradient of the norm's weight. -/
theorem dgain_A (hc : cond0_0 i) : out0_A_14 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15) = (c2 (GG I 15 fun _ _ => 0) : FVec Ideal S1x1024 .f32) := by
  unfold out0_A_14
  refine (View.read_writes_eq_canon _ _ _ (cover0_A_14 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15))).trans ?_
  have hcov := cover0_A_14 (F := Ideal) c i a1 h1 a2 h2 a3 h3 a4 h4 a5 h5 a6 h6 a7 h7 a8 h8 a9 h9 a10 h10 a11 h11 a12 h12 a13 h13 a14 h14 a15 h15 a16 h16 hc (X0 I 15) (X1 I 15) (X2 I 15) (X3 I 15) (X4 I) (X5 I) (X6 I) (X7 I 15) (X8 I 15) (X9 I 15)
  revert hcov
  unfold kernelRun0_A
  dsimp only
  sl_unfold_words
  intro hcov
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread] at hcov ⊢
  funext y
  clear hcov
  simp (disch := decide) only [View.readCov_skip, View.readCov_fill, pay5_eq I, pay8_eq]
  refine View.canon_append_of_piecesOf (c2 (GG I 15 fun _ _ => 0) : FVec Ideal S1x1024 .f32) [_] [_, _, _, _] ?_ y (rows _ _ _ _ _ _ _ _ y)
  refine consRow (GG I 15 fun _ _ => 0) _ 768 _ _ (dgg_step I 3 (H3 I 15) (H3_eq I 15) _ inb_S1x1024_S1x256_0_768 shapeCasts_S1x256_S1x256 rfl fun _ _ => 0) (gg I 3 (by decide) fun _ _ => 0) ?_
  refine consRow (GG I 15 fun _ _ => 0) _ 512 _ _ (dgg_step I 2 (H2 I 15) (H2_eq I 15) _ inb_S1x1024_S1x256_0_512 shapeCasts_S1x256_S1x256 rfl fun _ _ => 0) (gg I 2 (by decide) fun _ _ => 0) ?_
  refine consRow (GG I 15 fun _ _ => 0) _ 256 _ _ (dgg_step I 1 (H1 I 15) (H1_eq I 15) _ inb_S1x1024_S1x256_0_256 shapeCasts_S1x256_S1x256 rfl fun _ _ => 0) (gg I 1 (by decide) fun _ _ => 0) ?_
  refine consRow (GG I 15 fun _ _ => 0) _ 0 _ _ (dgg_step I 0 (H0 I 15) (H0_eq I 15) _ inb_S1x1024_S1x256_0_0 shapeCasts_S1x256_S1x256 rfl fun _ _ => 0) (gg I 0 (by decide) fun _ _ => 0) ?_
  trivial

end Cert.Gla.Ker
end
-- ==== Proof.Grid.lean ====
/- Hand-written, untrusted: WHAT THE GRID LEAVES. The points run through the chunks from the last to the first; by induction
   on the point, the state gradients after a point are those before its chunk, and the sums run over the chunks visited. -/
module

public import proofs.«01_k».proof.Proof.PointsA
public import proofs.«01_k».proof.Proof.Gen.KernelIdeal.Value

@[expose] public section

set_option maxRecDepth 16384

noncomputable section

namespace Cert.Gla.Ker

open Idealize.ShloMosaic Cert.KernelIdeal Cert.KernelIdeal.Gen Idealize.ShloMosaic.TcCoe

/-- The sum, over the points up to `n`, of the chunks' parts. -/
def acc (f : ℕ → ℝ) : ℕ → ℝ
  | 0 => 0 + f 15
  | n + 1 => acc f n + f (15 - (n + 1))
/-- After the last point it is the sum over the chunks. -/
theorem acc_last (f : ℕ → ℝ) : acc f 15 = ∑ c : Fin 16, f c := by
  simp only [acc, Fin.sum_univ_succ, Fin.sum_univ_zero]
  simp
  ring

variable (m : (ℓ : Loc nD τ sig) → Buf (Elt Ideal) ℓ) (c : Dev nD) (I : Inp)

/-- The blocks a point reads are those of its chunk. -/
structure Reads : Prop where
  r0 : ∀ (t : Fin cfg0.N) (k : ℕ), t.val + k = 15 → iblk m c 0 t = X0 I k
  r1 : ∀ (t : Fin cfg0.N) (k : ℕ), t.val + k = 15 → iblk m c 1 t = X1 I k
  r2 : ∀ (t : Fin cfg0.N) (k : ℕ), t.val + k = 15 → iblk m c 2 t = X2 I k
  r3 : ∀ (t : Fin cfg0.N) (k : ℕ), t.val + k = 15 → iblk m c 3 t = X3 I k
  r4 : ∀ t : Fin cfg0.N, iblk m c 4 t = X4 I
  r5 : ∀ t : Fin cfg0.N, iblk m c 5 t = X5 I
  r6 : ∀ t : Fin cfg0.N, iblk m c 6 t = X6 I
  r7 : ∀ (t : Fin cfg0.N) (k : ℕ), t.val + k = 15 → iblk m c 7 t = X7 I k
  r8 : ∀ (t : Fin cfg0.N) (k : ℕ), t.val + k = 15 → iblk m c 8 t = X8 I k
  r9 : ∀ (t : Fin cfg0.N) (k : ℕ), t.val + k = 15 → iblk m c 9 t = X9 I k

/-- A chunk's part of the gradient of the decay's second factor. -/
def pw (k j n : ℕ) : ℝ := ∑ i : Fin 128, I.dgp (128 * n + i) j * I.a (128 * n + i) k
/-- A chunk's part of the gradient of the decay's bias. -/
def pb (j n : ℕ) : ℝ := ∑ i : Fin 128, I.dgp (128 * n + i) j
/-- A chunk's part of the gradient of the norm's weight. -/
def pg (j n : ℕ) : ℝ := ∑ i : Fin 128, I.on (128 * n + i) j * I.dog (128 * n + i) j

/-- What stands after point `n`, whose chunk is `k`. -/
def after (n k : ℕ) : FVec Ideal S128x3072 .bf16 × FVec Ideal S128x128 .bf16 × FVec Ideal S128x512 .f32 × FVec Ideal S1x512 .f32 × FVec Ideal S1x1024 .f32 × FVec Ideal S4x256x128 .f32 :=
  (c2 (DX I k), c2 fun i j => I.da (128 * k + i) j, c2 fun k j => acc (pw I k j) n, c2 fun _ j => acc (pb I j) n, c2 fun _ j => acc (pg I j) n, Z I k)

variable {m c I}
/-- The run's contents after each point, by induction on the point. -/
theorem outs_eq (R : Reads m c I) : ∀ (n : ℕ) (h : n < cfg0.N) (k : ℕ), n + k = 15 → outsAt0 m c n h = after I n k
  | 0, h, k, e => by
    obtain rfl : k = 15 := by omega
    refine (outsAt0_A m c ⟨0, h⟩ rfl).trans ?_
    rw [R.r0 _ 15 rfl, R.r1 _ 15 rfl, R.r2 _ 15 rfl, R.r3 _ 15 rfl, R.r4, R.r5, R.r6, R.r7 _ 15 rfl, R.r8 _ 15 rfl, R.r9 _ 15 rfl]
    rw [scratch_A, dx_A, da_A, dw_A, dbias_A, dgain_A]
    rfl
  | n + 1, h, k, e => by
    have hN : cfg0.N = 16 := N_0
    have hB : ¬(⟨n + 1, h⟩ : Fin cfg0.N).val % 16 = 0 := by dsimp only; omega
    have ih := outs_eq R n (Nat.lt_of_succ_lt h) (k + 1) (by omega)
    refine (outsAt0_B m c ⟨n + 1, h⟩ hB).trans ?_
    rw [show outsAt0 m c ((⟨n + 1, h⟩ : Fin cfg0.N).val - 1) (Nat.lt_of_le_of_lt (Nat.sub_le _ _) (⟨n + 1, h⟩ : Fin cfg0.N).isLt) = after I n (k + 1) from ih]
    rw [R.r0 _ k e, R.r1 _ k e, R.r2 _ k e, R.r3 _ k e, R.r4, R.r5, R.r6, R.r7 _ k e, R.r8 _ k e, R.r9 _ k e]
    have hk : k < 16 := by omega
    unfold after
    dsimp only
    rw [scratch_B (hn := hk), dx_B (hn := hk), da_B (hn := hk), dw_B (hn := hk), dbias_B (hn := hk), dgain_B (hn := hk)]
    obtain rfl : k = 15 - (n + 1) := by omega
    rfl

end Cert.Gla.Ker
end
-- ==== Proof.Kernel.lean ====
/- Hand-written, untrusted: THE KERNEL'S RUN. Each window's block at each grid point is the chunk's piece of the arguments, so the
   induction over the grid applies, and the result arrays are the gradients. -/
module

public import proofs.«01_k».proof.Proof.Host
public import proofs.«01_k».proof.Proof.Grid
public import proofs.«01_k».proof.Proof.Gen.KernelIdeal.Value

@[expose] public section

set_option maxRecDepth 16384

noncomputable section

namespace Cert.Gla.Ker

open Idealize.ShloMosaic Cert.KernelIdeal Cert.KernelIdeal.Gen Idealize.ShloMosaic.TcCoe
open Cert.Gla.Fwd (KArgs opsA opsB opsC v40_eq v66_eq)

variable {m : (ℓ : Loc nD τ sig) → Buf (Elt Ideal) ℓ} {c : Dev nD} {I : Inp}

/-- The host lines in their three stages. -/
theorem V_stages (r : Ref sig .tc) : V m c r = StableHlo.after opsC (StableHlo.after opsB (StableHlo.after opsA fun b => m (c, b))) (Proc.devRef .tc r) := by
  rw [← StableHlo.after_append, ← StableHlo.after_append]
  rfl

/-- Where a moving window's block starts at a grid point: the chunks run backwards. -/
theorem back_index : ∀ t : Fin grid0.N, win0_0.index t 0 = 15 - t.val ∧ win0_0.index t 1 = 0 ∧ win0_1.index t 0 = 15 - t.val ∧ win0_1.index t 1 = 1
    ∧ win0_2.index t 0 = 15 - t.val ∧ win0_2.index t 1 = 2 ∧ win0_3.index t 0 = 15 - t.val ∧ win0_3.index t 1 = 0 ∧ win0_7.index t 0 = 15 - t.val ∧ win0_7.index t 1 = 0
    ∧ win0_9.index t 0 = 15 - t.val ∧ win0_9.index t 1 = 0 := by decide +kernel
/-- Where the states' block starts. -/
theorem state_index : ∀ t : Fin grid0.N, win0_8.index t 0 = 15 - t.val ∧ win0_8.index t 1 = 0 ∧ win0_8.index t 2 = 0 ∧ win0_8.index t 3 = 0 := by decide +kernel
/-- Where the results' blocks start. -/
theorem out_index : ∀ t : Fin grid0.N, win0_10.index t 0 = 15 - t.val ∧ win0_10.index t 1 = 0 ∧ win0_11.index t 0 = 15 - t.val ∧ win0_11.index t 1 = 0 := by decide +kernel
/-- The other windows stay. -/
theorem still_index : ∀ t : Fin grid0.N, win0_4.index t 0 = 0 ∧ win0_4.index t 1 = 0 ∧ win0_5.index t 0 = 0 ∧ win0_5.index t 1 = 0 ∧ win0_6.index t 0 = 0 ∧ win0_6.index t 1 = 0
    ∧ win0_12.index t 0 = 0 ∧ win0_12.index t 1 = 0 ∧ win0_13.index t 0 = 0 ∧ win0_13.index t 1 = 0 ∧ win0_14.index t 0 = 0 ∧ win0_14.index t 1 = 0 := by decide +kernel

/-- An index in a block at the array's start. -/
theorem at_zero {n x : ℕ} : 0 * n + 1 * x = x := by omega
/-- An index in a block further on. -/
theorem at_col {a n x : ℕ} : a * n + 1 * x = a * n + x := by omega
/-- A row of a chunk's block. -/
theorem at_chunk {t k x : ℕ} (e : t + k = 15) : (15 - t) * 128 + 1 * x = 128 * k + x := by omega

/-- The chunks' parts of a sum over the rows make up the sum. -/
theorem dw_all (I : Inp) (i j : ℕ) : acc (pw I i j) 15 = I.dw i j := by
  rw [acc_last]; exact (sum_rows fun t => I.dgp t j * I.a t i).symm
/-- The same for the bias. -/
theorem dbias_all (I : Inp) (j : ℕ) : acc (pb I j) 15 = I.dbias j := by
  rw [acc_last]; exact (sum_rows fun t => I.dgp t j).symm
/-- The same for the norm's weight. -/
theorem dgain_all (I : Inp) (j : ℕ) : acc (pg I j) 15 = I.dgain j := by
  rw [acc_last]; exact (sum_rows fun t => I.on t j * I.dog t j).symm

/-- Equal arguments of four give equal values. -/
theorem congrArg₄ (f : ℕ → ℕ → ℕ → ℕ → ℝ) {a b d e a' b' d' e' : ℕ} (ha : a = a') (hb : b = b') (hd : d = d') (he : e = e') : f a b d e = f a' b' d' e' := by
  rw [ha, hb, hd, he]

variable (h : KArgs (fun b => m (c, b)) I)
include h
/-- Window 0's block. -/
theorem r0 (t : Fin cfg0.N) (k : ℕ) (e : t.val + k = 15) : iblk m c 0 t = X0 I k := by
    obtain ⟨i0a, i0b, -, -, -, -, -, -, -, -, -, -⟩ := back_index t
    funext j
    unfold iblk
    rw [View.read_apply]
    show V m c main_arg0 _ = _
    rw [(V_main_arg0 m c).trans h.h0]
    exact congrArg Real.toEReal (congrArg₂ I.x (by show win0_0.index t 0 * 128 + 1 * (j 0).val = 128 * k + (j 0).val; rw [i0a]; exact at_chunk e) (by show win0_0.index t 1 * 1024 + 1 * (j 1).val = (j 1).val; rw [i0b]; exact at_zero))
/-- Window 1's block. -/
theorem r1 (t : Fin cfg0.N) (k : ℕ) (e : t.val + k = 15) : iblk m c 1 t = X1 I k := by
    obtain ⟨-, -, i1a, i1b, -, -, -, -, -, -, -, -⟩ := back_index t
    funext j
    unfold iblk
    rw [View.read_apply]
    show V m c main_arg0 _ = _
    rw [(V_main_arg0 m c).trans h.h0]
    exact congrArg Real.toEReal (congrArg₂ I.x (by show win0_1.index t 0 * 128 + 1 * (j 0).val = 128 * k + (j 0).val; rw [i1a]; exact at_chunk e) (by show win0_1.index t 1 * 1024 + 1 * (j 1).val = 1024 + (j 1).val; rw [i1b]; exact at_col))
/-- Window 2's block. -/
theorem r2 (t : Fin cfg0.N) (k : ℕ) (e : t.val + k = 15) : iblk m c 2 t = X2 I k := by
    obtain ⟨-, -, -, -, i2a, i2b, -, -, -, -, -, -⟩ := back_index t
    funext j
    unfold iblk
    rw [View.read_apply]
    show V m c main_arg0 _ = _
    rw [(V_main_arg0 m c).trans h.h0]
    exact congrArg Real.toEReal (congrArg₂ I.x (by show win0_2.index t 0 * 128 + 1 * (j 0).val = 128 * k + (j 0).val; rw [i2a]; exact at_chunk e) (by show win0_2.index t 1 * 1024 + 1 * (j 1).val = 2048 + (j 1).val; rw [i2b]; exact at_col))
/-- Window 3's block. -/
theorem r3 (t : Fin cfg0.N) (k : ℕ) (e : t.val + k = 15) : iblk m c 3 t = X3 I k := by
    obtain ⟨-, -, -, -, -, -, i3a, i3b, -, -, -, -⟩ := back_index t
    funext j
    unfold iblk
    rw [View.read_apply]
    show V m c main_arg1 _ = _
    rw [(V_main_arg1 m c).trans h.h1]
    exact congrArg Real.toEReal (congrArg₂ I.a (by show win0_3.index t 0 * 128 + 1 * (j 0).val = 128 * k + (j 0).val; rw [i3a]; exact at_chunk e) (by show win0_3.index t 1 * 128 + 1 * (j 1).val = (j 1).val; rw [i3b]; exact at_zero))
/-- Window 4's block. -/
theorem r4 (t : Fin cfg0.N) : iblk m c 4 t = X4 I := by
    obtain ⟨i4a, i4b, -, -, -, -, -, -, -, -, -, -⟩ := still_index t
    funext j
    unfold iblk
    rw [View.read_apply]
    show V m c main_arg2 _ = _
    rw [(V_main_arg2 m c).trans h.h2]
    exact congrArg Real.toEReal (congrArg₂ I.w (by show win0_4.index t 0 * 128 + 1 * (j 0).val = (j 0).val; rw [i4a]; exact at_zero) (by show win0_4.index t 1 * 512 + 1 * (j 1).val = (j 1).val; rw [i4b]; exact at_zero))
/-- Window 5's block. -/
theorem r5 (t : Fin cfg0.N) : iblk m c 5 t = X5 I := by
    obtain ⟨-, -, i5a, i5b, -, -, -, -, -, -, -, -⟩ := still_index t
    funext j
    unfold iblk
    rw [View.read_apply]
    show V m c main_arg3 _ = _
    rw [(V_main_arg3 m c).trans h.h3]
    exact congrArg Real.toEReal (congrArg₂ I.b (by show win0_5.index t 0 * 1 + 1 * (j 0).val = (j 0).val; rw [i5a]; exact at_zero) (by show win0_5.index t 1 * 512 + 1 * (j 1).val = (j 1).val; rw [i5b]; exact at_zero))
/-- Window 6's block. -/
theorem r6 (t : Fin cfg0.N) : iblk m c 6 t = X6 I := by
    obtain ⟨-, -, -, -, i6a, i6b, -, -, -, -, -, -⟩ := still_index t
    funext j
    unfold iblk
    rw [View.read_apply]
    show V m c main_arg4 _ = _
    rw [(V_main_arg4 m c).trans h.h4]
    exact congrArg Real.toEReal (congrArg₂ I.g (by show win0_6.index t 0 * 1 + 1 * (j 0).val = (j 0).val; rw [i6a]; exact at_zero) (by show win0_6.index t 1 * 1024 + 1 * (j 1).val = (j 1).val; rw [i6b]; exact at_zero))
/-- Window 7's block. -/
theorem r7 (t : Fin cfg0.N) (k : ℕ) (e : t.val + k = 15) : iblk m c 7 t = X7 I k := by
    obtain ⟨-, -, -, -, -, -, -, -, i7a, i7b, -, -⟩ := back_index t
    funext j
    unfold iblk
    rw [View.read_apply]
    show V m c main_v40 _ = _
    rw [(V_stages main_v40).trans (v40_eq h)]
    exact congrArg Real.toEReal (congrArg₂ (fun t j => I.o (j / 256) t (j % 256)) (by show win0_7.index t 0 * 128 + 1 * (j 0).val = 128 * k + (j 0).val; rw [i7a]; exact at_chunk e) (by show win0_7.index t 1 * 1024 + 1 * (j 1).val = (j 1).val; rw [i7b]; exact at_zero))
/-- Window 8's block. -/
theorem r8 (t : Fin cfg0.N) (k : ℕ) (e : t.val + k = 15) : iblk m c 8 t = X8 I k := by
    obtain ⟨i8a, i8b, i8c, i8d⟩ := state_index t
    funext j
    unfold iblk
    rw [View.read_apply]
    show V m c main_v66 _ = _
    rw [(V_stages main_v66).trans (v66_eq h)]
    exact congrArg Real.toEReal (congrArg₄ (fun c n v u => st (I.k n) (I.gl n) (I.v n) c v u) (by have hj := (j 0).isLt; change (j 0).val < 1 at hj; show win0_8.index t 0 * 1 + 1 * (j 0).val = k; rw [i8a]; omega) (by show win0_8.index t 1 * 4 + 1 * (j 1).val = (j 1).val; rw [i8b]; exact at_zero) (by show win0_8.index t 2 * 256 + 1 * (j 2).val = (j 2).val; rw [i8c]; exact at_zero) (by show win0_8.index t 3 * 128 + 1 * (j 3).val = (j 3).val; rw [i8d]; exact at_zero))
/-- Window 9's block. -/
theorem r9 (t : Fin cfg0.N) (k : ℕ) (e : t.val + k = 15) : iblk m c 9 t = X9 I k := by
    obtain ⟨-, -, -, -, -, -, -, -, -, -, i9a, i9b⟩ := back_index t
    funext j
    unfold iblk
    rw [View.read_apply]
    show V m c main_arg5 _ = _
    rw [(V_main_arg5 m c).trans h.h5]
    exact congrArg Real.toEReal (congrArg₂ I.d (by show win0_9.index t 0 * 128 + 1 * (j 0).val = 128 * k + (j 0).val; rw [i9a]; exact at_chunk e) (by show win0_9.index t 1 * 1024 + 1 * (j 1).val = (j 1).val; rw [i9b]; exact at_zero))

/-- Every window's block is the chunk's piece. -/
theorem reads : Reads m c I :=
  ⟨r0 h, r1 h, r2 h, r3 h, r4 h, r5 h, r6 h, r7 h, r8 h, r9 h⟩

/-- The gradient of the projected input. -/
theorem final10 : (dats m 0 c).arrAt 10 cfg0.N = (c2 fun t j => I.dx t j : FVec Ideal S2048x3072 .bf16) :=
  (dats m 0 c).arrAt_eq_of_cover 10 _ (fun t _ => by
    have hN := N_0
    have ht := t.isLt
    obtain ⟨i10a, i10b, i11a, i11b⟩ := out_index t
    refine (Value.flushed10 m c t).trans ?_
    rw [outs_eq (reads h) t.val ht (15 - t.val) (by change t.val < grid0.N at ht; omega)]
    funext j
    rw [View.read_apply]
    exact congrArg Real.toEReal (congrArg₂ I.dx
      (by show 128 * (15 - t.val) + (j 0).val = win0_10.index t 0 * 128 + 1 * (j 0).val; rw [i10a]; exact (at_chunk (by change t.val < grid0.N at ht; omega)).symm)
      (by show (j 1).val = win0_10.index t 1 * 3072 + 1 * (j 1).val; rw [i10b]; exact at_zero.symm))) fun i => by
    have h0 : (i 0 : Nat) < 2048 := (i 0).isLt
    have h1 : (i 1 : Nat) < 3072 := (i 1).isLt
    have hN := N_0
    have hl : 15 - (i 0 : Nat) / 128 < cfg0.N := by change _ < grid0.N; omega
    obtain ⟨i10a, i10b, i11a, i11b⟩ := out_index ⟨15 - (i 0 : Nat) / 128, hl⟩
    refine ⟨⟨15 - (i 0 : Nat) / 128, hl⟩, flush0_10 _, ?_⟩
    show i ∈ ((View.whole main_v67_0).slice (win0_10.rect ⟨15 - (i 0 : Nat) / 128, hl⟩)).set
    rw [View.set_slice_whole, Rect.mem_set_unit]
    intro a
    match a with
    | ⟨0, _⟩ =>
      show win0_10.index _ 0 * 128 ≤ (i 0 : Nat) ∧ (i 0 : Nat) < win0_10.index _ 0 * 128 + 128
      rw [i10a]; dsimp only; omega
    | ⟨1, _⟩ =>
      show win0_10.index _ 1 * 3072 ≤ (i 1 : Nat) ∧ (i 1 : Nat) < win0_10.index _ 1 * 3072 + 3072
      rw [i10b]; omega

/-- The gradient of the low-rank decay's input. -/
theorem final11 : (dats m 0 c).arrAt 11 cfg0.N = (c2 fun t j => I.da t j : FVec Ideal S2048x128 .bf16) :=
  (dats m 0 c).arrAt_eq_of_cover 11 _ (fun t _ => by
    have hN := N_0
    have ht := t.isLt
    obtain ⟨i10a, i10b, i11a, i11b⟩ := out_index t
    refine (Value.flushed11 m c t).trans ?_
    rw [outs_eq (reads h) t.val ht (15 - t.val) (by change t.val < grid0.N at ht; omega)]
    funext j
    rw [View.read_apply]
    exact congrArg Real.toEReal (congrArg₂ I.da
      (by show 128 * (15 - t.val) + (j 0).val = win0_11.index t 0 * 128 + 1 * (j 0).val; rw [i11a]; exact (at_chunk (by change t.val < grid0.N at ht; omega)).symm)
      (by show (j 1).val = win0_11.index t 1 * 128 + 1 * (j 1).val; rw [i11b]; exact at_zero.symm))) fun i => by
    have h0 : (i 0 : Nat) < 2048 := (i 0).isLt
    have h1 : (i 1 : Nat) < 128 := (i 1).isLt
    have hN := N_0
    have hl : 15 - (i 0 : Nat) / 128 < cfg0.N := by change _ < grid0.N; omega
    obtain ⟨i10a, i10b, i11a, i11b⟩ := out_index ⟨15 - (i 0 : Nat) / 128, hl⟩
    refine ⟨⟨15 - (i 0 : Nat) / 128, hl⟩, flush0_11 _, ?_⟩
    show i ∈ ((View.whole main_v67_1).slice (win0_11.rect ⟨15 - (i 0 : Nat) / 128, hl⟩)).set
    rw [View.set_slice_whole, Rect.mem_set_unit]
    intro a
    match a with
    | ⟨0, _⟩ =>
      show win0_11.index _ 0 * 128 ≤ (i 0 : Nat) ∧ (i 0 : Nat) < win0_11.index _ 0 * 128 + 128
      rw [i11a]; dsimp only; omega
    | ⟨1, _⟩ =>
      show win0_11.index _ 1 * 128 ≤ (i 1 : Nat) ∧ (i 1 : Nat) < win0_11.index _ 1 * 128 + 128
      rw [i11b]; omega

/-- The gradient of its second factor: the chunks' parts together. -/
theorem final12 : (dats m 0 c).arrAt 12 cfg0.N = (c2 fun t j => I.dw t j : FVec Ideal S128x512 .f32) :=
  (dats m 0 c).arrAt_eq_of_cover 12 _ (fun t hf => by
    have hN := N_0
    have ht := t.isLt
    have h15 : t.val = 15 := by have := (flush0_12 t).mp hf; change t.val < grid0.N at ht; omega
    obtain ⟨i12a, i12b, i13a, i13b, i14a, i14b⟩ := (still_index t).2.2.2.2.2.2
    refine (Value.flushed12 m c t).trans ?_
    rw [outs_eq (reads h) t.val ht 0 (by omega), h15]
    funext j
    rw [View.read_apply]
    have e0 : win0_12.index t 0 * 128 + 1 * (j 0).val = (j 0).val := by rw [i12a]; exact at_zero
    have e1 : win0_12.index t 1 * 512 + 1 * (j 1).val = (j 1).val := by rw [i12b]; exact at_zero
    show ((acc (pw I (j 0).val (j 1).val) 15 : ℝ) : EReal) = ((I.dw (win0_12.index t 0 * 128 + 1 * (j 0).val) (win0_12.index t 1 * 512 + 1 * (j 1).val) : ℝ) : EReal)
    rw [e0, e1, dw_all]) fun i => by
    have h0 : (i 0 : Nat) < 128 := (i 0).isLt
    have h1 : (i 1 : Nat) < 512 := (i 1).isLt
    obtain ⟨i12a, i12b, i13a, i13b, i14a, i14b⟩ := (still_index t0_15).2.2.2.2.2.2
    refine ⟨t0_15, (flush0_12 _).mpr rfl, ?_⟩
    show i ∈ ((View.whole main_v67_2).slice (win0_12.rect t0_15)).set
    rw [View.set_slice_whole, Rect.mem_set_unit]
    intro a
    match a with
    | ⟨0, _⟩ =>
      show win0_12.index _ 0 * 128 ≤ (i 0 : Nat) ∧ (i 0 : Nat) < win0_12.index _ 0 * 128 + 128
      rw [i12a]; omega
    | ⟨1, _⟩ =>
      show win0_12.index _ 1 * 512 ≤ (i 1 : Nat) ∧ (i 1 : Nat) < win0_12.index _ 1 * 512 + 512
      rw [i12b]; omega

/-- The gradient of its bias. -/
theorem final13 : (dats m 0 c).arrAt 13 cfg0.N = (c2 fun _ j => I.dbias j : FVec Ideal S1x512 .f32) :=
  (dats m 0 c).arrAt_eq_of_cover 13 _ (fun t hf => by
    have hN := N_0
    have ht := t.isLt
    have h15 : t.val = 15 := by have := (flush0_13 t).mp hf; change t.val < grid0.N at ht; omega
    obtain ⟨i12a, i12b, i13a, i13b, i14a, i14b⟩ := (still_index t).2.2.2.2.2.2
    refine (Value.flushed13 m c t).trans ?_
    rw [outs_eq (reads h) t.val ht 0 (by omega), h15]
    funext j
    rw [View.read_apply]
    have e0 : win0_13.index t 0 * 1 + 1 * (j 0).val = (j 0).val := by rw [i13a]; exact at_zero
    have e1 : win0_13.index t 1 * 512 + 1 * (j 1).val = (j 1).val := by rw [i13b]; exact at_zero
    exact congrArg Real.toEReal ((dbias_all I _).trans (congrArg I.dbias e1.symm))) fun i => by
    have h0 : (i 0 : Nat) < 1 := (i 0).isLt
    have h1 : (i 1 : Nat) < 512 := (i 1).isLt
    obtain ⟨i12a, i12b, i13a, i13b, i14a, i14b⟩ := (still_index t0_15).2.2.2.2.2.2
    refine ⟨t0_15, (flush0_13 _).mpr rfl, ?_⟩
    show i ∈ ((View.whole main_v67_3).slice (win0_13.rect t0_15)).set
    rw [View.set_slice_whole, Rect.mem_set_unit]
    intro a
    match a with
    | ⟨0, _⟩ =>
      show win0_13.index _ 0 * 1 ≤ (i 0 : Nat) ∧ (i 0 : Nat) < win0_13.index _ 0 * 1 + 1
      rw [i13a]; omega
    | ⟨1, _⟩ =>
      show win0_13.index _ 1 * 512 ≤ (i 1 : Nat) ∧ (i 1 : Nat) < win0_13.index _ 1 * 512 + 512
      rw [i13b]; omega

/-- The gradient of the norm's weight. -/
theorem final14 : (dats m 0 c).arrAt 14 cfg0.N = (c2 fun _ j => I.dgain j : FVec Ideal S1x1024 .f32) :=
  (dats m 0 c).arrAt_eq_of_cover 14 _ (fun t hf => by
    have hN := N_0
    have ht := t.isLt
    have h15 : t.val = 15 := by have := (flush0_14 t).mp hf; change t.val < grid0.N at ht; omega
    obtain ⟨i12a, i12b, i13a, i13b, i14a, i14b⟩ := (still_index t).2.2.2.2.2.2
    refine (Value.flushed14 m c t).trans ?_
    rw [outs_eq (reads h) t.val ht 0 (by omega), h15]
    funext j
    rw [View.read_apply]
    have e0 : win0_14.index t 0 * 1 + 1 * (j 0).val = (j 0).val := by rw [i14a]; exact at_zero
    have e1 : win0_14.index t 1 * 1024 + 1 * (j 1).val = (j 1).val := by rw [i14b]; exact at_zero
    exact congrArg Real.toEReal ((dgain_all I _).trans (congrArg I.dgain e1.symm))) fun i => by
    have h0 : (i 0 : Nat) < 1 := (i 0).isLt
    have h1 : (i 1 : Nat) < 1024 := (i 1).isLt
    obtain ⟨i12a, i12b, i13a, i13b, i14a, i14b⟩ := (still_index t0_15).2.2.2.2.2.2
    refine ⟨t0_15, (flush0_14 _).mpr rfl, ?_⟩
    show i ∈ ((View.whole main_v67_4).slice (win0_14.rect t0_15)).set
    rw [View.set_slice_whole, Rect.mem_set_unit]
    intro a
    match a with
    | ⟨0, _⟩ =>
      show win0_14.index _ 0 * 1 ≤ (i 0 : Nat) ∧ (i 0 : Nat) < win0_14.index _ 0 * 1 + 1
      rw [i14a]; omega
    | ⟨1, _⟩ =>
      show win0_14.index _ 1 * 1024 ≤ (i 1 : Nat) ∧ (i 1 : Nat) < win0_14.index _ 1 * 1024 + 1024
      rw [i14b]; omega

end Cert.Gla.Ker
end
-- ==== Proof.Prod.lean ====
/- Hand-written, untrusted: MATRIX PRODUCTS ON THE EXTENDED REALS. `e2 F` is the array whose entry at row `i`, column `j` is the
   extended real `F i j` (`e3` of rank three); every array is one. A product needs no finiteness: its sums may be cut into blocks. -/
module

public import proofs.«01_k».proof.Proof.Lift

@[expose] public section

set_option maxRecDepth 16384

noncomputable section

namespace Cert.Gla

open Idealize.ShloMosaic

variable {a b c : ℕ} {φ ψ : FTy}

/-- The matrix of the extended reals `F i j`. -/
def e2 (F : ℕ → ℕ → EReal) : (⟨2, ![a, b]⟩ : Shape).Idx → EReal := fun j => F (j 0).val (j 1).val

/-- The array of rank three of the extended reals `F i j k`. -/
def e3 (F : ℕ → ℕ → ℕ → EReal) : (⟨3, ![a, b, c]⟩ : Shape).Idx → EReal := fun j => F (j 0).val (j 1).val (j 2).val

/-- A matrix's entries, zero outside it. -/
def tab2 (x : FVec Ideal ⟨2, ![a, b]⟩ φ) : ℕ → ℕ → EReal :=
  fun i j => if h : i < a ∧ j < b then x (ix2 ⟨i, h.1⟩ ⟨j, h.2⟩) else 0

/-- The entries of an array of rank three, zero outside it. -/
def tab3 (x : FVec Ideal ⟨3, ![a, b, c]⟩ φ) : ℕ → ℕ → ℕ → EReal :=
  fun i j k => if h : i < a ∧ j < b ∧ k < c then x (ix3 ⟨i, h.1⟩ ⟨j, h.2.1⟩ ⟨k, h.2.2⟩) else 0

/-- Every matrix is the matrix of its entries. -/
theorem eq_tab2 (x : FVec Ideal ⟨2, ![a, b]⟩ φ) : x = e2 (tab2 x) := by
  funext j
  unfold e2 tab2
  rw [dif_pos ⟨(j 0).isLt, (j 1).isLt⟩]
  exact congrArg x (eq_ix2 j)

/-- Every array of rank three is the array of its entries. -/
theorem eq_tab3 (x : FVec Ideal ⟨3, ![a, b, c]⟩ φ) : x = e3 (tab3 x) := by
  funext j
  unfold e3 tab3
  rw [dif_pos ⟨(j 0).isLt, (j 1).isLt, (j 2).isLt⟩]
  exact congrArg x (eq_ix3 j)

/-- A long sum is the sum of its blocks' sums. -/
theorem sum_blocks {β : Type} [AddCommMonoid β] (n w : ℕ) (f : ℕ → β) :
    ∑ k : Fin (n * w), f k = ∑ s ∈ Finset.range n, ∑ k : Fin w, f (w * s + k) := by
  rw [Fin.sum_univ_eq_sum_range f]
  induction n with
  | zero => simp
  | succ n ih =>
    rw [Nat.succ_mul, Finset.sum_range_add, ih, Finset.sum_range_succ, Nat.mul_comm n w]
    exact congrArg _ (Fin.sum_univ_eq_sum_range (fun k => f (w * n + k)) w).symm

/-- Products agree where their factors do. -/
theorem prod_congr {n : ℕ} {f g f' g' : Fin n → EReal} (hf : ∀ k, f k = f' k) (hg : ∀ k, g k = g' k) : ∑ k, f k * g k = ∑ k, f' k * g' k :=
  Finset.sum_congr rfl fun k _ => congrArg₂ (· * ·) (hf k) (hg k)

/-- An index in a block at the array's start. -/
theorem first {n x : ℕ} : 0 * n + 1 * x = x := by omega
/-- An index in a further block. -/
theorem further {p n x : ℕ} : p * n + 1 * x = n * p + x := by rw [Nat.one_mul, Nat.mul_comm]

/-- The index an array has at offset `x` of the block that starts the array, … -/
theorem at_first {p n x : ℕ} (h : p = 0) : p * n + 1 * x = x := by rw [h]; exact first
/-- … and of block `q`. -/
theorem at_further {p q n x : ℕ} (h : p = q) : p * n + 1 * x = n * q + x := by rw [h]; exact further
/-- The block that holds an index. -/
theorem tile {p q n x : ℕ} (h : p = q) (hn : 0 < n) (hx : q = x / n) : p * n ≤ x ∧ x < p * n + n := by
  subst h hx
  exact ⟨Nat.div_mul_le_self x n, Nat.lt_div_mul_add hn⟩
/-- The point, of a grid `s` blocks wide, that computes block `p`, `q`. -/
theorem grid_point {r s p q : ℕ} (hp : p < r) (hq : q < s) : s * p + q < r * s ∧ (s * p + q) / s = p ∧ (s * p + q) % s = q :=
  ⟨by calc s * p + q < s * p + s := Nat.add_lt_add_left hq _
        _ = (p + 1) * s := by ring
        _ ≤ r * s := Nat.mul_le_mul_right s hp,
   by rw [Nat.mul_add_div (Nat.zero_lt_of_lt hq), Nat.div_eq_of_lt hq, Nat.add_zero],
   by rw [Nat.mul_add_mod, Nat.mod_eq_of_lt hq]⟩

/-- The product of two matrices that sums over `n` columns of the first and rows of the second, … -/
def prod_nn (n : ℕ) (A B : ℕ → ℕ → EReal) (i j : ℕ) : EReal := ∑ k : Fin n, A i k * B k j
/-- … over the columns of both, … -/
def prod_nt (n : ℕ) (A B : ℕ → ℕ → EReal) (i j : ℕ) : EReal := ∑ k : Fin n, A i k * B j k
/-- … and over the rows of both. -/
def prod_tn (n : ℕ) (A B : ℕ → ℕ → EReal) (i j : ℕ) : EReal := ∑ k : Fin n, A k i * B k j

end Cert.Gla
end
-- ==== Proof.UpW.lean ====
/- Hand-written, untrusted: THE FEED-FORWARD UP-PROJECTION'S WEIGHT GRADIENT. Each grid point multiplies a column block of the
   activations, transposed, by a column block of the cotangent; the blocks tile the four shards of the gradient. -/
module

public import proofs.«01_k».proof.Defs
public import proofs.«01_k».proof.Proof.Prod
public import proofs.«01_k».proof.Proof.Gen.UpWIdeal.Value
public import proofs.«01_k».proof.Proof.Gen.UpWRefIdeal.Run

@[expose] public section

set_option maxRecDepth 16384

noncomputable section

namespace Cert.Gla.UpW

open Idealize.ShloMosaic Cert.UpWIdeal Cert.UpWIdeal.Gen Idealize.ShloMosaic.TcCoe Idealize.SL.Sem

/-- The gradient's entries, shard by shard. -/
def grad (A B : ℕ → ℕ → EReal) (s i j : ℕ) : EReal := ∑ k : Fin 2048, A k i * B k (2816 * s + j)

/-- Where the blocks of the factors and of the result lie. -/
theorem at_point : ∀ t : Fin grid0.N, (win0_0.index t 0 = 0 ∧ win0_0.index t 1 = t.val / 8) ∧ (win0_1.index t 0 = 0 ∧ win0_1.index t 1 = t.val % 8)
    ∧ win0_2.index t 0 = t.val % 8 / 2 ∧ win0_2.index t 1 = t.val / 8 ∧ win0_2.index t 2 = t.val % 2 := by decide +kernel

/-- The body's product. -/
theorem body (A B : ℕ → ℕ → EReal) : out0_2 (F := Ideal) (e2 A) (e2 B) = (e3 fun _ i j => ∑ k : Fin 2048, A k i * B k j : FVec Ideal S1x1024x1408 .bf16) := by
  unfold out0_2
  rw [View.canon_unit_zero (S := S1x1024x1408) (by decide), View.ld_unit_zero (S := S2048x1024) (by decide), View.ld_unit_zero (S := S2048x1408) (by decide)]
  unfold k0_pay1
  funext y
  rw [eq_ix3 y]
  pointwise [e2, e3, dot_S2048x1024_S2048x1408_S1024x1408_0_0_1_1_n_n]

variable {m : (ℓ : Loc nD τ sig) → Buf (Elt Ideal) ℓ} {c : Dev nD} {A B : ℕ → ℕ → EReal}

/-- The first factor's block at a point. -/
theorem left (hA : (m ((c : Thread nD τ).loc main_arg0) : FVec Ideal S2048x2048 .bf16) = e2 A) (t : Fin cfg0.N) :
    iblk m c 0 t = (e2 fun k i => A k (1024 * (t.val / 8) + i) : FVec Ideal S2048x1024 .bf16) := by
  obtain ⟨⟨i0, i1⟩, -⟩ := at_point t
  funext j
  unfold iblk
  rw [View.read_apply]
  show V m c main_arg0 _ = _
  rw [(V_main_arg0 m c).trans hA]
  exact congrArg₂ A (by show win0_0.index t 0 * 2048 + 1 * (j 0).val = (j 0).val; rw [i0]; exact first)
    (by show win0_0.index t 1 * 1024 + 1 * (j 1).val = 1024 * (t.val / 8) + (j 1).val; rw [i1]; exact further)

/-- The second factor's. -/
theorem right (hB : (m ((c : Thread nD τ).loc main_arg1) : FVec Ideal S2048x11264 .bf16) = e2 B) (t : Fin cfg0.N) :
    iblk m c 1 t = (e2 fun k j => B k (1408 * (t.val % 8) + j) : FVec Ideal S2048x1408 .bf16) := by
  obtain ⟨-, ⟨i0, i1⟩, -⟩ := at_point t
  funext j
  unfold iblk
  rw [View.read_apply]
  show V m c main_arg1 _ = _
  rw [(V_main_arg1 m c).trans hB]
  exact congrArg₂ B (by show win0_1.index t 0 * 2048 + 1 * (j 0).val = (j 0).val; rw [i0]; exact first)
    (by show win0_1.index t 1 * 1408 + 1 * (j 1).val = 1408 * (t.val % 8) + (j 1).val; rw [i1]; exact further)

/-- A column of a shard's block, in the whole matrix and in the shard. -/
theorem column (t j x : ℕ) (hx : x < 1) : 1408 * (t % 8) + j = 2816 * (t % 8 / 2 * 1 + 1 * x) + (t % 2 * 1408 + 1 * j) := by omega
/-- The point that computes an entry of the gradient. -/
theorem point (s i j : ℕ) (hs : s < 4) (hi : i < 2048) (hj : j < 2816) : let t := 8 * (i / 1024) + (2 * s + j / 1408);
    t < 16 ∧ (t % 8 / 2 ≤ s ∧ s < t % 8 / 2 + 1) ∧ (t / 8 * 1024 ≤ i ∧ i < t / 8 * 1024 + 1024) ∧ t % 2 * 1408 ≤ j ∧ j < t % 2 * 1408 + 1408 := by
  intro t; omega

/-- The result array ends as the gradient. -/
theorem final (hA : (m ((c : Thread nD τ).loc main_arg0) : FVec Ideal S2048x2048 .bf16) = e2 A) (hB : (m ((c : Thread nD τ).loc main_arg1) : FVec Ideal S2048x11264 .bf16) = e2 B) :
    (dats m 0 c).arrAt 2 cfg0.N = (e3 (grad A B) : FVec Ideal S4x2048x2816 .bf16) :=
  (dats m 0 c).arrAt_eq_of_cover 2 _ (fun t _ => by
    obtain ⟨-, -, i0, i1, i2⟩ := at_point t
    refine (Value.flushed2 m c t).trans ?_
    rw [left hA, right hB, body]
    funext j
    rw [View.read_apply]
    exact prod_congr (fun k => congrArg (A k) (by show 1024 * (t.val / 8) + (j 1).val = win0_2.index t 1 * 1024 + 1 * (j 1).val; rw [i1]; exact further.symm))
      fun k => congrArg (B k) (by
        show 1408 * (t.val % 8) + (j 2).val = 2816 * (win0_2.index t 0 * 1 + 1 * (j 0).val) + (win0_2.index t 2 * 1408 + 1 * (j 2).val)
        rw [i0, i2]; exact column _ _ _ (j 0).isLt)) fun i => by
    obtain ⟨ht, h0, h1, h2⟩ := point (i 0).val (i 1).val (i 2).val (i 0).isLt (i 1).isLt (i 2).isLt
    have hN := N_0
    have hl : 8 * ((i 1).val / 1024) + (2 * (i 0).val + (i 2).val / 1408) < cfg0.N := by change _ < grid0.N; rw [hN]; exact ht
    obtain ⟨-, -, i0, i1, i2⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ =>
      show win0_2.index _ 0 * 1 ≤ (i 0 : Nat) ∧ (i 0 : Nat) < win0_2.index _ 0 * 1 + 1
      rw [i0, Nat.mul_one]; exact h0
    | ⟨1, _⟩ =>
      show win0_2.index _ 1 * 1024 ≤ (i 1 : Nat) ∧ (i 1 : Nat) < win0_2.index _ 1 * 1024 + 1024
      rw [i1]; exact h1
    | ⟨2, _⟩ =>
      show win0_2.index _ 2 * 1408 ≤ (i 2 : Nat) ∧ (i 2 : Nat) < win0_2.index _ 2 * 1408 + 1408
      rw [i2]; exact h2

/-- The reference computes the same gradient. -/
theorem reference (A B : ℕ → ℕ → EReal) : truncf (φ := .f32) .bf16 (transpose Cert.UpWRefIdeal.S4x2048x2816 [1, 0, 2] (shapeCast Cert.UpWRefIdeal.S2048x4x2816 (transpose Cert.UpWRefIdeal.S2048x11264 [1, 0]
    (Host.dotGeneral Cert.UpWRefIdeal.dot_S2048x11264_S2048x2048_S11264x2048_0_0_1_1_n_n none (extf .f32 (e2 B : FVec Ideal ⟨2, ![2048, 11264]⟩ .bf16) Cert.UpWRefIdeal.Gen.bitsLt_bf16_f32) (extf .f32 (e2 A : FVec Ideal ⟨2, ![2048, 2048]⟩ .bf16) Cert.UpWRefIdeal.Gen.bitsLt_bf16_f32))
    Cert.UpWRefIdeal.Gen.transposes_S11264x2048_S2048x11264_1_0) Cert.UpWRefIdeal.Gen.shapeCasts_S2048x11264_S2048x4x2816) Cert.UpWRefIdeal.Gen.transposes_S2048x4x2816_S4x2048x2816_1_0_2) Cert.UpWRefIdeal.Gen.bitsLt_bf16_f32
    = (show FVec Ideal ⟨3, ![4, 2048, 2816]⟩ .bf16 from e3 (grad A B)) := by
  funext y
  rw [eq_ix3 y]
  pointwise [e2, e3, grad, Cert.UpWRefIdeal.dot_S2048x11264_S2048x2048_S11264x2048_0_0_1_1_n_n]
  exact (Finset.sum_congr rfl fun k _ => mul_comm _ _).trans (prod_congr (fun _ => rfl) fun k => by rw [Nat.mul_comm])

/-- Both programs compute the gradient. -/
theorem algebraic : Cert.algebraic_UpWIdeal_UpWRefIdeal := fun m ρ m' ρ' _ hag =>
  ⟨fun c => (e3 (grad (tab2 (m ((c.tc : Thread nD τ).loc main_arg0) : FVec Ideal S2048x2048 .bf16)) (tab2 (m ((c.tc : Thread nD τ).loc main_arg1) : FVec Ideal S2048x11264 .bf16))) : FVec Ideal S4x2048x2816 .bf16),
   (θ_run defs _ _).mono (fun r hr c => ⟨(hr c).1.trans (final (eq_tab2 _) (eq_tab2 _)), (hr c).2⟩) (Value.run_blocks m ρ),
   (θ_run Cert.UpWRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x2048 .bf16), eq_tab2 (m ((c.tc : Thread nD τ).loc main_arg1) : FVec Ideal S2048x11264 .bf16)]
      exact reference _ _) (Cert.UpWRefIdeal.Value.run m' ρ')⟩

end Cert.Gla.UpW
end
-- ==== Proof.UpH.lean ====
/- Hand-written, untrusted: THE FEED-FORWARD UP-PROJECTION'S INPUT GRADIENT. Four grid points in a row sum the products of one block
   of the cotangent's columns with one shard of the weights each, into a buffer that the last of them writes out. -/
module

public import proofs.«01_k».proof.Defs
public import proofs.«01_k».proof.Proof.Prod
public import proofs.«01_k».proof.Proof.Gen.UpHIdeal.Value
public import proofs.«01_k».proof.Proof.Gen.UpHRefIdeal.Run

@[expose] public section

set_option maxRecDepth 16384

noncomputable section

namespace Cert.Gla.UpH

open Idealize.ShloMosaic Cert.UpHIdeal Cert.UpHIdeal.Gen Idealize.ShloMosaic.TcCoe Idealize.SL.Sem

/-- The share of one shard in an entry of a block of the gradient. -/
def part (A : ℕ → ℕ → EReal) (B : ℕ → ℕ → ℕ → EReal) (p q s i j : ℕ) : EReal := ∑ k : Fin 2816, A (1024 * p + i) (2816 * s + k) * B s (1024 * q + j) k
/-- The gradient's entries: the shards' shares, summed. -/
def grad (A : ℕ → ℕ → EReal) (B : ℕ → ℕ → ℕ → EReal) (i j : ℕ) : EReal := ∑ s ∈ Finset.range 4, ∑ k : Fin 2816, A i (2816 * s + k) * B s j k

/-- Where the blocks of the factors and of the result lie. -/
theorem at_point : ∀ t : Fin grid0.N, (win0_0.index t 0 = t.val / 8 ∧ win0_0.index t 1 = t.val % 4) ∧ (win0_1.index t 0 = t.val % 4 ∧ win0_1.index t 1 = t.val / 4 % 2 ∧ win0_1.index t 2 = 0)
    ∧ win0_2.index t 0 = t.val / 8 ∧ win0_2.index t 1 = t.val / 4 % 2 := by decide +kernel

/-- The buffer starts at zero. -/
theorem start : k0_pay1 (F := Ideal) = (e2 fun _ _ => 0 : FVec Ideal S1024x1024 .f32) := by
  unfold k0_pay1
  funext y
  rw [eq_ix2 y]
  pointwise [e2]

/-- A point adds its product to the buffer. -/
theorem add_product (X A : ℕ → ℕ → EReal) (B : ℕ → ℕ → ℕ → EReal) : k0_pay2 (F := Ideal) (e2 X) (e2 A) (e3 B) = (e2 fun i j => X i j + ∑ k : Fin 2816, A i k * B 0 j k : FVec Ideal S1024x1024 .f32) := by
  unfold k0_pay2
  funext y
  rw [eq_ix2 y]
  pointwise [e2, e3, dot_S1024x2816_S1024x2816_S1024x1024_1_1_0_0_n_n]

section
variable (c : Dev nD) (i : grid0.Coords) (a3 : Memref sig .tc .vmem S1024x2816 .bf16) (h3 : a3.IsWhole) (a4 : Memref sig .tc .vmem S1x1024x2816 .bf16) (h4 : a4.IsWhole)
variable (a5 : Memref sig .tc .vmem S1024x1024 .bf16) (h5 : a5.IsWhole) (a6 : Memref sig .tc .vmem S1024x1024 .f32) (h6 : a6.IsWhole)
variable (x : Vec Ideal S1024x2816 .bf16) (y : Vec Ideal S1x1024x2816 .bf16) (z : Vec Ideal S1024x1024 .f32)

theorem off2 : (![0, 0] : Fin 2 → Nat) = fun _ => 0 := funext fun a => by fin_cases a <;> rfl
theorem off3 : (![0, 0, 0] : Fin 3 → Nat) = fun _ => 0 := funext fun a => by fin_cases a <;> rfl

/-- The first point of a row fills the buffer with zeros and adds. -/
theorem leaves_A (hc : cond0_0 i) (hd : ¬cond0_1 i) : sout0_A_0 (F := Ideal) c i a3 h3 a4 h4 a5 h5 a6 h6 hc hd x y = k0_pay2 k0_pay1 x y := by
  unfold sout0_A_0
  refine (View.read_writes_eq_canon _ _ _ (scover0_A_0 (F := Ideal) c i a3 h3 a4 h4 a5 h5 a6 h6 hc hd x y)).trans ?_
  unfold kernelRun0_A
  dsimp only
  sl_unfold_words
  simp only [View.readAt_eq_ld, h3.read_unread, h4.read_unread, View.ld_unit_zero (S := S1024x2816) off2, View.ld_unit_zero (S := S1x1024x2816) off3]
  rw [View.canon_cons_unit_zero (S := S1024x1024) off2, View.readCov_unit_zero (S := S1024x1024) _ off2]

/-- A middle point adds. -/
theorem leaves_B (hc : ¬cond0_0 i) (hd : ¬cond0_1 i) : sout0_B_0 (F := Ideal) c i a3 h3 a4 h4 a5 h5 a6 h6 hc hd x y z = k0_pay2 z x y := by
  unfold sout0_B_0
  refine (View.read_writes_eq_canon _ _ _ (scover0_B_0 (F := Ideal) c i a3 h3 a4 h4 a5 h5 a6 h6 hc hd x y z)).trans ?_
  unfold kernelRun0_B
  dsimp only
  sl_unfold_words
  simp only [View.readAt_eq_ld, h3.read_unread, h4.read_unread, h6.read_unread, View.ld_unit_zero (S := S1024x2816) off2, View.ld_unit_zero (S := S1x1024x2816) off3, View.ld_unit_zero (S := S1024x1024) off2]
  rw [View.canon_cons_unit_zero (S := S1024x1024) off2]

/-- The last point writes out what the buffer then holds. -/
theorem writes_C (hc : ¬cond0_0 i) (hd : cond0_1 i) : out0_C_2 (F := Ideal) c i a3 h3 a4 h4 a5 h5 a6 h6 hc hd x y z = k0_pay3 (k0_pay2 z x y) := by
  unfold out0_C_2
  refine (View.read_writes_eq_canon _ _ _ (cover0_C_2 (F := Ideal) c i a3 h3 a4 h4 a5 h5 a6 h6 hc hd x y z)).trans ?_
  unfold kernelRun0_C
  dsimp only
  sl_unfold_words
  simp only [View.readAt_eq_ld, h3.read_unread, h4.read_unread, h6.read_unread, View.ld_unit_zero (S := S1024x2816) off2, View.ld_unit_zero (S := S1x1024x2816) off3, View.ld_unit_zero (S := S1024x1024) off2]
  rw [View.canon_cons_unit_zero (S := S1024x1024) off2, View.readCov_unit_zero (S := S1024x1024) _ off2]
end

variable {m : (ℓ : Loc nD τ sig) → Buf (Elt Ideal) ℓ} {c : Dev nD} {A : ℕ → ℕ → EReal} {B : ℕ → ℕ → ℕ → EReal}

/-- The first factor's block at a point. -/
theorem left (hA : (m ((c : Thread nD τ).loc main_arg0) : FVec Ideal S2048x11264 .bf16) = e2 A) (t : Fin cfg0.N) :
    iblk m c 0 t = (e2 fun i k => A (1024 * (t.val / 8) + i) (2816 * (t.val % 4) + k) : FVec Ideal S1024x2816 .bf16) := by
  obtain ⟨⟨i0, i1⟩, -⟩ := at_point t
  funext j
  unfold iblk
  rw [View.read_apply]
  show V m c main_arg0 _ = _
  rw [(V_main_arg0 m c).trans hA]
  exact congrArg₂ A (by show win0_0.index t 0 * 1024 + 1 * (j 0).val = 1024 * (t.val / 8) + (j 0).val; rw [i0]; exact further)
    (by show win0_0.index t 1 * 2816 + 1 * (j 1).val = 2816 * (t.val % 4) + (j 1).val; rw [i1]; exact further)

/-- The second factor's. -/
theorem right (hB : (m ((c : Thread nD τ).loc main_arg1) : FVec Ideal S4x2048x2816 .bf16) = e3 B) (t : Fin cfg0.N) :
    iblk m c 1 t = (e3 fun s j k => B (1 * (t.val % 4) + s) (1024 * (t.val / 4 % 2) + j) k : FVec Ideal S1x1024x2816 .bf16) := by
  obtain ⟨-, ⟨i0, i1, i2⟩, -⟩ := at_point t
  funext j
  unfold iblk
  rw [View.read_apply]
  show V m c main_arg1 _ = _
  rw [(V_main_arg1 m c).trans hB]
  have e0 : win0_1.index t 0 * 1 + 1 * (j 0).val = 1 * (t.val % 4) + (j 0).val := by rw [i0]; exact further
  have e1 : win0_1.index t 1 * 1024 + 1 * (j 1).val = 1024 * (t.val / 4 % 2) + (j 1).val := by rw [i1]; exact further
  have e2 : win0_1.index t 2 * 2816 + 1 * (j 2).val = (j 2).val := by rw [i2]; exact first
  show B (win0_1.index t 0 * 1 + 1 * (j 0).val) (win0_1.index t 1 * 1024 + 1 * (j 1).val) (win0_1.index t 2 * 2816 + 1 * (j 2).val) = B (1 * (t.val % 4) + (j 0).val) (1024 * (t.val / 4 % 2) + (j 1).val) (j 2).val
  rw [e0, e1, e2]

/-- What a point adds. -/
theorem adds (hA : (m ((c : Thread nD τ).loc main_arg0) : FVec Ideal S2048x11264 .bf16) = e2 A) (hB : (m ((c : Thread nD τ).loc main_arg1) : FVec Ideal S4x2048x2816 .bf16) = e3 B) (t : Fin cfg0.N) (X : ℕ → ℕ → EReal) :
    k0_pay2 (F := Ideal) (e2 X) (iblk m c 0 t) (iblk m c 1 t) = (e2 fun i j => X i j + part A B (t.val / 8) (t.val / 4 % 2) (t.val % 4) i j : FVec Ideal S1024x1024 .f32) := by
  rw [left hA, right hB, add_product]
  unfold part
  simp only [Nat.one_mul, Nat.add_zero]

/-- A row of points: what counts them within the row, and what they share. -/
theorem row (n : ℕ) (h : ¬(n + 1) % 4 = 0) : (n + 1) % 4 = n % 4 + 1 ∧ (n + 1) / 8 = n / 8 ∧ (n + 1) / 4 % 2 = n / 4 % 2 ∧ ¬n % 4 = 3 := by omega

/-- The buffer after a point that is not the last of its row. -/
theorem buffer (hA : (m ((c : Thread nD τ).loc main_arg0) : FVec Ideal S2048x11264 .bf16) = e2 A) (hB : (m ((c : Thread nD τ).loc main_arg1) : FVec Ideal S4x2048x2816 .bf16) = e3 B) :
    ∀ (n : ℕ) (hn : n < cfg0.N), ¬n % 4 = 3 → (outsAt0 m c n hn).2 = (e2 fun i j => ∑ s ∈ Finset.range (n % 4 + 1), part A B (n / 8) (n / 4 % 2) s i j : FVec Ideal S1024x1024 .f32) := by
  intro n
  induction n with
  | zero =>
    intro hn h3
    rw [outsAt0_A m c ⟨0, hn⟩ rfl h3]
    dsimp only
    rw [leaves_A, start, adds hA hB]
    exact congrArg e2 (funext fun i => funext fun j => by rw [zero_add]; exact (Finset.sum_range_one fun s => part A B (0 / 8) (0 / 4 % 2) s i j).symm)
  | succ n ih =>
    intro hn h3
    by_cases h0 : (n + 1) % 4 = 0
    · rw [outsAt0_A m c ⟨n + 1, hn⟩ h0 h3]
      dsimp only
      rw [leaves_A, start, adds hA hB]
      dsimp only
      rw [h0]
      exact congrArg e2 (funext fun i => funext fun j => by rw [zero_add]; exact (Finset.sum_range_one fun s => part A B ((n + 1) / 8) ((n + 1) / 4 % 2) s i j).symm)
    · obtain ⟨r0, r1, r2, r3⟩ := row n h0
      rw [outsAt0_B m c ⟨n + 1, hn⟩ h0 h3]
      dsimp only
      rw [leaves_B, show (outsAt0 m c (n + 1 - 1) _).2 = _ from ih (Nat.lt_of_succ_lt hn) r3, adds hA hB]
      dsimp only
      rw [r0, r1, r2]
      exact congrArg e2 (funext fun i => funext fun j => (Finset.sum_range_succ _ _).symm)

/-- The point that writes an entry of the gradient. -/
theorem point (i j : ℕ) (hi : i < 2048) (hj : j < 2048) : let t := 8 * (i / 1024) + 4 * (j / 1024) + 3;
    t < 16 ∧ t % 4 = 3 ∧ (t / 8 * 1024 ≤ i ∧ i < t / 8 * 1024 + 1024) ∧ t / 4 % 2 * 1024 ≤ j ∧ j < t / 4 % 2 * 1024 + 1024 := by
  intro t; omega
/-- The point before the last of a row is in the row. -/
theorem before (t : ℕ) (h : t % 4 = 3) : ¬(t - 1) % 4 = 3 ∧ (t - 1) % 4 + 1 = 3 ∧ (t - 1) / 8 = t / 8 ∧ (t - 1) / 4 % 2 = t / 4 % 2 ∧ ¬t % 4 = 0 := by omega

/-- The result array ends as the gradient. -/
theorem final (hA : (m ((c : Thread nD τ).loc main_arg0) : FVec Ideal S2048x11264 .bf16) = e2 A) (hB : (m ((c : Thread nD τ).loc main_arg1) : FVec Ideal S4x2048x2816 .bf16) = e3 B) :
    (dats m 0 c).arrAt 2 cfg0.N = (e2 (grad A B) : FVec Ideal S2048x2048 .bf16) :=
  (dats m 0 c).arrAt_eq_of_cover 2 _ (fun t hf => by
    obtain ⟨-, -, i0, i1⟩ := at_point t
    have h3 := (flush0_2 t).mp hf
    obtain ⟨b0, b1, b2, b3, b4⟩ := before t.val h3
    refine (Value.flushed2_C m c t b4 h3).trans ?_
    rw [writes_C, buffer hA hB _ _ b0, adds hA hB, b1, b2, b3, h3]
    funext j
    rw [View.read_apply]
    show (∑ s ∈ Finset.range 3, part A B (t.val / 8) (t.val / 4 % 2) s (j 0).val (j 1).val) + part A B (t.val / 8) (t.val / 4 % 2) 3 (j 0).val (j 1).val
      = grad A B (win0_2.index t 0 * 1024 + 1 * (j 0).val) (win0_2.index t 1 * 1024 + 1 * (j 1).val)
    rw [i0, i1, further, further]
    exact (Finset.sum_range_succ _ _).symm) fun i => by
    obtain ⟨ht, h3, h0, h1⟩ := point (i 0).val (i 1).val (i 0).isLt (i 1).isLt
    have hN := N_0
    have hl : 8 * ((i 0).val / 1024) + 4 * ((i 1).val / 1024) + 3 < cfg0.N := by change _ < grid0.N; rw [hN]; exact ht
    obtain ⟨-, -, i0, i1⟩ := at_point ⟨_, hl⟩
    refine ⟨⟨_, hl⟩, (flush0_2 _).mpr h3, ?_⟩
    show i ∈ ((View.whole main_v0).slice (win0_2.rect ⟨_, hl⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [i0]; exact h0
    | ⟨1, _⟩ =>
      show win0_2.index _ 1 * 1024 ≤ (i 1 : Nat) ∧ (i 1 : Nat) < win0_2.index _ 1 * 1024 + 1024
      rw [i1]; exact h1

/-- A column's shard, and its place there. -/
theorem within (s k : ℕ) (hk : k < 2816) : (2816 * s + k) / 2816 = s ∧ (2816 * s + k) % 2816 = k := by omega

/-- The reference computes the same gradient. -/
theorem reference (A : ℕ → ℕ → EReal) (B : ℕ → ℕ → ℕ → EReal) : truncf (φ := .f32) .bf16 (Host.dotGeneral Cert.UpHRefIdeal.dot_S2048x11264_S2048x11264_S2048x2048_1_1_0_0_n_n none (extf .f32 (e2 A : FVec Ideal ⟨2, ![2048, 11264]⟩ .bf16) Cert.UpHRefIdeal.Gen.bitsLt_bf16_f32)
      (shapeCast Cert.UpHRefIdeal.S2048x11264 (transpose Cert.UpHRefIdeal.S2048x4x2816 [1, 0, 2] (extf .f32 (e3 B : FVec Ideal ⟨3, ![4, 2048, 2816]⟩ .bf16) Cert.UpHRefIdeal.Gen.bitsLt_bf16_f32) Cert.UpHRefIdeal.Gen.transposes_S4x2048x2816_S2048x4x2816_1_0_2)
        Cert.UpHRefIdeal.Gen.shapeCasts_S2048x4x2816_S2048x11264)) Cert.UpHRefIdeal.Gen.bitsLt_bf16_f32 = (show FVec Ideal ⟨2, ![2048, 2048]⟩ .bf16 from e2 (grad A B)) := by
  funext y
  rw [eq_ix2 y]
  pointwise [e2, e3, grad, Cert.UpHRefIdeal.dot_S2048x11264_S2048x11264_S2048x2048_1_1_0_0_n_n]
  exact (sum_blocks 4 2816 fun k => A (y 0).val k * B (k / 2816) (y 1).val (k % 2816)).trans (Finset.sum_congr rfl fun s _ => prod_congr (fun _ => rfl) fun k => by
    rw [(within s k k.isLt).1, (within s k k.isLt).2])

/-- Both programs compute the gradient. -/
theorem algebraic : Cert.algebraic_UpHIdeal_UpHRefIdeal := fun m ρ m' ρ' _ hag =>
  ⟨fun c => (e2 (grad (tab2 (m ((c.tc : Thread nD τ).loc main_arg0) : FVec Ideal S2048x11264 .bf16)) (tab3 (m ((c.tc : Thread nD τ).loc main_arg1) : FVec Ideal S4x2048x2816 .bf16))) : FVec Ideal S2048x2048 .bf16),
   (θ_run defs _ _).mono (fun r hr c => ⟨(hr c).1.trans (final (eq_tab2 _) (eq_tab3 _)), (hr c).2⟩) (Value.run_blocks m ρ),
   (θ_run Cert.UpHRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x11264 .bf16), eq_tab3 (m ((c.tc : Thread nD τ).loc main_arg1) : FVec Ideal S4x2048x2816 .bf16)]
      exact reference _ _) (Cert.UpHRefIdeal.Value.run m' ρ')⟩

end Cert.Gla.UpH
end
-- ==== Proof.InW.lean ====
/- Hand-written, untrusted: THE MIXER INPUT PROJECTION'S WEIGHT GRADIENT. Each grid point multiplies a column block of the
   projections' cotangent, transposed, by a column block of the layer's input; the weights are held transposed. -/
module

public import proofs.«01_k».proof.Defs
public import proofs.«01_k».proof.Proof.Prod
public import proofs.«01_k».proof.Proof.Gen.InWIdeal.Value
public import proofs.«01_k».proof.Proof.Gen.InWRefIdeal.Run

@[expose] public section

set_option maxRecDepth 16384

noncomputable section

namespace Cert.Gla.InW

open Idealize.ShloMosaic Cert.InWIdeal Cert.InWIdeal.Gen Idealize.ShloMosaic.TcCoe Idealize.SL.Sem

/-- The gradient's entries: a column of the cotangent by a column of the input. -/
def grad (A B : ℕ → ℕ → EReal) (i j : ℕ) : EReal := ∑ k : Fin 2048, A k i * B k j

/-- Where the blocks of the factors and of the result lie. -/
theorem at_point : ∀ t : Fin grid0.N, (win0_0.index t 0 = 0 ∧ win0_0.index t 1 = t.val / 2) ∧ (win0_1.index t 0 = 0 ∧ win0_1.index t 1 = t.val % 2)
    ∧ win0_2.index t 0 = t.val / 2 ∧ win0_2.index t 1 = t.val % 2 := by decide +kernel

/-- The body's product. -/
theorem body (A B : ℕ → ℕ → EReal) : out0_2 (F := Ideal) (e2 A) (e2 B) = (e2 (grad A B) : FVec Ideal S1024x1024 .bf16) := by
  unfold out0_2
  rw [View.canon_unit_zero (S := S1024x1024) (by decide), View.ld_unit_zero (S := S2048x1024) (by decide), View.ld_unit_zero (S := S2048x1024) (by decide)]
  unfold k0_pay1
  funext y
  rw [eq_ix2 y]
  pointwise [e2, grad, dot_S2048x1024_S2048x1024_S1024x1024_0_0_1_1_n_n]

variable {m : (ℓ : Loc nD τ sig) → Buf (Elt Ideal) ℓ} {c : Dev nD} {A B : ℕ → ℕ → EReal}

/-- The cotangent's block at a point. -/
theorem left (hA : (m ((c : Thread nD τ).loc main_arg0) : FVec Ideal S2048x8192 .bf16) = e2 A) (t : Fin cfg0.N) :
    iblk m c 0 t = (e2 fun k i => A k (1024 * (t.val / 2) + i) : FVec Ideal S2048x1024 .bf16) := by
  obtain ⟨⟨i0, i1⟩, -⟩ := at_point t
  funext j
  unfold iblk
  rw [View.read_apply]
  show V m c main_arg0 _ = _
  rw [(V_main_arg0 m c).trans hA]
  exact congrArg₂ A (by show win0_0.index t 0 * 2048 + 1 * (j 0).val = (j 0).val; rw [i0]; exact first)
    (by show win0_0.index t 1 * 1024 + 1 * (j 1).val = 1024 * (t.val / 2) + (j 1).val; rw [i1]; exact further)

/-- The input's. -/
theorem right (hB : (m ((c : Thread nD τ).loc main_arg1) : FVec Ideal S2048x2048 .bf16) = e2 B) (t : Fin cfg0.N) :
    iblk m c 1 t = (e2 fun k j => B k (1024 * (t.val % 2) + j) : FVec Ideal S2048x1024 .bf16) := by
  obtain ⟨-, ⟨i0, i1⟩, -⟩ := at_point t
  funext j
  unfold iblk
  rw [View.read_apply]
  show V m c main_arg1 _ = _
  rw [(V_main_arg1 m c).trans hB]
  exact congrArg₂ B (by show win0_1.index t 0 * 2048 + 1 * (j 0).val = (j 0).val; rw [i0]; exact first)
    (by show win0_1.index t 1 * 1024 + 1 * (j 1).val = 1024 * (t.val % 2) + (j 1).val; rw [i1]; exact further)

/-- The point that computes an entry of the gradient. -/
theorem point (i j : ℕ) (hi : i < 8192) (hj : j < 2048) : let t := 2 * (i / 1024) + j / 1024;
    t < 16 ∧ (t / 2 * 1024 ≤ i ∧ i < t / 2 * 1024 + 1024) ∧ t % 2 * 1024 ≤ j ∧ j < t % 2 * 1024 + 1024 := by
  intro t; omega

/-- The result array ends as the gradient. -/
theorem final (hA : (m ((c : Thread nD τ).loc main_arg0) : FVec Ideal S2048x8192 .bf16) = e2 A) (hB : (m ((c : Thread nD τ).loc main_arg1) : FVec Ideal S2048x2048 .bf16) = e2 B) :
    (dats m 0 c).arrAt 2 cfg0.N = (e2 (grad A B) : FVec Ideal S8192x2048 .bf16) :=
  (dats m 0 c).arrAt_eq_of_cover 2 _ (fun t _ => by
    obtain ⟨-, -, i0, i1⟩ := at_point t
    refine (Value.flushed2 m c t).trans ?_
    rw [left hA, right hB, body]
    funext j
    rw [View.read_apply]
    show grad A B (1024 * (t.val / 2) + (j 0).val) (1024 * (t.val % 2) + (j 1).val) = grad A B (win0_2.index t 0 * 1024 + 1 * (j 0).val) (win0_2.index t 1 * 1024 + 1 * (j 1).val)
    rw [i0, i1, further, further]) fun i => by
    obtain ⟨ht, h0, h1⟩ := point (i 0).val (i 1).val (i 0).isLt (i 1).isLt
    have hN := N_0
    have hl : 2 * ((i 0).val / 1024) + (i 1).val / 1024 < cfg0.N := by change _ < grid0.N; rw [hN]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [i0]; exact h0
    | ⟨1, _⟩ =>
      show win0_2.index _ 1 * 1024 ≤ (i 1 : Nat) ∧ (i 1 : Nat) < win0_2.index _ 1 * 1024 + 1024
      rw [i1]; exact h1

/-- The reference computes the same gradient, transposing it twice. -/
theorem reference (A B : ℕ → ℕ → EReal) : truncf (φ := .f32) .bf16 (transpose Cert.InWRefIdeal.S8192x2048 [1, 0] (transpose Cert.InWRefIdeal.S2048x8192 [1, 0] (Host.dotGeneral Cert.InWRefIdeal.dot_S2048x8192_S2048x2048_S8192x2048_0_0_1_1_n_n none
      (extf .f32 (e2 A : FVec Ideal ⟨2, ![2048, 8192]⟩ .bf16) Cert.InWRefIdeal.Gen.bitsLt_bf16_f32) (extf .f32 (e2 B : FVec Ideal ⟨2, ![2048, 2048]⟩ .bf16) Cert.InWRefIdeal.Gen.bitsLt_bf16_f32))
      Cert.InWRefIdeal.Gen.transposes_S8192x2048_S2048x8192_1_0) Cert.InWRefIdeal.Gen.transposes_S2048x8192_S8192x2048_1_0) Cert.InWRefIdeal.Gen.bitsLt_bf16_f32
    = (show FVec Ideal ⟨2, ![8192, 2048]⟩ .bf16 from e2 (grad A B)) := by
  funext y
  rw [eq_ix2 y]
  pointwise [e2, grad, Cert.InWRefIdeal.dot_S2048x8192_S2048x2048_S8192x2048_0_0_1_1_n_n]

/-- Both programs compute the gradient. -/
theorem algebraic : Cert.algebraic_InWIdeal_InWRefIdeal := fun m ρ m' ρ' _ hag =>
  ⟨fun c => (e2 (grad (tab2 (m ((c.tc : Thread nD τ).loc main_arg0) : FVec Ideal S2048x8192 .bf16)) (tab2 (m ((c.tc : Thread nD τ).loc main_arg1) : FVec Ideal S2048x2048 .bf16))) : FVec Ideal S8192x2048 .bf16),
   (θ_run defs _ _).mono (fun r hr c => ⟨(hr c).1.trans (final (eq_tab2 _) (eq_tab2 _)), (hr c).2⟩) (Value.run_blocks m ρ),
   (θ_run Cert.InWRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x8192 .bf16), eq_tab2 (m ((c.tc : Thread nD τ).loc main_arg1) : FVec Ideal S2048x2048 .bf16)]
      exact reference _ _) (Cert.InWRefIdeal.Value.run m' ρ')⟩

end Cert.Gla.InW
end
-- ==== Proof.InH.lean ====
/- Hand-written, untrusted: THE MIXER INPUT PROJECTION'S INPUT GRADIENT. Four grid points in a row sum the products of a quarter of the
   cotangent's columns with the same quarter of the weights' rows, into a buffer that the last of them writes out. -/
module

public import proofs.«01_k».proof.Defs
public import proofs.«01_k».proof.Proof.Prod
public import proofs.«01_k».proof.Proof.Gen.InHIdeal.Value
public import proofs.«01_k».proof.Proof.Gen.InHRefIdeal.Run

@[expose] public section

set_option maxRecDepth 16384

noncomputable section

namespace Cert.Gla.InH

open Idealize.ShloMosaic Cert.InHIdeal Cert.InHIdeal.Gen Idealize.ShloMosaic.TcCoe Idealize.SL.Sem

/-- What a quarter of the columns gives to an entry of a block of the gradient. -/
def part (A B : ℕ → ℕ → EReal) (p q s i j : ℕ) : EReal := ∑ k : Fin 2048, A (1024 * p + i) (2048 * s + k) * B (2048 * s + k) (1024 * q + j)
/-- The gradient's entries. -/
def grad (A B : ℕ → ℕ → EReal) (i j : ℕ) : EReal := ∑ k : Fin (4 * 2048), A i k * B k j

/-- The quarters make the whole. -/
theorem quarters (A B : ℕ → ℕ → EReal) (p q i j : ℕ) : ∑ s ∈ Finset.range 4, part A B p q s i j = grad A B (1024 * p + i) (1024 * q + j) :=
  (sum_blocks 4 2048 fun k => A (1024 * p + i) k * B k (1024 * q + j)).symm

/-- Where the blocks of the factors and of the result lie. -/
theorem at_point : ∀ t : Fin grid0.N, (win0_0.index t 0 = t.val / 8 ∧ win0_0.index t 1 = t.val % 4) ∧ (win0_1.index t 0 = t.val % 4 ∧ win0_1.index t 1 = t.val / 4 % 2)
    ∧ win0_2.index t 0 = t.val / 8 ∧ win0_2.index t 1 = t.val / 4 % 2 := by decide +kernel

/-- The buffer starts at zero. -/
theorem start : k0_pay1 (F := Ideal) = (e2 fun _ _ => 0 : FVec Ideal S1024x1024 .f32) := by
  unfold k0_pay1
  funext y
  rw [eq_ix2 y]
  pointwise [e2]

/-- A point adds its product to the buffer. -/
theorem add_product (X A B : ℕ → ℕ → EReal) : k0_pay2 (F := Ideal) (e2 X) (e2 A) (e2 B) = (e2 fun i j => X i j + ∑ k : Fin 2048, A i k * B k j : FVec Ideal S1024x1024 .f32) := by
  unfold k0_pay2
  funext y
  rw [eq_ix2 y]
  pointwise [e2, dot_S1024x2048_S2048x1024_S1024x1024_1_0_0_1_n_n]

section
variable (c : Dev nD) (i : grid0.Coords) (a3 : Memref sig .tc .vmem S1024x2048 .bf16) (h3 : a3.IsWhole) (a4 : Memref sig .tc .vmem S2048x1024 .bf16) (h4 : a4.IsWhole)
variable (a5 : Memref sig .tc .vmem S1024x1024 .f32) (h5 : a5.IsWhole) (a6 : Memref sig .tc .vmem S1024x1024 .f32) (h6 : a6.IsWhole)
variable (x : Vec Ideal S1024x2048 .bf16) (y : Vec Ideal S2048x1024 .bf16) (z : Vec Ideal S1024x1024 .f32)

theorem off2 : (![0, 0] : Fin 2 → Nat) = fun _ => 0 := funext fun a => by fin_cases a <;> rfl

/-- The first point of a row fills the buffer with zeros and adds. -/
theorem leaves_A (hc : cond0_0 i) (hd : ¬cond0_1 i) : sout0_A_0 (F := Ideal) c i a3 h3 a4 h4 a5 h5 a6 h6 hc hd x y = k0_pay2 k0_pay1 x y := by
  unfold sout0_A_0
  refine (View.read_writes_eq_canon _ _ _ (scover0_A_0 (F := Ideal) c i a3 h3 a4 h4 a5 h5 a6 h6 hc hd x y)).trans ?_
  unfold kernelRun0_A
  dsimp only
  sl_unfold_words
  simp only [View.readAt_eq_ld, h3.read_unread, h4.read_unread, View.ld_unit_zero (S := S1024x2048) off2, View.ld_unit_zero (S := S2048x1024) off2]
  rw [View.canon_cons_unit_zero (S := S1024x1024) off2, View.readCov_unit_zero (S := S1024x1024) _ off2]

/-- A middle point adds. -/
theorem leaves_B (hc : ¬cond0_0 i) (hd : ¬cond0_1 i) : sout0_B_0 (F := Ideal) c i a3 h3 a4 h4 a5 h5 a6 h6 hc hd x y z = k0_pay2 z x y := by
  unfold sout0_B_0
  refine (View.read_writes_eq_canon _ _ _ (scover0_B_0 (F := Ideal) c i a3 h3 a4 h4 a5 h5 a6 h6 hc hd x y z)).trans ?_
  unfold kernelRun0_B
  dsimp only
  sl_unfold_words
  simp only [View.readAt_eq_ld, h3.read_unread, h4.read_unread, h6.read_unread, View.ld_unit_zero (S := S1024x2048) off2, View.ld_unit_zero (S := S2048x1024) off2, View.ld_unit_zero (S := S1024x1024) off2]
  rw [View.canon_cons_unit_zero (S := S1024x1024) off2]

/-- The last point writes out what the buffer then holds. -/
theorem writes_C (hc : ¬cond0_0 i) (hd : cond0_1 i) : out0_C_2 (F := Ideal) c i a3 h3 a4 h4 a5 h5 a6 h6 hc hd x y z = k0_pay2 z x y := by
  unfold out0_C_2
  refine (View.read_writes_eq_canon _ _ _ (cover0_C_2 (F := Ideal) c i a3 h3 a4 h4 a5 h5 a6 h6 hc hd x y z)).trans ?_
  unfold kernelRun0_C
  dsimp only
  sl_unfold_words
  simp only [View.readAt_eq_ld, h3.read_unread, h4.read_unread, h6.read_unread, View.ld_unit_zero (S := S1024x2048) off2, View.ld_unit_zero (S := S2048x1024) off2, View.ld_unit_zero (S := S1024x1024) off2]
  rw [View.canon_cons_unit_zero (S := S1024x1024) off2, View.readCov_unit_zero (S := S1024x1024) _ off2]
end

variable {m : (ℓ : Loc nD τ sig) → Buf (Elt Ideal) ℓ} {c : Dev nD} {A B : ℕ → ℕ → EReal}

/-- The cotangent's block at a point. -/
theorem left (hA : (m ((c : Thread nD τ).loc main_arg0) : FVec Ideal S2048x8192 .bf16) = e2 A) (t : Fin cfg0.N) :
    iblk m c 0 t = (e2 fun i k => A (1024 * (t.val / 8) + i) (2048 * (t.val % 4) + k) : FVec Ideal S1024x2048 .bf16) := by
  obtain ⟨⟨i0, i1⟩, -⟩ := at_point t
  funext j
  unfold iblk
  rw [View.read_apply]
  show V m c main_arg0 _ = _
  rw [(V_main_arg0 m c).trans hA]
  exact congrArg₂ A (by show win0_0.index t 0 * 1024 + 1 * (j 0).val = 1024 * (t.val / 8) + (j 0).val; rw [i0]; exact further)
    (by show win0_0.index t 1 * 2048 + 1 * (j 1).val = 2048 * (t.val % 4) + (j 1).val; rw [i1]; exact further)

/-- The weights'. -/
theorem right (hB : (m ((c : Thread nD τ).loc main_arg1) : FVec Ideal S8192x2048 .bf16) = e2 B) (t : Fin cfg0.N) :
    iblk m c 1 t = (e2 fun k j => B (2048 * (t.val % 4) + k) (1024 * (t.val / 4 % 2) + j) : FVec Ideal S2048x1024 .bf16) := by
  obtain ⟨-, ⟨i0, i1⟩, -⟩ := at_point t
  funext j
  unfold iblk
  rw [View.read_apply]
  show V m c main_arg1 _ = _
  rw [(V_main_arg1 m c).trans hB]
  exact congrArg₂ B (by show win0_1.index t 0 * 2048 + 1 * (j 0).val = 2048 * (t.val % 4) + (j 0).val; rw [i0]; exact further)
    (by show win0_1.index t 1 * 1024 + 1 * (j 1).val = 1024 * (t.val / 4 % 2) + (j 1).val; rw [i1]; exact further)

/-- What a point adds. -/
theorem adds (hA : (m ((c : Thread nD τ).loc main_arg0) : FVec Ideal S2048x8192 .bf16) = e2 A) (hB : (m ((c : Thread nD τ).loc main_arg1) : FVec Ideal S8192x2048 .bf16) = e2 B) (t : Fin cfg0.N) (X : ℕ → ℕ → EReal) :
    k0_pay2 (F := Ideal) (e2 X) (iblk m c 0 t) (iblk m c 1 t) = (e2 fun i j => X i j + part A B (t.val / 8) (t.val / 4 % 2) (t.val % 4) i j : FVec Ideal S1024x1024 .f32) := by
  rw [left hA, right hB, add_product]
  rfl

/-- A row of points: what counts them within the row, and what they share. -/
theorem row (n : ℕ) (h : ¬(n + 1) % 4 = 0) : (n + 1) % 4 = n % 4 + 1 ∧ (n + 1) / 8 = n / 8 ∧ (n + 1) / 4 % 2 = n / 4 % 2 ∧ ¬n % 4 = 3 := by omega

/-- The buffer after a point that is not the last of its row. -/
theorem buffer (hA : (m ((c : Thread nD τ).loc main_arg0) : FVec Ideal S2048x8192 .bf16) = e2 A) (hB : (m ((c : Thread nD τ).loc main_arg1) : FVec Ideal S8192x2048 .bf16) = e2 B) :
    ∀ (n : ℕ) (hn : n < cfg0.N), ¬n % 4 = 3 → (outsAt0 m c n hn).2 = (e2 fun i j => ∑ s ∈ Finset.range (n % 4 + 1), part A B (n / 8) (n / 4 % 2) s i j : FVec Ideal S1024x1024 .f32) := by
  intro n
  induction n with
  | zero =>
    intro hn h3
    rw [outsAt0_A m c ⟨0, hn⟩ rfl h3]
    dsimp only
    rw [leaves_A, start, adds hA hB]
    exact congrArg e2 (funext fun i => funext fun j => by rw [zero_add]; exact (Finset.sum_range_one fun s => part A B (0 / 8) (0 / 4 % 2) s i j).symm)
  | succ n ih =>
    intro hn h3
    by_cases h0 : (n + 1) % 4 = 0
    · rw [outsAt0_A m c ⟨n + 1, hn⟩ h0 h3]
      dsimp only
      rw [leaves_A, start, adds hA hB]
      dsimp only
      rw [h0]
      exact congrArg e2 (funext fun i => funext fun j => by rw [zero_add]; exact (Finset.sum_range_one fun s => part A B ((n + 1) / 8) ((n + 1) / 4 % 2) s i j).symm)
    · obtain ⟨r0, r1, r2, r3⟩ := row n h0
      rw [outsAt0_B m c ⟨n + 1, hn⟩ h0 h3]
      dsimp only
      rw [leaves_B, show (outsAt0 m c (n + 1 - 1) _).2 = _ from ih (Nat.lt_of_succ_lt hn) r3, adds hA hB]
      dsimp only
      rw [r0, r1, r2]
      exact congrArg e2 (funext fun i => funext fun j => (Finset.sum_range_succ _ _).symm)

/-- The point that writes an entry of the gradient. -/
theorem point (i j : ℕ) (hi : i < 2048) (hj : j < 2048) : let t := 8 * (i / 1024) + 4 * (j / 1024) + 3;
    t < 16 ∧ t % 4 = 3 ∧ (t / 8 * 1024 ≤ i ∧ i < t / 8 * 1024 + 1024) ∧ t / 4 % 2 * 1024 ≤ j ∧ j < t / 4 % 2 * 1024 + 1024 := by
  intro t; omega
/-- The point before the last of a row is in the row. -/
theorem before (t : ℕ) (h : t % 4 = 3) : ¬(t - 1) % 4 = 3 ∧ (t - 1) % 4 + 1 = 3 ∧ (t - 1) / 8 = t / 8 ∧ (t - 1) / 4 % 2 = t / 4 % 2 ∧ ¬t % 4 = 0 := by omega

/-- The result array ends as the gradient. -/
theorem final (hA : (m ((c : Thread nD τ).loc main_arg0) : FVec Ideal S2048x8192 .bf16) = e2 A) (hB : (m ((c : Thread nD τ).loc main_arg1) : FVec Ideal S8192x2048 .bf16) = e2 B) :
    (dats m 0 c).arrAt 2 cfg0.N = (e2 (grad A B) : FVec Ideal S2048x2048 .f32) :=
  (dats m 0 c).arrAt_eq_of_cover 2 _ (fun t hf => by
    obtain ⟨-, -, i0, i1⟩ := at_point t
    have h3 := (flush0_2 t).mp hf
    obtain ⟨b0, b1, b2, b3, b4⟩ := before t.val h3
    refine (Value.flushed2_C m c t b4 h3).trans ?_
    rw [writes_C, buffer hA hB _ _ b0, adds hA hB, b1, b2, b3, h3]
    funext j
    rw [View.read_apply]
    show (∑ s ∈ Finset.range 3, part A B (t.val / 8) (t.val / 4 % 2) s (j 0).val (j 1).val) + part A B (t.val / 8) (t.val / 4 % 2) 3 (j 0).val (j 1).val
      = grad A B (win0_2.index t 0 * 1024 + 1 * (j 0).val) (win0_2.index t 1 * 1024 + 1 * (j 1).val)
    rw [i0, i1, further, further]
    exact (Finset.sum_range_succ _ _).symm.trans (quarters A B _ _ _ _)) fun i => by
    obtain ⟨ht, h3, h0, h1⟩ := point (i 0).val (i 1).val (i 0).isLt (i 1).isLt
    have hN := N_0
    have hl : 8 * ((i 0).val / 1024) + 4 * ((i 1).val / 1024) + 3 < cfg0.N := by change _ < grid0.N; rw [hN]; exact ht
    obtain ⟨-, -, i0, i1⟩ := at_point ⟨_, hl⟩
    refine ⟨⟨_, hl⟩, (flush0_2 _).mpr h3, ?_⟩
    show i ∈ ((View.whole main_v0).slice (win0_2.rect ⟨_, hl⟩)).set
    rw [View.set_slice_whole, Rect.mem_set_unit]
    intro a
    match a with
    | ⟨0, _⟩ =>
      show win0_2.index _ 0 * 1024 ≤ (i 0 : Nat) ∧ (i 0 : Nat) < win0_2.index _ 0 * 1024 + 1024
      rw [i0]; exact h0
    | ⟨1, _⟩ =>
      show win0_2.index _ 1 * 1024 ≤ (i 1 : Nat) ∧ (i 1 : Nat) < win0_2.index _ 1 * 1024 + 1024
      rw [i1]; exact h1

/-- The reference computes the same gradient. -/
theorem reference (A B : ℕ → ℕ → EReal) : Host.dotGeneral Cert.InHRefIdeal.dot_S2048x8192_S2048x8192_S2048x2048_1_1_0_0_n_n none (extf .f32 (e2 A : FVec Ideal ⟨2, ![2048, 8192]⟩ .bf16) Cert.InHRefIdeal.Gen.bitsLt_bf16_f32)
      (transpose Cert.InHRefIdeal.S2048x8192 [1, 0] (extf .f32 (e2 B : FVec Ideal ⟨2, ![8192, 2048]⟩ .bf16) Cert.InHRefIdeal.Gen.bitsLt_bf16_f32) Cert.InHRefIdeal.Gen.transposes_S8192x2048_S2048x8192_1_0)
    = (show FVec Ideal ⟨2, ![2048, 2048]⟩ .f32 from e2 (grad A B)) := by
  funext y
  rw [eq_ix2 y]
  pointwise [e2, grad, Cert.InHRefIdeal.dot_S2048x8192_S2048x8192_S2048x2048_1_1_0_0_n_n]

/-- Both programs compute the gradient. -/
theorem algebraic : Cert.algebraic_InHIdeal_InHRefIdeal := fun m ρ m' ρ' _ hag =>
  ⟨fun c => (e2 (grad (tab2 (m ((c.tc : Thread nD τ).loc main_arg0) : FVec Ideal S2048x8192 .bf16)) (tab2 (m ((c.tc : Thread nD τ).loc main_arg1) : FVec Ideal S8192x2048 .bf16))) : FVec Ideal S2048x2048 .f32),
   (θ_run defs _ _).mono (fun r hr c => ⟨(hr c).1.trans (final (eq_tab2 _) (eq_tab2 _)), (hr c).2⟩) (Value.run_blocks m ρ),
   (θ_run Cert.InHRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x8192 .bf16), eq_tab2 (m ((c.tc : Thread nD τ).loc main_arg1) : FVec Ideal S8192x2048 .bf16)]
      exact reference _ _) (Cert.InHRefIdeal.Value.run m' ρ')⟩

end Cert.Gla.InH
end
-- ==== Proof.Act.lean ====
/- Hand-written, untrusted: THE FEED-FORWARD ACTIVATION'S GRADIENT. Each grid point multiplies a row block of the cotangent by a row block
   of the down-projection's weights, transposed. -/
module

public import proofs.«01_k».proof.Defs
public import proofs.«01_k».proof.Proof.Prod
public import proofs.«01_k».proof.Proof.Gen.ActIdeal.Value
public import proofs.«01_k».proof.Proof.Gen.ActRefIdeal.Run

@[expose] public section

set_option maxRecDepth 16384

noncomputable section

namespace Cert.Gla.Act

open Idealize.ShloMosaic Cert.ActIdeal Cert.ActIdeal.Gen Idealize.ShloMosaic.TcCoe Idealize.SL.Sem

/-- Where the blocks of the factors and of the result lie. -/
theorem at_point : ∀ t : Fin grid0.N, (win0_0.index t 0 = t.val / 4 ∧ win0_0.index t 1 = 0) ∧ (win0_1.index t 0 = t.val % 4 ∧ win0_1.index t 1 = 0)
    ∧ win0_2.index t 0 = t.val / 4 ∧ win0_2.index t 1 = t.val % 4 := by decide +kernel

/-- The body's product. -/
theorem body (A B : ℕ → ℕ → EReal) : out0_2 (F := Ideal) (e2 A) (e2 B) = (e2 (prod_nt 2048 A B) : FVec Ideal S1024x1408 .bf16) := by
  unfold out0_2
  rw [View.canon_unit_zero (S := S1024x1408) (by decide), View.ld_unit_zero (S := S1024x2048) (by decide), View.ld_unit_zero (S := S1408x2048) (by decide)]
  unfold k0_pay1
  funext y
  rw [eq_ix2 y]
  pointwise [e2, prod_nt, dot_S1024x2048_S1408x2048_S1024x1408_1_1_0_0_n_n]

variable {m : (ℓ : Loc nD τ sig) → Buf (Elt Ideal) ℓ} {c : Dev nD} {A B : ℕ → ℕ → EReal}

/-- The cotangent's block at a point. -/
theorem left (hA : (m ((c : Thread nD τ).loc main_arg0) : FVec Ideal S2048x2048 .bf16) = e2 A) (t : Fin cfg0.N) :
    iblk m c 0 t = (e2 fun i k => A (1024 * (t.val / 4) + i) k : FVec Ideal S1024x2048 .bf16) := by
  funext j
  unfold iblk
  rw [View.read_apply]
  show V m c main_arg0 _ = _
  rw [(V_main_arg0 m c).trans hA]
  exact congrArg₂ A (at_further (n := 1024) (at_point t).1.1) (at_first (n := 2048) (at_point t).1.2)

/-- The weights'. -/
theorem right (hB : (m ((c : Thread nD τ).loc main_arg1) : FVec Ideal S5632x2048 .bf16) = e2 B) (t : Fin cfg0.N) :
    iblk m c 1 t = (e2 fun j k => B (1408 * (t.val % 4) + j) k : FVec Ideal S1408x2048 .bf16) := by
  funext j
  unfold iblk
  rw [View.read_apply]
  show V m c main_arg1 _ = _
  rw [(V_main_arg1 m c).trans hB]
  exact congrArg₂ B (at_further (n := 1408) (at_point t).2.1.1) (at_first (n := 2048) (at_point t).2.1.2)

/-- The result array ends as the gradient. -/
theorem final (hA : (m ((c : Thread nD τ).loc main_arg0) : FVec Ideal S2048x2048 .bf16) = e2 A) (hB : (m ((c : Thread nD τ).loc main_arg1) : FVec Ideal S5632x2048 .bf16) = e2 B) :
    (dats m 0 c).arrAt 2 cfg0.N = (e2 (prod_nt 2048 A B) : FVec Ideal S2048x5632 .bf16) :=
  (dats m 0 c).arrAt_eq_of_cover 2 _ (fun t _ => by
    refine (Value.flushed2 m c t).trans ?_
    rw [left hA, right hB, body]
    funext j
    rw [View.read_apply]
    exact (congrArg₂ (prod_nt 2048 A B) (at_further (n := 1024) (at_point t).2.2.1) (at_further (n := 1408) (at_point t).2.2.2)).symm) fun i => by
    obtain ⟨ht, h0, h1⟩ := grid_point (Nat.div_lt_of_lt_mul (i 0).isLt : (i 0).val / 1024 < 2) (Nat.div_lt_of_lt_mul (i 1).isLt : (i 1).val / 1408 < 4)
    have hl : 4 * ((i 0).val / 1024) + (i 1).val / 1408 < cfg0.N := by change _ < grid0.N; rw [N_0]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) h0
    | ⟨1, _⟩ => exact tile (n := 1408) i1 (by decide) h1

/-- The reference computes the same gradient. -/
theorem reference (A B : ℕ → ℕ → EReal) : truncf (φ := .f32) .bf16 (Host.dotGeneral Cert.ActRefIdeal.dot_S2048x2048_S5632x2048_S2048x5632_1_1_0_0_n_n none
      (extf .f32 (e2 A : FVec Ideal ⟨2, ![2048, 2048]⟩ .bf16) Cert.ActRefIdeal.Gen.bitsLt_bf16_f32) (extf .f32 (e2 B : FVec Ideal ⟨2, ![5632, 2048]⟩ .bf16) Cert.ActRefIdeal.Gen.bitsLt_bf16_f32)) Cert.ActRefIdeal.Gen.bitsLt_bf16_f32
    = (show FVec Ideal ⟨2, ![2048, 5632]⟩ .bf16 from e2 (prod_nt 2048 A B)) := by
  funext y
  rw [eq_ix2 y]
  pointwise [e2, prod_nt, Cert.ActRefIdeal.dot_S2048x2048_S5632x2048_S2048x5632_1_1_0_0_n_n]

/-- Both programs compute the gradient. -/
theorem algebraic : Cert.algebraic_ActIdeal_ActRefIdeal := fun m ρ m' ρ' _ hag =>
  ⟨fun c => (e2 (prod_nt 2048 (tab2 (m ((c.tc : Thread nD τ).loc main_arg0) : FVec Ideal S2048x2048 .bf16)) (tab2 (m ((c.tc : Thread nD τ).loc main_arg1) : FVec Ideal S5632x2048 .bf16))) : FVec Ideal S2048x5632 .bf16),
   (θ_run defs _ _).mono (fun r hr c => ⟨(hr c).1.trans (final (eq_tab2 _) (eq_tab2 _)), (hr c).2⟩) (Value.run_blocks m ρ),
   (θ_run Cert.ActRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x2048 .bf16), eq_tab2 (m ((c.tc : Thread nD τ).loc main_arg1) : FVec Ideal S5632x2048 .bf16)]
      exact reference _ _) (Cert.ActRefIdeal.Value.run m' ρ')⟩

end Cert.Gla.Act
end
-- ==== Proof.DownW.lean ====
/- Hand-written, untrusted: THE FEED-FORWARD DOWN-PROJECTION'S WEIGHT GRADIENT. Each grid point multiplies a column block of the
   activation, transposed, by a column block of the cotangent. -/
module

public import proofs.«01_k».proof.Defs
public import proofs.«01_k».proof.Proof.Prod
public import proofs.«01_k».proof.Proof.Gen.DownWIdeal.Value
public import proofs.«01_k».proof.Proof.Gen.DownWRefIdeal.Run

@[expose] public section

set_option maxRecDepth 16384

noncomputable section

namespace Cert.Gla.DownW

open Idealize.ShloMosaic Cert.DownWIdeal Cert.DownWIdeal.Gen Idealize.ShloMosaic.TcCoe Idealize.SL.Sem

/-- Where the blocks of the factors and of the result lie. -/
theorem at_point : ∀ t : Fin grid0.N, (win0_0.index t 0 = 0 ∧ win0_0.index t 1 = t.val / 2) ∧ (win0_1.index t 0 = 0 ∧ win0_1.index t 1 = t.val % 2)
    ∧ win0_2.index t 0 = t.val / 2 ∧ win0_2.index t 1 = t.val % 2 := by decide +kernel

/-- The body's product. -/
theorem body (A B : ℕ → ℕ → EReal) : out0_2 (F := Ideal) (e2 A) (e2 B) = (e2 (prod_tn 2048 A B) : FVec Ideal S1408x1024 .bf16) := by
  unfold out0_2
  rw [View.canon_unit_zero (S := S1408x1024) (by decide), View.ld_unit_zero (S := S2048x1408) (by decide), View.ld_unit_zero (S := S2048x1024) (by decide)]
  unfold k0_pay1
  funext y
  rw [eq_ix2 y]
  pointwise [e2, prod_tn, dot_S2048x1408_S2048x1024_S1408x1024_0_0_1_1_n_n]

variable {m : (ℓ : Loc nD τ sig) → Buf (Elt Ideal) ℓ} {c : Dev nD} {A B : ℕ → ℕ → EReal}

/-- The activation's block at a point. -/
theorem left (hA : (m ((c : Thread nD τ).loc main_arg0) : FVec Ideal S2048x5632 .bf16) = e2 A) (t : Fin cfg0.N) :
    iblk m c 0 t = (e2 fun k i => A k (1408 * (t.val / 2) + i) : FVec Ideal S2048x1408 .bf16) := by
  funext j
  unfold iblk
  rw [View.read_apply]
  show V m c main_arg0 _ = _
  rw [(V_main_arg0 m c).trans hA]
  exact congrArg₂ A (at_first (n := 2048) (at_point t).1.1) (at_further (n := 1408) (at_point t).1.2)

/-- The cotangent's. -/
theorem right (hB : (m ((c : Thread nD τ).loc main_arg1) : FVec Ideal S2048x2048 .bf16) = e2 B) (t : Fin cfg0.N) :
    iblk m c 1 t = (e2 fun k j => B k (1024 * (t.val % 2) + j) : FVec Ideal S2048x1024 .bf16) := by
  funext j
  unfold iblk
  rw [View.read_apply]
  show V m c main_arg1 _ = _
  rw [(V_main_arg1 m c).trans hB]
  exact congrArg₂ B (at_first (n := 2048) (at_point t).2.1.1) (at_further (n := 1024) (at_point t).2.1.2)

/-- The result array ends as the gradient. -/
theorem final (hA : (m ((c : Thread nD τ).loc main_arg0) : FVec Ideal S2048x5632 .bf16) = e2 A) (hB : (m ((c : Thread nD τ).loc main_arg1) : FVec Ideal S2048x2048 .bf16) = e2 B) :
    (dats m 0 c).arrAt 2 cfg0.N = (e2 (prod_tn 2048 A B) : FVec Ideal S5632x2048 .bf16) :=
  (dats m 0 c).arrAt_eq_of_cover 2 _ (fun t _ => by
    refine (Value.flushed2 m c t).trans ?_
    rw [left hA, right hB, body]
    funext j
    rw [View.read_apply]
    exact (congrArg₂ (prod_tn 2048 A B) (at_further (n := 1408) (at_point t).2.2.1) (at_further (n := 1024) (at_point t).2.2.2)).symm) fun i => by
    obtain ⟨ht, h0, h1⟩ := grid_point (Nat.div_lt_of_lt_mul (i 0).isLt : (i 0).val / 1408 < 4) (Nat.div_lt_of_lt_mul (i 1).isLt : (i 1).val / 1024 < 2)
    have hl : 2 * ((i 0).val / 1408) + (i 1).val / 1024 < cfg0.N := by change _ < grid0.N; rw [N_0]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1408) i0 (by decide) h0
    | ⟨1, _⟩ => exact tile (n := 1024) i1 (by decide) h1

/-- The reference computes the same gradient, from its transpose. -/
theorem reference (A B : ℕ → ℕ → EReal) : truncf (φ := .f32) .bf16 (transpose Cert.DownWRefIdeal.S5632x2048 [1, 0] (Host.dotGeneral Cert.DownWRefIdeal.dot_S2048x2048_S2048x5632_S2048x5632_0_0_1_1_n_n none
      (extf .f32 (e2 B : FVec Ideal ⟨2, ![2048, 2048]⟩ .bf16) Cert.DownWRefIdeal.Gen.bitsLt_bf16_f32) (extf .f32 (e2 A : FVec Ideal ⟨2, ![2048, 5632]⟩ .bf16) Cert.DownWRefIdeal.Gen.bitsLt_bf16_f32))
      Cert.DownWRefIdeal.Gen.transposes_S2048x5632_S5632x2048_1_0) Cert.DownWRefIdeal.Gen.bitsLt_bf16_f32
    = (show FVec Ideal ⟨2, ![5632, 2048]⟩ .bf16 from e2 (prod_tn 2048 A B)) := by
  funext y
  rw [eq_ix2 y]
  pointwise [e2, prod_tn, Cert.DownWRefIdeal.dot_S2048x2048_S2048x5632_S2048x5632_0_0_1_1_n_n]
  exact Finset.sum_congr rfl fun _ _ => mul_comm _ _

/-- Both programs compute the gradient. -/
theorem algebraic : Cert.algebraic_DownWIdeal_DownWRefIdeal := fun m ρ m' ρ' _ hag =>
  ⟨fun c => (e2 (prod_tn 2048 (tab2 (m ((c.tc : Thread nD τ).loc main_arg0) : FVec Ideal S2048x5632 .bf16)) (tab2 (m ((c.tc : Thread nD τ).loc main_arg1) : FVec Ideal S2048x2048 .bf16))) : FVec Ideal S5632x2048 .bf16),
   (θ_run defs _ _).mono (fun r hr c => ⟨(hr c).1.trans (final (eq_tab2 _) (eq_tab2 _)), (hr c).2⟩) (Value.run_blocks m ρ),
   (θ_run Cert.DownWRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x5632 .bf16), eq_tab2 (m ((c.tc : Thread nD τ).loc main_arg1) : FVec Ideal S2048x2048 .bf16)]
      exact reference _ _) (Cert.DownWRefIdeal.Value.run m' ρ')⟩

end Cert.Gla.DownW
end
-- ==== Proof.CrossH.lean ====
/- Hand-written, untrusted: THE INPUT GRADIENT OF A SQUARE PROJECTION (the cross-attention's and the mixer's output projections and the
   query projection share it). Each grid point multiplies a row block of the cotangent by a row block of the weights, transposed. -/
module

public import proofs.«01_k».proof.Defs
public import proofs.«01_k».proof.Proof.Prod
public import proofs.«01_k».proof.Proof.Gen.CrossHIdeal.Value
public import proofs.«01_k».proof.Proof.Gen.CrossHRefIdeal.Run

@[expose] public section

set_option maxRecDepth 16384

noncomputable section

namespace Cert.Gla.CrossH

open Idealize.ShloMosaic Cert.CrossHIdeal Cert.CrossHIdeal.Gen Idealize.ShloMosaic.TcCoe Idealize.SL.Sem

/-- Where the blocks of the factors and of the result lie. -/
theorem at_point : ∀ t : Fin grid0.N, (win0_0.index t 0 = t.val / 2 ∧ win0_0.index t 1 = 0) ∧ (win0_1.index t 0 = t.val % 2 ∧ win0_1.index t 1 = 0)
    ∧ win0_2.index t 0 = t.val / 2 ∧ win0_2.index t 1 = t.val % 2 := by decide +kernel

/-- The body's product. -/
theorem body (A B : ℕ → ℕ → EReal) : out0_2 (F := Ideal) (e2 A) (e2 B) = (e2 (prod_nt 2048 A B) : FVec Ideal S1024x1024 .bf16) := by
  unfold out0_2
  rw [View.canon_unit_zero (S := S1024x1024) (by decide), View.ld_unit_zero (S := S1024x2048) (by decide), View.ld_unit_zero (S := S1024x2048) (by decide)]
  unfold k0_pay1
  funext y
  rw [eq_ix2 y]
  pointwise [e2, prod_nt, dot_S1024x2048_S1024x2048_S1024x1024_1_1_0_0_n_n]

variable {m : (ℓ : Loc nD τ sig) → Buf (Elt Ideal) ℓ} {c : Dev nD} {A B : ℕ → ℕ → EReal}

/-- The cotangent's block at a point. -/
theorem left (hA : (m ((c : Thread nD τ).loc main_arg0) : FVec Ideal S2048x2048 .bf16) = e2 A) (t : Fin cfg0.N) :
    iblk m c 0 t = (e2 fun i k => A (1024 * (t.val / 2) + i) k : FVec Ideal S1024x2048 .bf16) := by
  funext j
  unfold iblk
  rw [View.read_apply]
  show V m c main_arg0 _ = _
  rw [(V_main_arg0 m c).trans hA]
  exact congrArg₂ A (at_further (n := 1024) (at_point t).1.1) (at_first (n := 2048) (at_point t).1.2)

/-- The weights'. -/
theorem right (hB : (m ((c : Thread nD τ).loc main_arg1) : FVec Ideal S2048x2048 .bf16) = e2 B) (t : Fin cfg0.N) :
    iblk m c 1 t = (e2 fun j k => B (1024 * (t.val % 2) + j) k : FVec Ideal S1024x2048 .bf16) := by
  funext j
  unfold iblk
  rw [View.read_apply]
  show V m c main_arg1 _ = _
  rw [(V_main_arg1 m c).trans hB]
  exact congrArg₂ B (at_further (n := 1024) (at_point t).2.1.1) (at_first (n := 2048) (at_point t).2.1.2)

/-- The result array ends as the gradient. -/
theorem final (hA : (m ((c : Thread nD τ).loc main_arg0) : FVec Ideal S2048x2048 .bf16) = e2 A) (hB : (m ((c : Thread nD τ).loc main_arg1) : FVec Ideal S2048x2048 .bf16) = e2 B) :
    (dats m 0 c).arrAt 2 cfg0.N = (e2 (prod_nt 2048 A B) : FVec Ideal S2048x2048 .bf16) :=
  (dats m 0 c).arrAt_eq_of_cover 2 _ (fun t _ => by
    refine (Value.flushed2 m c t).trans ?_
    rw [left hA, right hB, body]
    funext j
    rw [View.read_apply]
    exact (congrArg₂ (prod_nt 2048 A B) (at_further (n := 1024) (at_point t).2.2.1) (at_further (n := 1024) (at_point t).2.2.2)).symm) fun i => by
    obtain ⟨ht, h0, h1⟩ := grid_point (Nat.div_lt_of_lt_mul (i 0).isLt : (i 0).val / 1024 < 2) (Nat.div_lt_of_lt_mul (i 1).isLt : (i 1).val / 1024 < 2)
    have hl : 2 * ((i 0).val / 1024) + (i 1).val / 1024 < cfg0.N := by change _ < grid0.N; rw [N_0]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) h0
    | ⟨1, _⟩ => exact tile (n := 1024) i1 (by decide) h1

/-- The reference computes the same gradient. -/
theorem reference (A B : ℕ → ℕ → EReal) : truncf (φ := .f32) .bf16 (Host.dotGeneral Cert.CrossHRefIdeal.dot_S2048x2048_S2048x2048_S2048x2048_1_1_0_0_n_n none
      (extf .f32 (e2 A : FVec Ideal ⟨2, ![2048, 2048]⟩ .bf16) Cert.CrossHRefIdeal.Gen.bitsLt_bf16_f32) (extf .f32 (e2 B : FVec Ideal ⟨2, ![2048, 2048]⟩ .bf16) Cert.CrossHRefIdeal.Gen.bitsLt_bf16_f32)) Cert.CrossHRefIdeal.Gen.bitsLt_bf16_f32
    = (show FVec Ideal ⟨2, ![2048, 2048]⟩ .bf16 from e2 (prod_nt 2048 A B)) := by
  funext y
  rw [eq_ix2 y]
  pointwise [e2, prod_nt, Cert.CrossHRefIdeal.dot_S2048x2048_S2048x2048_S2048x2048_1_1_0_0_n_n]

/-- Both programs compute the gradient. -/
theorem algebraic : Cert.algebraic_CrossHIdeal_CrossHRefIdeal := fun m ρ m' ρ' _ hag =>
  ⟨fun c => (e2 (prod_nt 2048 (tab2 (m ((c.tc : Thread nD τ).loc main_arg0) : FVec Ideal S2048x2048 .bf16)) (tab2 (m ((c.tc : Thread nD τ).loc main_arg1) : FVec Ideal S2048x2048 .bf16))) : FVec Ideal S2048x2048 .bf16),
   (θ_run defs _ _).mono (fun r hr c => ⟨(hr c).1.trans (final (eq_tab2 _) (eq_tab2 _)), (hr c).2⟩) (Value.run_blocks m ρ),
   (θ_run Cert.CrossHRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x2048 .bf16), eq_tab2 (m ((c.tc : Thread nD τ).loc main_arg1) : FVec Ideal S2048x2048 .bf16)]
      exact reference _ _) (Cert.CrossHRefIdeal.Value.run m' ρ')⟩

end Cert.Gla.CrossH
end
-- ==== Proof.CrossW.lean ====
/- Hand-written, untrusted: THE WEIGHT GRADIENT OF A SQUARE PROJECTION (the cross-attention's two and the mixer's output projection share it).
   Each grid point multiplies a column block of the projection's input, transposed, by a column block of the cotangent. -/
module

public import proofs.«01_k».proof.Defs
public import proofs.«01_k».proof.Proof.Prod
public import proofs.«01_k».proof.Proof.Gen.CrossWIdeal.Value
public import proofs.«01_k».proof.Proof.Gen.CrossWRefIdeal.Run

@[expose] public section

set_option maxRecDepth 16384

noncomputable section

namespace Cert.Gla.CrossW

open Idealize.ShloMosaic Cert.CrossWIdeal Cert.CrossWIdeal.Gen Idealize.ShloMosaic.TcCoe Idealize.SL.Sem

/-- Where the blocks of the factors and of the result lie. -/
theorem at_point : ∀ t : Fin grid0.N, (win0_0.index t 0 = 0 ∧ win0_0.index t 1 = t.val / 2) ∧ (win0_1.index t 0 = 0 ∧ win0_1.index t 1 = t.val % 2)
    ∧ win0_2.index t 0 = t.val / 2 ∧ win0_2.index t 1 = t.val % 2 := by decide +kernel

/-- The body's product. -/
theorem body (A B : ℕ → ℕ → EReal) : out0_2 (F := Ideal) (e2 A) (e2 B) = (e2 (prod_tn 2048 A B) : FVec Ideal S1024x1024 .bf16) := by
  unfold out0_2
  rw [View.canon_unit_zero (S := S1024x1024) (by decide), View.ld_unit_zero (S := S2048x1024) (by decide), View.ld_unit_zero (S := S2048x1024) (by decide)]
  unfold k0_pay1
  funext y
  rw [eq_ix2 y]
  pointwise [e2, prod_tn, dot_S2048x1024_S2048x1024_S1024x1024_0_0_1_1_n_n]

variable {m : (ℓ : Loc nD τ sig) → Buf (Elt Ideal) ℓ} {c : Dev nD} {A B : ℕ → ℕ → EReal}

/-- The input's block at a point. -/
theorem left (hA : (m ((c : Thread nD τ).loc main_arg0) : FVec Ideal S2048x2048 .bf16) = e2 A) (t : Fin cfg0.N) :
    iblk m c 0 t = (e2 fun k i => A k (1024 * (t.val / 2) + i) : FVec Ideal S2048x1024 .bf16) := by
  funext j
  unfold iblk
  rw [View.read_apply]
  show V m c main_arg0 _ = _
  rw [(V_main_arg0 m c).trans hA]
  exact congrArg₂ A (at_first (n := 2048) (at_point t).1.1) (at_further (n := 1024) (at_point t).1.2)

/-- The cotangent's. -/
theorem right (hB : (m ((c : Thread nD τ).loc main_arg1) : FVec Ideal S2048x2048 .bf16) = e2 B) (t : Fin cfg0.N) :
    iblk m c 1 t = (e2 fun k j => B k (1024 * (t.val % 2) + j) : FVec Ideal S2048x1024 .bf16) := by
  funext j
  unfold iblk
  rw [View.read_apply]
  show V m c main_arg1 _ = _
  rw [(V_main_arg1 m c).trans hB]
  exact congrArg₂ B (at_first (n := 2048) (at_point t).2.1.1) (at_further (n := 1024) (at_point t).2.1.2)

/-- The result array ends as the gradient. -/
theorem final (hA : (m ((c : Thread nD τ).loc main_arg0) : FVec Ideal S2048x2048 .bf16) = e2 A) (hB : (m ((c : Thread nD τ).loc main_arg1) : FVec Ideal S2048x2048 .bf16) = e2 B) :
    (dats m 0 c).arrAt 2 cfg0.N = (e2 (prod_tn 2048 A B) : FVec Ideal S2048x2048 .bf16) :=
  (dats m 0 c).arrAt_eq_of_cover 2 _ (fun t _ => by
    refine (Value.flushed2 m c t).trans ?_
    rw [left hA, right hB, body]
    funext j
    rw [View.read_apply]
    exact (congrArg₂ (prod_tn 2048 A B) (at_further (n := 1024) (at_point t).2.2.1) (at_further (n := 1024) (at_point t).2.2.2)).symm) fun i => by
    obtain ⟨ht, h0, h1⟩ := grid_point (Nat.div_lt_of_lt_mul (i 0).isLt : (i 0).val / 1024 < 2) (Nat.div_lt_of_lt_mul (i 1).isLt : (i 1).val / 1024 < 2)
    have hl : 2 * ((i 0).val / 1024) + (i 1).val / 1024 < cfg0.N := by change _ < grid0.N; rw [N_0]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) h0
    | ⟨1, _⟩ => exact tile (n := 1024) i1 (by decide) h1

/-- The reference computes the same gradient, from its transpose. -/
theorem reference (A B : ℕ → ℕ → EReal) : truncf (φ := .f32) .bf16 (transpose Cert.CrossWRefIdeal.S2048x2048 [1, 0] (Host.dotGeneral Cert.CrossWRefIdeal.dot_S2048x2048_S2048x2048_S2048x2048_0_0_1_1_n_n none
      (extf .f32 (e2 B : FVec Ideal ⟨2, ![2048, 2048]⟩ .bf16) Cert.CrossWRefIdeal.Gen.bitsLt_bf16_f32) (extf .f32 (e2 A : FVec Ideal ⟨2, ![2048, 2048]⟩ .bf16) Cert.CrossWRefIdeal.Gen.bitsLt_bf16_f32))
      Cert.CrossWRefIdeal.Gen.transposes_S2048x2048_S2048x2048_1_0) Cert.CrossWRefIdeal.Gen.bitsLt_bf16_f32
    = (show FVec Ideal ⟨2, ![2048, 2048]⟩ .bf16 from e2 (prod_tn 2048 A B)) := by
  funext y
  rw [eq_ix2 y]
  pointwise [e2, prod_tn, Cert.CrossWRefIdeal.dot_S2048x2048_S2048x2048_S2048x2048_0_0_1_1_n_n]
  exact Finset.sum_congr rfl fun _ _ => mul_comm _ _

/-- Both programs compute the gradient. -/
theorem algebraic : Cert.algebraic_CrossWIdeal_CrossWRefIdeal := fun m ρ m' ρ' _ hag =>
  ⟨fun c => (e2 (prod_tn 2048 (tab2 (m ((c.tc : Thread nD τ).loc main_arg0) : FVec Ideal S2048x2048 .bf16)) (tab2 (m ((c.tc : Thread nD τ).loc main_arg1) : FVec Ideal S2048x2048 .bf16))) : FVec Ideal S2048x2048 .bf16),
   (θ_run defs _ _).mono (fun r hr c => ⟨(hr c).1.trans (final (eq_tab2 _) (eq_tab2 _)), (hr c).2⟩) (Value.run_blocks m ρ),
   (θ_run Cert.CrossWRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x2048 .bf16), eq_tab2 (m ((c.tc : Thread nD τ).loc main_arg1) : FVec Ideal S2048x2048 .bf16)]
      exact reference _ _) (Cert.CrossWRefIdeal.Value.run m' ρ')⟩

end Cert.Gla.CrossW
end
-- ==== Proof.Up.lean ====
/- Hand-written, untrusted: THE FEED-FORWARD UP-PROJECTION. Each grid point multiplies a row block of the layer's input by half the
   columns of one of the four shards of the weights; the shards' columns follow each other in the result. -/
module

public import proofs.«01_k».proof.Defs
public import proofs.«01_k».proof.Proof.Prod
public import proofs.«01_k».proof.Proof.Gen.UpIdeal.Value
public import proofs.«01_k».proof.Proof.Gen.UpRefIdeal.Run

@[expose] public section

set_option maxRecDepth 16384

noncomputable section

namespace Cert.Gla.Up

open Idealize.ShloMosaic Cert.UpIdeal Cert.UpIdeal.Gen Idealize.ShloMosaic.TcCoe Idealize.SL.Sem

/-- The product's entries. -/
def prod (A : ℕ → ℕ → EReal) (B : ℕ → ℕ → ℕ → EReal) (i j : ℕ) : EReal := ∑ k : Fin 2048, A i k * B (j / 2816) k (j % 2816)

/-- Where the blocks of the factors and of the result lie. -/
theorem at_point : ∀ t : Fin grid0.N, (win0_0.index t 0 = t.val / 8 ∧ win0_0.index t 1 = 0) ∧ (win0_1.index t 0 = t.val % 8 / 2 ∧ win0_1.index t 1 = 0 ∧ win0_1.index t 2 = t.val % 2)
    ∧ win0_2.index t 0 = t.val / 8 ∧ win0_2.index t 1 = t.val % 8 := by decide +kernel

/-- The body's product. -/
theorem body (A : ℕ → ℕ → EReal) (B : ℕ → ℕ → ℕ → EReal) : out0_2 (F := Ideal) (e2 A) (e3 B) = (e2 fun i j => ∑ k : Fin 2048, A i k * B 0 k j : FVec Ideal S1024x1408 .f32) := by
  unfold out0_2
  rw [View.canon_unit_zero (S := S1024x1408) (by decide), View.ld_unit_zero (S := S1024x2048) (by decide), View.ld_unit_zero (S := S1x2048x1408) (by decide)]
  unfold k0_pay1
  funext y
  rw [eq_ix2 y]
  pointwise [e2, e3, dot_S1024x2048_S2048x1408_S1024x1408_1_0_0_1_n_n]

variable {m : (ℓ : Loc nD τ sig) → Buf (Elt Ideal) ℓ} {c : Dev nD} {A : ℕ → ℕ → EReal} {B : ℕ → ℕ → ℕ → EReal}

/-- The input's block at a point. -/
theorem left (hA : (m ((c : Thread nD τ).loc main_arg0) : FVec Ideal S2048x2048 .bf16) = e2 A) (t : Fin cfg0.N) :
    iblk m c 0 t = (e2 fun i k => A (1024 * (t.val / 8) + i) k : FVec Ideal S1024x2048 .bf16) := by
  funext j
  unfold iblk
  rw [View.read_apply]
  show V m c main_arg0 _ = _
  rw [(V_main_arg0 m c).trans hA]
  exact congrArg₂ A (at_further (n := 1024) (at_point t).1.1) (at_first (n := 2048) (at_point t).1.2)

/-- The weights'. -/
theorem right (hB : (m ((c : Thread nD τ).loc main_arg1) : FVec Ideal S4x2048x2816 .bf16) = e3 B) (t : Fin cfg0.N) :
    iblk m c 1 t = (e3 fun s k j => B (1 * (t.val % 8 / 2) + s) k (1408 * (t.val % 2) + j) : FVec Ideal S1x2048x1408 .bf16) := by
  funext j
  unfold iblk
  rw [View.read_apply]
  show V m c main_arg1 _ = _
  rw [(V_main_arg1 m c).trans hB]
  exact congr (congrArg₂ B (at_further (n := 1) (at_point t).2.1.1) (at_first (n := 2048) (at_point t).2.1.2.1)) (at_further (n := 1408) (at_point t).2.1.2.2)

/-- A column of a point's block, in its shard. -/
theorem column (t j : ℕ) (hj : j < 1408) : 1 * (t % 8 / 2) + 0 = (1408 * (t % 8) + j) / 2816 ∧ 1408 * (t % 2) + j = (1408 * (t % 8) + j) % 2816 := by omega

/-- The result array ends as the product. -/
theorem final (hA : (m ((c : Thread nD τ).loc main_arg0) : FVec Ideal S2048x2048 .bf16) = e2 A) (hB : (m ((c : Thread nD τ).loc main_arg1) : FVec Ideal S4x2048x2816 .bf16) = e3 B) :
    (dats m 0 c).arrAt 2 cfg0.N = (e2 (prod A B) : FVec Ideal S2048x11264 .f32) :=
  (dats m 0 c).arrAt_eq_of_cover 2 _ (fun t _ => by
    refine (Value.flushed2 m c t).trans ?_
    rw [left hA, right hB, body]
    funext j
    rw [View.read_apply]
    obtain ⟨h, h'⟩ := column t.val (j 1).val (j 1).isLt
    refine Eq.trans ?_ (congrArg₂ (prod A B) (at_further (n := 1024) (at_point t).2.2.1) (at_further (n := 1408) (at_point t).2.2.2)).symm
    exact prod_congr (fun _ => rfl) fun k => congrArg₂ (fun s l => B s k l) h h') fun i => by
    obtain ⟨ht, h0, h1⟩ := grid_point (Nat.div_lt_of_lt_mul (i 0).isLt : (i 0).val / 1024 < 2) (Nat.div_lt_of_lt_mul (i 1).isLt : (i 1).val / 1408 < 8)
    have hl : 8 * ((i 0).val / 1024) + (i 1).val / 1408 < cfg0.N := by change _ < grid0.N; rw [N_0]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) h0
    | ⟨1, _⟩ => exact tile (n := 1408) i1 (by decide) h1

/-- The reference computes the same product. -/
theorem reference (A : ℕ → ℕ → EReal) (B : ℕ → ℕ → ℕ → EReal) : Host.dotGeneral Cert.UpRefIdeal.dot_S2048x2048_S2048x11264_S2048x11264_1_0_0_1_n_n none
      (extf .f32 (e2 A : FVec Ideal ⟨2, ![2048, 2048]⟩ .bf16) Cert.UpRefIdeal.Gen.bitsLt_bf16_f32)
      (shapeCast _ (transpose Cert.UpRefIdeal.S2048x4x2816 [1, 0, 2] (extf .f32 (e3 B : FVec Ideal ⟨3, ![4, 2048, 2816]⟩ .bf16) Cert.UpRefIdeal.Gen.bitsLt_bf16_f32) Cert.UpRefIdeal.Gen.transposes_S4x2048x2816_S2048x4x2816_1_0_2)
        Cert.UpRefIdeal.Gen.shapeCasts_S2048x4x2816_S2048x11264)
    = (show FVec Ideal ⟨2, ![2048, 11264]⟩ .f32 from e2 (prod A B)) := by
  funext y
  rw [eq_ix2 y]
  pointwise [e2, e3, prod, Cert.UpRefIdeal.dot_S2048x2048_S2048x11264_S2048x11264_1_0_0_1_n_n]

/-- Both programs compute the product. -/
theorem algebraic : Cert.algebraic_UpIdeal_UpRefIdeal := fun m ρ m' ρ' _ hag =>
  ⟨fun c => (e2 (prod (tab2 (m ((c.tc : Thread nD τ).loc main_arg0) : FVec Ideal S2048x2048 .bf16)) (tab3 (m ((c.tc : Thread nD τ).loc main_arg1) : FVec Ideal S4x2048x2816 .bf16))) : FVec Ideal S2048x11264 .f32),
   (θ_run defs _ _).mono (fun r hr c => ⟨(hr c).1.trans (final (eq_tab2 _) (eq_tab3 _)), (hr c).2⟩) (Value.run_blocks m ρ),
   (θ_run Cert.UpRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x2048 .bf16), eq_tab3 (m ((c.tc : Thread nD τ).loc main_arg1) : FVec Ideal S4x2048x2816 .bf16)]
      exact reference _ _) (Cert.UpRefIdeal.Value.run m' ρ')⟩

end Cert.Gla.Up
end
-- ==== Proof.Proj.lean ====
/- Hand-written, untrusted: THE MIXER'S INPUT PROJECTION. Each grid point multiplies a row block of the layer's input by a row block of the
   weights, which are held transposed. -/
module

public import proofs.«01_k».proof.Defs
public import proofs.«01_k».proof.Proof.Prod
public import proofs.«01_k».proof.Proof.Gen.ProjIdeal.Value
public import proofs.«01_k».proof.Proof.Gen.ProjRefIdeal.Run

@[expose] public section

set_option maxRecDepth 16384

noncomputable section

namespace Cert.Gla.Proj

open Idealize.ShloMosaic Cert.ProjIdeal Cert.ProjIdeal.Gen Idealize.ShloMosaic.TcCoe Idealize.SL.Sem

/-- Where the blocks of the factors and of the result lie. -/
theorem at_point : ∀ t : Fin grid0.N, (win0_0.index t 0 = t.val / 8 ∧ win0_0.index t 1 = 0) ∧ (win0_1.index t 0 = t.val % 8 ∧ win0_1.index t 1 = 0)
    ∧ win0_2.index t 0 = t.val / 8 ∧ win0_2.index t 1 = t.val % 8 := by decide +kernel

/-- The body's product. -/
theorem body (A B : ℕ → ℕ → EReal) : out0_2 (F := Ideal) (e2 A) (e2 B) = (e2 (prod_nt 2048 A B) : FVec Ideal S1024x1024 .f32) := by
  unfold out0_2
  rw [View.canon_unit_zero (S := S1024x1024) (by decide), View.ld_unit_zero (S := S1024x2048) (by decide), View.ld_unit_zero (S := S1024x2048) (by decide)]
  unfold k0_pay1
  funext y
  rw [eq_ix2 y]
  pointwise [e2, prod_nt, dot_S1024x2048_S1024x2048_S1024x1024_1_1_0_0_n_n]

variable {m : (ℓ : Loc nD τ sig) → Buf (Elt Ideal) ℓ} {c : Dev nD} {A B : ℕ → ℕ → EReal}

/-- The input's block at a point. -/
theorem left (hA : (m ((c : Thread nD τ).loc main_arg0) : FVec Ideal S2048x2048 .bf16) = e2 A) (t : Fin cfg0.N) :
    iblk m c 0 t = (e2 fun i k => A (1024 * (t.val / 8) + i) k : FVec Ideal S1024x2048 .bf16) := by
  funext j
  unfold iblk
  rw [View.read_apply]
  show V m c main_arg0 _ = _
  rw [(V_main_arg0 m c).trans hA]
  exact congrArg₂ A (at_further (n := 1024) (at_point t).1.1) (at_first (n := 2048) (at_point t).1.2)

/-- The weights'. -/
theorem right (hB : (m ((c : Thread nD τ).loc main_arg1) : FVec Ideal S8192x2048 .bf16) = e2 B) (t : Fin cfg0.N) :
    iblk m c 1 t = (e2 fun j k => B (1024 * (t.val % 8) + j) k : FVec Ideal S1024x2048 .bf16) := by
  funext j
  unfold iblk
  rw [View.read_apply]
  show V m c main_arg1 _ = _
  rw [(V_main_arg1 m c).trans hB]
  exact congrArg₂ B (at_further (n := 1024) (at_point t).2.1.1) (at_first (n := 2048) (at_point t).2.1.2)

/-- The result array ends as the product. -/
theorem final (hA : (m ((c : Thread nD τ).loc main_arg0) : FVec Ideal S2048x2048 .bf16) = e2 A) (hB : (m ((c : Thread nD τ).loc main_arg1) : FVec Ideal S8192x2048 .bf16) = e2 B) :
    (dats m 0 c).arrAt 2 cfg0.N = (e2 (prod_nt 2048 A B) : FVec Ideal S2048x8192 .f32) :=
  (dats m 0 c).arrAt_eq_of_cover 2 _ (fun t _ => by
    refine (Value.flushed2 m c t).trans ?_
    rw [left hA, right hB, body]
    funext j
    rw [View.read_apply]
    exact (congrArg₂ (prod_nt 2048 A B) (at_further (n := 1024) (at_point t).2.2.1) (at_further (n := 1024) (at_point t).2.2.2)).symm) fun i => by
    obtain ⟨ht, h0, h1⟩ := grid_point (Nat.div_lt_of_lt_mul (i 0).isLt : (i 0).val / 1024 < 2) (Nat.div_lt_of_lt_mul (i 1).isLt : (i 1).val / 1024 < 8)
    have hl : 8 * ((i 0).val / 1024) + (i 1).val / 1024 < cfg0.N := by change _ < grid0.N; rw [N_0]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) h0
    | ⟨1, _⟩ => exact tile (n := 1024) i1 (by decide) h1

/-- The reference computes the same product. -/
theorem reference (A B : ℕ → ℕ → EReal) : Host.dotGeneral Cert.ProjRefIdeal.dot_S2048x2048_S2048x8192_S2048x8192_1_0_0_1_n_n none
      (extf .f32 (e2 A : FVec Ideal ⟨2, ![2048, 2048]⟩ .bf16) Cert.ProjRefIdeal.Gen.bitsLt_bf16_f32) (transpose Cert.ProjRefIdeal.S2048x8192 [1, 0] (extf .f32 (e2 B : FVec Ideal ⟨2, ![8192, 2048]⟩ .bf16) Cert.ProjRefIdeal.Gen.bitsLt_bf16_f32) Cert.ProjRefIdeal.Gen.transposes_S8192x2048_S2048x8192_1_0)
    = (show FVec Ideal ⟨2, ![2048, 8192]⟩ .f32 from e2 (prod_nt 2048 A B)) := by
  funext y
  rw [eq_ix2 y]
  pointwise [e2, prod_nt, Cert.ProjRefIdeal.dot_S2048x2048_S2048x8192_S2048x8192_1_0_0_1_n_n]

/-- Both programs compute the product. -/
theorem algebraic : Cert.algebraic_ProjIdeal_ProjRefIdeal := fun m ρ m' ρ' _ hag =>
  ⟨fun c => (e2 (prod_nt 2048 (tab2 (m ((c.tc : Thread nD τ).loc main_arg0) : FVec Ideal S2048x2048 .bf16)) (tab2 (m ((c.tc : Thread nD τ).loc main_arg1) : FVec Ideal S8192x2048 .bf16))) : FVec Ideal S2048x8192 .f32),
   (θ_run defs _ _).mono (fun r hr c => ⟨(hr c).1.trans (final (eq_tab2 _) (eq_tab2 _)), (hr c).2⟩) (Value.run_blocks m ρ),
   (θ_run Cert.ProjRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x2048 .bf16), eq_tab2 (m ((c.tc : Thread nD τ).loc main_arg1) : FVec Ideal S8192x2048 .bf16)]
      exact reference _ _) (Cert.ProjRefIdeal.Value.run m' ρ')⟩

end Cert.Gla.Proj
end
-- ==== Proof.Down.lean ====
/- Hand-written, untrusted: THE FEED-FORWARD DOWN-PROJECTION ADDED TO THE RESIDUAL. Two grid points in a row sum the products of one half
   of the activation's columns with the same half of the weights' rows, in a buffer; the second adds the residual's block and writes out. -/
module

public import proofs.«01_k».proof.Defs
public import proofs.«01_k».proof.Proof.Prod
public import proofs.«01_k».proof.Proof.Gen.DownIdeal.Value
public import proofs.«01_k».proof.Proof.Gen.DownRefIdeal.Run

@[expose] public section

set_option maxRecDepth 16384

noncomputable section

namespace Cert.Gla.Down

open Idealize.ShloMosaic Cert.DownIdeal Cert.DownIdeal.Gen Idealize.ShloMosaic.TcCoe Idealize.SL.Sem

/-- What one half of the columns gives to an entry of a block of the product. -/
def part (A B : ℕ → ℕ → EReal) (p q s i j : ℕ) : EReal := ∑ k : Fin 2816, A (1024 * p + i) (2816 * s + k) * B (2816 * s + k) (1024 * q + j)
/-- The layer's output: the residual and the product. -/
def sum (A B R : ℕ → ℕ → EReal) (i j : ℕ) : EReal := R i j + prod_nn (2 * 2816) A B i j

/-- The halves make the whole. -/
theorem halves (A B : ℕ → ℕ → EReal) (p q i j : ℕ) : (0 + part A B p q 0 i j) + part A B p q 1 i j = prod_nn (2 * 2816) A B (1024 * p + i) (1024 * q + j) := by
  rw [zero_add]
  refine Eq.trans ?_ (sum_blocks 2 2816 fun k => A (1024 * p + i) k * B k (1024 * q + j)).symm
  rw [Finset.sum_range_succ, Finset.sum_range_one]
  rfl

/-- Where the blocks of the factors, of the residual and of the result lie. -/
theorem at_point : ∀ t : Fin grid0.N, (win0_0.index t 0 = t.val / 4 ∧ win0_0.index t 1 = t.val % 2) ∧ (win0_1.index t 0 = t.val % 2 ∧ win0_1.index t 1 = t.val / 2 % 2)
    ∧ (win0_2.index t 0 = t.val / 4 ∧ win0_2.index t 1 = t.val / 2 % 2) ∧ win0_3.index t 0 = t.val / 4 ∧ win0_3.index t 1 = t.val / 2 % 2 := by decide +kernel

/-- The buffer starts at zero. -/
theorem start : k0_pay1 (F := Ideal) = (e2 fun _ _ => 0 : FVec Ideal S1024x1024 .f32) := by
  unfold k0_pay1
  funext y
  rw [eq_ix2 y]
  pointwise [e2]

/-- A point adds its product to the buffer. -/
theorem add_product (X A B : ℕ → ℕ → EReal) : k0_pay2 (F := Ideal) (e2 X) (e2 A) (e2 B) = (e2 fun i j => X i j + ∑ k : Fin 2816, A i k * B k j : FVec Ideal S1024x1024 .f32) := by
  unfold k0_pay2
  funext y
  rw [eq_ix2 y]
  pointwise [e2, dot_S1024x2816_S2816x1024_S1024x1024_1_0_0_1_n_n]

/-- The second point adds the residual. -/
theorem add_residual (X R : ℕ → ℕ → EReal) : k0_pay3 (F := Ideal) (e2 X) (e2 R) = (e2 fun i j => X i j + R i j : FVec Ideal S1024x1024 .f32) := rfl

section
variable (c : Dev nD) (i : grid0.Coords) (a3 : Memref sig .tc .vmem S1024x2816 .bf16) (h3 : a3.IsWhole) (a4 : Memref sig .tc .vmem S2816x1024 .bf16) (h4 : a4.IsWhole)
variable (a5 : Memref sig .tc .vmem S1024x1024 .f32) (h5 : a5.IsWhole) (a6 : Memref sig .tc .vmem S1024x1024 .f32) (h6 : a6.IsWhole) (a7 : Memref sig .tc .vmem S1024x1024 .f32) (h7 : a7.IsWhole)
variable (x : Vec Ideal S1024x2816 .bf16) (y : Vec Ideal S2816x1024 .bf16) (r z : Vec Ideal S1024x1024 .f32)

theorem off2 : (![0, 0] : Fin 2 → Nat) = fun _ => 0 := funext fun a => by fin_cases a <;> rfl

/-- The first point of a row fills the buffer with zeros and adds. -/
theorem leaves_A (hc : cond0_0 i) (hd : ¬cond0_1 i) : sout0_A_0 (F := Ideal) c i a3 h3 a4 h4 a5 h5 a6 h6 a7 h7 hc hd x y r = k0_pay2 k0_pay1 x y := by
  unfold sout0_A_0
  refine (View.read_writes_eq_canon _ _ _ (scover0_A_0 (F := Ideal) c i a3 h3 a4 h4 a5 h5 a6 h6 a7 h7 hc hd x y r)).trans ?_
  unfold kernelRun0_A
  dsimp only
  sl_unfold_words
  simp only [View.readAt_eq_ld, h3.read_unread, h4.read_unread, View.ld_unit_zero (S := S1024x2816) off2, View.ld_unit_zero (S := S2816x1024) off2]
  rw [View.canon_cons_unit_zero (S := S1024x1024) off2, View.readCov_unit_zero (S := S1024x1024) _ off2]

/-- The second adds, adds the residual and writes out. -/
theorem writes_B (hc : ¬cond0_0 i) (hd : cond0_1 i) : out0_B_3 (F := Ideal) c i a3 h3 a4 h4 a5 h5 a6 h6 a7 h7 hc hd x y r z = k0_pay3 (k0_pay2 z x y) r := by
  unfold out0_B_3
  refine (View.read_writes_eq_canon _ _ _ (cover0_B_3 (F := Ideal) c i a3 h3 a4 h4 a5 h5 a6 h6 a7 h7 hc hd x y r z)).trans ?_
  unfold kernelRun0_B
  dsimp only
  sl_unfold_words
  simp only [View.readAt_eq_ld, h3.read_unread, h4.read_unread, h5.read_unread, h7.read_unread, View.ld_unit_zero (S := S1024x2816) off2, View.ld_unit_zero (S := S2816x1024) off2, View.ld_unit_zero (S := S1024x1024) off2]
  rw [View.canon_cons_unit_zero (S := S1024x1024) off2, View.readCov_unit_zero (S := S1024x1024) _ off2]
end

variable {m : (ℓ : Loc nD τ sig) → Buf (Elt Ideal) ℓ} {c : Dev nD} {A B R : ℕ → ℕ → EReal}

/-- The activation's block at a point. -/
theorem left (hA : (m ((c : Thread nD τ).loc main_arg0) : FVec Ideal S2048x5632 .bf16) = e2 A) (t : Fin cfg0.N) :
    iblk m c 0 t = (e2 fun i k => A (1024 * (t.val / 4) + i) (2816 * (t.val % 2) + k) : FVec Ideal S1024x2816 .bf16) := by
  funext j
  unfold iblk
  rw [View.read_apply]
  show V m c main_arg0 _ = _
  rw [(V_main_arg0 m c).trans hA]
  exact congrArg₂ A (at_further (n := 1024) (at_point t).1.1) (at_further (n := 2816) (at_point t).1.2)

/-- The weights'. -/
theorem right (hB : (m ((c : Thread nD τ).loc main_arg1) : FVec Ideal S5632x2048 .bf16) = e2 B) (t : Fin cfg0.N) :
    iblk m c 1 t = (e2 fun k j => B (2816 * (t.val % 2) + k) (1024 * (t.val / 2 % 2) + j) : FVec Ideal S2816x1024 .bf16) := by
  funext j
  unfold iblk
  rw [View.read_apply]
  show V m c main_arg1 _ = _
  rw [(V_main_arg1 m c).trans hB]
  exact congrArg₂ B (at_further (n := 2816) (at_point t).2.1.1) (at_further (n := 1024) (at_point t).2.1.2)

/-- The residual's. -/
theorem residual (hR : (m ((c : Thread nD τ).loc main_arg2) : FVec Ideal S2048x2048 .f32) = e2 R) (t : Fin cfg0.N) :
    iblk m c 2 t = (e2 fun i j => R (1024 * (t.val / 4) + i) (1024 * (t.val / 2 % 2) + j) : FVec Ideal S1024x1024 .f32) := by
  funext j
  unfold iblk
  rw [View.read_apply]
  show V m c main_arg2 _ = _
  rw [(V_main_arg2 m c).trans hR]
  exact congrArg₂ R (at_further (n := 1024) (at_point t).2.2.1.1) (at_further (n := 1024) (at_point t).2.2.1.2)

/-- What a point adds. -/
theorem adds (hA : (m ((c : Thread nD τ).loc main_arg0) : FVec Ideal S2048x5632 .bf16) = e2 A) (hB : (m ((c : Thread nD τ).loc main_arg1) : FVec Ideal S5632x2048 .bf16) = e2 B) (t : Fin cfg0.N) (X : ℕ → ℕ → EReal) :
    k0_pay2 (F := Ideal) (e2 X) (iblk m c 0 t) (iblk m c 1 t) = (e2 fun i j => X i j + part A B (t.val / 4) (t.val / 2 % 2) (t.val % 2) i j : FVec Ideal S1024x1024 .f32) := by
  rw [left hA, right hB, add_product]
  rfl

/-- The buffer after the first point of a row. -/
theorem buffer (hA : (m ((c : Thread nD τ).loc main_arg0) : FVec Ideal S2048x5632 .bf16) = e2 A) (hB : (m ((c : Thread nD τ).loc main_arg1) : FVec Ideal S5632x2048 .bf16) = e2 B)
    (n : ℕ) (hn : n < cfg0.N) (h0 : n % 2 = 0) (h1 : ¬n % 2 = 1) : (outsAt0 m c n hn).2 = (e2 fun i j => 0 + part A B (n / 4) (n / 2 % 2) 0 i j : FVec Ideal S1024x1024 .f32) := by
  rw [outsAt0_A m c ⟨n, hn⟩ h0 h1]
  dsimp only
  rw [leaves_A, start, adds hA hB]
  dsimp only
  rw [h0]

/-- The point that writes an entry of the result. -/
theorem point (i j : ℕ) (hi : i < 2048) (hj : j < 2048) : let t := 4 * (i / 1024) + 2 * (j / 1024) + 1;
    t < 8 ∧ t % 2 = 1 ∧ t / 4 = i / 1024 ∧ t / 2 % 2 = j / 1024 := by
  intro t; omega
/-- The point before the second of a row is the row's first. -/
theorem before (t : ℕ) (h : t % 2 = 1) : (t - 1) % 2 = 0 ∧ ¬(t - 1) % 2 = 1 ∧ (t - 1) / 4 = t / 4 ∧ (t - 1) / 2 % 2 = t / 2 % 2 ∧ ¬t % 2 = 0 := by omega

/-- The result array ends as the layer's output. -/
theorem final (hA : (m ((c : Thread nD τ).loc main_arg0) : FVec Ideal S2048x5632 .bf16) = e2 A) (hB : (m ((c : Thread nD τ).loc main_arg1) : FVec Ideal S5632x2048 .bf16) = e2 B)
    (hR : (m ((c : Thread nD τ).loc main_arg2) : FVec Ideal S2048x2048 .f32) = e2 R) :
    (dats m 0 c).arrAt 3 cfg0.N = (e2 (sum A B R) : FVec Ideal S2048x2048 .f32) :=
  (dats m 0 c).arrAt_eq_of_cover 3 _ (fun t hf => by
    have h1 := (flush0_3 t).mp hf
    obtain ⟨b0, b1, b2, b3, b4⟩ := before t.val h1
    refine (Value.flushed3_B m c t b4 h1).trans ?_
    rw [writes_B, buffer hA hB _ _ b0 b1, adds hA hB, residual hR, add_residual, b2, b3, h1]
    funext j
    rw [View.read_apply]
    refine Eq.trans ?_ (congrArg₂ (sum A B R) (at_further (n := 1024) (at_point t).2.2.2.1) (at_further (n := 1024) (at_point t).2.2.2.2)).symm
    exact (congrArg (· + R _ _) (halves A B _ _ _ _)).trans (add_comm _ _)) fun i => by
    obtain ⟨ht, h1, h2, h3⟩ := point (i 0).val (i 1).val (i 0).isLt (i 1).isLt
    have hl : 4 * ((i 0).val / 1024) + 2 * ((i 1).val / 1024) + 1 < cfg0.N := by change _ < grid0.N; rw [N_0]; exact ht
    obtain ⟨-, -, -, i0, i1⟩ := at_point ⟨_, hl⟩
    refine ⟨⟨_, hl⟩, (flush0_3 _).mpr h1, ?_⟩
    show i ∈ ((View.whole main_v0).slice (win0_3.rect ⟨_, hl⟩)).set
    rw [View.set_slice_whole, Rect.mem_set_unit]
    intro a
    match a with
    | ⟨0, _⟩ => exact tile (n := 1024) i0 (by decide) h2
    | ⟨1, _⟩ => exact tile (n := 1024) i1 (by decide) h3

/-- The reference computes the same output. -/
theorem reference (A B R : ℕ → ℕ → EReal) : addf (φ := .f32) (e2 R : FVec Ideal ⟨2, ![2048, 2048]⟩ .f32) (Host.dotGeneral Cert.DownRefIdeal.dot_S2048x5632_S5632x2048_S2048x2048_1_0_0_1_n_n none
      (extf .f32 (e2 A : FVec Ideal ⟨2, ![2048, 5632]⟩ .bf16) Cert.DownRefIdeal.Gen.bitsLt_bf16_f32) (extf .f32 (e2 B : FVec Ideal ⟨2, ![5632, 2048]⟩ .bf16) Cert.DownRefIdeal.Gen.bitsLt_bf16_f32))
    = (show FVec Ideal ⟨2, ![2048, 2048]⟩ .f32 from e2 (sum A B R)) := by
  funext y
  rw [eq_ix2 y]
  pointwise [e2, sum, prod_nn, Cert.DownRefIdeal.dot_S2048x5632_S5632x2048_S2048x2048_1_0_0_1_n_n]

/-- Both programs compute the output. -/
theorem algebraic : Cert.algebraic_DownIdeal_DownRefIdeal := fun m ρ m' ρ' _ hag =>
  ⟨fun c => (e2 (sum (tab2 (m ((c.tc : Thread nD τ).loc main_arg0) : FVec Ideal S2048x5632 .bf16)) (tab2 (m ((c.tc : Thread nD τ).loc main_arg1) : FVec Ideal S5632x2048 .bf16))
      (tab2 (m ((c.tc : Thread nD τ).loc main_arg2) : FVec Ideal S2048x2048 .f32))) : FVec Ideal S2048x2048 .f32),
   (θ_run defs _ _).mono (fun r hr c => ⟨(hr c).1.trans (final (eq_tab2 _) (eq_tab2 _) (eq_tab2 _)), (hr c).2⟩) (Value.run_blocks m ρ),
   (θ_run Cert.DownRefIdeal.defs _ _).mono (fun r hr c => by
      refine ⟨(hr c).1.trans ?_, (hr c).2⟩
      rw [(hag c).1, (hag c).2.1, (hag c).2.2]
      conv_lhs => rw [eq_tab2 (m ((c.tc : Thread nD τ).loc main_arg0) : FVec Ideal S2048x5632 .bf16), eq_tab2 (m ((c.tc : Thread nD τ).loc main_arg1) : FVec Ideal S5632x2048 .bf16),
        eq_tab2 (m ((c.tc : Thread nD τ).loc main_arg2) : FVec Ideal S2048x2048 .f32)]
      exact reference _ _ _) (Cert.DownRefIdeal.Value.run m' ρ')⟩

end Cert.Gla.Down
end
-- ==== Proof.CrossQ.lean ====
/- Hand-written, untrusted: THE CROSS-ATTENTION'S QUERY PROJECTION. Each grid point multiplies a row block of the layer's input by a column block
   of the weights. -/
module

public import proofs.«01_k».proof.Defs
public import proofs.«01_k».proof.Proof.Prod
public import proofs.«01_k».proof.Proof.Gen.CrossQIdeal.Value
public import proofs.«01_k».proof.Proof.Gen.CrossQRefIdeal.Run

@[expose] public section

set_option maxRecDepth 16384

noncomputable section

namespace Cert.Gla.CrossQ

open Idealize.ShloMosaic Cert.CrossQIdeal Cert.CrossQIdeal.Gen Idealize.ShloMosaic.TcCoe Idealize.SL.Sem

/-- Where the blocks of the factors and of the result lie. -/
theorem at_point : ∀ t : Fin grid0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2 := by decide +kernel

/-- The body's product. -/
theorem body (A B : ℕ → ℕ → EReal) : out0_2 (F := Ideal) (e2 A) (e2 B) = (e2 (prod_nn 2048 A B) : FVec Ideal S1024x1024 .bf16) := by
  unfold out0_2
  rw [View.canon_unit_zero (S := S1024x1024) (by decide), View.ld_unit_zero (S := S1024x2048) (by decide), View.ld_unit_zero (S := S2048x1024) (by decide)]
  unfold k0_pay1
  funext y
  rw [eq_ix2 y]
  pointwise [e2, prod_nn, dot_S1024x2048_S2048x1024_S1024x1024_1_0_0_1_n_n]

variable {m : (ℓ : Loc nD τ sig) → Buf (Elt Ideal) ℓ} {c : Dev nD} {A B : ℕ → ℕ → EReal}

/-- The input's block at a point. -/
theorem left (hA : (m ((c : Thread nD τ).loc main_arg0) : FVec Ideal S2048x2048 .bf16) = e2 A) (t : Fin cfg0.N) :
    iblk m c 0 t = (e2 fun i k => A (1024 * (t.val / 2) + i) k : FVec Ideal S1024x2048 .bf16) := by
  funext j
  unfold iblk
  rw [View.read_apply]
  show V m c main_arg0 _ = _
  rw [(V_main_arg0 m c).trans hA]
  exact congrArg₂ A (at_further (n := 1024) (at_point t).1.1) (at_first (n := 2048) (at_point t).1.2)

/-- The weights'. -/
theorem right (hB : (m ((c : Thread nD τ).loc main_arg1) : FVec Ideal S2048x2048 .bf16) = e2 B) (t : Fin cfg0.N) :
    iblk m c 1 t = (e2 fun k j => B k (1024 * (t.val % 2) + j) : FVec Ideal S2048x1024 .bf16) := by
  funext j
  unfold iblk
  rw [View.read_apply]
  show V m c main_arg1 _ = _
  rw [(V_main_arg1 m c).trans hB]
  exact congrArg₂ B (at_first (n := 2048) (at_point t).2.1.1) (at_further (n := 1024) (at_point t).2.1.2)

/-- The result array ends as the product. -/
theorem final (hA : (m ((c : Thread nD τ).loc main_arg0) : FVec Ideal S2048x2048 .bf16) = e2 A) (hB : (m ((c : Thread nD τ).loc main_arg1) : FVec Ideal S2048x2048 .bf16) = e2 B) :
    (dats m 0 c).arrAt 2 cfg0.N = (e2 (prod_nn 2048 A B) : FVec Ideal S2048x2048 .bf16) :=
  (dats m 0 c).arrAt_eq_of_cover 2 _ (fun t _ => by
    refine (Value.flushed2 m c t).trans ?_
    rw [left hA, right hB, body]
    funext j
    rw [View.read_apply]
    exact (congrArg₂ (prod_nn 2048 A B) (at_further (n := 1024) (at_point t).2.2.1) (at_further (n := 1024) (at_point t).2.2.2)).symm) fun i => by
    obtain ⟨ht, h0, h1⟩ := grid_point (Nat.div_lt_of_lt_mul (i 0).isLt : (i 0).val / 1024 < 2) (Nat.div_lt_of_lt_mul (i 1).isLt : (i 1).val / 1024 < 2)
    have hl : 2 * ((i 0).val / 1024) + (i 1).val / 1024 < cfg0.N := by change _ < grid0.N; rw [N_0]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) h0
    | ⟨1, _⟩ => exact tile (n := 1024) i1 (by decide) h1

/-- The reference computes the same product. -/
theorem reference (A B : ℕ → ℕ → EReal) : truncf (φ := .f32) .bf16 (Host.dotGeneral Cert.CrossQRefIdeal.dot_S2048x2048_S2048x2048_S2048x2048_1_0_0_1_n_n none
      (extf .f32 (e2 A : FVec Ideal ⟨2, ![2048, 2048]⟩ .bf16) Cert.CrossQRefIdeal.Gen.bitsLt_bf16_f32) (extf .f32 (e2 B : FVec Ideal ⟨2, ![2048, 2048]⟩ .bf16) Cert.CrossQRefIdeal.Gen.bitsLt_bf16_f32)) Cert.CrossQRefIdeal.Gen.bitsLt_bf16_f32
    = (show FVec Ideal ⟨2, ![2048, 2048]⟩ .bf16 from e2 (prod_nn 2048 A B)) := by
  funext y
  rw [eq_ix2 y]
  pointwise [e2, prod_nn, Cert.CrossQRefIdeal.dot_S2048x2048_S2048x2048_S2048x2048_1_0_0_1_n_n]

/-- Both programs compute the product. -/
theorem algebraic : Cert.algebraic_CrossQIdeal_CrossQRefIdeal := fun m ρ m' ρ' _ hag =>
  ⟨fun c => (e2 (prod_nn 2048 (tab2 (m ((c.tc : Thread nD τ).loc main_arg0) : FVec Ideal S2048x2048 .bf16)) (tab2 (m ((c.tc : Thread nD τ).loc main_arg1) : FVec Ideal S2048x2048 .bf16))) : FVec Ideal S2048x2048 .bf16),
   (θ_run defs _ _).mono (fun r hr c => ⟨(hr c).1.trans (final (eq_tab2 _) (eq_tab2 _)), (hr c).2⟩) (Value.run_blocks m ρ),
   (θ_run Cert.CrossQRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x2048 .bf16), eq_tab2 (m ((c.tc : Thread nD τ).loc main_arg1) : FVec Ideal S2048x2048 .bf16)]
      exact reference _ _) (Cert.CrossQRefIdeal.Value.run m' ρ')⟩

end Cert.Gla.CrossQ
end
-- ==== Proof.MixOut.lean ====
/- Hand-written, untrusted: AN OUTPUT PROJECTION ADDED TO THE RESIDUAL (the mixer's, and the cross-attention's). Each grid point
   multiplies a row block of the branch's output by a column block of the weights and adds the residual's block. -/
module

public import proofs.«01_k».proof.Defs
public import proofs.«01_k».proof.Proof.Prod
public import proofs.«01_k».proof.Proof.Gen.MixOutIdeal.Value
public import proofs.«01_k».proof.Proof.Gen.MixOutRefIdeal.Run

@[expose] public section

set_option maxRecDepth 16384

noncomputable section

namespace Cert.Gla.MixOut

open Idealize.ShloMosaic Cert.MixOutIdeal Cert.MixOutIdeal.Gen Idealize.ShloMosaic.TcCoe Idealize.SL.Sem

/-- Where the blocks of the factors, of the residual and of the result lie. -/
theorem at_point : ∀ t : Fin grid0.N, (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) ∧ win0_3.index t 0 = t.val / 2 ∧ win0_3.index t 1 = t.val % 2 := by decide +kernel

/-- The layer's output: the residual and the product. -/
def sum (A B R : ℕ → ℕ → EReal) (i j : ℕ) : EReal := R i j + prod_nn 2048 A B i j

/-- The body's result. -/
theorem body (A B R : ℕ → ℕ → EReal) : out0_3 (F := Ideal) (e2 A) (e2 B) (e2 R) = (e2 (sum A B R) : FVec Ideal S1024x1024 .f32) := by
  unfold out0_3
  rw [View.canon_unit_zero (S := S1024x1024) (by decide), View.ld_unit_zero (S := S1024x2048) (by decide), View.ld_unit_zero (S := S2048x1024) (by decide),
    View.ld_unit_zero (S := S1024x1024) (by decide)]
  unfold k0_pay1
  funext y
  rw [eq_ix2 y]
  pointwise [e2, sum, prod_nn, dot_S1024x2048_S2048x1024_S1024x1024_1_0_0_1_n_n]
  exact add_comm _ _

variable {m : (ℓ : Loc nD τ sig) → Buf (Elt Ideal) ℓ} {c : Dev nD} {A B R : ℕ → ℕ → EReal}

/-- The branch's block at a point. -/
theorem left (hA : (m ((c : Thread nD τ).loc main_arg0) : FVec Ideal S2048x2048 .bf16) = e2 A) (t : Fin cfg0.N) :
    iblk m c 0 t = (e2 fun i k => A (1024 * (t.val / 2) + i) k : FVec Ideal S1024x2048 .bf16) := by
  funext j
  unfold iblk
  rw [View.read_apply]
  show V m c main_arg0 _ = _
  rw [(V_main_arg0 m c).trans hA]
  exact congrArg₂ A (at_further (n := 1024) (at_point t).1.1) (at_first (n := 2048) (at_point t).1.2)

/-- The weights'. -/
theorem right (hB : (m ((c : Thread nD τ).loc main_arg1) : FVec Ideal S2048x2048 .bf16) = e2 B) (t : Fin cfg0.N) :
    iblk m c 1 t = (e2 fun k j => B k (1024 * (t.val % 2) + j) : FVec Ideal S2048x1024 .bf16) := by
  funext j
  unfold iblk
  rw [View.read_apply]
  show V m c main_arg1 _ = _
  rw [(V_main_arg1 m c).trans hB]
  exact congrArg₂ B (at_first (n := 2048) (at_point t).2.1.1) (at_further (n := 1024) (at_point t).2.1.2)

/-- The residual's. -/
theorem residual (hR : (m ((c : Thread nD τ).loc main_arg2) : FVec Ideal S2048x2048 .f32) = e2 R) (t : Fin cfg0.N) :
    iblk m c 2 t = (e2 fun i j => R (1024 * (t.val / 2) + i) (1024 * (t.val % 2) + j) : FVec Ideal S1024x1024 .f32) := by
  funext j
  unfold iblk
  rw [View.read_apply]
  show V m c main_arg2 _ = _
  rw [(V_main_arg2 m c).trans hR]
  exact congrArg₂ R (at_further (n := 1024) (at_point t).2.2.1.1) (at_further (n := 1024) (at_point t).2.2.1.2)

/-- The result array ends as the layer's output. -/
theorem final (hA : (m ((c : Thread nD τ).loc main_arg0) : FVec Ideal S2048x2048 .bf16) = e2 A) (hB : (m ((c : Thread nD τ).loc main_arg1) : FVec Ideal S2048x2048 .bf16) = e2 B)
    (hR : (m ((c : Thread nD τ).loc main_arg2) : FVec Ideal S2048x2048 .f32) = e2 R) :
    (dats m 0 c).arrAt 3 cfg0.N = (e2 (sum A B R) : FVec Ideal S2048x2048 .f32) :=
  (dats m 0 c).arrAt_eq_of_cover 3 _ (fun t _ => by
    refine (Value.flushed3 m c t).trans ?_
    rw [left hA, right hB, residual hR, body]
    funext j
    rw [View.read_apply]
    exact (congrArg₂ (sum A B R) (at_further (n := 1024) (at_point t).2.2.2.1) (at_further (n := 1024) (at_point t).2.2.2.2)).symm) fun i => by
    obtain ⟨ht, h0, h1⟩ := grid_point (Nat.div_lt_of_lt_mul (i 0).isLt : (i 0).val / 1024 < 2) (Nat.div_lt_of_lt_mul (i 1).isLt : (i 1).val / 1024 < 2)
    have hl : 2 * ((i 0).val / 1024) + (i 1).val / 1024 < cfg0.N := by change _ < grid0.N; rw [N_0]; exact ht
    obtain ⟨-, -, -, i0, i1⟩ := at_point ⟨_, hl⟩
    refine ⟨⟨_, hl⟩, flush0_3 _, ?_⟩
    show i ∈ ((View.whole main_v0).slice (win0_3.rect ⟨_, hl⟩)).set
    rw [View.set_slice_whole, Rect.mem_set_unit]
    intro a
    match a with
    | ⟨0, _⟩ => exact tile (n := 1024) i0 (by decide) h0
    | ⟨1, _⟩ => exact tile (n := 1024) i1 (by decide) h1

/-- The reference computes the same output. -/
theorem reference (A B R : ℕ → ℕ → EReal) : addf (φ := .f32) (e2 R : FVec Ideal ⟨2, ![2048, 2048]⟩ .f32) (Host.dotGeneral Cert.MixOutRefIdeal.dot_S2048x2048_S2048x2048_S2048x2048_1_0_0_1_n_n none
      (extf .f32 (e2 A : FVec Ideal ⟨2, ![2048, 2048]⟩ .bf16) Cert.MixOutRefIdeal.Gen.bitsLt_bf16_f32) (extf .f32 (e2 B : FVec Ideal ⟨2, ![2048, 2048]⟩ .bf16) Cert.MixOutRefIdeal.Gen.bitsLt_bf16_f32))
    = (show FVec Ideal ⟨2, ![2048, 2048]⟩ .f32 from e2 (sum A B R)) := by
  funext y
  rw [eq_ix2 y]
  pointwise [e2, sum, prod_nn, Cert.MixOutRefIdeal.dot_S2048x2048_S2048x2048_S2048x2048_1_0_0_1_n_n]

/-- Both programs compute the output. -/
theorem algebraic : Cert.algebraic_MixOutIdeal_MixOutRefIdeal := fun m ρ m' ρ' _ hag =>
  ⟨fun c => (e2 (sum (tab2 (m ((c.tc : Thread nD τ).loc main_arg0) : FVec Ideal S2048x2048 .bf16)) (tab2 (m ((c.tc : Thread nD τ).loc main_arg1) : FVec Ideal S2048x2048 .bf16))
      (tab2 (m ((c.tc : Thread nD τ).loc main_arg2) : FVec Ideal S2048x2048 .f32))) : FVec Ideal S2048x2048 .f32),
   (θ_run defs _ _).mono (fun r hr c => ⟨(hr c).1.trans (final (eq_tab2 _) (eq_tab2 _) (eq_tab2 _)), (hr c).2⟩) (Value.run_blocks m ρ),
   (θ_run Cert.MixOutRefIdeal.defs _ _).mono (fun r hr c => by
      refine ⟨(hr c).1.trans ?_, (hr c).2⟩
      rw [(hag c).1, (hag c).2.1, (hag c).2.2]
      conv_lhs => rw [eq_tab2 (m ((c.tc : Thread nD τ).loc main_arg0) : FVec Ideal S2048x2048 .bf16), eq_tab2 (m ((c.tc : Thread nD τ).loc main_arg1) : FVec Ideal S2048x2048 .bf16),
        eq_tab2 (m ((c.tc : Thread nD τ).loc main_arg2) : FVec Ideal S2048x2048 .f32)]
      exact reference _ _ _) (Cert.MixOutRefIdeal.Value.run m' ρ')⟩

end Cert.Gla.MixOut
end
-- ==== Proof.BrGla.lean ====
/- Hand-written, untrusted: THE LINEAR ATTENTION'S PRODUCT WITH ITS HALF OF THE BRANCH WEIGHTS. Each grid point multiplies a row block of the
   attention's output by a column block of the weights' upper rows. -/
module

public import proofs.«01_k».proof.Defs
public import proofs.«01_k».proof.Proof.Prod
public import proofs.«01_k».proof.Proof.Gen.BrGlaIdeal.Value
public import proofs.«01_k».proof.Proof.Gen.BrGlaRefIdeal.Run

@[expose] public section

set_option maxRecDepth 16384

noncomputable section

namespace Cert.Gla.BrGla

open Idealize.ShloMosaic Cert.BrGlaIdeal Cert.BrGlaIdeal.Gen Idealize.ShloMosaic.TcCoe Idealize.SL.Sem

/-- Where the blocks of the factors and of the result lie. -/
theorem at_point : ∀ t : Fin grid0.N, (win0_0.index t 0 = t.val / 2 ∧ win0_0.index t 1 = 0) ∧ (win0_1.index t 0 = 0 ∧ win0_1.index t 1 = t.val % 2)
    ∧ win0_2.index t 0 = t.val / 2 ∧ win0_2.index t 1 = t.val % 2 := by decide +kernel

/-- The body's product. -/
theorem body (A B : ℕ → ℕ → EReal) : out0_2 (F := Ideal) (e2 A) (e2 B) = (e2 (prod_nn 1024 A B) : FVec Ideal S1024x1024 .bf16) := by
  unfold out0_2
  rw [View.canon_unit_zero (S := S1024x1024) (by decide), View.ld_unit_zero (S := S1024x1024) (by decide), View.ld_unit_zero (S := S1024x1024) (by decide)]
  unfold k0_pay1
  funext y
  rw [eq_ix2 y]
  pointwise [e2, prod_nn, dot_S1024x1024_S1024x1024_S1024x1024_1_0_0_1_n_n]

variable {m : (ℓ : Loc nD τ sig) → Buf (Elt Ideal) ℓ} {c : Dev nD} {A B : ℕ → ℕ → EReal}

/-- The input's block at a point. -/
theorem left (hA : (m ((c : Thread nD τ).loc main_arg0) : FVec Ideal S2048x1024 .bf16) = e2 A) (t : Fin cfg0.N) :
    iblk m c 0 t = (e2 fun i k => A (1024 * (t.val / 2) + i) k : FVec Ideal S1024x1024 .bf16) := by
  funext j
  unfold iblk
  rw [View.read_apply]
  show V m c main_arg0 _ = _
  rw [(V_main_arg0 m c).trans hA]
  exact congrArg₂ A (at_further (n := 1024) (at_point t).1.1) (at_first (n := 1024) (at_point t).1.2)

/-- The weights'. -/
theorem right (hB : (m ((c : Thread nD τ).loc main_arg1) : FVec Ideal S2048x2048 .bf16) = e2 B) (t : Fin cfg0.N) :
    iblk m c 1 t = (e2 fun k j => B k (1024 * (t.val % 2) + j) : FVec Ideal S1024x1024 .bf16) := by
  funext j
  unfold iblk
  rw [View.read_apply]
  show V m c main_arg1 _ = _
  rw [(V_main_arg1 m c).trans hB]
  exact congrArg₂ B (at_first (n := 1024) (at_point t).2.1.1) (at_further (n := 1024) (at_point t).2.1.2)

/-- The result array ends as the product. -/
theorem final (hA : (m ((c : Thread nD τ).loc main_arg0) : FVec Ideal S2048x1024 .bf16) = e2 A) (hB : (m ((c : Thread nD τ).loc main_arg1) : FVec Ideal S2048x2048 .bf16) = e2 B) :
    (dats m 0 c).arrAt 2 cfg0.N = (e2 (prod_nn 1024 A B) : FVec Ideal S2048x2048 .bf16) :=
  (dats m 0 c).arrAt_eq_of_cover 2 _ (fun t _ => by
    refine (Value.flushed2 m c t).trans ?_
    rw [left hA, right hB, body]
    funext j
    rw [View.read_apply]
    exact (congrArg₂ (prod_nn 1024 A B) (at_further (n := 1024) (at_point t).2.2.1) (at_further (n := 1024) (at_point t).2.2.2)).symm) fun i => by
    obtain ⟨ht, h0, h1⟩ := grid_point (Nat.div_lt_of_lt_mul (i 0).isLt : (i 0).val / 1024 < 2) (Nat.div_lt_of_lt_mul (i 1).isLt : (i 1).val / 1024 < 2)
    have hl : 2 * ((i 0).val / 1024) + (i 1).val / 1024 < cfg0.N := by change _ < grid0.N; rw [N_0]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) h0
    | ⟨1, _⟩ => exact tile (n := 1024) i1 (by decide) h1

/-- The reference computes the same product. -/
theorem reference (A B : ℕ → ℕ → EReal) : truncf (φ := .f32) .bf16 (Host.dotGeneral Cert.BrGlaRefIdeal.dot_S2048x1024_S1024x2048_S2048x2048_1_0_0_1_n_n none
      (extf .f32 (e2 A : FVec Ideal ⟨2, ![2048, 1024]⟩ .bf16) Cert.BrGlaRefIdeal.Gen.bitsLt_bf16_f32) (extractStridedSlice Cert.BrGlaRefIdeal.S1024x2048 ![0, 0] (extf .f32 (e2 B : FVec Ideal ⟨2, ![2048, 2048]⟩ .bf16) Cert.BrGlaRefIdeal.Gen.bitsLt_bf16_f32) Cert.BrGlaRefIdeal.Gen.slices_S2048x2048_S1024x2048_0_0)) Cert.BrGlaRefIdeal.Gen.bitsLt_bf16_f32
    = (show FVec Ideal ⟨2, ![2048, 2048]⟩ .bf16 from e2 (prod_nn 1024 A B)) := by
  funext y
  rw [eq_ix2 y]
  pointwise [e2, prod_nn, Cert.BrGlaRefIdeal.dot_S2048x1024_S1024x2048_S2048x2048_1_0_0_1_n_n]

/-- Both programs compute the product. -/
theorem algebraic : Cert.algebraic_BrGlaIdeal_BrGlaRefIdeal := fun m ρ m' ρ' _ hag =>
  ⟨fun c => (e2 (prod_nn 1024 (tab2 (m ((c.tc : Thread nD τ).loc main_arg0) : FVec Ideal S2048x1024 .bf16)) (tab2 (m ((c.tc : Thread nD τ).loc main_arg1) : FVec Ideal S2048x2048 .bf16))) : FVec Ideal S2048x2048 .bf16),
   (θ_run defs _ _).mono (fun r hr c => ⟨(hr c).1.trans (final (eq_tab2 _) (eq_tab2 _)), (hr c).2⟩) (Value.run_blocks m ρ),
   (θ_run Cert.BrGlaRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x1024 .bf16), eq_tab2 (m ((c.tc : Thread nD τ).loc main_arg1) : FVec Ideal S2048x2048 .bf16)]
      exact reference _ _) (Cert.BrGlaRefIdeal.Value.run m' ρ')⟩

end Cert.Gla.BrGla
end
-- ==== Proof.BrPool.lean ====
/- Hand-written, untrusted: THE POOLING'S PRODUCT WITH ITS HALF OF THE BRANCH WEIGHTS. Each grid point multiplies a row block of the
   pooling's output by a column block of the weights' lower rows. -/
module

public import proofs.«01_k».proof.Defs
public import proofs.«01_k».proof.Proof.Prod
public import proofs.«01_k».proof.Proof.Gen.BrPoolIdeal.Value
public import proofs.«01_k».proof.Proof.Gen.BrPoolRefIdeal.Run

@[expose] public section

set_option maxRecDepth 16384

noncomputable section

namespace Cert.Gla.BrPool

open Idealize.ShloMosaic Cert.BrPoolIdeal Cert.BrPoolIdeal.Gen Idealize.ShloMosaic.TcCoe Idealize.SL.Sem

/-- Where the blocks of the factors and of the result lie. -/
theorem at_point : ∀ t : Fin grid0.N, (win0_0.index t 0 = t.val / 2 ∧ win0_0.index t 1 = 0) ∧ (win0_1.index t 0 = 1 ∧ win0_1.index t 1 = t.val % 2)
    ∧ win0_2.index t 0 = t.val / 2 ∧ win0_2.index t 1 = t.val % 2 := by decide +kernel

/-- The body's product. -/
theorem body (A B : ℕ → ℕ → EReal) : out0_2 (F := Ideal) (e2 A) (e2 B) = (e2 (prod_nn 1024 A B) : FVec Ideal S1024x1024 .bf16) := by
  unfold out0_2
  rw [View.canon_unit_zero (S := S1024x1024) (by decide), View.ld_unit_zero (S := S1024x1024) (by decide), View.ld_unit_zero (S := S1024x1024) (by decide)]
  unfold k0_pay1
  funext y
  rw [eq_ix2 y]
  pointwise [e2, prod_nn, dot_S1024x1024_S1024x1024_S1024x1024_1_0_0_1_n_n]

variable {m : (ℓ : Loc nD τ sig) → Buf (Elt Ideal) ℓ} {c : Dev nD} {A B : ℕ → ℕ → EReal}

/-- The input's block at a point. -/
theorem left (hA : (m ((c : Thread nD τ).loc main_arg0) : FVec Ideal S2048x1024 .bf16) = e2 A) (t : Fin cfg0.N) :
    iblk m c 0 t = (e2 fun i k => A (1024 * (t.val / 2) + i) k : FVec Ideal S1024x1024 .bf16) := by
  funext j
  unfold iblk
  rw [View.read_apply]
  show V m c main_arg0 _ = _
  rw [(V_main_arg0 m c).trans hA]
  exact congrArg₂ A (at_further (n := 1024) (at_point t).1.1) (at_first (n := 1024) (at_point t).1.2)

/-- The weights'. -/
theorem right (hB : (m ((c : Thread nD τ).loc main_arg1) : FVec Ideal S2048x2048 .bf16) = e2 B) (t : Fin cfg0.N) :
    iblk m c 1 t = (e2 fun k j => B (1024 * 1 + k) (1024 * (t.val % 2) + j) : FVec Ideal S1024x1024 .bf16) := by
  funext j
  unfold iblk
  rw [View.read_apply]
  show V m c main_arg1 _ = _
  rw [(V_main_arg1 m c).trans hB]
  exact congrArg₂ B (at_further (n := 1024) (at_point t).2.1.1) (at_further (n := 1024) (at_point t).2.1.2)

/-- The result array ends as the product. -/
theorem final (hA : (m ((c : Thread nD τ).loc main_arg0) : FVec Ideal S2048x1024 .bf16) = e2 A) (hB : (m ((c : Thread nD τ).loc main_arg1) : FVec Ideal S2048x2048 .bf16) = e2 B) :
    (dats m 0 c).arrAt 2 cfg0.N = (e2 (prod_nn 1024 A fun k => B (1024 * 1 + k)) : FVec Ideal S2048x2048 .bf16) :=
  (dats m 0 c).arrAt_eq_of_cover 2 _ (fun t _ => by
    refine (Value.flushed2 m c t).trans ?_
    rw [left hA, right hB, body]
    funext j
    rw [View.read_apply]
    exact (congrArg₂ (prod_nn 1024 A fun k => B (1024 * 1 + k)) (at_further (n := 1024) (at_point t).2.2.1) (at_further (n := 1024) (at_point t).2.2.2)).symm) fun i => by
    obtain ⟨ht, h0, h1⟩ := grid_point (Nat.div_lt_of_lt_mul (i 0).isLt : (i 0).val / 1024 < 2) (Nat.div_lt_of_lt_mul (i 1).isLt : (i 1).val / 1024 < 2)
    have hl : 2 * ((i 0).val / 1024) + (i 1).val / 1024 < cfg0.N := by change _ < grid0.N; rw [N_0]; exact ht
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) h0
    | ⟨1, _⟩ => exact tile (n := 1024) i1 (by decide) h1

/-- The reference computes the same product. -/
theorem reference (A B : ℕ → ℕ → EReal) : truncf (φ := .f32) .bf16 (Host.dotGeneral Cert.BrPoolRefIdeal.dot_S2048x1024_S1024x2048_S2048x2048_1_0_0_1_n_n none
      (extf .f32 (e2 A : FVec Ideal ⟨2, ![2048, 1024]⟩ .bf16) Cert.BrPoolRefIdeal.Gen.bitsLt_bf16_f32) (extractStridedSlice Cert.BrPoolRefIdeal.S1024x2048 ![1024, 0] (extf .f32 (e2 B : FVec Ideal ⟨2, ![2048, 2048]⟩ .bf16) Cert.BrPoolRefIdeal.Gen.bitsLt_bf16_f32) Cert.BrPoolRefIdeal.Gen.slices_S2048x2048_S1024x2048_1024_0)) Cert.BrPoolRefIdeal.Gen.bitsLt_bf16_f32
    = (show FVec Ideal ⟨2, ![2048, 2048]⟩ .bf16 from e2 (prod_nn 1024 A fun k => B (1024 * 1 + k))) := by
  funext y
  rw [eq_ix2 y]
  pointwise [e2, prod_nn, Cert.BrPoolRefIdeal.dot_S2048x1024_S1024x2048_S2048x2048_1_0_0_1_n_n]

/-- Both programs compute the product. -/
theorem algebraic : Cert.algebraic_BrPoolIdeal_BrPoolRefIdeal := fun m ρ m' ρ' _ hag =>
  ⟨fun c => (e2 (prod_nn 1024 (tab2 (m ((c.tc : Thread nD τ).loc main_arg0) : FVec Ideal S2048x1024 .bf16)) fun k => tab2 (m ((c.tc : Thread nD τ).loc main_arg1) : FVec Ideal S2048x2048 .bf16) (1024 * 1 + k)) : FVec Ideal S2048x2048 .bf16),
   (θ_run defs _ _).mono (fun r hr c => ⟨(hr c).1.trans (final (eq_tab2 _) (eq_tab2 _)), (hr c).2⟩) (Value.run_blocks m ρ),
   (θ_run Cert.BrPoolRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x1024 .bf16), eq_tab2 (m ((c.tc : Thread nD τ).loc main_arg1) : FVec Ideal S2048x2048 .bf16)]
      exact reference _ _) (Cert.BrPoolRefIdeal.Value.run m' ρ')⟩

end Cert.Gla.BrPool
end
-- ==== Proof.OGla.lean ====
/- Hand-written, untrusted: THE LINEAR ATTENTION'S SHARE OF THE BRANCH WEIGHTS' INPUT GRADIENT. Each of the two grid points multiplies a row block
   of the cotangent by the weights' upper rows, transposed. -/
module

public import proofs.«01_k».proof.Defs
public import proofs.«01_k».proof.Proof.Prod
public import proofs.«01_k».proof.Proof.Gen.OGlaIdeal.Value
public import proofs.«01_k».proof.Proof.Gen.OGlaRefIdeal.Run

@[expose] public section

set_option maxRecDepth 16384

noncomputable section

namespace Cert.Gla.OGla

open Idealize.ShloMosaic Cert.OGlaIdeal Cert.OGlaIdeal.Gen Idealize.ShloMosaic.TcCoe Idealize.SL.Sem

/-- Where the blocks of the factors and of the result lie. -/
theorem at_point : ∀ t : Fin grid0.N, (win0_0.index t 0 = t.val ∧ win0_0.index t 1 = 0) ∧ (win0_1.index t 0 = 0 ∧ win0_1.index t 1 = 0)
    ∧ win0_2.index t 0 = t.val ∧ win0_2.index t 1 = 0 := by decide +kernel

/-- The body's product. -/
theorem body (A B : ℕ → ℕ → EReal) : out0_2 (F := Ideal) (e2 A) (e2 B) = (e2 (prod_nt 2048 A B) : FVec Ideal S1024x1024 .f32) := by
  unfold out0_2
  rw [View.canon_unit_zero (S := S1024x1024) (by decide), View.ld_unit_zero (S := S1024x2048) (by decide), View.ld_unit_zero (S := S1024x2048) (by decide)]
  unfold k0_pay1
  funext y
  rw [eq_ix2 y]
  pointwise [e2, prod_nt, dot_S1024x2048_S1024x2048_S1024x1024_1_1_0_0_n_n]

variable {m : (ℓ : Loc nD τ sig) → Buf (Elt Ideal) ℓ} {c : Dev nD} {A B : ℕ → ℕ → EReal}

/-- The cotangent's block at a point. -/
theorem left (hA : (m ((c : Thread nD τ).loc main_arg0) : FVec Ideal S2048x2048 .bf16) = e2 A) (t : Fin cfg0.N) :
    iblk m c 0 t = (e2 fun i k => A (1024 * (t.val) + i) k : FVec Ideal S1024x2048 .bf16) := by
  funext j
  unfold iblk
  rw [View.read_apply]
  show V m c main_arg0 _ = _
  rw [(V_main_arg0 m c).trans hA]
  exact congrArg₂ A (at_further (n := 1024) (at_point t).1.1) (at_first (n := 2048) (at_point t).1.2)

/-- The weights'. -/
theorem right (hB : (m ((c : Thread nD τ).loc main_arg1) : FVec Ideal S2048x2048 .bf16) = e2 B) (t : Fin cfg0.N) :
    iblk m c 1 t = (e2 fun j k => B j k : FVec Ideal S1024x2048 .bf16) := by
  funext j
  unfold iblk
  rw [View.read_apply]
  show V m c main_arg1 _ = _
  rw [(V_main_arg1 m c).trans hB]
  exact congrArg₂ B (at_first (n := 1024) (at_point t).2.1.1) (at_first (n := 2048) (at_point t).2.1.2)

/-- The result array ends as the gradient. -/
theorem final (hA : (m ((c : Thread nD τ).loc main_arg0) : FVec Ideal S2048x2048 .bf16) = e2 A) (hB : (m ((c : Thread nD τ).loc main_arg1) : FVec Ideal S2048x2048 .bf16) = e2 B) :
    (dats m 0 c).arrAt 2 cfg0.N = (e2 (prod_nt 2048 A B) : FVec Ideal S2048x1024 .f32) :=
  (dats m 0 c).arrAt_eq_of_cover 2 _ (fun t _ => by
    refine (Value.flushed2 m c t).trans ?_
    rw [left hA, right hB, body]
    funext j
    rw [View.read_apply]
    exact (congrArg₂ (prod_nt 2048 A B) (at_further (n := 1024) (at_point t).2.2.1) (at_first (n := 1024) (at_point t).2.2.2)).symm) fun i => by
    have hl : (i 0).val / 1024 < cfg0.N := by change _ < grid0.N; rw [N_0]; exact Nat.div_lt_of_lt_mul (i 0).isLt
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) rfl
    | ⟨1, _⟩ => exact tile (n := 1024) i1 (by decide) (Nat.div_eq_of_lt (i 1).isLt).symm

/-- The reference computes the same gradient. -/
theorem reference (A B : ℕ → ℕ → EReal) : Host.dotGeneral Cert.OGlaRefIdeal.dot_S2048x2048_S1024x2048_S2048x1024_1_1_0_0_n_n none
      (extf .f32 (e2 A : FVec Ideal ⟨2, ![2048, 2048]⟩ .bf16) Cert.OGlaRefIdeal.Gen.bitsLt_bf16_f32) (extractStridedSlice Cert.OGlaRefIdeal.S1024x2048 ![0, 0] (extf .f32 (e2 B : FVec Ideal ⟨2, ![2048, 2048]⟩ .bf16) Cert.OGlaRefIdeal.Gen.bitsLt_bf16_f32) Cert.OGlaRefIdeal.Gen.slices_S2048x2048_S1024x2048_0_0)
    = (show FVec Ideal ⟨2, ![2048, 1024]⟩ .f32 from e2 (prod_nt 2048 A B)) := by
  funext y
  rw [eq_ix2 y]
  pointwise [e2, prod_nt, Cert.OGlaRefIdeal.dot_S2048x2048_S1024x2048_S2048x1024_1_1_0_0_n_n]

/-- Both programs compute the gradient. -/
theorem algebraic : Cert.algebraic_OGlaIdeal_OGlaRefIdeal := fun m ρ m' ρ' _ hag =>
  ⟨fun c => (e2 (prod_nt 2048 (tab2 (m ((c.tc : Thread nD τ).loc main_arg0) : FVec Ideal S2048x2048 .bf16)) (tab2 (m ((c.tc : Thread nD τ).loc main_arg1) : FVec Ideal S2048x2048 .bf16))) : FVec Ideal S2048x1024 .f32),
   (θ_run defs _ _).mono (fun r hr c => ⟨(hr c).1.trans (final (eq_tab2 _) (eq_tab2 _)), (hr c).2⟩) (Value.run_blocks m ρ),
   (θ_run Cert.OGlaRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x2048 .bf16), eq_tab2 (m ((c.tc : Thread nD τ).loc main_arg1) : FVec Ideal S2048x2048 .bf16)]
      exact reference _ _) (Cert.OGlaRefIdeal.Value.run m' ρ')⟩

end Cert.Gla.OGla
end
-- ==== Proof.OPool.lean ====
/- Hand-written, untrusted: THE POOLING'S SHARE OF THE BRANCH WEIGHTS' INPUT GRADIENT. Each of the two grid points multiplies a row block
   of the cotangent by the weights' lower rows, transposed. -/
module

public import proofs.«01_k».proof.Defs
public import proofs.«01_k».proof.Proof.Prod
public import proofs.«01_k».proof.Proof.Gen.OPoolIdeal.Value
public import proofs.«01_k».proof.Proof.Gen.OPoolRefIdeal.Run

@[expose] public section

set_option maxRecDepth 16384

noncomputable section

namespace Cert.Gla.OPool

open Idealize.ShloMosaic Cert.OPoolIdeal Cert.OPoolIdeal.Gen Idealize.ShloMosaic.TcCoe Idealize.SL.Sem

/-- Where the blocks of the factors and of the result lie. -/
theorem at_point : ∀ t : Fin grid0.N, (win0_0.index t 0 = t.val ∧ win0_0.index t 1 = 0) ∧ (win0_1.index t 0 = 1 ∧ win0_1.index t 1 = 0)
    ∧ win0_2.index t 0 = t.val ∧ win0_2.index t 1 = 0 := by decide +kernel

/-- The body's product. -/
theorem body (A B : ℕ → ℕ → EReal) : out0_2 (F := Ideal) (e2 A) (e2 B) = (e2 (prod_nt 2048 A B) : FVec Ideal S1024x1024 .f32) := by
  unfold out0_2
  rw [View.canon_unit_zero (S := S1024x1024) (by decide), View.ld_unit_zero (S := S1024x2048) (by decide), View.ld_unit_zero (S := S1024x2048) (by decide)]
  unfold k0_pay1
  funext y
  rw [eq_ix2 y]
  pointwise [e2, prod_nt, dot_S1024x2048_S1024x2048_S1024x1024_1_1_0_0_n_n]

variable {m : (ℓ : Loc nD τ sig) → Buf (Elt Ideal) ℓ} {c : Dev nD} {A B : ℕ → ℕ → EReal}

/-- The cotangent's block at a point. -/
theorem left (hA : (m ((c : Thread nD τ).loc main_arg0) : FVec Ideal S2048x2048 .bf16) = e2 A) (t : Fin cfg0.N) :
    iblk m c 0 t = (e2 fun i k => A (1024 * (t.val) + i) k : FVec Ideal S1024x2048 .bf16) := by
  funext j
  unfold iblk
  rw [View.read_apply]
  show V m c main_arg0 _ = _
  rw [(V_main_arg0 m c).trans hA]
  exact congrArg₂ A (at_further (n := 1024) (at_point t).1.1) (at_first (n := 2048) (at_point t).1.2)

/-- The weights'. -/
theorem right (hB : (m ((c : Thread nD τ).loc main_arg1) : FVec Ideal S2048x2048 .bf16) = e2 B) (t : Fin cfg0.N) :
    iblk m c 1 t = (e2 fun j k => B (1024 * 1 + j) k : FVec Ideal S1024x2048 .bf16) := by
  funext j
  unfold iblk
  rw [View.read_apply]
  show V m c main_arg1 _ = _
  rw [(V_main_arg1 m c).trans hB]
  exact congrArg₂ B (at_further (n := 1024) (at_point t).2.1.1) (at_first (n := 2048) (at_point t).2.1.2)

/-- The result array ends as the gradient. -/
theorem final (hA : (m ((c : Thread nD τ).loc main_arg0) : FVec Ideal S2048x2048 .bf16) = e2 A) (hB : (m ((c : Thread nD τ).loc main_arg1) : FVec Ideal S2048x2048 .bf16) = e2 B) :
    (dats m 0 c).arrAt 2 cfg0.N = (e2 (prod_nt 2048 A fun j => B (1024 * 1 + j)) : FVec Ideal S2048x1024 .f32) :=
  (dats m 0 c).arrAt_eq_of_cover 2 _ (fun t _ => by
    refine (Value.flushed2 m c t).trans ?_
    rw [left hA, right hB, body]
    funext j
    rw [View.read_apply]
    exact (congrArg₂ (prod_nt 2048 A fun j => B (1024 * 1 + j)) (at_further (n := 1024) (at_point t).2.2.1) (at_first (n := 1024) (at_point t).2.2.2)).symm) fun i => by
    have hl : (i 0).val / 1024 < cfg0.N := by change _ < grid0.N; rw [N_0]; exact Nat.div_lt_of_lt_mul (i 0).isLt
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) rfl
    | ⟨1, _⟩ => exact tile (n := 1024) i1 (by decide) (Nat.div_eq_of_lt (i 1).isLt).symm

/-- The reference computes the same gradient. -/
theorem reference (A B : ℕ → ℕ → EReal) : Host.dotGeneral Cert.OPoolRefIdeal.dot_S2048x2048_S1024x2048_S2048x1024_1_1_0_0_n_n none
      (extf .f32 (e2 A : FVec Ideal ⟨2, ![2048, 2048]⟩ .bf16) Cert.OPoolRefIdeal.Gen.bitsLt_bf16_f32) (extractStridedSlice Cert.OPoolRefIdeal.S1024x2048 ![1024, 0] (extf .f32 (e2 B : FVec Ideal ⟨2, ![2048, 2048]⟩ .bf16) Cert.OPoolRefIdeal.Gen.bitsLt_bf16_f32) Cert.OPoolRefIdeal.Gen.slices_S2048x2048_S1024x2048_1024_0)
    = (show FVec Ideal ⟨2, ![2048, 1024]⟩ .f32 from e2 (prod_nt 2048 A fun j => B (1024 * 1 + j))) := by
  funext y
  rw [eq_ix2 y]
  pointwise [e2, prod_nt, Cert.OPoolRefIdeal.dot_S2048x2048_S1024x2048_S2048x1024_1_1_0_0_n_n]

/-- Both programs compute the gradient. -/
theorem algebraic : Cert.algebraic_OPoolIdeal_OPoolRefIdeal := fun m ρ m' ρ' _ hag =>
  ⟨fun c => (e2 (prod_nt 2048 (tab2 (m ((c.tc : Thread nD τ).loc main_arg0) : FVec Ideal S2048x2048 .bf16)) fun j => tab2 (m ((c.tc : Thread nD τ).loc main_arg1) : FVec Ideal S2048x2048 .bf16) (1024 * 1 + j)) : FVec Ideal S2048x1024 .f32),
   (θ_run defs _ _).mono (fun r hr c => ⟨(hr c).1.trans (final (eq_tab2 _) (eq_tab2 _)), (hr c).2⟩) (Value.run_blocks m ρ),
   (θ_run Cert.OPoolRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x2048 .bf16), eq_tab2 (m ((c.tc : Thread nD τ).loc main_arg1) : FVec Ideal S2048x2048 .bf16)]
      exact reference _ _) (Cert.OPoolRefIdeal.Value.run m' ρ')⟩

end Cert.Gla.OPool
end
-- ==== Proof.BrW.lean ====
/- Hand-written, untrusted: THE BRANCH WEIGHTS' GRADIENT, of either branch. Each of the two grid points multiplies the branch's output, transposed,
   by a column block of the cotangent. -/
module

public import proofs.«01_k».proof.Defs
public import proofs.«01_k».proof.Proof.Prod
public import proofs.«01_k».proof.Proof.Gen.BrWIdeal.Value
public import proofs.«01_k».proof.Proof.Gen.BrWRefIdeal.Run

@[expose] public section

set_option maxRecDepth 16384

noncomputable section

namespace Cert.Gla.BrW

open Idealize.ShloMosaic Cert.BrWIdeal Cert.BrWIdeal.Gen Idealize.ShloMosaic.TcCoe Idealize.SL.Sem

/-- Where the blocks of the factors and of the result lie. -/
theorem at_point : ∀ t : Fin grid0.N, (win0_0.index t 0 = 0 ∧ win0_0.index t 1 = 0) ∧ (win0_1.index t 0 = 0 ∧ win0_1.index t 1 = t.val)
    ∧ win0_2.index t 0 = 0 ∧ win0_2.index t 1 = t.val := by decide +kernel

/-- The body's product. -/
theorem body (A B : ℕ → ℕ → EReal) : out0_2 (F := Ideal) (e2 A) (e2 B) = (e2 (prod_tn 2048 A B) : FVec Ideal S1024x1024 .bf16) := by
  unfold out0_2
  rw [View.canon_unit_zero (S := S1024x1024) (by decide), View.ld_unit_zero (S := S2048x1024) (by decide), View.ld_unit_zero (S := S2048x1024) (by decide)]
  unfold k0_pay1
  funext y
  rw [eq_ix2 y]
  pointwise [e2, prod_tn, dot_S2048x1024_S2048x1024_S1024x1024_0_0_1_1_n_n]

variable {m : (ℓ : Loc nD τ sig) → Buf (Elt Ideal) ℓ} {c : Dev nD} {A B : ℕ → ℕ → EReal}

/-- The input's block at a point. -/
theorem left (hA : (m ((c : Thread nD τ).loc main_arg0) : FVec Ideal S2048x1024 .bf16) = e2 A) (t : Fin cfg0.N) :
    iblk m c 0 t = (e2 fun k i => A k i : FVec Ideal S2048x1024 .bf16) := by
  funext j
  unfold iblk
  rw [View.read_apply]
  show V m c main_arg0 _ = _
  rw [(V_main_arg0 m c).trans hA]
  exact congrArg₂ A (at_first (n := 2048) (at_point t).1.1) (at_first (n := 1024) (at_point t).1.2)

/-- The cotangent's. -/
theorem right (hB : (m ((c : Thread nD τ).loc main_arg1) : FVec Ideal S2048x2048 .bf16) = e2 B) (t : Fin cfg0.N) :
    iblk m c 1 t = (e2 fun k j => B k (1024 * (t.val) + j) : FVec Ideal S2048x1024 .bf16) := by
  funext j
  unfold iblk
  rw [View.read_apply]
  show V m c main_arg1 _ = _
  rw [(V_main_arg1 m c).trans hB]
  exact congrArg₂ B (at_first (n := 2048) (at_point t).2.1.1) (at_further (n := 1024) (at_point t).2.1.2)

/-- The result array ends as the gradient. -/
theorem final (hA : (m ((c : Thread nD τ).loc main_arg0) : FVec Ideal S2048x1024 .bf16) = e2 A) (hB : (m ((c : Thread nD τ).loc main_arg1) : FVec Ideal S2048x2048 .bf16) = e2 B) :
    (dats m 0 c).arrAt 2 cfg0.N = (e2 (prod_tn 2048 A B) : FVec Ideal S1024x2048 .bf16) :=
  (dats m 0 c).arrAt_eq_of_cover 2 _ (fun t _ => by
    refine (Value.flushed2 m c t).trans ?_
    rw [left hA, right hB, body]
    funext j
    rw [View.read_apply]
    exact (congrArg₂ (prod_tn 2048 A B) (at_first (n := 1024) (at_point t).2.2.1) (at_further (n := 1024) (at_point t).2.2.2)).symm) fun i => by
    have hl : (i 1).val / 1024 < cfg0.N := by change _ < grid0.N; rw [N_0]; exact Nat.div_lt_of_lt_mul (i 1).isLt
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1024) i0 (by decide) (Nat.div_eq_of_lt (i 0).isLt).symm
    | ⟨1, _⟩ => exact tile (n := 1024) i1 (by decide) rfl

/-- The reference computes the same gradient, from its transpose. -/
theorem reference (A B : ℕ → ℕ → EReal) : truncf (φ := .f32) .bf16 (transpose Cert.BrWRefIdeal.S1024x2048 [1, 0] (Host.dotGeneral Cert.BrWRefIdeal.dot_S2048x2048_S2048x1024_S2048x1024_0_0_1_1_n_n none
      (extf .f32 (e2 B : FVec Ideal ⟨2, ![2048, 2048]⟩ .bf16) Cert.BrWRefIdeal.Gen.bitsLt_bf16_f32) (extf .f32 (e2 A : FVec Ideal ⟨2, ![2048, 1024]⟩ .bf16) Cert.BrWRefIdeal.Gen.bitsLt_bf16_f32))
      Cert.BrWRefIdeal.Gen.transposes_S2048x1024_S1024x2048_1_0) Cert.BrWRefIdeal.Gen.bitsLt_bf16_f32
    = (show FVec Ideal ⟨2, ![1024, 2048]⟩ .bf16 from e2 (prod_tn 2048 A B)) := by
  funext y
  rw [eq_ix2 y]
  pointwise [e2, prod_tn, Cert.BrWRefIdeal.dot_S2048x2048_S2048x1024_S2048x1024_0_0_1_1_n_n]
  exact Finset.sum_congr rfl fun _ _ => mul_comm _ _

/-- Both programs compute the gradient. -/
theorem algebraic : Cert.algebraic_BrWIdeal_BrWRefIdeal := fun m ρ m' ρ' _ hag =>
  ⟨fun c => (e2 (prod_tn 2048 (tab2 (m ((c.tc : Thread nD τ).loc main_arg0) : FVec Ideal S2048x1024 .bf16)) (tab2 (m ((c.tc : Thread nD τ).loc main_arg1) : FVec Ideal S2048x2048 .bf16))) : FVec Ideal S1024x2048 .bf16),
   (θ_run defs _ _).mono (fun r hr c => ⟨(hr c).1.trans (final (eq_tab2 _) (eq_tab2 _)), (hr c).2⟩) (Value.run_blocks m ρ),
   (θ_run Cert.BrWRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S2048x1024 .bf16), eq_tab2 (m ((c.tc : Thread nD τ).loc main_arg1) : FVec Ideal S2048x2048 .bf16)]
      exact reference _ _) (Cert.BrWRefIdeal.Value.run m' ρ')⟩

end Cert.Gla.BrW
end
-- ==== Proof.Kv.lean ====
/- Hand-written, untrusted: THE CROSS-ATTENTION'S KEYS AND VALUES. Each of the four grid points multiplies the memory by one of the four shards of
   the weights; the shards' columns follow each other in the result. -/
module

public import proofs.«01_k».proof.Defs
public import proofs.«01_k».proof.Proof.Prod
public import proofs.«01_k».proof.Proof.Gen.KvIdeal.Value
public import proofs.«01_k».proof.Proof.Gen.KvRefIdeal.Run

@[expose] public section

set_option maxRecDepth 16384

noncomputable section

namespace Cert.Gla.Kv

open Idealize.ShloMosaic Cert.KvIdeal Cert.KvIdeal.Gen Idealize.ShloMosaic.TcCoe Idealize.SL.Sem

/-- The product's entries. -/
def prod (A : ℕ → ℕ → EReal) (B : ℕ → ℕ → ℕ → EReal) (i j : ℕ) : EReal := ∑ k : Fin 2048, A i k * B (j / 1024) k (j % 1024)

/-- Where the blocks of the factors and of the result lie. -/
theorem at_point : ∀ t : Fin grid0.N, (win0_0.index t 0 = 0 ∧ win0_0.index t 1 = 0) ∧ (win0_1.index t 0 = t.val ∧ win0_1.index t 1 = 0 ∧ win0_1.index t 2 = 0)
    ∧ win0_2.index t 0 = 0 ∧ win0_2.index t 1 = t.val := by decide +kernel

/-- The body's product. -/
theorem body (A : ℕ → ℕ → EReal) (B : ℕ → ℕ → ℕ → EReal) : out0_2 (F := Ideal) (e2 A) (e3 B) = (e2 fun i j => ∑ k : Fin 2048, A i k * B 0 k j : FVec Ideal S256x1024 .bf16) := by
  unfold out0_2
  rw [View.canon_unit_zero (S := S256x1024) (by decide), View.ld_unit_zero (S := S256x2048) (by decide), View.ld_unit_zero (S := S1x2048x1024) (by decide)]
  unfold k0_pay1
  funext y
  rw [eq_ix2 y]
  pointwise [e2, e3, dot_S256x2048_S2048x1024_S256x1024_1_0_0_1_n_n]

variable {m : (ℓ : Loc nD τ sig) → Buf (Elt Ideal) ℓ} {c : Dev nD} {A : ℕ → ℕ → EReal} {B : ℕ → ℕ → ℕ → EReal}

/-- The input's block at a point. -/
theorem left (hA : (m ((c : Thread nD τ).loc main_arg0) : FVec Ideal S256x2048 .bf16) = e2 A) (t : Fin cfg0.N) :
    iblk m c 0 t = (e2 A : FVec Ideal S256x2048 .bf16) := by
  funext j
  unfold iblk
  rw [View.read_apply]
  show V m c main_arg0 _ = _
  rw [(V_main_arg0 m c).trans hA]
  exact congrArg₂ A (at_first (n := 256) (at_point t).1.1) (at_first (n := 2048) (at_point t).1.2)

/-- The weights'. -/
theorem right (hB : (m ((c : Thread nD τ).loc main_arg1) : FVec Ideal S4x2048x1024 .bf16) = e3 B) (t : Fin cfg0.N) :
    iblk m c 1 t = (e3 fun s k j => B (1 * t.val + s) k j : FVec Ideal S1x2048x1024 .bf16) := by
  funext j
  unfold iblk
  rw [View.read_apply]
  show V m c main_arg1 _ = _
  rw [(V_main_arg1 m c).trans hB]
  exact congr (congrArg₂ B (at_further (n := 1) (at_point t).2.1.1) (at_first (n := 2048) (at_point t).2.1.2.1)) (at_first (n := 1024) (at_point t).2.1.2.2)

/-- A column of a point's block, in its shard. -/
theorem column (t j : ℕ) (hj : j < 1024) : 1 * t + 0 = (1024 * t + j) / 1024 ∧ j = (1024 * t + j) % 1024 := by omega

/-- The result array ends as the product. -/
theorem final (hA : (m ((c : Thread nD τ).loc main_arg0) : FVec Ideal S256x2048 .bf16) = e2 A) (hB : (m ((c : Thread nD τ).loc main_arg1) : FVec Ideal S4x2048x1024 .bf16) = e3 B) :
    (dats m 0 c).arrAt 2 cfg0.N = (e2 (prod A B) : FVec Ideal S256x4096 .bf16) :=
  (dats m 0 c).arrAt_eq_of_cover 2 _ (fun t _ => by
    refine (Value.flushed2 m c t).trans ?_
    rw [left hA, right hB, body]
    funext j
    rw [View.read_apply]
    obtain ⟨h, h'⟩ := column t.val (j 1).val (j 1).isLt
    refine Eq.trans ?_ (congrArg₂ (prod A B) (at_first (n := 256) (at_point t).2.2.1) (at_further (n := 1024) (at_point t).2.2.2)).symm
    exact prod_congr (fun _ => rfl) fun k => congrArg₂ (fun s l => B s k l) h h') fun i => by
    have hl : (i 1).val / 1024 < cfg0.N := by change _ < grid0.N; rw [N_0]; exact Nat.div_lt_of_lt_mul (i 1).isLt
    obtain ⟨-, -, i0, i1⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 256) i0 (by decide) (Nat.div_eq_of_lt (i 0).isLt).symm
    | ⟨1, _⟩ => exact tile (n := 1024) i1 (by decide) rfl

/-- The reference computes the same product. -/
theorem reference (A : ℕ → ℕ → EReal) (B : ℕ → ℕ → ℕ → EReal) : truncf (φ := .f32) .bf16 (Host.dotGeneral Cert.KvRefIdeal.dot_S256x2048_S2048x4096_S256x4096_1_0_0_1_n_n none
      (extf .f32 (e2 A : FVec Ideal ⟨2, ![256, 2048]⟩ .bf16) Cert.KvRefIdeal.Gen.bitsLt_bf16_f32)
      (shapeCast _ (transpose Cert.KvRefIdeal.S2048x4x1024 [1, 0, 2] (extf .f32 (e3 B : FVec Ideal ⟨3, ![4, 2048, 1024]⟩ .bf16) Cert.KvRefIdeal.Gen.bitsLt_bf16_f32) Cert.KvRefIdeal.Gen.transposes_S4x2048x1024_S2048x4x1024_1_0_2)
        Cert.KvRefIdeal.Gen.shapeCasts_S2048x4x1024_S2048x4096)) Cert.KvRefIdeal.Gen.bitsLt_bf16_f32
    = (show FVec Ideal ⟨2, ![256, 4096]⟩ .bf16 from e2 (prod A B)) := by
  funext y
  rw [eq_ix2 y]
  pointwise [e2, e3, prod, Cert.KvRefIdeal.dot_S256x2048_S2048x4096_S256x4096_1_0_0_1_n_n]

/-- Both programs compute the product. -/
theorem algebraic : Cert.algebraic_KvIdeal_KvRefIdeal := fun m ρ m' ρ' _ hag =>
  ⟨fun c => (e2 (prod (tab2 (m ((c.tc : Thread nD τ).loc main_arg0) : FVec Ideal S256x2048 .bf16)) (tab3 (m ((c.tc : Thread nD τ).loc main_arg1) : FVec Ideal S4x2048x1024 .bf16))) : FVec Ideal S256x4096 .bf16),
   (θ_run defs _ _).mono (fun r hr c => ⟨(hr c).1.trans (final (eq_tab2 _) (eq_tab3 _)), (hr c).2⟩) (Value.run_blocks m ρ),
   (θ_run Cert.KvRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S256x2048 .bf16), eq_tab3 (m ((c.tc : Thread nD τ).loc main_arg1) : FVec Ideal S4x2048x1024 .bf16)]
      exact reference _ _) (Cert.KvRefIdeal.Value.run m' ρ')⟩

end Cert.Gla.Kv
end
-- ==== Proof.KvW.lean ====
/- Hand-written, untrusted: THE KEY AND VALUE WEIGHTS' GRADIENT. Each grid point multiplies a column block of the memory, transposed, by one shard's
   columns of the cotangent, and writes a row block of that shard. -/
module

public import proofs.«01_k».proof.Defs
public import proofs.«01_k».proof.Proof.Prod
public import proofs.«01_k».proof.Proof.Gen.KvWIdeal.Value
public import proofs.«01_k».proof.Proof.Gen.KvWRefIdeal.Run

@[expose] public section

set_option maxRecDepth 16384

noncomputable section

namespace Cert.Gla.KvW

open Idealize.ShloMosaic Cert.KvWIdeal Cert.KvWIdeal.Gen Idealize.ShloMosaic.TcCoe Idealize.SL.Sem

/-- The gradient's entries, shard by shard. -/
def grad (A B : ℕ → ℕ → EReal) (s i j : ℕ) : EReal := ∑ k : Fin 256, A k i * B k (1024 * s + j)

/-- Where the blocks of the factors and of the result lie. -/
theorem at_point : ∀ t : Fin grid0.N, (win0_0.index t 0 = 0 ∧ win0_0.index t 1 = t.val / 4) ∧ (win0_1.index t 0 = 0 ∧ win0_1.index t 1 = t.val % 4)
    ∧ win0_2.index t 0 = t.val % 4 ∧ win0_2.index t 1 = t.val / 4 ∧ win0_2.index t 2 = 0 := by decide +kernel

/-- The body's product. -/
theorem body (A B : ℕ → ℕ → EReal) : out0_2 (F := Ideal) (e2 A) (e2 B) = (e3 fun _ i j => ∑ k : Fin 256, A k i * B k j : FVec Ideal S1x1024x1024 .bf16) := by
  unfold out0_2
  rw [View.canon_unit_zero (S := S1x1024x1024) (by decide), View.ld_unit_zero (S := S256x1024) (by decide), View.ld_unit_zero (S := S256x1024) (by decide)]
  unfold k0_pay1
  funext y
  rw [eq_ix3 y]
  pointwise [e2, e3, dot_S256x1024_S256x1024_S1024x1024_0_0_1_1_n_n]

variable {m : (ℓ : Loc nD τ sig) → Buf (Elt Ideal) ℓ} {c : Dev nD} {A B : ℕ → ℕ → EReal}

/-- The memory's block at a point. -/
theorem left (hA : (m ((c : Thread nD τ).loc main_arg0) : FVec Ideal S256x2048 .bf16) = e2 A) (t : Fin cfg0.N) :
    iblk m c 0 t = (e2 fun k i => A k (1024 * (t.val / 4) + i) : FVec Ideal S256x1024 .bf16) := by
  funext j
  unfold iblk
  rw [View.read_apply]
  show V m c main_arg0 _ = _
  rw [(V_main_arg0 m c).trans hA]
  exact congrArg₂ A (at_first (n := 256) (at_point t).1.1) (at_further (n := 1024) (at_point t).1.2)

/-- The cotangent's. -/
theorem right (hB : (m ((c : Thread nD τ).loc main_arg1) : FVec Ideal S256x4096 .bf16) = e2 B) (t : Fin cfg0.N) :
    iblk m c 1 t = (e2 fun k j => B k (1024 * (t.val % 4) + j) : FVec Ideal S256x1024 .bf16) := by
  funext j
  unfold iblk
  rw [View.read_apply]
  show V m c main_arg1 _ = _
  rw [(V_main_arg1 m c).trans hB]
  exact congrArg₂ B (at_first (n := 256) (at_point t).2.1.1) (at_further (n := 1024) (at_point t).2.1.2)

/-- The result array ends as the gradient. -/
theorem final (hA : (m ((c : Thread nD τ).loc main_arg0) : FVec Ideal S256x2048 .bf16) = e2 A) (hB : (m ((c : Thread nD τ).loc main_arg1) : FVec Ideal S256x4096 .bf16) = e2 B) :
    (dats m 0 c).arrAt 2 cfg0.N = (e3 (grad A B) : FVec Ideal S4x2048x1024 .bf16) :=
  (dats m 0 c).arrAt_eq_of_cover 2 _ (fun t _ => by
    obtain ⟨-, -, i0, i1, i2⟩ := at_point t
    refine (Value.flushed2 m c t).trans ?_
    rw [left hA, right hB, body]
    funext j
    rw [View.read_apply]
    refine prod_congr (fun k => congrArg (A k) (at_further (n := 1024) i1).symm) fun k => congrArg (B k) ?_
    show 1024 * (t.val % 4) + (j 2).val = 1024 * (win0_2.index t 0 * 1 + 1 * (j 0).val) + (win0_2.index t 2 * 1024 + 1 * (j 2).val)
    rw [at_first (n := 1024) i2, i0, Nat.lt_one_iff.mp (j 0).isLt, Nat.mul_one, Nat.mul_zero, Nat.add_zero]) fun i => by
    obtain ⟨ht, h1, h0⟩ := grid_point (Nat.div_lt_of_lt_mul (i 1).isLt : (i 1).val / 1024 < 2) ((i 0).isLt : (i 0).val < 4)
    have hl : 4 * ((i 1).val / 1024) + (i 0).val < cfg0.N := by change _ < grid0.N; rw [N_0]; exact ht
    obtain ⟨-, -, i0, i1, i2⟩ := at_point ⟨_, hl⟩
    refine ⟨⟨_, hl⟩, flush0_2 _, ?_⟩
    show i ∈ ((View.whole main_v0).slice (win0_2.rect ⟨_, hl⟩)).set
    rw [View.set_slice_whole, Rect.mem_set_unit]
    intro a
    match a with
    | ⟨0, _⟩ => exact tile (n := 1) i0 (by decide) (h0.trans (Nat.div_one _).symm)
    | ⟨1, _⟩ => exact tile (n := 1024) i1 (by decide) h1
    | ⟨2, _⟩ => exact tile (n := 1024) i2 (by decide) (Nat.div_eq_of_lt (i 2).isLt).symm

/-- The reference computes the same gradient. -/
theorem reference (A B : ℕ → ℕ → EReal) : truncf (φ := .f32) .bf16 (transpose Cert.KvWRefIdeal.S4x2048x1024 [1, 0, 2] (shapeCast Cert.KvWRefIdeal.S2048x4x1024 (transpose Cert.KvWRefIdeal.S2048x4096 [1, 0]
    (Host.dotGeneral Cert.KvWRefIdeal.dot_S256x4096_S256x2048_S4096x2048_0_0_1_1_n_n none (extf .f32 (e2 B : FVec Ideal ⟨2, ![256, 4096]⟩ .bf16) Cert.KvWRefIdeal.Gen.bitsLt_bf16_f32) (extf .f32 (e2 A : FVec Ideal ⟨2, ![256, 2048]⟩ .bf16) Cert.KvWRefIdeal.Gen.bitsLt_bf16_f32))
    Cert.KvWRefIdeal.Gen.transposes_S4096x2048_S2048x4096_1_0) Cert.KvWRefIdeal.Gen.shapeCasts_S2048x4096_S2048x4x1024) Cert.KvWRefIdeal.Gen.transposes_S2048x4x1024_S4x2048x1024_1_0_2) Cert.KvWRefIdeal.Gen.bitsLt_bf16_f32
    = (show FVec Ideal ⟨3, ![4, 2048, 1024]⟩ .bf16 from e3 (grad A B)) := by
  funext y
  rw [eq_ix3 y]
  pointwise [e2, e3, grad, Cert.KvWRefIdeal.dot_S256x4096_S256x2048_S4096x2048_0_0_1_1_n_n]
  exact (Finset.sum_congr rfl fun k _ => mul_comm _ _).trans (prod_congr (fun _ => rfl) fun k => by rw [Nat.mul_comm])

/-- Both programs compute the gradient. -/
theorem algebraic : Cert.algebraic_KvWIdeal_KvWRefIdeal := fun m ρ m' ρ' _ hag =>
  ⟨fun c => (e3 (grad (tab2 (m ((c.tc : Thread nD τ).loc main_arg0) : FVec Ideal S256x2048 .bf16)) (tab2 (m ((c.tc : Thread nD τ).loc main_arg1) : FVec Ideal S256x4096 .bf16))) : FVec Ideal S4x2048x1024 .bf16),
   (θ_run defs _ _).mono (fun r hr c => ⟨(hr c).1.trans (final (eq_tab2 _) (eq_tab2 _)), (hr c).2⟩) (Value.run_blocks m ρ),
   (θ_run Cert.KvWRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S256x2048 .bf16), eq_tab2 (m ((c.tc : Thread nD τ).loc main_arg1) : FVec Ideal S256x4096 .bf16)]
      exact reference _ _) (Cert.KvWRefIdeal.Value.run m' ρ')⟩

end Cert.Gla.KvW
end
-- ==== Proof.KvH.lean ====
/- Hand-written, untrusted: THE MEMORY'S GRADIENT FROM THE KEYS AND VALUES. Four grid points in a row sum the products of one shard's columns of
   the cotangent with the shard's weights each, into a buffer that the last of them writes out. -/
module

public import proofs.«01_k».proof.Defs
public import proofs.«01_k».proof.Proof.Prod
public import proofs.«01_k».proof.Proof.Gen.KvHIdeal.Value
public import proofs.«01_k».proof.Proof.Gen.KvHRefIdeal.Run

@[expose] public section

set_option maxRecDepth 16384

noncomputable section

namespace Cert.Gla.KvH

open Idealize.ShloMosaic Cert.KvHIdeal Cert.KvHIdeal.Gen Idealize.ShloMosaic.TcCoe Idealize.SL.Sem

/-- The share of one shard in an entry of a block of the gradient. -/
def part (A : ℕ → ℕ → EReal) (B : ℕ → ℕ → ℕ → EReal) (q s i j : ℕ) : EReal := ∑ k : Fin 1024, A i (1024 * s + k) * B s (1024 * q + j) k
/-- The gradient's entries: the shards' shares, summed. -/
def grad (A : ℕ → ℕ → EReal) (B : ℕ → ℕ → ℕ → EReal) (i j : ℕ) : EReal := ∑ s ∈ Finset.range 4, ∑ k : Fin 1024, A i (1024 * s + k) * B s j k

/-- Where the blocks of the factors and of the result lie. -/
theorem at_point : ∀ t : Fin grid0.N, (win0_0.index t 0 = 0 ∧ win0_0.index t 1 = t.val % 4) ∧ (win0_1.index t 0 = t.val % 4 ∧ win0_1.index t 1 = t.val / 4 ∧ win0_1.index t 2 = 0)
    ∧ win0_2.index t 0 = 0 ∧ win0_2.index t 1 = t.val / 4 := by decide +kernel

/-- The buffer starts at zero. -/
theorem start : k0_pay1 (F := Ideal) = (e2 fun _ _ => 0 : FVec Ideal S256x1024 .f32) := by
  unfold k0_pay1
  funext y
  rw [eq_ix2 y]
  pointwise [e2]

/-- A point adds its product to the buffer. -/
theorem add_product (X A : ℕ → ℕ → EReal) (B : ℕ → ℕ → ℕ → EReal) : k0_pay2 (F := Ideal) (e2 X) (e2 A) (e3 B) = (e2 fun i j => X i j + ∑ k : Fin 1024, A i k * B 0 j k : FVec Ideal S256x1024 .f32) := by
  unfold k0_pay2
  funext y
  rw [eq_ix2 y]
  pointwise [e2, e3, dot_S256x1024_S1024x1024_S256x1024_1_1_0_0_n_n]

section
variable (c : Dev nD) (i : grid0.Coords) (a3 : Memref sig .tc .vmem S256x1024 .bf16) (h3 : a3.IsWhole) (a4 : Memref sig .tc .vmem S1x1024x1024 .bf16) (h4 : a4.IsWhole)
variable (a5 : Memref sig .tc .vmem S256x1024 .f32) (h5 : a5.IsWhole) (a6 : Memref sig .tc .vmem S256x1024 .f32) (h6 : a6.IsWhole)
variable (x : Vec Ideal S256x1024 .bf16) (y : Vec Ideal S1x1024x1024 .bf16) (z : Vec Ideal S256x1024 .f32)

theorem off2 : (![0, 0] : Fin 2 → Nat) = fun _ => 0 := funext fun a => by fin_cases a <;> rfl
theorem off3 : (![0, 0, 0] : Fin 3 → Nat) = fun _ => 0 := funext fun a => by fin_cases a <;> rfl

/-- The first point of a row fills the buffer with zeros and adds. -/
theorem leaves_A (hc : cond0_0 i) (hd : ¬cond0_1 i) : sout0_A_0 (F := Ideal) c i a3 h3 a4 h4 a5 h5 a6 h6 hc hd x y = k0_pay2 k0_pay1 x y := by
  unfold sout0_A_0
  refine (View.read_writes_eq_canon _ _ _ (scover0_A_0 (F := Ideal) c i a3 h3 a4 h4 a5 h5 a6 h6 hc hd x y)).trans ?_
  unfold kernelRun0_A
  dsimp only
  sl_unfold_words
  simp only [View.readAt_eq_ld, h3.read_unread, h4.read_unread, View.ld_unit_zero (S := S256x1024) off2, View.ld_unit_zero (S := S1x1024x1024) off3]
  rw [View.canon_cons_unit_zero (S := S256x1024) off2, View.readCov_unit_zero (S := S256x1024) _ off2]

/-- A middle point adds. -/
theorem leaves_B (hc : ¬cond0_0 i) (hd : ¬cond0_1 i) : sout0_B_0 (F := Ideal) c i a3 h3 a4 h4 a5 h5 a6 h6 hc hd x y z = k0_pay2 z x y := by
  unfold sout0_B_0
  refine (View.read_writes_eq_canon _ _ _ (scover0_B_0 (F := Ideal) c i a3 h3 a4 h4 a5 h5 a6 h6 hc hd x y z)).trans ?_
  unfold kernelRun0_B
  dsimp only
  sl_unfold_words
  simp only [View.readAt_eq_ld, h3.read_unread, h4.read_unread, h6.read_unread, View.ld_unit_zero (S := S256x1024) off2, View.ld_unit_zero (S := S1x1024x1024) off3, View.ld_unit_zero (S := S256x1024) off2]
  rw [View.canon_cons_unit_zero (S := S256x1024) off2]

/-- The last point writes out what the buffer then holds. -/
theorem writes_C (hc : ¬cond0_0 i) (hd : cond0_1 i) : out0_C_2 (F := Ideal) c i a3 h3 a4 h4 a5 h5 a6 h6 hc hd x y z = k0_pay2 z x y := by
  unfold out0_C_2
  refine (View.read_writes_eq_canon _ _ _ (cover0_C_2 (F := Ideal) c i a3 h3 a4 h4 a5 h5 a6 h6 hc hd x y z)).trans ?_
  unfold kernelRun0_C
  dsimp only
  sl_unfold_words
  simp only [View.readAt_eq_ld, h3.read_unread, h4.read_unread, h6.read_unread, View.ld_unit_zero (S := S256x1024) off2, View.ld_unit_zero (S := S1x1024x1024) off3, View.ld_unit_zero (S := S256x1024) off2]
  rw [View.canon_cons_unit_zero (S := S256x1024) off2, View.readCov_unit_zero (S := S256x1024) _ off2]
end

variable {m : (ℓ : Loc nD τ sig) → Buf (Elt Ideal) ℓ} {c : Dev nD} {A : ℕ → ℕ → EReal} {B : ℕ → ℕ → ℕ → EReal}

/-- The first factor's block at a point. -/
theorem left (hA : (m ((c : Thread nD τ).loc main_arg0) : FVec Ideal S256x4096 .bf16) = e2 A) (t : Fin cfg0.N) :
    iblk m c 0 t = (e2 fun i k => A i (1024 * (t.val % 4) + k) : FVec Ideal S256x1024 .bf16) := by
  funext j
  unfold iblk
  rw [View.read_apply]
  show V m c main_arg0 _ = _
  rw [(V_main_arg0 m c).trans hA]
  exact congrArg₂ A (at_first (n := 256) (at_point t).1.1) (at_further (n := 1024) (at_point t).1.2)

/-- The second factor's. -/
theorem right (hB : (m ((c : Thread nD τ).loc main_arg1) : FVec Ideal S4x2048x1024 .bf16) = e3 B) (t : Fin cfg0.N) :
    iblk m c 1 t = (e3 fun s j k => B (1 * (t.val % 4) + s) (1024 * (t.val / 4) + j) k : FVec Ideal S1x1024x1024 .bf16) := by
  funext j
  unfold iblk
  rw [View.read_apply]
  show V m c main_arg1 _ = _
  rw [(V_main_arg1 m c).trans hB]
  exact congr (congrArg₂ B (at_further (n := 1) (at_point t).2.1.1) (at_further (n := 1024) (at_point t).2.1.2.1)) (at_first (n := 1024) (at_point t).2.1.2.2)

/-- What a point adds. -/
theorem adds (hA : (m ((c : Thread nD τ).loc main_arg0) : FVec Ideal S256x4096 .bf16) = e2 A) (hB : (m ((c : Thread nD τ).loc main_arg1) : FVec Ideal S4x2048x1024 .bf16) = e3 B) (t : Fin cfg0.N) (X : ℕ → ℕ → EReal) :
    k0_pay2 (F := Ideal) (e2 X) (iblk m c 0 t) (iblk m c 1 t) = (e2 fun i j => X i j + part A B (t.val / 4) (t.val % 4) i j : FVec Ideal S256x1024 .f32) := by
  rw [left hA, right hB, add_product]
  unfold part
  simp only [Nat.one_mul, Nat.add_zero]

/-- A row of points: what counts them within the row, and what they share. -/
theorem row (n : ℕ) (h : ¬(n + 1) % 4 = 0) : (n + 1) % 4 = n % 4 + 1 ∧ (n + 1) / 4 = n / 4 ∧ ¬n % 4 = 3 := by omega

/-- The buffer after a point that is not the last of its row. -/
theorem buffer (hA : (m ((c : Thread nD τ).loc main_arg0) : FVec Ideal S256x4096 .bf16) = e2 A) (hB : (m ((c : Thread nD τ).loc main_arg1) : FVec Ideal S4x2048x1024 .bf16) = e3 B) :
    ∀ (n : ℕ) (hn : n < cfg0.N), ¬n % 4 = 3 → (outsAt0 m c n hn).2 = (e2 fun i j => ∑ s ∈ Finset.range (n % 4 + 1), part A B (n / 4) s i j : FVec Ideal S256x1024 .f32) := by
  intro n
  induction n with
  | zero =>
    intro hn h3
    rw [outsAt0_A m c ⟨0, hn⟩ rfl h3]
    dsimp only
    rw [leaves_A, start, adds hA hB]
    exact congrArg e2 (funext fun i => funext fun j => by rw [zero_add]; exact (Finset.sum_range_one fun s => part A B (0 / 4) s i j).symm)
  | succ n ih =>
    intro hn h3
    by_cases h0 : (n + 1) % 4 = 0
    · rw [outsAt0_A m c ⟨n + 1, hn⟩ h0 h3]
      dsimp only
      rw [leaves_A, start, adds hA hB]
      dsimp only
      rw [h0]
      exact congrArg e2 (funext fun i => funext fun j => by rw [zero_add]; exact (Finset.sum_range_one fun s => part A B ((n + 1) / 4) s i j).symm)
    · obtain ⟨r0, r1, r2⟩ := row n h0
      rw [outsAt0_B m c ⟨n + 1, hn⟩ h0 h3]
      dsimp only
      rw [leaves_B, show (outsAt0 m c (n + 1 - 1) _).2 = _ from ih (Nat.lt_of_succ_lt hn) r2, adds hA hB]
      dsimp only
      rw [r0, r1]
      exact congrArg e2 (funext fun i => funext fun j => (Finset.sum_range_succ _ _).symm)

/-- The point that writes an entry of the gradient. -/
theorem point (j : ℕ) (hj : j < 2048) : let t := 4 * (j / 1024) + 3; t < 8 ∧ t % 4 = 3 ∧ t / 4 = j / 1024 := by intro t; omega
/-- The point before the last of a row is in the row. -/
theorem before (t : ℕ) (h : t % 4 = 3) : ¬(t - 1) % 4 = 3 ∧ (t - 1) % 4 + 1 = 3 ∧ (t - 1) / 4 = t / 4 ∧ ¬t % 4 = 0 := by omega

/-- The result array ends as the gradient. -/
theorem final (hA : (m ((c : Thread nD τ).loc main_arg0) : FVec Ideal S256x4096 .bf16) = e2 A) (hB : (m ((c : Thread nD τ).loc main_arg1) : FVec Ideal S4x2048x1024 .bf16) = e3 B) :
    (dats m 0 c).arrAt 2 cfg0.N = (e2 (grad A B) : FVec Ideal S256x2048 .f32) :=
  (dats m 0 c).arrAt_eq_of_cover 2 _ (fun t hf => by
    obtain ⟨-, -, i0, i1⟩ := at_point t
    have h3 := (flush0_2 t).mp hf
    obtain ⟨b0, b1, b2, b3⟩ := before t.val h3
    refine (Value.flushed2_C m c t b3 h3).trans ?_
    rw [writes_C, buffer hA hB _ _ b0, adds hA hB, b1, b2, h3]
    funext j
    rw [View.read_apply]
    show (∑ s ∈ Finset.range 3, part A B (t.val / 4) s (j 0).val (j 1).val) + part A B (t.val / 4) 3 (j 0).val (j 1).val
      = grad A B (win0_2.index t 0 * 256 + 1 * (j 0).val) (win0_2.index t 1 * 1024 + 1 * (j 1).val)
    rw [at_first i0, at_further i1]
    exact (Finset.sum_range_succ _ _).symm) fun i => by
    obtain ⟨ht, h3, h1⟩ := point (i 1).val (i 1).isLt
    have hl : 4 * ((i 1).val / 1024) + 3 < cfg0.N := by change _ < grid0.N; rw [N_0]; exact ht
    obtain ⟨-, -, i0, i1⟩ := at_point ⟨_, hl⟩
    refine ⟨⟨_, hl⟩, (flush0_2 _).mpr h3, ?_⟩
    show i ∈ ((View.whole main_v0).slice (win0_2.rect ⟨_, hl⟩)).set
    rw [View.set_slice_whole, Rect.mem_set_unit]
    intro a
    match a with
    | ⟨0, _⟩ => exact tile (n := 256) i0 (by decide) (Nat.div_eq_of_lt (i 0).isLt).symm
    | ⟨1, _⟩ => exact tile (n := 1024) i1 (by decide) h1

/-- A column's shard, and its place there. -/
theorem within (s k : ℕ) (hk : k < 1024) : (1024 * s + k) / 1024 = s ∧ (1024 * s + k) % 1024 = k := by omega

/-- The reference computes the same gradient. -/
theorem reference (A : ℕ → ℕ → EReal) (B : ℕ → ℕ → ℕ → EReal) : Host.dotGeneral Cert.KvHRefIdeal.dot_S256x4096_S2048x4096_S256x2048_1_1_0_0_n_n none (extf .f32 (e2 A : FVec Ideal ⟨2, ![256, 4096]⟩ .bf16) Cert.KvHRefIdeal.Gen.bitsLt_bf16_f32)
      (shapeCast Cert.KvHRefIdeal.S2048x4096 (transpose Cert.KvHRefIdeal.S2048x4x1024 [1, 0, 2] (extf .f32 (e3 B : FVec Ideal ⟨3, ![4, 2048, 1024]⟩ .bf16) Cert.KvHRefIdeal.Gen.bitsLt_bf16_f32) Cert.KvHRefIdeal.Gen.transposes_S4x2048x1024_S2048x4x1024_1_0_2)
        Cert.KvHRefIdeal.Gen.shapeCasts_S2048x4x1024_S2048x4096) = (show FVec Ideal ⟨2, ![256, 2048]⟩ .f32 from e2 (grad A B)) := by
  funext y
  rw [eq_ix2 y]
  pointwise [e2, e3, grad, Cert.KvHRefIdeal.dot_S256x4096_S2048x4096_S256x2048_1_1_0_0_n_n]
  exact (sum_blocks 4 1024 fun k => A (y 0).val k * B (k / 1024) (y 1).val (k % 1024)).trans (Finset.sum_congr rfl fun s _ => prod_congr (fun _ => rfl) fun k => by
    rw [(within s k k.isLt).1, (within s k k.isLt).2])

/-- Both programs compute the gradient. -/
theorem algebraic : Cert.algebraic_KvHIdeal_KvHRefIdeal := fun m ρ m' ρ' _ hag =>
  ⟨fun c => (e2 (grad (tab2 (m ((c.tc : Thread nD τ).loc main_arg0) : FVec Ideal S256x4096 .bf16)) (tab3 (m ((c.tc : Thread nD τ).loc main_arg1) : FVec Ideal S4x2048x1024 .bf16))) : FVec Ideal S256x2048 .f32),
   (θ_run defs _ _).mono (fun r hr c => ⟨(hr c).1.trans (final (eq_tab2 _) (eq_tab3 _)), (hr c).2⟩) (Value.run_blocks m ρ),
   (θ_run Cert.KvHRefIdeal.defs _ _).mono (fun r hr c => by
      refine ⟨(hr c).1.trans ?_, (hr c).2⟩
      rw [(hag c).1, (hag c).2]
      conv_lhs => rw [eq_tab2 (m ((c.tc : Thread nD τ).loc main_arg0) : FVec Ideal S256x4096 .bf16), eq_tab3 (m ((c.tc : Thread nD τ).loc main_arg1) : FVec Ideal S4x2048x1024 .bf16)]
      exact reference _ _) (Cert.KvHRefIdeal.Value.run m' ρ')⟩

end Cert.Gla.KvH
end
-- ==== Proof.Merge.lean ====
/- Hand-written, untrusted: THE GRADIENT OF THE MERGE OF TWO BRANCHES. Each grid point takes a row block of the cotangent and of the
   branches' outputs, and two column blocks of the projections, whose logistic function gates the branches. -/
module

public import proofs.«01_k».proof.Defs
public import proofs.«01_k».proof.Proof.Prod
public import proofs.«01_k».proof.Proof.Chunk
public import proofs.«01_k».proof.Proof.Gen.MergeIdeal.Value
public import proofs.«01_k».proof.Proof.Gen.MergeRefIdeal.Run
public import Idealize.ShloMosaic.Lib.Pipeline.ReadBack

@[expose] public section

set_option maxRecDepth 16384

noncomputable section

namespace Cert.Gla.Merge

open Idealize.ShloMosaic Cert.MergeIdeal Cert.MergeIdeal.Gen Idealize.ShloMosaic.TcCoe Idealize.SL.Sem

/-- Where the blocks of the operands and of the results lie. -/
theorem at_point : ∀ t : Fin grid0.N, ((win0_0.index t 0 = t.val ∧ win0_0.index t 1 = 0) ∧ (win0_1.index t 0 = t.val ∧ win0_1.index t 1 = 0)
    ∧ win0_2.index t 0 = t.val ∧ win0_2.index t 1 = 0) ∧ ((win0_3.index t 0 = t.val ∧ win0_3.index t 1 = 2) ∧ win0_4.index t 0 = t.val ∧ win0_4.index t 1 = 3)
    ∧ (win0_5.index t 0 = t.val ∧ win0_5.index t 1 = 0) ∧ (win0_6.index t 0 = t.val ∧ win0_6.index t 1 = 0) ∧ win0_7.index t 0 = t.val ∧ win0_7.index t 1 = 0 := by decide +kernel

/-- The logistic function. -/
def lgs (x : EReal) : EReal := Ideal.div 1 (1 + Ideal.exp (-x))

/-- It is the hyperbolic tangent of the half, halved and raised, at the infinities too. -/
theorem half_tanh (x : EReal) : ((1 / 2 : ℝ) : EReal) * Ideal.tanh (((1 / 2 : ℝ) : EReal) * x) + ((1 / 2 : ℝ) : EReal) = lgs x := by
  unfold lgs
  induction x with
  | bot =>
    rw [EReal.coe_mul_bot_of_pos (by norm_num), EReal.neg_bot]
    change ((1 / 2 : ℝ) : EReal) * (-1) + ((1 / 2 : ℝ) : EReal) = Ideal.div 1 (1 + ⊤)
    rw [show (1 : EReal) + ⊤ = ⊤ from rfl]
    unfold Ideal.div
    rw [if_neg (by simp), EReal.inv_top, mul_zero, mul_neg, mul_one, ← EReal.coe_neg, ← EReal.coe_add, neg_add_cancel, EReal.coe_zero]
  | top =>
    rw [EReal.coe_mul_top_of_pos (by norm_num), EReal.neg_top]
    change ((1 / 2 : ℝ) : EReal) * 1 + ((1 / 2 : ℝ) : EReal) = Ideal.div 1 (1 + 0)
    rw [add_zero, show Ideal.div 1 1 = ((1 / 1 : ℝ) : EReal) from div_coe 1 1 one_ne_zero, mul_one]
    norm_cast
    norm_num
  | coe r =>
    rw [← EReal.coe_mul, ← EReal.coe_neg]
    change ((1 / 2 : ℝ) : EReal) * ((Real.tanh (1 / 2 * r) : ℝ) : EReal) + ((1 / 2 : ℝ) : EReal) = Ideal.div ((1 : ℝ) : EReal) (((1 : ℝ) : EReal) + ((Real.exp (-r) : ℝ) : EReal))
    rw [← EReal.coe_add, div_coe _ _ (by positivity), ← EReal.coe_mul, ← EReal.coe_add, sig_tanh]

/-- A branch's gradient: the cotangent, gated. -/
def branch (D P : ℕ → ℕ → EReal) (i j : ℕ) : EReal := D i j * lgs (P i j)
/-- The gradient of a gate's argument. -/
def gate (D Y P : ℕ → ℕ → EReal) (i j : ℕ) : EReal := D i j * Y i j * lgs (P i j) * (1 - lgs (P i j))
/-- Two matrices side by side. -/
def beside (n : ℕ) (F G : ℕ → ℕ → EReal) (i j : ℕ) : EReal := if j < n then F i j else G i (j - n)

/-- The first branch's gradient, in the body, … -/
theorem body5 (D Y Z P Q : ℕ → ℕ → EReal) : out0_5 (F := Ideal) (e2 D) (e2 Y) (e2 Z) (e2 P) (e2 Q) = (e2 (branch D P) : FVec Ideal S128x2048 .bf16) := by
  unfold out0_5
  rw [View.canon_unit_zero (S := S128x2048) (by decide), View.ld_unit_zero (S := S128x2048) (by decide), View.ld_unit_zero (S := S128x2048) (by decide)]
  unfold k0_pay4 k0_pay2
  funext y
  rw [eq_ix2 y]
  pointwise [e2, branch]
  simp only [of_half, half_tanh]

/-- … the second's … -/
theorem body6 (D Y Z P Q : ℕ → ℕ → EReal) : out0_6 (F := Ideal) (e2 D) (e2 Y) (e2 Z) (e2 P) (e2 Q) = (e2 (branch D Q) : FVec Ideal S128x2048 .bf16) := by
  unfold out0_6
  rw [View.canon_unit_zero (S := S128x2048) (by decide), View.ld_unit_zero (S := S128x2048) (by decide), View.ld_unit_zero (S := S128x2048) (by decide)]
  unfold k0_pay5 k0_pay3
  funext y
  rw [eq_ix2 y]
  pointwise [e2, branch]
  simp only [of_half, half_tanh]

/-- … and the gates'. -/
theorem body7 (D Y Z P Q : ℕ → ℕ → EReal) : out0_7 (F := Ideal) (e2 D) (e2 Y) (e2 Z) (e2 P) (e2 Q)
    = (e2 (beside 2048 (gate D Y P) (gate D Z Q)) : FVec Ideal S128x4096 .bf16) := by
  unfold out0_7
  rw [View.ld_unit_zero (S := S128x2048) (by decide), View.ld_unit_zero (S := S128x2048) (by decide), View.ld_unit_zero (S := S128x2048) (by decide),
    View.ld_unit_zero (S := S128x2048) (by decide), View.ld_unit_zero (S := S128x2048) (by decide)]
  funext y
  refine View.canon_apply_of_pieces _ _ (View.PiecesOf.mem ?_) y (cover0_7 _ _ y)
  refine ⟨fun x => ?_, fun x => ?_, trivial⟩
  · have h1 : ((r0_2.emb x) 1).val = 2048 + (x 1).val := by show 2048 + 1 * (x 1).val = _; omega
    have h0 : ((r0_2.emb x) 0).val = (x 0).val := by show 0 + 1 * (x 0).val = _; omega
    unfold e2 beside
    rw [h1, h0, if_neg (by omega), Nat.add_sub_cancel_left]
    unfold k0_pay1 k0_pay3
    dsimp only
    rw [eq_ix2 x]
    pointwise [gate]
    simp only [of_half, of_one, EReal.coe_one, half_tanh]
  · have h1 : ((r0_1.emb x) 1).val = (x 1).val := by show 0 + 1 * (x 1).val = _; omega
    have h0 : ((r0_1.emb x) 0).val = (x 0).val := by show 0 + 1 * (x 0).val = _; omega
    unfold e2 beside
    rw [h1, h0, if_pos (show (x 1).val < 2048 from (x 1).isLt)]
    unfold k0_pay6 k0_pay2
    dsimp only
    rw [eq_ix2 x]
    pointwise [gate]
    simp only [of_half, of_one, EReal.coe_one, half_tanh]

variable {m : (ℓ : Loc nD τ sig) → Buf (Elt Ideal) ℓ} {c : Dev nD} {D Y Z P : ℕ → ℕ → EReal}

/-- The cotangent's block at a point, … -/
theorem block0 (h : (m ((c : Thread nD τ).loc main_arg0) : FVec Ideal S2048x2048 .bf16) = e2 D) (t : Fin cfg0.N) :
    iblk m c 0 t = (e2 fun i j => D (128 * t.val + i) j : FVec Ideal S128x2048 .bf16) := by
  funext j
  unfold iblk
  rw [View.read_apply]
  show V m c main_arg0 _ = _
  rw [(V_main_arg0 m c).trans h]
  exact congrArg₂ D (at_further (n := 128) (at_point t).1.1.1) (at_first (n := 2048) (at_point t).1.1.2)

/-- … the branches' outputs' … -/
theorem block1 (h : (m ((c : Thread nD τ).loc main_arg1) : FVec Ideal S2048x2048 .bf16) = e2 Y) (t : Fin cfg0.N) :
    iblk m c 1 t = (e2 fun i j => Y (128 * t.val + i) j : FVec Ideal S128x2048 .bf16) := by
  funext j
  unfold iblk
  rw [View.read_apply]
  show V m c main_arg1 _ = _
  rw [(V_main_arg1 m c).trans h]
  exact congrArg₂ Y (at_further (n := 128) (at_point t).1.2.1.1) (at_first (n := 2048) (at_point t).1.2.1.2)

theorem block2 (h : (m ((c : Thread nD τ).loc main_arg2) : FVec Ideal S2048x2048 .bf16) = e2 Z) (t : Fin cfg0.N) :
    iblk m c 2 t = (e2 fun i j => Z (128 * t.val + i) j : FVec Ideal S128x2048 .bf16) := by
  funext j
  unfold iblk
  rw [View.read_apply]
  show V m c main_arg2 _ = _
  rw [(V_main_arg2 m c).trans h]
  exact congrArg₂ Z (at_further (n := 128) (at_point t).1.2.2.1) (at_first (n := 2048) (at_point t).1.2.2.2)

/-- … and the gates' arguments'. -/
theorem block3 (h : (m ((c : Thread nD τ).loc main_arg3) : FVec Ideal S2048x8192 .f32) = e2 P) (t : Fin cfg0.N) :
    iblk m c 3 t = (e2 fun i j => P (128 * t.val + i) (2048 * 2 + j) : FVec Ideal S128x2048 .f32) := by
  funext j
  unfold iblk
  rw [View.read_apply]
  show V m c main_arg3 _ = _
  rw [(V_main_arg3 m c).trans h]
  exact congrArg₂ P (at_further (n := 128) (at_point t).2.1.1.1) (at_further (n := 2048) (at_point t).2.1.1.2)

theorem block4 (h : (m ((c : Thread nD τ).loc main_arg3) : FVec Ideal S2048x8192 .f32) = e2 P) (t : Fin cfg0.N) :
    iblk m c 4 t = (e2 fun i j => P (128 * t.val + i) (2048 * 3 + j) : FVec Ideal S128x2048 .f32) := by
  funext j
  unfold iblk
  rw [View.read_apply]
  show V m c main_arg3 _ = _
  rw [(V_main_arg3 m c).trans h]
  exact congrArg₂ P (at_further (n := 128) (at_point t).2.1.2.1) (at_further (n := 2048) (at_point t).2.1.2.2)

/-- Some point computes a row's block. -/
theorem row_point (i : ℕ) (h : i < 2048) : i / 128 < cfg0.N := by
  change _ < grid0.N
  rw [N_0]
  exact Nat.div_lt_of_lt_mul h

section
variable (h0 : (m ((c : Thread nD τ).loc main_arg0) : FVec Ideal S2048x2048 .bf16) = e2 D) (h1 : (m ((c : Thread nD τ).loc main_arg1) : FVec Ideal S2048x2048 .bf16) = e2 Y)
  (h2 : (m ((c : Thread nD τ).loc main_arg2) : FVec Ideal S2048x2048 .bf16) = e2 Z) (h3 : (m ((c : Thread nD τ).loc main_arg3) : FVec Ideal S2048x8192 .f32) = e2 P)
include h0 h1 h2 h3

/-- The first result ends as the first branch's gradient, … -/
theorem final5 : (dats m 0 c).arrAt 5 cfg0.N = (e2 (branch D fun i j => P i (2048 * 2 + j)) : FVec Ideal S2048x2048 .bf16) :=
  (dats m 0 c).arrAt_eq_of_cover 5 _ (fun t _ => by
    refine (Value.flushed5 m c t).trans ?_
    rw [block0 h0, block1 h1, block2 h2, block3 h3, block4 h3, body5]
    funext j
    rw [View.read_apply]
    exact (congrArg₂ (branch D fun i j => P i (2048 * 2 + j)) (at_further (n := 128) (at_point t).2.2.1.1) (at_first (n := 2048) (at_point t).2.2.1.2)).symm) fun i => by
    have hl := row_point (i 0).val (i 0).isLt
    refine ⟨⟨_, hl⟩, flush0_5 _, ?_⟩
    show i ∈ ((View.whole main_v0_0).slice (win0_5.rect ⟨_, hl⟩)).set
    rw [View.set_slice_whole, Rect.mem_set_unit]
    intro a
    match a with
    | ⟨0, _⟩ => exact tile (n := 128) (at_point ⟨_, hl⟩).2.2.1.1 (by decide) rfl
    | ⟨1, _⟩ => exact tile (n := 2048) (at_point ⟨_, hl⟩).2.2.1.2 (by decide) (Nat.div_eq_of_lt (i 1).isLt).symm

/-- … the second as the second's … -/
theorem final6 : (dats m 0 c).arrAt 6 cfg0.N = (e2 (branch D fun i j => P i (2048 * 3 + j)) : FVec Ideal S2048x2048 .bf16) :=
  (dats m 0 c).arrAt_eq_of_cover 6 _ (fun t _ => by
    refine (Value.flushed6 m c t).trans ?_
    rw [block0 h0, block1 h1, block2 h2, block3 h3, block4 h3, body6]
    funext j
    rw [View.read_apply]
    exact (congrArg₂ (branch D fun i j => P i (2048 * 3 + j)) (at_further (n := 128) (at_point t).2.2.2.1.1) (at_first (n := 2048) (at_point t).2.2.2.1.2)).symm) fun i => by
    have hl := row_point (i 0).val (i 0).isLt
    refine ⟨⟨_, hl⟩, flush0_6 _, ?_⟩
    show i ∈ ((View.whole main_v0_1).slice (win0_6.rect ⟨_, hl⟩)).set
    rw [View.set_slice_whole, Rect.mem_set_unit]
    intro a
    match a with
    | ⟨0, _⟩ => exact tile (n := 128) (at_point ⟨_, hl⟩).2.2.2.1.1 (by decide) rfl
    | ⟨1, _⟩ => exact tile (n := 2048) (at_point ⟨_, hl⟩).2.2.2.1.2 (by decide) (Nat.div_eq_of_lt (i 1).isLt).symm

/-- … and the third as the gates'. -/
theorem final7 : (dats m 0 c).arrAt 7 cfg0.N
    = (e2 (beside 2048 (gate D Y fun i j => P i (2048 * 2 + j)) (gate D Z fun i j => P i (2048 * 3 + j))) : FVec Ideal S2048x4096 .bf16) :=
  (dats m 0 c).arrAt_eq_of_cover 7 _ (fun t _ => by
    refine (Value.flushed7 m c t).trans ?_
    rw [block0 h0, block1 h1, block2 h2, block3 h3, block4 h3, body7]
    funext j
    rw [View.read_apply]
    exact (congrArg₂ (beside 2048 (gate D Y fun i j => P i (2048 * 2 + j)) (gate D Z fun i j => P i (2048 * 3 + j)))
      (at_further (n := 128) (at_point t).2.2.2.2.1) (at_first (n := 4096) (at_point t).2.2.2.2.2)).symm) fun i => by
    have hl := row_point (i 0).val (i 0).isLt
    refine ⟨⟨_, hl⟩, flush0_7 _, ?_⟩
    show i ∈ ((View.whole main_v0_2).slice (win0_7.rect ⟨_, hl⟩)).set
    rw [View.set_slice_whole, Rect.mem_set_unit]
    intro a
    match a with
    | ⟨0, _⟩ => exact tile (n := 128) (at_point ⟨_, hl⟩).2.2.2.2.1 (by decide) rfl
    | ⟨1, _⟩ => exact tile (n := 4096) (at_point ⟨_, hl⟩).2.2.2.2.2 (by decide) (Nat.div_eq_of_lt (i 1).isLt).symm
end

/-- The reference's gates. -/
theorem gates (P : ℕ → ℕ → EReal) (h hs) : Host.divf (broadcastInDim ⟨2, ![2048, 4096]⟩ ![] h (constant (F := Ideal) ⟨0, ![]⟩ .f32 0x3F800000#32))
      (addf (broadcastInDim ⟨2, ![2048, 4096]⟩ ![] h (constant (F := Ideal) ⟨0, ![]⟩ .f32 0x3F800000#32))
        (Host.exp (Host.negf (extractStridedSlice ⟨2, ![2048, 4096]⟩ ![0, 4096] (e2 P : FVec Ideal ⟨2, ![2048, 8192]⟩ .f32) hs))))
    = (show FVec Ideal ⟨2, ![2048, 4096]⟩ .f32 from e2 fun i j => lgs (P i (4096 + j))) := by
  funext y
  rw [eq_ix2 y]
  pointwise [e2, lgs]

/-- The reference's gradient of the first branch, … -/
theorem reference0 (D P : ℕ → ℕ → EReal) (h hs hb) : truncf (φ := .f32) .bf16 (mulf (extractStridedSlice ⟨2, ![2048, 2048]⟩ ![0, 0] (e2 fun i j => lgs (P i (4096 + j)) : FVec Ideal ⟨2, ![2048, 4096]⟩ .f32) hs)
      (extf (φ := .bf16) .f32 (e2 D : FVec Ideal ⟨2, ![2048, 2048]⟩ .bf16) hb)) h
    = (show FVec Ideal ⟨2, ![2048, 2048]⟩ .bf16 from e2 (branch D fun i j => P i (2048 * 2 + j))) := by
  funext y
  rw [eq_ix2 y]
  pointwise [e2, branch]
  exact mul_comm _ _

/-- … of the second … -/
theorem reference1 (D P : ℕ → ℕ → EReal) (h hs hb) : truncf (φ := .f32) .bf16 (mulf (extractStridedSlice ⟨2, ![2048, 2048]⟩ ![0, 2048] (e2 fun i j => lgs (P i (4096 + j)) : FVec Ideal ⟨2, ![2048, 4096]⟩ .f32) hs)
      (extf (φ := .bf16) .f32 (e2 D : FVec Ideal ⟨2, ![2048, 2048]⟩ .bf16) hb)) h
    = (show FVec Ideal ⟨2, ![2048, 2048]⟩ .bf16 from e2 (branch D fun i j => P i (2048 * 3 + j))) := by
  funext y
  rw [eq_ix2 y]
  pointwise [e2, branch]
  rw [← Nat.add_assoc]
  exact mul_comm _ _

/-- … and of the gates. -/
theorem reference2 (D Y Z P : ℕ → ℕ → EReal) (h h1 h2 hb hp hu hq hv) : truncf (φ := .f32) .bf16 (mulf
      (addf (pad ⟨2, ![2048, 4096]⟩ ![0, 2048] ![0, 0] ![0, 0] (mulf (extf (φ := .bf16) .f32 (e2 D : FVec Ideal ⟨2, ![2048, 2048]⟩ .bf16) h1) (extf (φ := .bf16) .f32 (e2 Z : FVec Ideal ⟨2, ![2048, 2048]⟩ .bf16) h1)) (constant (F := Ideal) ⟨0, ![]⟩ .f32 0x00000000#32) hp hu)
        (pad ⟨2, ![2048, 4096]⟩ ![0, 0] ![0, 2048] ![0, 0] (mulf (extf (φ := .bf16) .f32 (e2 D : FVec Ideal ⟨2, ![2048, 2048]⟩ .bf16) h1) (extf (φ := .bf16) .f32 (e2 Y : FVec Ideal ⟨2, ![2048, 2048]⟩ .bf16) h2)) (constant (F := Ideal) ⟨0, ![]⟩ .f32 0x00000000#32) hq hv))
      (mulf (e2 fun i j => lgs (P i (4096 + j)) : FVec Ideal ⟨2, ![2048, 4096]⟩ .f32)
        (subf (broadcastInDim ⟨2, ![2048, 4096]⟩ ![] hb (constant (F := Ideal) ⟨0, ![]⟩ .f32 0x3F800000#32)) (e2 fun i j => lgs (P i (4096 + j)) : FVec Ideal ⟨2, ![2048, 4096]⟩ .f32)))) h
    = (show FVec Ideal ⟨2, ![2048, 4096]⟩ .bf16 from e2 (beside 2048 (gate D Y fun i j => P i (2048 * 2 + j)) (gate D Z fun i j => P i (2048 * 3 + j)))) := by
  funext y
  rw [eq_ix2 y]
  pointwise [e2, beside, gate]
  have hy : (y 1).val < 4096 := (y 1).isLt
  by_cases hj : (y 1).val < 2048
  · rw [dif_neg (by omega), dif_pos hj, if_pos hj, zero_add, ← mul_assoc]
  · rw [dif_pos (by omega), dif_neg hj, if_neg hj, add_zero, ← mul_assoc, show 6144 + ((y 1).val - 2048) = 4096 + (y 1).val by omega]

/-- Both programs compute the gradients. -/
theorem algebraic : Cert.algebraic_MergeIdeal_MergeRefIdeal := fun m ρ m' ρ' _ hag =>
  ⟨fun c => (e2 (branch (tab2 (m ((c.tc : Thread nD τ).loc main_arg0) : FVec Ideal S2048x2048 .bf16)) fun i j => tab2 (m ((c.tc : Thread nD τ).loc main_arg3) : FVec Ideal S2048x8192 .f32) i (2048 * 2 + j)) : FVec Ideal S2048x2048 .bf16),
   fun c => (e2 (branch (tab2 (m ((c.tc : Thread nD τ).loc main_arg0) : FVec Ideal S2048x2048 .bf16)) fun i j => tab2 (m ((c.tc : Thread nD τ).loc main_arg3) : FVec Ideal S2048x8192 .f32) i (2048 * 3 + j)) : FVec Ideal S2048x2048 .bf16),
   fun c => (e2 (beside 2048
      (gate (tab2 (m ((c.tc : Thread nD τ).loc main_arg0) : FVec Ideal S2048x2048 .bf16)) (tab2 (m ((c.tc : Thread nD τ).loc main_arg1) : FVec Ideal S2048x2048 .bf16)) fun i j => tab2 (m ((c.tc : Thread nD τ).loc main_arg3) : FVec Ideal S2048x8192 .f32) i (2048 * 2 + j))
      (gate (tab2 (m ((c.tc : Thread nD τ).loc main_arg0) : FVec Ideal S2048x2048 .bf16)) (tab2 (m ((c.tc : Thread nD τ).loc main_arg2) : FVec Ideal S2048x2048 .bf16)) fun i j => tab2 (m ((c.tc : Thread nD τ).loc main_arg3) : FVec Ideal S2048x8192 .f32) i (2048 * 3 + j))) : FVec Ideal S2048x4096 .bf16),
   (θ_run defs _ _).mono (fun r hr c => ⟨(hr c).1.trans (final5 (eq_tab2 _) (eq_tab2 (φ := .bf16) _) (eq_tab2 (φ := .bf16) _) (eq_tab2 _)), (hr c).2.1.trans (final6 (eq_tab2 _) (eq_tab2 (φ := .bf16) _) (eq_tab2 (φ := .bf16) _) (eq_tab2 _)),
      (hr c).2.2.1.trans (final7 (eq_tab2 _) (eq_tab2 _) (eq_tab2 _) (eq_tab2 _)), (hr c).2.2.2⟩) (Value.run_blocks m ρ),
   (θ_run Cert.MergeRefIdeal.defs _ _).mono (fun r hr c => by
      obtain ⟨r0, r1, r2, hk⟩ := hr c
      rw [(hag c).1, (hag c).2.2.2, eq_tab2 (m ((c.tc : Thread nD τ).loc main_arg0) : FVec Ideal S2048x2048 .bf16), eq_tab2 (m ((c.tc : Thread nD τ).loc main_arg3) : FVec Ideal S2048x8192 .f32), gates] at r0 r1
      rw [(hag c).1, (hag c).2.1, (hag c).2.2.1, (hag c).2.2.2, eq_tab2 (m ((c.tc : Thread nD τ).loc main_arg0) : FVec Ideal S2048x2048 .bf16), eq_tab2 (m ((c.tc : Thread nD τ).loc main_arg1) : FVec Ideal S2048x2048 .bf16),
        eq_tab2 (m ((c.tc : Thread nD τ).loc main_arg2) : FVec Ideal S2048x2048 .bf16), eq_tab2 (m ((c.tc : Thread nD τ).loc main_arg3) : FVec Ideal S2048x8192 .f32), gates] at r2
      exact ⟨r0.trans (reference0 _ _ _ _ _), r1.trans (reference1 _ _ _ _ _), r2.trans (reference2 _ _ _ _ _ _ _ _ _ _ _ _), hk⟩) (Cert.MergeRefIdeal.Value.run m' ρ')⟩

end Cert.Gla.Merge
end
-- ==== Proof.Norm.lean ====
/- Hand-written, untrusted: THE GRADIENT OF THE NORM. Each grid point takes a block of rows, with the reciprocals of their roots
   mean square that the host lines leave, and adds the block's part of the weights' gradient to a buffer that the last point writes
   out. Nothing is assumed finite: a row that holds an infinity has an infinite mean square, whose reciprocal root is zero. -/
module

public import proofs.«01_k».proof.Defs
public import proofs.«01_k».proof.Proof.Prod
public import proofs.«01_k».proof.Proof.Gen.NormIdeal.Value
public import proofs.«01_k».proof.Proof.Gen.NormRefIdeal.Run
public import Idealize.ShloMosaic.Lib.StableHlo.RunRead

@[expose] public section

set_option maxRecDepth 16384

noncomputable section

namespace Cert.Gla.Norm

open Idealize.ShloMosaic Cert.NormIdeal Cert.NormIdeal.Gen Idealize.ShloMosaic.TcCoe Idealize.SL.Sem

/-! ## A row -/

/-- The number of columns, as the programs print it. -/
theorem of_2048 : Ideal.ofBits .f32 0x45000000#32 = ((2048 : ℝ) : EReal) := by
  simp [Ideal.ofBits, Ideal.ieee, -EReal.coe_mul]; norm_num

/-- A row's mean square, raised. -/
def ms (x : ℕ → EReal) : EReal := Ideal.div (∑ k : Fin 2048, x k * x k) ((2048 : ℝ) : EReal) + ((eps : ℝ) : EReal)
/-- Its reciprocal root. -/
def rs (x : ℕ → EReal) : EReal := Ideal.rsqrt (ms x)
/-- The kernel's gradient of a row's entry: `x` the row, `a` its weighted cotangent, `r` its reciprocal root, `s` the residual's entry. -/
def kernel_row (r : EReal) (x a : ℕ → EReal) (s : EReal) (j : ℕ) : EReal :=
  r * (a j - x j * r * Ideal.div (∑ k : Fin 2048, a k * (x k * r)) ((2048 : ℝ) : EReal)) + s
/-- What the reference has the mean square's gradient give to a row, by entry of the row. -/
def coef (x a : ℕ → EReal) : EReal :=
  Ideal.div ((∑ k : Fin 2048, x k * a k) * (((-1 / 2 : ℝ) : EReal) * Ideal.div (rs x) (ms x))) ((2048 : ℝ) : EReal)

/-- Division by a real is a product. -/
theorem div_real (x : EReal) (y : ℝ) (h : y ≠ 0) : Ideal.div x (y : EReal) = x * ((y⁻¹ : ℝ) : EReal) := by
  unfold Ideal.div
  rw [if_neg (by exact_mod_cast h), EReal.coe_inv]

/-- A nonnegative real factor leaves a sum. -/
theorem sum_mul_real {ι : Type} (t : Finset ι) (f : ι → EReal) (r : ℝ) (h : 0 ≤ r) : ∑ k ∈ t, f k * (r : EReal) = (∑ k ∈ t, f k) * (r : EReal) := by
  classical
  induction t using Finset.induction_on with
  | empty => simp
  | insert a t ha ih =>
    rw [Finset.sum_insert ha, Finset.sum_insert ha, ih, EReal.right_distrib_of_nonneg_of_ne_top (by exact_mod_cast h) (EReal.coe_ne_top r)]

/-- Twice a number. -/
theorem add_self (z : EReal) : z + z = ((2 : ℝ) : EReal) * z := by
  have h : ((2 : ℝ) : EReal) = 1 + 1 := by norm_cast
  rw [h, EReal.right_distrib_of_nonneg zero_le_one zero_le_one, one_mul]

/-- A row of reals has a positive real mean square. -/
theorem ms_real (x : ℕ → EReal) (ξ : ℕ → ℝ) (hx : ∀ k < 2048, x k = (ξ k : EReal)) : ∃ u : ℝ, 0 < u ∧ ms x = (u : EReal) := by
  refine ⟨(∑ k : Fin 2048, ξ k * ξ k) / 2048 + eps, add_pos_of_nonneg_of_pos (div_nonneg (Finset.sum_nonneg fun k _ => mul_self_nonneg _) (by norm_num)) eps_pos, ?_⟩
  unfold ms
  rw [Finset.sum_congr rfl fun (k : Fin 2048) _ => show x k * x k = ((ξ k * ξ k : ℝ) : EReal) by rw [hx k k.isLt, EReal.coe_mul], ← coe_sum, div_coe _ _ (by norm_num), ← EReal.coe_add]

/-- A square is nonnegative. -/
theorem square_nonneg (z : EReal) : 0 ≤ z * z := by
  induction z with
  | bot => rw [EReal.bot_mul_bot]; exact le_top
  | top => rw [EReal.top_mul_top]; exact le_top
  | coe r => exact_mod_cast mul_self_nonneg r

/-- A row with an infinity has an infinite one. -/
theorem ms_top (x : ℕ → EReal) (k : Fin 2048) (hx : x k * x k = ⊤) : ms x = ⊤ := by
  have hs : ∑ k : Fin 2048, x k * x k = ⊤ :=
    top_le_iff.mp (hx ▸ Finset.single_le_sum (f := fun k : Fin 2048 => x k * x k) (fun k _ => square_nonneg (x k)) (Finset.mem_univ k))
  unfold ms
  rw [hs, div_real _ _ (by norm_num), EReal.top_mul_coe_of_pos (by norm_num)]
  rfl

/-- A row is of reals, or an entry's square is infinite. -/
theorem real_or_top (x : ℕ → EReal) : (∃ ξ : ℕ → ℝ, ∀ k < 2048, x k = (ξ k : EReal)) ∨ ∃ k : Fin 2048, x k * x k = ⊤ := by
  by_cases h : ∃ k : Fin 2048, x k * x k = ⊤
  · exact .inr h
  · refine .inl ⟨fun k => (x k).toReal, fun k hk => (EReal.coe_toReal ?_ ?_).symm⟩
    · intro e; exact h ⟨⟨k, hk⟩, by dsimp only; rw [e, EReal.top_mul_top]⟩
    · intro e; exact h ⟨⟨k, hk⟩, by dsimp only; rw [e, EReal.bot_mul_bot]⟩

/-- The kernel's gradient of a row's entry is the reference's, whatever the row holds. -/
theorem row_eq (x a : ℕ → EReal) (s : EReal) (j : ℕ) (hj : j < 2048) :
    kernel_row (rs x) x a s j = s + a j * rs x + x j * coef x a + coef x a * x j := by
  unfold kernel_row coef
  obtain ⟨ξ, hx⟩ | ⟨k, hx⟩ := real_or_top x
  · obtain ⟨u, hu, hm⟩ := ms_real x ξ hx
    have hr : rs x = (((Real.sqrt u)⁻¹ : ℝ) : EReal) := by unfold rs; rw [hm, rsqrt_coe u hu]
    have hρ : 0 ≤ (Real.sqrt u)⁻¹ := inv_nonneg.mpr (Real.sqrt_nonneg u)
    have huρ : (Real.sqrt u)⁻¹ / u = (Real.sqrt u)⁻¹ * (Real.sqrt u)⁻¹ * (Real.sqrt u)⁻¹ := by
      rw [div_eq_mul_inv, mul_assoc]
      congr 1
      rw [← mul_inv, Real.mul_self_sqrt hu.le]
    rw [hr, hm, hx j hj, div_coe _ _ hu.ne', huρ, add_assoc, mul_comm (Ideal.div _ _) (ξ j : EReal), add_self]
    generalize (Real.sqrt u)⁻¹ = ρ at hρ
    rw [Finset.sum_congr rfl fun (k : Fin 2048) _ => show a k * (x k * (ρ : EReal)) = x k * a k * (ρ : EReal) by rw [← mul_assoc, mul_comm (a k)], sum_mul_real _ _ _ hρ]
    generalize ∑ k : Fin 2048, x k * a k = T
    rw [div_real _ _ (by norm_num), div_real _ _ (by norm_num), sub_eq_add_neg, EReal.left_distrib_of_nonneg_of_ne_top (by exact_mod_cast hρ) (EReal.coe_ne_top ρ), add_comm _ s, ← add_assoc, mul_comm _ (a j)]
    refine congrArg (s + a j * (ρ : EReal) + ·) ?_
    rw [mul_neg]
    have l : (ρ : EReal) * ((ξ j : EReal) * ρ * (T * ρ * ((2048⁻¹ : ℝ) : EReal))) = ((ρ * ρ * ρ * ξ j * 2048⁻¹ : ℝ) : EReal) * T := by
      push_cast; ac_rfl
    have r : ((2 : ℝ) : EReal) * ((ξ j : EReal) * (T * (((-1 / 2 : ℝ) : EReal) * ((ρ * ρ * ρ : ℝ) : EReal)) * ((2048⁻¹ : ℝ) : EReal)))
        = ((2 * (ξ j * ((-1 / 2) * (ρ * ρ * ρ) * 2048⁻¹)) : ℝ) : EReal) * T := by
      simp only [EReal.coe_mul]; ac_rfl
    rw [l, r, ← neg_mul, ← EReal.coe_neg]
    exact congrArg (fun z : ℝ => (z : EReal) * T) (by ring)
  · have hm := ms_top x k hx
    have hr : rs x = 0 := by unfold rs; rw [hm]; rfl
    have hd : Ideal.div 0 ⊤ = 0 := by unfold Ideal.div; rw [if_neg (by simp), zero_mul]
    have hz : Ideal.div 0 ((2048 : ℝ) : EReal) = 0 := by rw [div_real _ _ (by norm_num), zero_mul]
    simp only [hr, hm, hd, mul_zero, zero_mul, hz, add_zero, zero_add]

/-! ## The kernel -/

/-- Where the blocks of the operands and of the results lie. -/
theorem at_point : ∀ t : Fin grid0.N, ((win0_0.index t 0 = t.val ∧ win0_0.index t 1 = 0) ∧ (win0_1.index t 0 = t.val ∧ win0_1.index t 1 = 0)
    ∧ win0_2.index t 0 = t.val ∧ win0_2.index t 1 = 0) ∧ ((win0_3.index t 0 = 0 ∧ win0_3.index t 1 = 0) ∧ win0_4.index t 0 = t.val ∧ win0_4.index t 1 = 0)
    ∧ (win0_5.index t 0 = t.val ∧ win0_5.index t 1 = 0) ∧ (win0_6.index t 0 = t.val ∧ win0_6.index t 1 = 0) ∧ win0_7.index t 0 = 0 ∧ win0_7.index t 1 = 0 := by decide +kernel

/-- The rows' gradient, with the residual's. -/
def dx (D X G S : ℕ → ℕ → EReal) (i j : ℕ) : EReal := kernel_row (rs (X i)) (X i) (fun k => D i k * G 0 k) (S i j) j
/-- What block `t` of rows gives to the weights' gradient. -/
def part (D X : ℕ → ℕ → EReal) (t j : ℕ) : EReal := ∑ k : Fin 128, D (128 * t + k) j * (X (128 * t + k) j * rs (X (128 * t + k)))
/-- The weights' gradient. -/
def dg (D X : ℕ → ℕ → EReal) (j : ℕ) : EReal := ∑ k : Fin (16 * 128), D k j * (X k j * rs (X k))

/-- The blocks make the whole. -/
theorem parts (D X : ℕ → ℕ → EReal) (j : ℕ) : ∑ t ∈ Finset.range 16, part D X t j = dg D X j :=
  (sum_blocks 16 128 fun k => D k j * (X k j * rs (X k))).symm

/-- The rows' gradient, in the body, … -/
theorem rows (R X D G S : ℕ → ℕ → EReal) : k0_pay4 (F := Ideal) (e2 R) (e2 X) (e2 D) (e2 G) (e2 S)
    = (e2 fun i j => kernel_row (R i 0) (X i) (fun k => D i k * G 0 k) (S i j) j : FVec Ideal S128x2048 .f32) := by
  unfold k0_pay4 k0_pay3 k0_pay2 k0_pay1
  funext y
  rw [eq_ix2 y]
  pointwise [e2, kernel_row]
  simp only [of_2048]

/-- … the buffer's start … -/
theorem start : k0_pay6 (F := Ideal) = (e2 fun _ _ => 0 : FVec Ideal S1x2048 .f32) := by
  unfold k0_pay6
  funext y
  rw [eq_ix2 y]
  pointwise [e2]

/-- … and what it gains. -/
theorem gains (R X D B : ℕ → ℕ → EReal) : k0_pay7 (F := Ideal) (e2 R) (e2 X) (e2 D) (e2 B)
    = (e2 fun i j => B i j + ∑ k : Fin 128, D k j * (X k j * R k 0) : FVec Ideal S1x2048 .f32) := by
  unfold k0_pay7 k0_pay3 k0_pay2 k0_pay1
  funext y
  rw [eq_ix2 y]
  pointwise [e2]

section
variable (c : Dev nD) (i : grid0.Coords) (a1 : Memref sig .tc .vmem S128x2048 .bf16) (h1 : a1.IsWhole) (a2 : Memref sig .tc .vmem S128x2048 .f32) (h2 : a2.IsWhole)
variable (a3 : Memref sig .tc .vmem S128x1 .f32) (h3 : a3.IsWhole) (a4 : Memref sig .tc .vmem S1x2048 .f32) (h4 : a4.IsWhole) (a5 : Memref sig .tc .vmem S128x2048 .f32) (h5 : a5.IsWhole)
variable (a6 : Memref sig .tc .vmem S128x2048 .f32) (h6 : a6.IsWhole) (a7 : Memref sig .tc .vmem S128x2048 .bf16) (h7 : a7.IsWhole) (a8 : Memref sig .tc .vmem S1x2048 .f32) (h8 : a8.IsWhole)
variable (x0 : Vec Ideal S128x2048 .bf16) (x1 : Vec Ideal S128x2048 .f32) (x2 : Vec Ideal S128x1 .f32) (x3 : Vec Ideal S1x2048 .f32) (x4 : Vec Ideal S128x2048 .f32) (b : Vec Ideal S1x2048 .f32)

theorem off2 : (![0, 0] : Fin 2 → Nat) = fun _ => 0 := funext fun a => by fin_cases a <;> rfl

/-- The first point writes the rows' gradient, … -/
theorem writes5_A (hc : cond0_0 i) : out0_A_5 (F := Ideal) c i a1 h1 a2 h2 a3 h3 a4 h4 a5 h5 a6 h6 a7 h7 a8 h8 hc x0 x1 x2 x3 x4 = k0_pay4 x2 x1 x0 x3 x4 := by
  unfold out0_A_5
  refine (View.read_writes_eq_canon _ _ _ (cover0_A_5 (F := Ideal) c i a1 h1 a2 h2 a3 h3 a4 h4 a5 h5 a6 h6 a7 h7 a8 h8 hc x0 x1 x2 x3 x4)).trans ?_
  unfold kernelRun0_A
  dsimp only
  sl_unfold_words
  simp only [View.readAt_eq_ld, h1.read_unread, h2.read_unread, h3.read_unread, h4.read_unread, h5.read_unread, View.ld_unit_zero (S := S128x2048) off2, View.ld_unit_zero (S := S128x1) off2, View.ld_unit_zero (S := S1x2048) off2]
  rw [View.canon_unit_zero (S := S128x2048) off2]

/-- … its copy … -/
theorem writes6_A (hc : cond0_0 i) : out0_A_6 (F := Ideal) c i a1 h1 a2 h2 a3 h3 a4 h4 a5 h5 a6 h6 a7 h7 a8 h8 hc x0 x1 x2 x3 x4 = k0_pay5 x2 x1 x0 x3 x4 := by
  unfold out0_A_6
  refine (View.read_writes_eq_canon _ _ _ (cover0_A_6 (F := Ideal) c i a1 h1 a2 h2 a3 h3 a4 h4 a5 h5 a6 h6 a7 h7 a8 h8 hc x0 x1 x2 x3 x4)).trans ?_
  unfold kernelRun0_A
  dsimp only
  sl_unfold_words
  simp only [View.readAt_eq_ld, h1.read_unread, h2.read_unread, h3.read_unread, h4.read_unread, h5.read_unread, View.ld_unit_zero (S := S128x2048) off2, View.ld_unit_zero (S := S128x1) off2, View.ld_unit_zero (S := S1x2048) off2]
  rw [View.canon_unit_zero (S := S128x2048) off2]

/-- … and starts the buffer; … -/
theorem writes7_A (hc : cond0_0 i) : out0_A_7 (F := Ideal) c i a1 h1 a2 h2 a3 h3 a4 h4 a5 h5 a6 h6 a7 h7 a8 h8 hc x0 x1 x2 x3 x4 = k0_pay7 x2 x1 x0 (k0_pay6 (F := Ideal)) := by
  unfold out0_A_7
  refine (View.read_writes_eq_canon _ _ _ (cover0_A_7 (F := Ideal) c i a1 h1 a2 h2 a3 h3 a4 h4 a5 h5 a6 h6 a7 h7 a8 h8 hc x0 x1 x2 x3 x4)).trans ?_
  unfold kernelRun0_A
  dsimp only
  sl_unfold_words
  simp only [View.readAt_eq_ld, h1.read_unread, h2.read_unread, h3.read_unread, View.ld_unit_zero (S := S128x2048) off2, View.ld_unit_zero (S := S128x1) off2]
  rw [View.canon_cons_unit_zero (S := S1x2048) off2, View.readCov_unit_zero (S := S1x2048) _ off2]

/-- … a further point does the same and adds to the buffer. -/
theorem writes5_B (hc : ¬cond0_0 i) : out0_B_5 (F := Ideal) c i a1 h1 a2 h2 a3 h3 a4 h4 a5 h5 a6 h6 a7 h7 a8 h8 hc x0 x1 x2 x3 x4 b = k0_pay4 x2 x1 x0 x3 x4 := by
  unfold out0_B_5
  refine (View.read_writes_eq_canon _ _ _ (cover0_B_5 (F := Ideal) c i a1 h1 a2 h2 a3 h3 a4 h4 a5 h5 a6 h6 a7 h7 a8 h8 hc x0 x1 x2 x3 x4 b)).trans ?_
  unfold kernelRun0_B
  dsimp only
  sl_unfold_words
  simp only [View.readAt_eq_ld, h1.read_unread, h2.read_unread, h3.read_unread, h4.read_unread, h5.read_unread, View.ld_unit_zero (S := S128x2048) off2, View.ld_unit_zero (S := S128x1) off2, View.ld_unit_zero (S := S1x2048) off2]
  rw [View.canon_unit_zero (S := S128x2048) off2]

theorem writes6_B (hc : ¬cond0_0 i) : out0_B_6 (F := Ideal) c i a1 h1 a2 h2 a3 h3 a4 h4 a5 h5 a6 h6 a7 h7 a8 h8 hc x0 x1 x2 x3 x4 b = k0_pay5 x2 x1 x0 x3 x4 := by
  unfold out0_B_6
  refine (View.read_writes_eq_canon _ _ _ (cover0_B_6 (F := Ideal) c i a1 h1 a2 h2 a3 h3 a4 h4 a5 h5 a6 h6 a7 h7 a8 h8 hc x0 x1 x2 x3 x4 b)).trans ?_
  unfold kernelRun0_B
  dsimp only
  sl_unfold_words
  simp only [View.readAt_eq_ld, h1.read_unread, h2.read_unread, h3.read_unread, h4.read_unread, h5.read_unread, View.ld_unit_zero (S := S128x2048) off2, View.ld_unit_zero (S := S128x1) off2, View.ld_unit_zero (S := S1x2048) off2]
  rw [View.canon_unit_zero (S := S128x2048) off2]

theorem writes7_B (hc : ¬cond0_0 i) : out0_B_7 (F := Ideal) c i a1 h1 a2 h2 a3 h3 a4 h4 a5 h5 a6 h6 a7 h7 a8 h8 hc x0 x1 x2 x3 x4 b = k0_pay7 x2 x1 x0 b := by
  unfold out0_B_7
  refine (View.read_writes_eq_canon _ _ _ (cover0_B_7 (F := Ideal) c i a1 h1 a2 h2 a3 h3 a4 h4 a5 h5 a6 h6 a7 h7 a8 h8 hc x0 x1 x2 x3 x4 b)).trans ?_
  unfold kernelRun0_B
  dsimp only
  sl_unfold_words
  simp only [View.readAt_eq_ld, h1.read_unread, h2.read_unread, h3.read_unread, h8.read_unread, View.ld_unit_zero (S := S128x2048) off2, View.ld_unit_zero (S := S128x1) off2, View.ld_unit_zero (S := S1x2048) off2]
  rw [View.canon_unit_zero (S := S1x2048) off2]
end

/-- The rows' mean squares, … -/
theorem squares (X : ℕ → ℕ → EReal) : addf (Host.divf (broadcastInDim S2048x1 ![0] bcast_S2048_S2048x1_0
        (Host.reduceAdd (mulf (e2 X : FVec Ideal S2048x2048 .f32) (e2 X : FVec Ideal S2048x2048 .f32)) (constant (F := Ideal) S_ .f32 0x00000000#32) reducesTo_S2048x2048_S2048_d1 h_S_))
      (broadcastInDim S2048x1 ![] bcast_S_S2048x1 (constant (F := Ideal) S_ .f32 0x45000000#32)))
      (broadcastInDim S2048x1 ![] bcast_S_S2048x1 (constant (F := Ideal) S_ .f32 0x358637BD#32))
    = (show FVec Ideal S2048x1 .f32 from e2 fun i _ => ms (X i)) := by
  funext y
  rw [eq_ix2 y]
  pointwise [e2, ms]
  simp only [of_2048, of_eps]

/-- … and their reciprocal roots. -/
theorem roots (X : ℕ → ℕ → EReal) : Host.rsqrt (show FVec Ideal S2048x1 .f32 from e2 fun i _ => ms (X i)) = (show FVec Ideal S2048x1 .f32 from e2 fun i _ => rs (X i)) := rfl

variable {m : (ℓ : Loc nD τ sig) → Buf (Elt Ideal) ℓ} {c : Dev nD} {D X G S : ℕ → ℕ → EReal}

/-- They are the kernel's third operand. -/
theorem V_roots (h : (m ((c : Thread nD τ).loc main_arg1) : FVec Ideal S2048x2048 .f32) = e2 X) :
    (V m c main_v7 : FVec Ideal S2048x1 .f32) = e2 fun i _ => rs (X i) := by
  refine Eq.trans (b := Host.rsqrt (addf (Host.divf (broadcastInDim S2048x1 ![0] bcast_S2048_S2048x1_0
        (Host.reduceAdd (mulf (m ((c : Thread nD τ).loc main_arg1) : FVec Ideal S2048x2048 .f32) (m ((c : Thread nD τ).loc main_arg1))) (constant (F := Ideal) S_ .f32 0x00000000#32) reducesTo_S2048x2048_S2048_d1 h_S_))
      (broadcastInDim S2048x1 ![] bcast_S_S2048x1 (constant (F := Ideal) S_ .f32 0x45000000#32)))
      (broadcastInDim S2048x1 ![] bcast_S_S2048x1 (constant (F := Ideal) S_ .f32 0x358637BD#32)))) ?_ ?_
  · show StableHlo.after hostOps0 (fun b => m (c, b)) (Proc.devRef .tc main_v7) = _
    after_results_simp <;> rfl
  · rw [h]
    exact (congrArg Host.rsqrt (squares X)).trans (roots X)

/-- The cotangent's block at a point, … -/
theorem block0 (h : (m ((c : Thread nD τ).loc main_arg0) : FVec Ideal S2048x2048 .bf16) = e2 D) (t : Fin cfg0.N) :
    iblk m c 0 t = (e2 fun i j => D (128 * t.val + i) j : FVec Ideal S128x2048 .bf16) := by
  funext j
  unfold iblk
  rw [View.read_apply]
  show V m c main_arg0 _ = _
  rw [(V_main_arg0 m c).trans h]
  exact congrArg₂ D (at_further (n := 128) (at_point t).1.1.1) (at_first (n := 2048) (at_point t).1.1.2)

/-- … the rows' … -/
theorem block1 (h : (m ((c : Thread nD τ).loc main_arg1) : FVec Ideal S2048x2048 .f32) = e2 X) (t : Fin cfg0.N) :
    iblk m c 1 t = (e2 fun i j => X (128 * t.val + i) j : FVec Ideal S128x2048 .f32) := by
  funext j
  unfold iblk
  rw [View.read_apply]
  show V m c main_arg1 _ = _
  rw [(V_main_arg1 m c).trans h]
  exact congrArg₂ X (at_further (n := 128) (at_point t).1.2.1.1) (at_first (n := 2048) (at_point t).1.2.1.2)

/-- … their reciprocal roots' … -/
theorem block2 (h : (m ((c : Thread nD τ).loc main_arg1) : FVec Ideal S2048x2048 .f32) = e2 X) (t : Fin cfg0.N) :
    iblk m c 2 t = (e2 fun i _ => rs (X (128 * t.val + i)) : FVec Ideal S128x1 .f32) := by
  funext j
  unfold iblk
  rw [View.read_apply]
  show V m c main_v7 _ = _
  rw [V_roots h]
  exact congrArg (fun i => rs (X i)) (at_further (n := 128) (at_point t).1.2.2.1)

/-- … the weights … -/
theorem block3 (h : (m ((c : Thread nD τ).loc main_arg2) : FVec Ideal S1x2048 .f32) = e2 G) (t : Fin cfg0.N) :
    iblk m c 3 t = (e2 G : FVec Ideal S1x2048 .f32) := by
  funext j
  unfold iblk
  rw [View.read_apply]
  show V m c main_arg2 _ = _
  rw [(V_main_arg2 m c).trans h]
  exact congrArg₂ G (at_first (n := 1) (at_point t).2.1.1.1) (at_first (n := 2048) (at_point t).2.1.1.2)

/-- … and the residual's. -/
theorem block4 (h : (m ((c : Thread nD τ).loc main_arg3) : FVec Ideal S2048x2048 .f32) = e2 S) (t : Fin cfg0.N) :
    iblk m c 4 t = (e2 fun i j => S (128 * t.val + i) j : FVec Ideal S128x2048 .f32) := by
  funext j
  unfold iblk
  rw [View.read_apply]
  show V m c main_arg3 _ = _
  rw [(V_main_arg3 m c).trans h]
  exact congrArg₂ S (at_further (n := 128) (at_point t).2.1.2.1) (at_first (n := 2048) (at_point t).2.1.2.2)

/-- Some point computes a row's block. -/
theorem row_point (i : ℕ) (h : i < 2048) : i / 128 < cfg0.N := by
  change _ < grid0.N
  rw [N_0]
  exact Nat.div_lt_of_lt_mul h

section
variable (h0 : (m ((c : Thread nD τ).loc main_arg0) : FVec Ideal S2048x2048 .bf16) = e2 D) (h1 : (m ((c : Thread nD τ).loc main_arg1) : FVec Ideal S2048x2048 .f32) = e2 X)
  (h2 : (m ((c : Thread nD τ).loc main_arg2) : FVec Ideal S1x2048 .f32) = e2 G) (h3 : (m ((c : Thread nD τ).loc main_arg3) : FVec Ideal S2048x2048 .f32) = e2 S)
include h0 h1

/-- What a point adds to the buffer. -/
theorem adds (t : Fin cfg0.N) (B : ℕ → ℕ → EReal) : k0_pay7 (F := Ideal) (iblk m c 2 t) (iblk m c 1 t) (iblk m c 0 t) (e2 B)
    = (e2 fun i j => B i j + part D X t.val j : FVec Ideal S1x2048 .f32) := by
  rw [block0 h0, block1 h1, block2 h1, gains]
  rfl

/-- The buffer after a point. -/
theorem buffer : ∀ (n : ℕ) (hn : n < cfg0.N), (outsAt0 m c n hn).2.2 = (e2 fun _ j => ∑ t ∈ Finset.range (n + 1), part D X t j : FVec Ideal S1x2048 .f32) := by
  intro n
  induction n with
  | zero =>
    intro hn
    rw [outsAt0_A m c ⟨0, hn⟩ rfl]
    dsimp only
    rw [writes7_A, start, adds h0 h1]
    exact congrArg e2 (funext fun _ => funext fun j => by rw [zero_add]; exact (Finset.sum_range_one fun t => part D X t j).symm)
  | succ n ih =>
    intro hn
    have hN : n + 1 < 16 := by have := N_0; change n + 1 < grid0.N at hn; omega
    rw [outsAt0_B m c ⟨n + 1, hn⟩ (by dsimp only; omega)]
    dsimp only
    rw [writes7_B, show (outsAt0 m c (n + 1 - 1) _).2.2 = _ from ih (Nat.lt_of_succ_lt hn), adds h0 h1]
    exact congrArg e2 (funext fun _ => funext fun j => (Finset.sum_range_succ _ _).symm)

include h2 h3

/-- A block of the rows' gradient. -/
theorem block_rows (t : Fin cfg0.N) : k0_pay4 (F := Ideal) (iblk m c 2 t) (iblk m c 1 t) (iblk m c 0 t) (iblk m c 3 t) (iblk m c 4 t)
    = (e2 fun i j => dx D X G S (128 * t.val + i) j : FVec Ideal S128x2048 .f32) := by
  rw [block0 h0, block1 h1, block2 h1, block3 h2, block4 h3, rows]
  rfl

/-- What a point leaves of it, … -/
theorem leaves5 (t : Fin cfg0.N) : (outsAt0 m c t.val t.isLt).1 = (e2 fun i j => dx D X G S (128 * t.val + i) j : FVec Ideal S128x2048 .f32) := by
  by_cases h : t.val % 16 = 0
  · rw [outsAt0_A m c t h]
    dsimp only
    rw [writes5_A]
    exact block_rows h0 h1 h2 h3 t
  · rw [outsAt0_B m c t h]
    dsimp only
    rw [writes5_B]
    exact block_rows h0 h1 h2 h3 t

/-- … and of its copy. -/
theorem leaves6 (t : Fin cfg0.N) : (outsAt0 m c t.val t.isLt).2.1 = (e2 fun i j => dx D X G S (128 * t.val + i) j : FVec Ideal S128x2048 .bf16) := by
  by_cases h : t.val % 16 = 0
  · rw [outsAt0_A m c t h]
    dsimp only
    rw [writes6_A]
    exact block_rows h0 h1 h2 h3 t
  · rw [outsAt0_B m c t h]
    dsimp only
    rw [writes6_B]
    exact block_rows h0 h1 h2 h3 t

/-- The first result ends as the rows' gradient, … -/
theorem final5 : (dats m 0 c).arrAt 5 cfg0.N = (e2 (dx D X G S) : FVec Ideal S2048x2048 .f32) :=
  (dats m 0 c).arrAt_eq_of_cover 5 _ (fun t _ => by
    refine (Value.flushed5 m c t).trans ?_
    rw [leaves5 h0 h1 h2 h3]
    funext j
    rw [View.read_apply]
    exact (congrArg₂ (dx D X G S) (at_further (n := 128) (at_point t).2.2.1.1) (at_first (n := 2048) (at_point t).2.2.1.2)).symm) fun i => by
    have hl := row_point (i 0).val (i 0).isLt
    refine ⟨⟨_, hl⟩, flush0_5 _, ?_⟩
    show i ∈ ((View.whole main_v8_0).slice (win0_5.rect ⟨_, hl⟩)).set
    rw [View.set_slice_whole, Rect.mem_set_unit]
    intro a
    match a with
    | ⟨0, _⟩ => exact tile (n := 128) (at_point ⟨_, hl⟩).2.2.1.1 (by decide) rfl
    | ⟨1, _⟩ => exact tile (n := 2048) (at_point ⟨_, hl⟩).2.2.1.2 (by decide) (Nat.div_eq_of_lt (i 1).isLt).symm

/-- … the second as its copy … -/
theorem final6 : (dats m 0 c).arrAt 6 cfg0.N = (e2 (dx D X G S) : FVec Ideal S2048x2048 .bf16) :=
  (dats m 0 c).arrAt_eq_of_cover 6 _ (fun t _ => by
    refine (Value.flushed6 m c t).trans ?_
    rw [leaves6 h0 h1 h2 h3]
    funext j
    rw [View.read_apply]
    exact (congrArg₂ (dx D X G S) (at_further (n := 128) (at_point t).2.2.2.1.1) (at_first (n := 2048) (at_point t).2.2.2.1.2)).symm) fun i => by
    have hl := row_point (i 0).val (i 0).isLt
    refine ⟨⟨_, hl⟩, flush0_6 _, ?_⟩
    show i ∈ ((View.whole main_v8_1).slice (win0_6.rect ⟨_, hl⟩)).set
    rw [View.set_slice_whole, Rect.mem_set_unit]
    intro a
    match a with
    | ⟨0, _⟩ => exact tile (n := 128) (at_point ⟨_, hl⟩).2.2.2.1.1 (by decide) rfl
    | ⟨1, _⟩ => exact tile (n := 2048) (at_point ⟨_, hl⟩).2.2.2.1.2 (by decide) (Nat.div_eq_of_lt (i 1).isLt).symm

omit h2 h3
/-- … and the third as the weights' gradient. -/
theorem final7 : (dats m 0 c).arrAt 7 cfg0.N = (e2 fun _ j => dg D X j : FVec Ideal S1x2048 .f32) :=
  (dats m 0 c).arrAt_eq_of_cover 7 _ (fun t hf => by
    have h15 : t.val = 15 := by have := (flush0_7 t).mp hf; have := N_0; have := t.isLt; change _ < grid0.N at this; omega
    refine (Value.flushed7 m c t).trans ?_
    rw [buffer h0 h1, h15]
    funext j
    rw [View.read_apply]
    exact (parts D X (j 1).val).trans (congrArg (dg D X) (at_first (n := 2048) (at_point t).2.2.2.2.2)).symm) fun i => by
    have hl : 15 < cfg0.N := by change _ < grid0.N; rw [N_0]; decide
    refine ⟨⟨15, hl⟩, (flush0_7 _).mpr rfl, ?_⟩
    show i ∈ ((View.whole main_v8_2).slice (win0_7.rect ⟨_, hl⟩)).set
    rw [View.set_slice_whole, Rect.mem_set_unit]
    intro a
    match a with
    | ⟨0, _⟩ => exact tile (n := 1) (at_point ⟨_, hl⟩).2.2.2.2.1 (by decide) (Nat.div_eq_of_lt (i 0).isLt).symm
    | ⟨1, _⟩ => exact tile (n := 2048) (at_point ⟨_, hl⟩).2.2.2.2.2 (by decide) (Nat.div_eq_of_lt (i 1).isLt).symm
end

/-! ## The reference -/

/-- The reference's coefficients of the rows. -/
theorem coefs (D X G : ℕ → ℕ → EReal) : Host.reduceAdd (Host.divf (mulf (shapeCast S2048x1 (Host.reduceAdd (mulf (e2 X : FVec Ideal S2048x2048 .f32)
          (mulf (extf (φ := .bf16) .f32 (e2 D : FVec Ideal S2048x2048 .bf16) Cert.NormRefIdeal.Gen.bitsLt_bf16_f32) (broadcastInDim S2048x2048 ![0, 1] Cert.NormRefIdeal.Gen.bcast_S1x2048_S2048x2048_0_1 (e2 G : FVec Ideal S1x2048 .f32))))
            (constant (F := Ideal) S_ .f32 0x00000000#32) Cert.NormRefIdeal.Gen.reducesTo_S2048x2048_S2048_d1 Cert.NormRefIdeal.Gen.h_S_) Cert.NormRefIdeal.Gen.shapeCasts_S2048_S2048x1)
        (mulf (broadcastInDim S2048x1 ![] Cert.NormRefIdeal.Gen.bcast_S_S2048x1 (constant (F := Ideal) S_ .f32 0xBF000000#32))
          (Host.divf (e2 fun i _ => rs (X i) : FVec Ideal S2048x1 .f32) (e2 fun i _ => ms (X i) : FVec Ideal S2048x1 .f32))))
      (broadcastInDim S2048x1 ![] Cert.NormRefIdeal.Gen.bcast_S_S2048x1 (constant (F := Ideal) S_ .f32 0x45000000#32))) (constant (F := Ideal) S_ .f32 0x00000000#32) Cert.NormRefIdeal.Gen.reducesTo_S2048x1_S2048_d1 Cert.NormRefIdeal.Gen.h_S_
    = (show FVec Ideal S2048 .f32 from fun y => coef (X (y 0).val) fun k => D (y 0).val k * G 0 k) := by
  funext y
  pointwise [e2, coef]
  simp only [of_2048, of_nhalf]
  exact Fin.sum_univ_one _

/-- The reference's gradient of the rows, … -/
theorem reference0 (D X G S : ℕ → ℕ → EReal) (C : FVec Ideal S2048 .f32) (hC : C = fun y => coef (X (y 0).val) fun k => D (y 0).val k * G 0 k) : addf (addf (addf (e2 S : FVec Ideal S2048x2048 .f32)
        (mulf (mulf (extf (φ := .bf16) .f32 (e2 D : FVec Ideal S2048x2048 .bf16) Cert.NormRefIdeal.Gen.bitsLt_bf16_f32) (broadcastInDim S2048x2048 ![0, 1] Cert.NormRefIdeal.Gen.bcast_S1x2048_S2048x2048_0_1 (e2 G : FVec Ideal S1x2048 .f32)))
          (broadcastInDim S2048x2048 ![0, 1] Cert.NormRefIdeal.Gen.bcast_S2048x1_S2048x2048_0_1 (e2 fun i _ => rs (X i) : FVec Ideal S2048x1 .f32))))
        (mulf (e2 X : FVec Ideal S2048x2048 .f32) (broadcastInDim S2048x2048 ![0] Cert.NormRefIdeal.Gen.bcast_S2048_S2048x2048_0 C)))
      (mulf (broadcastInDim S2048x2048 ![0] Cert.NormRefIdeal.Gen.bcast_S2048_S2048x2048_0 C) (e2 X : FVec Ideal S2048x2048 .f32))
    = (show FVec Ideal S2048x2048 .f32 from e2 (dx D X G S)) := by
  subst hC
  funext y
  rw [eq_ix2 y]
  pointwise [e2, dx]
  exact (row_eq (X (y 0).val) (fun k => D (y 0).val k * G 0 k) (S (y 0).val (y 1).val) (y 1).val (y 1).isLt).symm

/-- … and of the weights. -/
theorem reference2 (D X : ℕ → ℕ → EReal) : shapeCast S1x2048 (Host.reduceAdd (mulf (mulf (e2 X : FVec Ideal S2048x2048 .f32)
          (broadcastInDim S2048x2048 ![0, 1] Cert.NormRefIdeal.Gen.bcast_S2048x1_S2048x2048_0_1 (e2 fun i _ => rs (X i) : FVec Ideal S2048x1 .f32)))
        (extf (φ := .bf16) .f32 (e2 D : FVec Ideal S2048x2048 .bf16) Cert.NormRefIdeal.Gen.bitsLt_bf16_f32)) (constant (F := Ideal) S_ .f32 0x00000000#32) Cert.NormRefIdeal.Gen.reducesTo_S2048x2048_S2048_d0 Cert.NormRefIdeal.Gen.h_S_) Cert.NormRefIdeal.Gen.shapeCasts_S2048_S1x2048
    = (show FVec Ideal S1x2048 .f32 from e2 fun _ j => dg D X j) := by
  funext y
  rw [eq_ix2 y]
  pointwise [e2, dg]
  exact Finset.sum_congr rfl fun k _ => mul_comm _ _

/-- Both programs compute the gradients. -/
theorem algebraic : Cert.algebraic_NormIdeal_NormRefIdeal := fun m ρ m' ρ' _ hag =>
  ⟨fun c => (e2 (dx (tab2 (m ((c.tc : Thread nD τ).loc main_arg0) : FVec Ideal S2048x2048 .bf16)) (tab2 (m ((c.tc : Thread nD τ).loc main_arg1) : FVec Ideal S2048x2048 .f32))
      (tab2 (m ((c.tc : Thread nD τ).loc main_arg2) : FVec Ideal S1x2048 .f32)) (tab2 (m ((c.tc : Thread nD τ).loc main_arg3) : FVec Ideal S2048x2048 .f32))) : FVec Ideal S2048x2048 .f32),
   fun c => (e2 (dx (tab2 (m ((c.tc : Thread nD τ).loc main_arg0) : FVec Ideal S2048x2048 .bf16)) (tab2 (m ((c.tc : Thread nD τ).loc main_arg1) : FVec Ideal S2048x2048 .f32))
      (tab2 (m ((c.tc : Thread nD τ).loc main_arg2) : FVec Ideal S1x2048 .f32)) (tab2 (m ((c.tc : Thread nD τ).loc main_arg3) : FVec Ideal S2048x2048 .f32))) : FVec Ideal S2048x2048 .bf16),
   fun c => (e2 (fun _ j => dg (tab2 (m ((c.tc : Thread nD τ).loc main_arg0) : FVec Ideal S2048x2048 .bf16)) (tab2 (m ((c.tc : Thread nD τ).loc main_arg1) : FVec Ideal S2048x2048 .f32)) j) : FVec Ideal S1x2048 .f32),
   (θ_run defs _ _).mono (fun r hr c => ⟨(hr c).1.trans (final5 (eq_tab2 _) (eq_tab2 _) (eq_tab2 _) (eq_tab2 _)), (hr c).2.1.trans (final6 (eq_tab2 _) (eq_tab2 (φ := .f32) _) (eq_tab2 (φ := .f32) _) (eq_tab2 (φ := .f32) _)),
      (hr c).2.2.1.trans (final7 (eq_tab2 (φ := .bf16) _) (eq_tab2 _)), (hr c).2.2.2⟩) (Value.run_blocks m ρ),
   (θ_run Cert.NormRefIdeal.defs _ _).mono (fun r hr c => by
      obtain ⟨r0, r1, r2, hk⟩ := hr c
      rw [(hag c).1, (hag c).2.1, (hag c).2.2.1, (hag c).2.2.2, eq_tab2 (m ((c.tc : Thread nD τ).loc main_arg0) : FVec Ideal S2048x2048 .bf16), eq_tab2 (m ((c.tc : Thread nD τ).loc main_arg1) : FVec Ideal S2048x2048 .f32),
        eq_tab2 (m ((c.tc : Thread nD τ).loc main_arg2) : FVec Ideal S1x2048 .f32), eq_tab2 (m ((c.tc : Thread nD τ).loc main_arg3) : FVec Ideal S2048x2048 .f32), squares, roots, coefs] at r0 r1
      rw [(hag c).1, (hag c).2.1, eq_tab2 (m ((c.tc : Thread nD τ).loc main_arg0) : FVec Ideal S2048x2048 .bf16), eq_tab2 (m ((c.tc : Thread nD τ).loc main_arg1) : FVec Ideal S2048x2048 .f32), squares, roots] at r2
      exact ⟨r0.trans (reference0 _ _ _ _ _ rfl), r1.trans (congrArg (truncf .bf16 · Cert.NormRefIdeal.Gen.bitsLt_bf16_f32) (reference0 _ _ _ _ _ rfl)), r2.trans (reference2 _ _), hk⟩) (Cert.NormRefIdeal.Value.run m' ρ')⟩

end Cert.Gla.Norm
end
-- ==== Proof.Att.lean ====
/- Hand-written, untrusted: THE GRADIENT OF THE CROSS ATTENTION. Each grid point takes a row block of the queries and of the cotangent,
   forms each head's probabilities again, and adds its share to the gradient of the keys and values in a buffer revisited by every point. -/
module

public import proofs.«01_k».proof.Defs
public import proofs.«01_k».proof.Proof.Prod
public import proofs.«01_k».proof.Proof.Finite
public import proofs.«01_k».proof.Proof.Gen.AttIdeal.Value
public import proofs.«01_k».proof.Proof.Gen.AttRefIdeal.Run
public import Idealize.ShloMosaic.Lib.Pipeline.ReadBack

@[expose] public section

set_option maxRecDepth 16384

noncomputable section

namespace Cert.Gla.Att

open Idealize.ShloMosaic Cert.AttIdeal Cert.AttIdeal.Gen Idealize.ShloMosaic.TcCoe Idealize.SL.Sem

/-- Where the blocks of the operands and of the results lie. -/
theorem at_point : ∀ t : Fin grid0.N, ((win0_0.index t 0 = t.val ∧ win0_0.index t 1 = 0) ∧ (win0_1.index t 0 = 0 ∧ win0_1.index t 1 = 0)
    ∧ win0_2.index t 0 = t.val ∧ win0_2.index t 1 = 0) ∧ (win0_3.index t 0 = t.val ∧ win0_3.index t 1 = 0) ∧ win0_4.index t 0 = 0 ∧ win0_4.index t 1 = 0 := by decide +kernel

/-- The scale of the scores. -/
def kc : EReal := Ideal.ofBits .f32 0x3D3504F3#32

section
variable (Q K O W : ℕ → ℕ → EReal)

/-- A head's scores, … -/
def sc (i m : ℕ) : EReal := (∑ d : Fin 512, Q i d * K m d) * kc
/-- … their greatest in a row, … -/
def mx (i : ℕ) : EReal := Finset.univ.fold max ⊥ fun m : Fin 256 => sc Q K i m
/-- … their exponentials, … -/
def ex (i m : ℕ) : EReal := Ideal.exp (sc Q K i m - mx Q K i)
/-- … a row's total … -/
def tot (i : ℕ) : EReal := ∑ m : Fin 256, ex Q K i m
/-- … and the probabilities. -/
def pr (i m : ℕ) : EReal := Ideal.div (ex Q K i m) (tot Q K i)
/-- The gradient at the probabilities … -/
def dp (i m : ℕ) : EReal := ∑ d : Fin 512, O i d * W m d
/-- … and at the products of queries and keys. -/
def ds (i m : ℕ) : EReal := pr Q K i m * (dp O W i m - ∑ n : Fin 256, dp O W i n * pr Q K i n) * kc
end

/-- A head's probabilities of a block of rows. -/
theorem probs (Q K : ℕ → ℕ → EReal) : k0_pay7 (F := Ideal) (e2 Q) (e2 K) = (e2 (pr Q K) : FVec Ideal S512x256 .f32) := by
  unfold k0_pay7
  dsimp only
  funext y
  rw [eq_ix2 y]
  pointwise [e2, pr, tot, ex, mx, sc, kc]
  simp only [of_bot]

/-- The gradient at their products. -/
theorem prods (Q K O W : ℕ → ℕ → EReal) : k0_pay9 (F := Ideal) (e2 Q) (e2 K) (e2 O) (e2 W) = (e2 (ds Q K O W) : FVec Ideal S512x256 .bf16) := by
  unfold k0_pay9
  rw [probs]
  dsimp only
  funext y
  rw [eq_ix2 y]
  pointwise [e2, ds, dp, kc]

/-- What the values' gradient gains, … -/
theorem gainsV (Q K O B : ℕ → ℕ → EReal) : k0_pay8 (F := Ideal) (e2 Q) (e2 K) (e2 O) (e2 B)
    = (e2 fun m d => B m d + ∑ i : Fin 512, pr Q K i m * O i d : FVec Ideal S256x512 .f32) := by
  unfold k0_pay8
  rw [probs]
  dsimp only
  funext y
  rw [eq_ix2 y]
  pointwise [e2]

/-- … the queries' gradient … -/
theorem gainsQ (K S : ℕ → ℕ → EReal) : k0_pay10 (F := Ideal) (e2 K) (e2 S) = (e2 fun i d => ∑ m : Fin 256, S i m * K m d : FVec Ideal S512x512 .bf16) := by
  unfold k0_pay10
  dsimp only
  funext y
  rw [eq_ix2 y]
  pointwise [e2]

/-- … and what the keys' gradient gains. -/
theorem gainsK (Q S B : ℕ → ℕ → EReal) : k0_pay11 (F := Ideal) (e2 Q) (e2 S) (e2 B)
    = (e2 fun m d => B m d + ∑ i : Fin 512, S i m * Q i d : FVec Ideal S256x512 .f32) := by
  unfold k0_pay11
  dsimp only
  funext y
  rw [eq_ix2 y]
  pointwise [e2]

section
variable (q o : Vec Ideal S512x512 .bf16) (k v : Vec Ideal S256x512 .bf16) (b : Vec Ideal S256x512 .f32)

/-- The other heads' arithmetic is the first head's: for the values' gradient, … -/
theorem headV1 : k0_pay13 q k o b = k0_pay8 q k o b := rfl
theorem headV2 : k0_pay21 (k0_pay19 q k) o (k0_pay20 b) (constant S256x512 .f32 0x00000000#32) = k0_pay8 q k o b := rfl
theorem headV3 : k0_pay2 (k0_pay25 q k) (k0_pay26 q k) o b = k0_pay8 q k o b := rfl
/-- … the queries' … -/
theorem headQ1 : k0_pay16 k (k0_pay12 q k) (k0_pay14 o v) = k0_pay10 k (k0_pay9 q k o v) := rfl
theorem headQ2 : k0_pay23 k (k0_pay18 q k) o v = k0_pay10 k (k0_pay9 q k o v) := rfl
theorem headQ3 : k0_pay4 k (k0_pay25 q k) (k0_pay26 q k) o v = k0_pay10 k (k0_pay9 q k o v) := rfl
/-- … and the keys'. -/
theorem headK1 : k0_pay17 q (k0_pay12 q k) (k0_pay14 o v) b = k0_pay11 q (k0_pay9 q k o v) b := rfl
theorem headK2 : k0_pay24 q (k0_pay18 q k) o v b = k0_pay11 q (k0_pay9 q k o v) b := rfl
theorem headK3 : k0_pay5 q (k0_pay25 q k) (k0_pay26 q k) o v b = k0_pay11 q (k0_pay9 q k o v) b := rfl
end

/-- A head's columns. -/
def cut (n : ℕ) (X : ℕ → ℕ → EReal) (i d : ℕ) : EReal := X i (512 * n + d)

/-- A band of 512 columns lies in a block of 2048 columns, of the queries, … -/
abbrev InQ (o : ℕ) : Prop := ∀ a, (![0, o] : Fin 2 → ℕ) a + S512x512.size a ≤ S512x2048.size a
/-- … or of 4096, of the keys and values. -/
abbrev InK (o : ℕ) : Prop := ∀ a, (![0, o] : Fin 2 → ℕ) a + S256x512.size a ≤ S256x4096.size a

/-- The band read of the queries, … -/
abbrev rdQ (x : Vec Ideal S512x2048 .bf16) (o : ℕ) (h : InQ o) : Vec Ideal S512x512 .bf16 :=
  View.ld (Val := Elt Ideal) (e' := .bf16) x (Rect.unit (s := S512x2048) ![0, o] S512x512.size h)
/-- … of the keys and values … -/
abbrev rdK (x : Vec Ideal S256x4096 .bf16) (o : ℕ) (h : InK o) : Vec Ideal S256x512 .bf16 :=
  View.ld (Val := Elt Ideal) (e' := .bf16) x (Rect.unit (s := S256x4096) ![0, o] S256x512.size h)
/-- … and of the buffer. -/
abbrev rdB (x : Vec Ideal S256x4096 .f32) (o : ℕ) (h : InK o) : Vec Ideal S256x512 .f32 :=
  View.ld (Val := Elt Ideal) (e' := .f32) x (Rect.unit (s := S256x4096) ![0, o] S256x512.size h)

theorem rdQ_e2 (X : ℕ → ℕ → EReal) (n : ℕ) (h : InQ (512 * n)) : rdQ (e2 X) (512 * n) h = e2 (cut n X) := by
  funext x
  show X (0 + 1 * (x 0).val) (512 * n + 1 * (x 1).val) = X (x 0).val (512 * n + (x 1).val)
  simp only [Nat.zero_add, Nat.one_mul]
theorem rdK_e2 (X : ℕ → ℕ → EReal) (n : ℕ) (h : InK (512 * n)) : rdK (e2 X) (512 * n) h = e2 (cut n X) := by
  funext x
  show X (0 + 1 * (x 0).val) (512 * n + 1 * (x 1).val) = X (x 0).val (512 * n + (x 1).val)
  simp only [Nat.zero_add, Nat.one_mul]
theorem rdB_e2 (X : ℕ → ℕ → EReal) (n : ℕ) (h : InK (512 * n)) : rdB (e2 X) (512 * n) h = e2 (cut n X) := by
  funext x
  show X (0 + 1 * (x 0).val) (512 * n + 1 * (x 1).val) = X (x 0).val (512 * n + (x 1).val)
  simp only [Nat.zero_add, Nat.one_mul]

section
variable (Q K O : ℕ → ℕ → EReal)

/-- A head's probabilities … -/
def prh (n i m : ℕ) : EReal := pr (cut n Q) (cut n K) i m
/-- … and the gradient at its products, of the whole operands: the values stand 2048 columns after the keys. -/
def dsh (n i m : ℕ) : EReal := ds (cut n Q) (cut n K) (cut n O) (cut (4 + n) K) i m
/-- The queries' gradient. -/
def dq (i j : ℕ) : EReal := ∑ m : Fin 256, dsh Q K O (j / 512) i m * cut (j / 512) K m (j % 512)
/-- The terms of the keys' and the values' gradients that a row gives. -/
def term (m j i : ℕ) : EReal :=
  if j / 512 < 4 then dsh Q K O (j / 512) i m * cut (j / 512) Q i (j % 512) else prh Q K (j / 512 - 4) i m * cut (j / 512 - 4) O i (j % 512)
/-- What a block of rows gives. -/
def gain (m j : ℕ) : EReal := ∑ i : Fin 512, term Q K O m j i
end

section
variable (x0 x2 : Vec Ideal S512x2048 .bf16) (x1 : Vec Ideal S256x4096 .bf16) (b : Vec Ideal S256x4096 .f32)

/-- What a point stores for a head's queries, … -/
abbrev stQ (n : ℕ) (hq : InQ (512 * n)) (hk : InK (512 * n)) (hv : InK (512 * (4 + n))) : View.Piece (Elt Ideal) S512x2048 .bf16 :=
  ⟨Rect.unit (s := S512x2048) ![0, 512 * n] S512x512.size hq, k0_pay10 (rdK x1 (512 * n) hk) (k0_pay9 (rdQ x0 (512 * n) hq) (rdK x1 (512 * n) hk) (rdQ x2 (512 * n) hq) (rdK x1 (512 * (4 + n)) hv))⟩
/-- … its keys … -/
abbrev stK (n : ℕ) (hq : InQ (512 * n)) (hk : InK (512 * n)) (hv : InK (512 * (4 + n))) : View.Piece (Elt Ideal) S256x4096 .f32 :=
  ⟨Rect.unit (s := S256x4096) ![0, 512 * n] S256x512.size hk, k0_pay11 (rdQ x0 (512 * n) hq) (k0_pay9 (rdQ x0 (512 * n) hq) (rdK x1 (512 * n) hk) (rdQ x2 (512 * n) hq) (rdK x1 (512 * (4 + n)) hv)) (rdB b (512 * n) hk)⟩
/-- … and its values. -/
abbrev stV (n : ℕ) (hq : InQ (512 * n)) (hk : InK (512 * n)) (hv : InK (512 * (4 + n))) : View.Piece (Elt Ideal) S256x4096 .f32 :=
  ⟨Rect.unit (s := S256x4096) ![0, 512 * (4 + n)] S256x512.size hv, k0_pay8 (rdQ x0 (512 * n) hq) (rdK x1 (512 * n) hk) (rdQ x2 (512 * n) hq) (rdB b (512 * (4 + n)) hv)⟩

/-- The four heads' stores of the queries' gradient … -/
abbrev bandsQ : List (View.Piece (Elt Ideal) S512x2048 .bf16) :=
  [stQ x0 x2 x1 3 (by decide) (by decide) (by decide), stQ x0 x2 x1 2 (by decide) (by decide) (by decide),
    stQ x0 x2 x1 1 (by decide) (by decide) (by decide), stQ x0 x2 x1 0 (by decide) (by decide) (by decide)]
/-- … and of the buffer. -/
abbrev bands : List (View.Piece (Elt Ideal) S256x4096 .f32) :=
  [stK x0 x2 x1 b 3 (by decide) (by decide) (by decide), stV x0 x2 x1 b 3 (by decide) (by decide) (by decide),
    stK x0 x2 x1 b 2 (by decide) (by decide) (by decide), stV x0 x2 x1 b 2 (by decide) (by decide) (by decide),
    stK x0 x2 x1 b 1 (by decide) (by decide) (by decide), stV x0 x2 x1 b 1 (by decide) (by decide) (by decide),
    stK x0 x2 x1 b 0 (by decide) (by decide) (by decide), stV x0 x2 x1 b 0 (by decide) (by decide) (by decide)]

/-- They cover their blocks. -/
theorem cover_bandsQ (y : S512x2048.Idx) : ∃ pc ∈ bandsQ x0 x2 x1, y ∈ pc.1.set := View.cover_of_tiledL (bandsQ x0 x2 x1) S512x512.size (by sl_kernel_rfl) y
theorem cover_bands (y : S256x4096.Idx) : ∃ pc ∈ bands x0 x2 x1 b, y ∈ pc.1.set := View.cover_of_tiledL (bands x0 x2 x1 b) S256x512.size (by sl_kernel_rfl) y
end

/-- A column of a band. -/
theorem band {n d : ℕ} (h : d < 512) : (512 * n + d) / 512 = n ∧ (512 * n + d) % 512 = d := by omega

/-- The gains in a band of the keys' columns … -/
theorem gain_keys (Q K O : ℕ → ℕ → EReal) {n d m : ℕ} (hn : n < 4) (h : d < 512) : gain Q K O m (512 * n + d) = ∑ i : Fin 512, dsh Q K O n i m * cut n Q i d :=
  Finset.sum_congr rfl fun i _ => by
    unfold term
    rw [(band h).1, (band h).2, if_pos hn]

/-- … and in one of the values'. -/
theorem gain_values (Q K O : ℕ → ℕ → EReal) {n d m : ℕ} (h : d < 512) : gain Q K O m (512 * (4 + n) + d) = ∑ i : Fin 512, prh Q K n i m * cut n O i d :=
  Finset.sum_congr rfl fun i _ => by
    unfold term
    rw [(band h).1, (band h).2, if_neg (by omega), Nat.add_sub_cancel_left]

section
variable (Q K O B : ℕ → ℕ → EReal) (n : ℕ) (hq : InQ (512 * n)) (hk : InK (512 * n)) (hv : InK (512 * (4 + n)))

/-- Each store is a block of one matrix: the queries' … -/
theorem stQ_block (x : (stQ (e2 Q) (e2 O) (e2 K) n hq hk hv).1.shape.Idx) : (stQ (e2 Q) (e2 O) (e2 K) n hq hk hv).2 x
    = (e2 (dq Q K O) : FVec Ideal S512x2048 .bf16) ((stQ (e2 Q) (e2 O) (e2 K) n hq hk hv).1.emb x) := by
  dsimp only
  rw [rdQ_e2, rdQ_e2, rdK_e2, rdK_e2, prods, gainsQ]
  show _ = dq Q K O (0 + 1 * (x 0).val) (512 * n + 1 * (x 1).val)
  unfold dq
  rw [Nat.zero_add, Nat.one_mul, Nat.one_mul, (band (x 1).isLt).1, (band (x 1).isLt).2]
  rfl

/-- … the keys' … -/
theorem stK_block (hn : n < 4) (x : (stK (e2 Q) (e2 O) (e2 K) (e2 B) n hq hk hv).1.shape.Idx) : (stK (e2 Q) (e2 O) (e2 K) (e2 B) n hq hk hv).2 x
    = (e2 fun m j => B m j + gain Q K O m j : FVec Ideal S256x4096 .f32) ((stK (e2 Q) (e2 O) (e2 K) (e2 B) n hq hk hv).1.emb x) := by
  dsimp only
  rw [rdQ_e2, rdQ_e2, rdK_e2, rdK_e2, rdB_e2, prods, gainsK]
  show _ = B (0 + 1 * (x 0).val) (512 * n + 1 * (x 1).val) + gain Q K O (0 + 1 * (x 0).val) (512 * n + 1 * (x 1).val)
  rw [Nat.zero_add, Nat.one_mul, Nat.one_mul, gain_keys Q K O hn (x 1).isLt]
  rfl

/-- … and the values'. -/
theorem stV_block (x : (stV (e2 Q) (e2 O) (e2 K) (e2 B) n hq hk hv).1.shape.Idx) : (stV (e2 Q) (e2 O) (e2 K) (e2 B) n hq hk hv).2 x
    = (e2 fun m j => B m j + gain Q K O m j : FVec Ideal S256x4096 .f32) ((stV (e2 Q) (e2 O) (e2 K) (e2 B) n hq hk hv).1.emb x) := by
  dsimp only
  rw [rdQ_e2, rdQ_e2, rdK_e2, rdB_e2, gainsV]
  show _ = B (0 + 1 * (x 0).val) (512 * (4 + n) + 1 * (x 1).val) + gain Q K O (0 + 1 * (x 0).val) (512 * (4 + n) + 1 * (x 1).val)
  rw [Nat.zero_add, Nat.one_mul, Nat.one_mul, gain_values Q K O (x 1).isLt]
  rfl
end

/-- The queries' gradient of a block of rows. -/
theorem canonQ (Q K O : ℕ → ℕ → EReal) : View.canon (bandsQ (e2 Q) (e2 O) (e2 K)) = (e2 (dq Q K O) : FVec Ideal S512x2048 .bf16) :=
  funext fun y => View.canon_apply_of_pieces _ _ (View.PiecesOf.mem (show View.PiecesOf (e2 (dq Q K O)) (bandsQ (e2 Q) (e2 O) (e2 K)) from
    ⟨stQ_block Q K O 3 _ _ _, stQ_block Q K O 2 _ _ _, stQ_block Q K O 1 _ _ _, stQ_block Q K O 0 _ _ _, trivial⟩)) y (cover_bandsQ _ _ _ y)

/-- The buffer after the stores, whatever they went over. -/
theorem canonK (Q K O B : ℕ → ℕ → EReal) (L : List (View.Piece (Elt Ideal) S256x4096 .f32)) : View.canon (bands (e2 Q) (e2 O) (e2 K) (e2 B) ++ L)
    = (e2 fun m j => B m j + gain Q K O m j : FVec Ideal S256x4096 .f32) :=
  funext fun y => View.canon_append_of_piecesOf _ L _ (show View.PiecesOf (e2 fun m j => B m j + gain Q K O m j) (bands (e2 Q) (e2 O) (e2 K) (e2 B)) from
    ⟨stK_block Q K O B 3 _ _ _ (by decide), stV_block Q K O B 3 _ _ _, stK_block Q K O B 2 _ _ _ (by decide), stV_block Q K O B 2 _ _ _,
      stK_block Q K O B 1 _ _ _ (by decide), stV_block Q K O B 1 _ _ _, stK_block Q K O B 0 _ _ _ (by decide), stV_block Q K O B 0 _ _ _, trivial⟩)
    y (cover_bands _ _ _ _ y)

section
variable (c : Dev nD) (i : grid0.Coords) (a1 : Memref sig .tc .vmem S512x2048 .bf16) (h1 : a1.IsWhole) (a2 : Memref sig .tc .vmem S256x4096 .bf16) (h2 : a2.IsWhole)
variable (a3 : Memref sig .tc .vmem S512x2048 .bf16) (h3 : a3.IsWhole) (a4 : Memref sig .tc .vmem S512x2048 .bf16) (h4 : a4.IsWhole) (a5 : Memref sig .tc .vmem S256x4096 .f32) (h5 : a5.IsWhole)
variable (x0 x2 : Vec Ideal S512x2048 .bf16) (x1 : Vec Ideal S256x4096 .bf16) (b : Vec Ideal S256x4096 .f32)

/-- The first point writes its rows of the queries' gradient … -/
theorem writes3_A (hc : cond0_0 i) : out0_A_3 (F := Ideal) c i a1 h1 a2 h2 a3 h3 a4 h4 a5 h5 hc x0 x1 x2 = View.canon (bandsQ x0 x2 x1) := by
  unfold out0_A_3
  refine (View.read_writes_eq_canon _ _ _ (cover0_A_3 (F := Ideal) c i a1 h1 a2 h2 a3 h3 a4 h4 a5 h5 hc x0 x1 x2)).trans ?_
  unfold kernelRun0_A
  dsimp only
  sl_unfold_words
  simp only [View.readAt_eq_ld, h1.read_unread, h2.read_unread, h3.read_unread, headQ1, headQ2, headQ3]

/-- … and fills the buffer before its stores; … -/
theorem writes4_A (hc : cond0_0 i) : out0_A_4 (F := Ideal) c i a1 h1 a2 h2 a3 h3 a4 h4 a5 h5 hc x0 x1 x2
    = View.canon (bands x0 x2 x1 (k0_pay6 (F := Ideal)) ++ [⟨Rect.unit (s := S256x4096) ![0, 0] S256x4096.size inb_S256x4096_S256x4096_0_0, k0_pay6 (F := Ideal)⟩]) := by
  unfold out0_A_4
  refine (View.read_writes_eq_canon _ _ _ (cover0_A_4 (F := Ideal) c i a1 h1 a2 h2 a3 h3 a4 h4 a5 h5 hc x0 x1 x2)).trans ?_
  unfold kernelRun0_A
  dsimp only
  sl_unfold_words
  simp (disch := decide) only [↓View.readCov_skip, View.readCov_fill, View.readAt_eq_ld, h1.read_unread, h2.read_unread, h3.read_unread, headV1, headV2, headV3, headK1, headK2, headK3]
  rfl

/-- … a further point stores over what the point before left. -/
theorem writes3_B (hc : ¬cond0_0 i) : out0_B_3 (F := Ideal) c i a1 h1 a2 h2 a3 h3 a4 h4 a5 h5 hc x0 x1 x2 b = View.canon (bandsQ x0 x2 x1) := by
  unfold out0_B_3
  refine (View.read_writes_eq_canon _ _ _ (cover0_B_3 (F := Ideal) c i a1 h1 a2 h2 a3 h3 a4 h4 a5 h5 hc x0 x1 x2 b)).trans ?_
  unfold kernelRun0_B
  dsimp only
  sl_unfold_words
  simp only [View.readAt_eq_ld, h1.read_unread, h2.read_unread, h3.read_unread, headQ1, headQ2, headQ3]

theorem writes4_B (hc : ¬cond0_0 i) : out0_B_4 (F := Ideal) c i a1 h1 a2 h2 a3 h3 a4 h4 a5 h5 hc x0 x1 x2 b = View.canon (bands x0 x2 x1 b ++ []) := by
  unfold out0_B_4
  refine (View.read_writes_eq_canon _ _ _ (cover0_B_4 (F := Ideal) c i a1 h1 a2 h2 a3 h3 a4 h4 a5 h5 hc x0 x1 x2 b)).trans ?_
  unfold kernelRun0_B
  dsimp only
  sl_unfold_words
  simp only [View.readAt_eq_ld, h1.read_unread, h2.read_unread, h3.read_unread, h5.read_unread, headV1, headV2, headV3, headK1, headK2, headK3]
  rfl
end

/-! ## Over the grid -/

variable {m : (ℓ : Loc nD τ sig) → Buf (Elt Ideal) ℓ} {c : Dev nD} {Q K O : ℕ → ℕ → EReal}

/-- A block of rows. -/
def rows (t : ℕ) (X : ℕ → ℕ → EReal) (i d : ℕ) : EReal := X (512 * t + i) d

/-- The queries' block at a point, … -/
theorem block0 (h : (m ((c : Thread nD τ).loc main_arg0) : FVec Ideal S2048x2048 .bf16) = e2 Q) (t : Fin cfg0.N) :
    iblk m c 0 t = (e2 (rows t.val Q) : FVec Ideal S512x2048 .bf16) := by
  funext j
  unfold iblk
  rw [View.read_apply]
  show V m c main_arg0 _ = _
  rw [(V_main_arg0 m c).trans h]
  exact congrArg₂ Q (at_further (n := 512) (at_point t).1.1.1) (at_first (n := 2048) (at_point t).1.1.2)

/-- … the keys and values … -/
theorem block1 (h : (m ((c : Thread nD τ).loc main_arg1) : FVec Ideal S256x4096 .bf16) = e2 K) (t : Fin cfg0.N) :
    iblk m c 1 t = (e2 K : FVec Ideal S256x4096 .bf16) := by
  funext j
  unfold iblk
  rw [View.read_apply]
  show V m c main_arg1 _ = _
  rw [(V_main_arg1 m c).trans h]
  exact congrArg₂ K (at_first (n := 256) (at_point t).1.2.1.1) (at_first (n := 4096) (at_point t).1.2.1.2)

/-- … and the cotangent's block. -/
theorem block2 (h : (m ((c : Thread nD τ).loc main_arg2) : FVec Ideal S2048x2048 .bf16) = e2 O) (t : Fin cfg0.N) :
    iblk m c 2 t = (e2 (rows t.val O) : FVec Ideal S512x2048 .bf16) := by
  funext j
  unfold iblk
  rw [View.read_apply]
  show V m c main_arg2 _ = _
  rw [(V_main_arg2 m c).trans h]
  exact congrArg₂ O (at_further (n := 512) (at_point t).1.2.2.1) (at_first (n := 2048) (at_point t).1.2.2.2)

/-- The first point clears the buffer. -/
theorem start : k0_pay6 (F := Ideal) = (e2 fun _ _ => 0 : FVec Ideal S256x4096 .f32) := by
  funext y
  exact of_zero

/-- The gradient of the keys and values. -/
def dkv (Q K O : ℕ → ℕ → EReal) (m j : ℕ) : EReal := ∑ i : Fin 2048, term Q K O m j i

/-- It is the sum of the points' shares. -/
theorem shares (Q K O : ℕ → ℕ → EReal) (m j : ℕ) : ∑ t ∈ Finset.range 4, gain (rows t Q) K (rows t O) m j = dkv Q K O m j :=
  (sum_blocks 4 512 fun i => term Q K O m j i).symm

section
variable (h0 : (m ((c : Thread nD τ).loc main_arg0) : FVec Ideal S2048x2048 .bf16) = e2 Q) (h1 : (m ((c : Thread nD τ).loc main_arg1) : FVec Ideal S256x4096 .bf16) = e2 K)
  (h2 : (m ((c : Thread nD τ).loc main_arg2) : FVec Ideal S2048x2048 .bf16) = e2 O)
include h0 h1 h2

/-- The buffer after a point. -/
theorem buffer : ∀ (n : ℕ) (hn : n < cfg0.N), (outsAt0 m c n hn).2
    = (e2 fun r j => ∑ t ∈ Finset.range (n + 1), gain (rows t Q) K (rows t O) r j : FVec Ideal S256x4096 .f32) := by
  intro n
  induction n with
  | zero =>
    intro hn
    rw [outsAt0_A m c ⟨0, hn⟩ rfl]
    dsimp only
    rw [writes4_A, start, block0 h0, block1 h1, block2 h2, canonK]
    exact congrArg e2 (funext fun r => funext fun j => by rw [zero_add]; exact (Finset.sum_range_one fun t => gain (rows t Q) K (rows t O) r j).symm)
  | succ n ih =>
    intro hn
    have hN : n + 1 < 4 := by have := N_0; change n + 1 < grid0.N at hn; omega
    rw [outsAt0_B m c ⟨n + 1, hn⟩ (by dsimp only; omega)]
    dsimp only
    rw [writes4_B, show (outsAt0 m c (n + 1 - 1) _).2 = _ from ih (Nat.lt_of_succ_lt hn), block0 h0, block1 h1, block2 h2, canonK]
    exact congrArg e2 (funext fun r => funext fun j => (Finset.sum_range_succ _ _).symm)

/-- What a point leaves of the queries' gradient. -/
theorem leaves3 (t : Fin cfg0.N) : (outsAt0 m c t.val t.isLt).1 = (e2 fun i j => dq Q K O (512 * t.val + i) j : FVec Ideal S512x2048 .bf16) := by
  by_cases h : t.val % 4 = 0
  · rw [outsAt0_A m c t h]
    dsimp only
    rw [writes3_A, block0 h0, block1 h1, block2 h2, canonQ]
    rfl
  · rw [outsAt0_B m c t h]
    dsimp only
    rw [writes3_B, block0 h0, block1 h1, block2 h2, canonQ]
    rfl

/-- The first result ends as the queries' gradient … -/
theorem final3 : (dats m 0 c).arrAt 3 cfg0.N = (e2 (dq Q K O) : FVec Ideal S2048x2048 .bf16) :=
  (dats m 0 c).arrAt_eq_of_cover 3 _ (fun t _ => by
    refine (Value.flushed3 m c t).trans ?_
    rw [leaves3 h0 h1 h2]
    funext j
    rw [View.read_apply]
    exact (congrArg₂ (dq Q K O) (at_further (n := 512) (at_point t).2.1.1) (at_first (n := 2048) (at_point t).2.1.2)).symm) fun i => by
    have hl : (i 0).val / 512 < cfg0.N := by change _ < grid0.N; rw [N_0]; exact Nat.div_lt_of_lt_mul (i 0).isLt
    refine ⟨⟨_, hl⟩, flush0_3 _, ?_⟩
    show i ∈ ((View.whole main_v0_0).slice (win0_3.rect ⟨_, hl⟩)).set
    rw [View.set_slice_whole, Rect.mem_set_unit]
    intro a
    match a with
    | ⟨0, _⟩ => exact tile (n := 512) (at_point ⟨_, hl⟩).2.1.1 (by decide) rfl
    | ⟨1, _⟩ => exact tile (n := 2048) (at_point ⟨_, hl⟩).2.1.2 (by decide) (Nat.div_eq_of_lt (i 1).isLt).symm

/-- … and the second as the gradient of the keys and values. -/
theorem final4 : (dats m 0 c).arrAt 4 cfg0.N = (e2 (dkv Q K O) : FVec Ideal S256x4096 .f32) :=
  (dats m 0 c).arrAt_eq_of_cover 4 _ (fun t hf => by
    have h3 : t.val = 3 := by have := (flush0_4 t).mp hf; have := N_0; have := t.isLt; change _ < grid0.N at this; omega
    refine (Value.flushed4 m c t).trans ?_
    rw [buffer h0 h1 h2, h3]
    funext j
    rw [View.read_apply]
    exact (shares Q K O (j 0).val (j 1).val).trans (congrArg₂ (dkv Q K O) (at_first (n := 256) (at_point t).2.2.1) (at_first (n := 4096) (at_point t).2.2.2)).symm) fun i => by
    have hl : 3 < cfg0.N := by change _ < grid0.N; rw [N_0]; decide
    refine ⟨⟨3, hl⟩, (flush0_4 _).mpr rfl, ?_⟩
    show i ∈ ((View.whole main_v0_1).slice (win0_4.rect ⟨_, hl⟩)).set
    rw [View.set_slice_whole, Rect.mem_set_unit]
    intro a
    match a with
    | ⟨0, _⟩ => exact tile (n := 256) (at_point ⟨_, hl⟩).2.2.1 (by decide) (Nat.div_eq_of_lt (i 0).isLt).symm
    | ⟨1, _⟩ => exact tile (n := 4096) (at_point ⟨_, hl⟩).2.2.2 (by decide) (Nat.div_eq_of_lt (i 1).isLt).symm
end

end Cert.Gla.Att
end
-- ==== Proof.AttRef.lean ====
/- Hand-written, untrusted: THE GRADIENT OF THE CROSS ATTENTION, AGAINST ITS REFERENCE. The reference differentiates the attention's
   lines by quotient and exponential; where the scores are real, that is the kernel's product of the probabilities, whatever the
   values and the cotangent hold. -/
module

public import proofs.«01_k».proof.Proof.Att

@[expose] public section

set_option maxRecDepth 16384

noncomputable section

namespace Cert.Gla.Att

open Idealize.ShloMosaic Cert.AttRefIdeal Cert.AttRefIdeal.Gen Idealize.ShloMosaic.TcCoe Idealize.SL.Sem

/-! ## A row of scores -/

/-- An extended real that is a real. -/
def IsReal (x : EReal) : Prop := ∃ r : ℝ, x = (r : EReal)

/-- The scale is a real. -/
theorem kc_real : IsReal kc := by
  unfold kc IsReal
  simp [Ideal.ofBits, Ideal.ieee, -EReal.coe_mul]

/-- Products of reals sum to a real. -/
theorem sum_real {n : ℕ} {f g : Fin n → EReal} (hf : ∀ k, IsReal (f k)) (hg : ∀ k, IsReal (g k)) : IsReal (∑ k, f k * g k) := by
  choose a ha using hf
  choose b hb using hg
  exact ⟨∑ k, a k * b k, by rw [Finset.sum_congr rfl fun k _ => show f k * g k = ((a k * b k : ℝ) : EReal) by rw [ha, hb, EReal.coe_mul], ← coe_sum]⟩

/-- The greatest of reals is a real. -/
theorem max_real {f : Fin 256 → EReal} (hf : ∀ k, IsReal (f k)) : IsReal (Finset.univ.fold max ⊥ f) := by
  have ht : Finset.univ.fold max ⊥ f < ⊤ := (Finset.fold_max_lt ⊤).mpr ⟨bot_lt_top, fun k _ => by obtain ⟨r, h⟩ := hf k; rw [h]; exact EReal.coe_lt_top r⟩
  have hb : ⊥ < Finset.univ.fold max ⊥ f := by
    obtain ⟨r, h⟩ := hf 0
    exact lt_of_lt_of_le (by rw [h]; exact EReal.bot_lt_coe r) (Finset.le_fold_max (f 0) |>.mpr (Or.inr ⟨0, Finset.mem_univ _, le_rfl⟩))
  exact ⟨_, (EReal.coe_toReal ht.ne hb.ne').symm⟩

/-- Division by a positive real is a product. -/
theorem div_pos_real (x : EReal) {t : ℝ} (h : 0 < t) : Ideal.div x (t : EReal) = ((t⁻¹ : ℝ) : EReal) * x := by
  unfold Ideal.div
  rw [if_neg (by exact_mod_cast h.ne'), EReal.coe_inv, mul_comm]

/-- A nonnegative real factor leaves a sum. -/
theorem mul_sum_real {ι : Type} (t : Finset ι) (f : ι → EReal) (r : ℝ) (h : 0 ≤ r) : ∑ k ∈ t, (r : EReal) * f k = (r : EReal) * ∑ k ∈ t, f k := by
  classical
  induction t using Finset.induction_on with
  | empty => simp
  | insert a t ha ih =>
    rw [Finset.sum_insert ha, Finset.sum_insert ha, ih, EReal.left_distrib_of_nonneg_of_ne_top (by exact_mod_cast h) (EReal.coe_ne_top r)]

section
variable (Q K O W : ℕ → ℕ → EReal)

/-- The gradient at the products, as the reference differentiates it. -/
def dsRef (i m : ℕ) : EReal := (Ideal.div (dp O W i m) (tot Q K i)
  + -(∑ n : Fin 256, dp O W i n * Ideal.div 1 (tot Q K i * tot Q K i) * ex Q K i n)) * ex Q K i m * kc

/-- Where a row's scores are real, the reference's gradient is the kernel's. -/
theorem ds_eq {i m : ℕ} (hm : m < 256) (hs : ∀ n : Fin 256, IsReal (sc Q K i n)) : dsRef Q K O W i m = ds Q K O W i m := by
  have hM := max_real hs
  obtain ⟨M, hM⟩ : IsReal (mx Q K i) := hM
  choose s hs using hs
  have hx : ∀ n : Fin 256, ex Q K i n = ((Real.exp (s n - M) : ℝ) : EReal) := fun n => by unfold ex; rw [hs, hM]; rfl
  have ht : tot Q K i = ((∑ n : Fin 256, Real.exp (s n - M) : ℝ) : EReal) := by
    unfold tot; rw [coe_sum]; exact Finset.sum_congr rfl fun n _ => hx n
  have hp : 0 < ∑ n : Fin 256, Real.exp (s n - M) := Finset.sum_pos (fun n _ => Real.exp_pos _) ⟨0, Finset.mem_univ _⟩
  unfold dsRef ds pr
  have hxm := hx ⟨m, hm⟩
  dsimp only at hxm
  rw [ht, hxm]
  generalize (∑ n : Fin 256, Real.exp (s n - M)) = t at hp
  have hi : 0 ≤ t⁻¹ := (inv_pos.mpr hp).le
  have e : ∀ n : Fin 256, dp O W i n * Ideal.div 1 ((t : EReal) * (t : EReal)) * ex Q K i n = ((t⁻¹ : ℝ) : EReal) * (dp O W i n * Ideal.div (ex Q K i n) (t : EReal)) := fun n => by
    rw [← EReal.coe_mul, div_pos_real _ (mul_pos hp hp), div_pos_real _ hp, mul_one, mul_inv, EReal.coe_mul]
    ac_rfl
  rw [Finset.sum_congr rfl fun n _ => e n, mul_sum_real _ _ _ hi, div_pos_real _ hp, div_pos_real _ hp, ← mul_neg, sub_eq_add_neg (dp O W i m),
    ← EReal.left_distrib_of_nonneg_of_ne_top (by exact_mod_cast hi) (EReal.coe_ne_top _)]
  ac_rfl
end

/-! ## The reference, in stages -/

/-- Rows in heads, … -/
theorem heads (X : ℕ → ℕ → EReal) : shapeCast S2048x4x512 (extf (F := Ideal) (φ := .bf16) .f32 (e2 X : FVec Ideal S2048x2048 .bf16) bitsLt_bf16_f32) shapeCasts_S2048x2048_S2048x4x512
    = (e3 (fun i n d => cut n X i d) : FVec Ideal S2048x4x512 .f32) := by
  funext y
  rw [eq_ix3 y]
  pointwise [e2, e3, cut]
  exact congrArg _ (by omega)

/-- … with the rows last, … -/
theorem heads_last (X : ℕ → ℕ → EReal) : transpose S4x512x2048 [1, 2, 0] (e3 (fun i n d => cut n X i d) : FVec Ideal S2048x4x512 .f32) transposes_S2048x4x512_S4x512x2048_1_2_0
    = (e3 (fun n d i => cut n X i d) : FVec Ideal S4x512x2048 .f32) := by
  funext y
  rw [eq_ix3 y]
  pointwise [e3]

/-- … the keys … -/
theorem keys (K : ℕ → ℕ → EReal) : shapeCast S256x4x512 (extractStridedSlice S256x1x4x512 ![0, 0, 0, 0] (shapeCast S256x2x4x512 (extf (F := Ideal) (φ := .bf16) .f32 (e2 K : FVec Ideal S256x4096 .bf16) bitsLt_bf16_f32)
      shapeCasts_S256x4096_S256x2x4x512) slices_S256x2x4x512_S256x1x4x512_0_0_0_0) shapeCasts_S256x1x4x512_S256x4x512
    = (e3 (fun m n d => cut n K m d) : FVec Ideal S256x4x512 .f32) := by
  funext y
  rw [eq_ix3 y]
  pointwise [e2, e3, cut]
  exact congrArg _ (by omega)

/-- … and the values. -/
theorem values (K : ℕ → ℕ → EReal) : shapeCast S256x4x512 (extractStridedSlice S256x1x4x512 ![0, 1, 0, 0] (shapeCast S256x2x4x512 (extf (F := Ideal) (φ := .bf16) .f32 (e2 K : FVec Ideal S256x4096 .bf16) bitsLt_bf16_f32)
      shapeCasts_S256x4096_S256x2x4x512) slices_S256x2x4x512_S256x1x4x512_0_1_0_0) shapeCasts_S256x1x4x512_S256x4x512
    = (e3 (fun m n d => cut (4 + n) K m d) : FVec Ideal S256x4x512 .f32) := by
  funext y
  rw [eq_ix3 y]
  pointwise [e2, e3, cut]
  exact congrArg _ (by omega)

section
variable (Q K O : ℕ → ℕ → EReal)

/-- The scores, … -/
theorem scores : mulf (Host.dotGeneral (F := Ideal) (φ₁ := .f32) (φ₂ := .f32) dot_S2048x4x512_S256x4x512_S4x2048x256_2_2_0_0_1_1 none (e3 (fun i n d => cut n Q i d) : FVec Ideal S2048x4x512 .f32) (e3 (fun m n d => cut n K m d) : FVec Ideal S256x4x512 .f32))
      (broadcastInDim S4x2048x256 ![] bcast_S_S4x2048x256 (constant (F := Ideal) S_ .f32 0x3D3504F3#32))
    = (e3 (fun n i m => sc (cut n Q) (cut n K) i m) : FVec Ideal S4x2048x256 .f32) := by
  funext y
  rw [eq_ix3 y]
  pointwise [e3, sc, kc]

/-- … their exponentials, … -/
theorem exps : Host.exp (subf (e3 (fun n i m => sc (cut n Q) (cut n K) i m) : FVec Ideal S4x2048x256 .f32) (broadcastInDim S4x2048x256 ![0, 1, 2] bcast_S4x2048x1_S4x2048x256_0_1_2
      (broadcastInDim S4x2048x1 ![0, 1] bcast_S4x2048_S4x2048x1_0_1 (maximumf (broadcastInDim S4x2048 ![] bcast_S_S4x2048 (constant (F := Ideal) S_ .f32 0xFF800000#32))
        (Host.reduce FloatOps.maximumf (e3 (fun n i m => sc (cut n Q) (cut n K) i m) : FVec Ideal S4x2048x256 .f32) (constant (F := Ideal) S_ .f32 0xFF800000#32) reducesTo_S4x2048x256_S4x2048_d2 h_S_)))))
    = (e3 (fun n i m => ex (cut n Q) (cut n K) i m) : FVec Ideal S4x2048x256 .f32) := by
  funext y
  rw [eq_ix3 y]
  pointwise [e3, ex, mx]
  simp only [of_bot, bot_le, max_eq_right]

/-- … their totals, … -/
theorem totals : broadcastInDim S4x2048x1 ![0, 1] bcast_S4x2048_S4x2048x1_0_1 (Host.reduceAdd (e3 (fun n i m => ex (cut n Q) (cut n K) i m) : FVec Ideal S4x2048x256 .f32)
      (constant (F := Ideal) S_ .f32 0x00000000#32) reducesTo_S4x2048x256_S4x2048_d2 h_S_)
    = (e3 (fun n i _ => tot (cut n Q) (cut n K) i) : FVec Ideal S4x2048x1 .f32) := by
  funext y
  rw [eq_ix3 y]
  pointwise [e3, tot]

/-- … the probabilities … -/
theorem ratios : Host.divf (F := Ideal) (φ := .f32) (e3 (fun n i m => ex (cut n Q) (cut n K) i m) : FVec Ideal S4x2048x256 .f32) (broadcastInDim S4x2048x256 ![0, 1, 2] bcast_S4x2048x1_S4x2048x256_0_1_2
      (e3 (fun n i _ => tot (cut n Q) (cut n K) i) : FVec Ideal S4x2048x1 .f32))
    = (e3 (fun n i m => prh Q K n i m) : FVec Ideal S4x2048x256 .f32) := by
  funext y
  rw [eq_ix3 y]
  pointwise [e3, prh, pr]

/-- … and the gradient at them. -/
theorem grads : Host.dotGeneral (F := Ideal) (φ₁ := .f32) (φ₂ := .f32) dot_S4x512x2048_S256x4x512_S4x2048x256_1_2_2_0_0_1 none (e3 (fun n d i => cut n O i d) : FVec Ideal S4x512x2048 .f32) (e3 (fun m n d => cut (4 + n) K m d) : FVec Ideal S256x4x512 .f32)
    = (e3 (fun n i m => dp (cut n O) (cut (4 + n) K) i m) : FVec Ideal S4x2048x256 .f32) := by
  funext y
  rw [eq_ix3 y]
  pointwise [e3, dp]

/-- The quotient's other term, by row, … -/
theorem others : Host.reduceAdd (Host.negf (shapeCast S4x2048x1 (Host.reduceAdd (mulf (mulf (e3 (fun n i m => dp (cut n O) (cut (4 + n) K) i m) : FVec Ideal S4x2048x256 .f32)
        (broadcastInDim S4x2048x256 ![0, 1, 2] bcast_S4x2048x1_S4x2048x256_0_1_2 (Host.divf (broadcastInDim S4x2048x1 ![] bcast_S_S4x2048x1 (constant (F := Ideal) S_ .f32 0x3F800000#32))
          (mulf (e3 (fun n i _ => tot (cut n Q) (cut n K) i) : FVec Ideal S4x2048x1 .f32) (e3 (fun n i _ => tot (cut n Q) (cut n K) i) : FVec Ideal S4x2048x1 .f32)))))
        (e3 (fun n i m => ex (cut n Q) (cut n K) i m) : FVec Ideal S4x2048x256 .f32)) (constant (F := Ideal) S_ .f32 0x00000000#32) reducesTo_S4x2048x256_S4x2048_d2 h_S_) shapeCasts_S4x2048_S4x2048x1))
      (constant (F := Ideal) S_ .f32 0x00000000#32) reducesTo_S4x2048x1_S4x2048_d2 h_S_
    = (e2 (fun n i => -(∑ k : Fin 256, dp (cut n O) (cut (4 + n) K) i k * Ideal.div 1 (tot (cut n Q) (cut n K) i * tot (cut n Q) (cut n K) i) * ex (cut n Q) (cut n K) i k)) : FVec Ideal S4x2048 .f32) := by
  funext y
  rw [eq_ix2 y]
  pointwise [e2, e3]
  exact Fin.sum_univ_one _

/-- Queries and keys are real. -/
def Real2 : Prop := (∀ i < 2048, ∀ j < 2048, IsReal (Q i j)) ∧ ∀ m < 256, ∀ j < 2048, IsReal (K m j)

variable {Q K}

/-- … and the gradient at the products, where the queries and keys are real. -/
theorem deltas (h : Real2 Q K) : mulf (mulf (addf (Host.divf (e3 (fun n i m => dp (cut n O) (cut (4 + n) K) i m) : FVec Ideal S4x2048x256 .f32) (broadcastInDim S4x2048x256 ![0, 1, 2] bcast_S4x2048x1_S4x2048x256_0_1_2
          (e3 (fun n i _ => tot (cut n Q) (cut n K) i) : FVec Ideal S4x2048x1 .f32)))
        (broadcastInDim S4x2048x256 ![0, 1] bcast_S4x2048_S4x2048x256_0_1 (e2 (fun n i => -(∑ k : Fin 256, dp (cut n O) (cut (4 + n) K) i k * Ideal.div 1 (tot (cut n Q) (cut n K) i * tot (cut n Q) (cut n K) i) * ex (cut n Q) (cut n K) i k)) : FVec Ideal S4x2048 .f32)))
        (e3 (fun n i m => ex (cut n Q) (cut n K) i m) : FVec Ideal S4x2048x256 .f32)) (broadcastInDim S4x2048x256 ![] bcast_S_S4x2048x256 (constant (F := Ideal) S_ .f32 0x3D3504F3#32))
    = (e3 (fun n i m => dsh Q K O n i m) : FVec Ideal S4x2048x256 .f32) := by
  funext y
  rw [eq_ix3 y]
  pointwise [e2, e3, dsh]
  refine ds_eq (cut (y 0).val Q) (cut (y 0).val K) (cut (y 0).val O) (cut (4 + (y 0).val) K) (y 2).isLt fun n => ?_
  have h4 : (y 0).val < 4 := (y 0).isLt
  obtain ⟨s, hs⟩ := sum_real (f := fun d : Fin 512 => cut (y 0).val Q (y 1).val d) (g := fun d => cut (y 0).val K n d)
    (fun d => h.1 _ (y 1).isLt _ (by have := d.isLt; omega)) fun d => h.2 _ n.isLt _ (by have := d.isLt; omega)
  obtain ⟨k, hk⟩ := kc_real
  exact ⟨s * k, by unfold sc; rw [hs, hk, EReal.coe_mul]⟩

variable (Q K)

/-- The reference's gradient of the queries … -/
theorem referenceQ : truncf (F := Ideal) .bf16 (shapeCast S2048x2048 (transpose S2048x4x512 [1, 0, 2] (Host.dotGeneral (F := Ideal) (φ₁ := .f32) (φ₂ := .f32) dot_S4x2048x256_S256x4x512_S4x2048x512_2_0_1_2_0_1 none
      (e3 (fun n i m => dsh Q K O n i m) : FVec Ideal S4x2048x256 .f32) (e3 (fun m n d => cut n K m d) : FVec Ideal S256x4x512 .f32)) transposes_S4x2048x512_S2048x4x512_1_0_2) shapeCasts_S2048x4x512_S2048x2048) bitsLt_bf16_f32
    = (e2 (dq Q K O) : FVec Ideal S2048x2048 .bf16) := by
  funext y
  rw [eq_ix2 y]
  pointwise [e2, e3, dq]

/-- … and of the keys and values. -/
theorem referenceK : shapeCast S256x4096 (addf
      (pad S256x2x4x512 ![0, 1, 0, 0] ![0, 0, 0, 0] ![0, 0, 0, 0] (broadcastInDim S256x1x4x512 ![0, 2, 3] bcast_S256x4x512_S256x1x4x512_0_2_3 (transpose S256x4x512 [2, 0, 1]
        (Host.dotGeneral (F := Ideal) (φ₁ := .f32) (φ₂ := .f32) dot_S4x512x2048_S4x2048x256_S4x512x256_2_1_1_2_0_0 none (e3 (fun n d i => cut n O i d) : FVec Ideal S4x512x2048 .f32) (e3 (fun n i m => prh Q K n i m) : FVec Ideal S4x2048x256 .f32))
        transposes_S4x512x256_S256x4x512_2_0_1)) (constant (F := Ideal) S_ .f32 0x00000000#32) pads_S256x1x4x512_S256x2x4x512_000_100_000_000 h_S_)
      (pad S256x2x4x512 ![0, 0, 0, 0] ![0, 1, 0, 0] ![0, 0, 0, 0] (broadcastInDim S256x1x4x512 ![0, 2, 3] bcast_S256x4x512_S256x1x4x512_0_2_3 (transpose S256x4x512 [1, 0, 2]
        (Host.dotGeneral (F := Ideal) (φ₁ := .f32) (φ₂ := .f32) dot_S4x2048x256_S2048x4x512_S4x256x512_1_0_2_2_0_1 none (e3 (fun n i m => dsh Q K O n i m) : FVec Ideal S4x2048x256 .f32) (e3 (fun i n d => cut n Q i d) : FVec Ideal S2048x4x512 .f32))
        transposes_S4x256x512_S256x4x512_1_0_2)) (constant (F := Ideal) S_ .f32 0x00000000#32) pads_S256x1x4x512_S256x2x4x512_000_010_000_000 h_S_)) shapeCasts_S256x2x4x512_S256x4096
    = (e2 (dkv Q K O) : FVec Ideal S256x4096 .f32) := by
  funext y
  rw [eq_ix2 y]
  pointwise [e2, e3, dkv, term]
  have hy : (y 1).val < 4096 := (y 1).isLt
  by_cases h : (y 1).val / 512 < 4
  · rw [dif_neg (by omega), dif_pos (by omega), zero_add, show (y 1).val / 512 % 4 = (y 1).val / 512 by omega]
    exact Finset.sum_congr rfl fun k _ => (if_pos h).symm
  · rw [dif_pos (by omega), dif_neg (by omega), add_zero, show (y 1).val / 512 % 4 = (y 1).val / 512 - 4 by omega]
    exact Finset.sum_congr rfl fun k _ => (mul_comm _ _).trans (if_neg h).symm
end

end Cert.Gla.Att
end
-- ==== Proof.AttClaim.lean ====
/- Hand-written, untrusted: THE CLAIM ABOUT THE CROSS ATTENTION'S GRADIENT. The precondition makes the queries and keys real; stage by
   stage the reference is then the kernel's two results. -/
module

public import proofs.«01_k».proof.Proof.AttRef
public import proofs.«01_k».proof.Pre_finite_att

@[expose] public section

set_option maxRecDepth 16384

noncomputable section

namespace Cert.Gla.Att

open Idealize.ShloMosaic Cert.AttRefIdeal Cert.AttRefIdeal.Gen Idealize.ShloMosaic.TcCoe Idealize.SL.Sem

/-- The test of the queries and keys takes shapes that fit. -/
theorem facts : Cert.Pre_finite_att.Facts := by
  constructor <;> decide

/-- The keys' half, by entry. -/
theorem half (K : ℕ → ℕ → EReal) (h : S256x4096.Slices ![0, 0] Cert.Pre_finite_att.S256x2048) :
    extf (F := Ideal) (φ := .bf16) .f32 (extractStridedSlice Cert.Pre_finite_att.S256x2048 ![0, 0] (e2 K : FVec Ideal S256x4096 .bf16) h) bitsLt_bf16_f32
    = (e2 K : FVec Ideal Cert.Pre_finite_att.S256x2048 .f32) := by
  funext y
  rw [eq_ix2 y]
  pointwise [e2]

/-- A matrix that passes the test has real entries. -/
theorem entries {a b : ℕ} (X : ℕ → ℕ → EReal) (A : ℕ → ℕ → ℝ) (h : (e2 X : FVec Ideal ⟨2, ![a, b]⟩ .f32) = c2 (φ := .f32) A) : ∀ i < a, ∀ j < b, IsReal (X i j) :=
  fun i hi j hj => ⟨A i j, congrFun h (ix2 ⟨i, hi⟩ ⟨j, hj⟩)⟩

section
variable (q : FVec Ideal S2048x2048 .bf16) (k : FVec Ideal S256x4096 .bf16) (o : FVec Ideal S2048x2048 .bf16)

/-- Under the precondition the queries and keys are real. -/
theorem real2 (h : (@Cert.Pre_finite_att.fn facts Ideal _ q k o).1 = (fun _ => 1#1) ∧ (@Cert.Pre_finite_att.fn facts Ideal _ q k o).2 = (fun _ => 1#1)) : Real2 (tab2 q) (tab2 k) := by
  have e1 : extf .f32 q bitsLt_bf16_f32 = c2 (φ := .f32) (Finite.mat (extf .f32 q bitsLt_bf16_f32)) := Finite.eq_mat (a := 2048) (b := 2048) _ _ h.1
  have e2' : extf .f32 (extractStridedSlice Cert.Pre_finite_att.S256x2048 ![0, 0] k facts.slices_S256x4096_S256x2048_0_0) bitsLt_bf16_f32
    = c2 (φ := .f32) (Finite.mat (extf .f32 (extractStridedSlice Cert.Pre_finite_att.S256x2048 ![0, 0] k facts.slices_S256x4096_S256x2048_0_0) bitsLt_bf16_f32)) := Finite.eq_mat (a := 256) (b := 2048) _ _ h.2
  generalize Finite.mat _ = A1 at e1
  generalize Finite.mat _ = A2 at e2'
  rw [eq_tab2 k, half] at e2'
  exact ⟨entries _ A1 ((eq_tab2 q).symm.trans e1), entries _ A2 e2'⟩
end

/-- On the same real queries and keys, and the same values and cotangent, the kernel and the reference end with the same gradients. -/
theorem algebraic : @Cert.algebraic_AttIdeal_AttRefIdeal_pre_finite_att _ _ facts := fun m ρ m' ρ' hp hag =>
  ⟨fun c => (e2 (dq (tab2 (m ((c.tc : Thread Cert.AttIdeal.nD Cert.AttIdeal.τ).loc Cert.AttIdeal.main_arg0) : FVec Ideal S2048x2048 .bf16)) (tab2 (m ((c.tc : Thread Cert.AttIdeal.nD Cert.AttIdeal.τ).loc Cert.AttIdeal.main_arg1) : FVec Ideal S256x4096 .bf16))
      (tab2 (m ((c.tc : Thread Cert.AttIdeal.nD Cert.AttIdeal.τ).loc Cert.AttIdeal.main_arg2) : FVec Ideal S2048x2048 .bf16))) : FVec Ideal S2048x2048 .bf16),
   fun c => (e2 (dkv (tab2 (m ((c.tc : Thread Cert.AttIdeal.nD Cert.AttIdeal.τ).loc Cert.AttIdeal.main_arg0) : FVec Ideal S2048x2048 .bf16)) (tab2 (m ((c.tc : Thread Cert.AttIdeal.nD Cert.AttIdeal.τ).loc Cert.AttIdeal.main_arg1) : FVec Ideal S256x4096 .bf16))
      (tab2 (m ((c.tc : Thread Cert.AttIdeal.nD Cert.AttIdeal.τ).loc Cert.AttIdeal.main_arg2) : FVec Ideal S2048x2048 .bf16))) : FVec Ideal S256x4096 .f32),
   (θ_run Cert.AttIdeal.defs _ _).mono (fun r hr c => ⟨(hr c).1.trans (final3 (eq_tab2 _) (eq_tab2 _) (eq_tab2 _)), (hr c).2.1.trans (final4 (eq_tab2 (φ := .bf16) _) (eq_tab2 (φ := .bf16) _) (eq_tab2 (φ := .bf16) _)),
      (hr c).2.2⟩) (Cert.AttIdeal.Value.run_blocks m ρ),
   (θ_run Cert.AttRefIdeal.defs _ _).mono (fun r hr c => by
      obtain ⟨r0, r1, hk⟩ := hr c
      have h2 := real2 _ _ _ (hp c)
      unfold Cert.AttRefIdeal.Value.res_main_v73 at r0
      unfold Cert.AttRefIdeal.Value.res_main_v71 at r1
      rw [(hag c).1, (hag c).2.1, (hag c).2.2, eq_tab2 (m ((c.tc : Thread Cert.AttIdeal.nD Cert.AttIdeal.τ).loc Cert.AttIdeal.main_arg0) : FVec Ideal S2048x2048 .bf16), eq_tab2 (m ((c.tc : Thread Cert.AttIdeal.nD Cert.AttIdeal.τ).loc Cert.AttIdeal.main_arg1) : FVec Ideal S256x4096 .bf16),
        eq_tab2 (m ((c.tc : Thread Cert.AttIdeal.nD Cert.AttIdeal.τ).loc Cert.AttIdeal.main_arg2) : FVec Ideal S2048x2048 .bf16), heads (tab2 (m ((c.tc : Thread Cert.AttIdeal.nD Cert.AttIdeal.τ).loc Cert.AttIdeal.main_arg0) : FVec Ideal S2048x2048 .bf16)),
        heads (tab2 (m ((c.tc : Thread Cert.AttIdeal.nD Cert.AttIdeal.τ).loc Cert.AttIdeal.main_arg2) : FVec Ideal S2048x2048 .bf16)), heads_last, keys, values, scores, exps, totals, grads, others, deltas _ h2] at r0
      rw [(hag c).1, (hag c).2.1, (hag c).2.2, eq_tab2 (m ((c.tc : Thread Cert.AttIdeal.nD Cert.AttIdeal.τ).loc Cert.AttIdeal.main_arg0) : FVec Ideal S2048x2048 .bf16), eq_tab2 (m ((c.tc : Thread Cert.AttIdeal.nD Cert.AttIdeal.τ).loc Cert.AttIdeal.main_arg1) : FVec Ideal S256x4096 .bf16),
        eq_tab2 (m ((c.tc : Thread Cert.AttIdeal.nD Cert.AttIdeal.τ).loc Cert.AttIdeal.main_arg2) : FVec Ideal S2048x2048 .bf16), heads (tab2 (m ((c.tc : Thread Cert.AttIdeal.nD Cert.AttIdeal.τ).loc Cert.AttIdeal.main_arg0) : FVec Ideal S2048x2048 .bf16)),
        heads (tab2 (m ((c.tc : Thread Cert.AttIdeal.nD Cert.AttIdeal.τ).loc Cert.AttIdeal.main_arg2) : FVec Ideal S2048x2048 .bf16)), heads_last, keys, values, scores, exps, totals, ratios, grads, others, deltas _ h2] at r1
      exact ⟨r0.trans (referenceQ _ _ _), r1.trans (referenceK _ _ _), hk⟩) (Cert.AttRefIdeal.Value.run m' ρ')⟩

end Cert.Gla.Att
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.UpW
public import proofs.«01_k».proof.Proof.Gen.UpW.Skeleton
public import proofs.«01_k».proof.Proof.Gen.UpW.Launch
public import proofs.«01_k».proof.Proof.Gen.UpW.Points
public import proofs.«01_k».proof.Proof.Gen.UpW.Frame
public import proofs.«01_k».proof.Proof.Gen.UpWIdeal
public import proofs.«01_k».proof.Proof.Gen.UpWIdeal.Skeleton
public import proofs.«01_k».proof.Proof.Gen.UpWIdeal.Launch
public import proofs.«01_k».proof.Proof.Gen.UpWIdeal.Points
public import proofs.«01_k».proof.Proof.Gen.UpWIdeal.Frame
public import proofs.«01_k».proof.Proof.Gen.UpWIdeal.Value
public import proofs.«01_k».proof.Proof.Gen.UpWRefIdeal
public import proofs.«01_k».proof.Proof.Gen.UpWRefIdeal.Run
public import proofs.«01_k».proof.Proof.Gen.UpH
public import proofs.«01_k».proof.Proof.Gen.UpH.Skeleton
public import proofs.«01_k».proof.Proof.Gen.UpH.Launch
public import proofs.«01_k».proof.Proof.Gen.UpH.Points
public import proofs.«01_k».proof.Proof.Gen.UpH.Frame
public import proofs.«01_k».proof.Proof.Gen.UpHIdeal
public import proofs.«01_k».proof.Proof.Gen.UpHIdeal.Skeleton
public import proofs.«01_k».proof.Proof.Gen.UpHIdeal.Launch
public import proofs.«01_k».proof.Proof.Gen.UpHIdeal.Points
public import proofs.«01_k».proof.Proof.Gen.UpHIdeal.Frame
public import proofs.«01_k».proof.Proof.Gen.UpHIdeal.Value
public import proofs.«01_k».proof.Proof.Gen.UpHRefIdeal
public import proofs.«01_k».proof.Proof.Gen.UpHRefIdeal.Run
public import proofs.«01_k».proof.Proof.Gen.InW
public import proofs.«01_k».proof.Proof.Gen.InW.Skeleton
public import proofs.«01_k».proof.Proof.Gen.InW.Launch
public import proofs.«01_k».proof.Proof.Gen.InW.Points
public import proofs.«01_k».proof.Proof.Gen.InW.Frame
public import proofs.«01_k».proof.Proof.Gen.InWIdeal
public import proofs.«01_k».proof.Proof.Gen.InWIdeal.Skeleton
public import proofs.«01_k».proof.Proof.Gen.InWIdeal.Launch
public import proofs.«01_k».proof.Proof.Gen.InWIdeal.Points
public import proofs.«01_k».proof.Proof.Gen.InWIdeal.Frame
public import proofs.«01_k».proof.Proof.Gen.InWIdeal.Value
public import proofs.«01_k».proof.Proof.Gen.InWRefIdeal
public import proofs.«01_k».proof.Proof.Gen.InWRefIdeal.Run
public import proofs.«01_k».proof.Proof.Gen.InH
public import proofs.«01_k».proof.Proof.Gen.InH.Skeleton
public import proofs.«01_k».proof.Proof.Gen.InH.Launch
public import proofs.«01_k».proof.Proof.Gen.InH.Points
public import proofs.«01_k».proof.Proof.Gen.InH.Frame
public import proofs.«01_k».proof.Proof.Gen.InHIdeal
public import proofs.«01_k».proof.Proof.Gen.InHIdeal.Skeleton
public import proofs.«01_k».proof.Proof.Gen.InHIdeal.Launch
public import proofs.«01_k».proof.Proof.Gen.InHIdeal.Points
public import proofs.«01_k».proof.Proof.Gen.InHIdeal.Frame
public import proofs.«01_k».proof.Proof.Gen.InHIdeal.Value
public import proofs.«01_k».proof.Proof.Gen.InHRefIdeal
public import proofs.«01_k».proof.Proof.Gen.InHRefIdeal.Run
public import proofs.«01_k».proof.Proof.Gen.Att
public import proofs.«01_k».proof.Proof.Gen.Att.Skeleton
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Launch
public import proofs.«01_k».proof.Proof.Gen.AttIdeal.Points
public import proofs.«01_k».proof.Proof.Gen.AttIdeal.Frame
public import proofs.«01_k».proof.Proof.Gen.AttIdeal.Value
public import proofs.«01_k».proof.Proof.Gen.AttRefIdeal
public import proofs.«01_k».proof.Proof.Gen.AttRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.DownW
public import proofs.«01_k».proof.Proof.Gen.DownW.Skeleton
public import proofs.«01_k».proof.Proof.Gen.DownW.Launch
public import proofs.«01_k».proof.Proof.Gen.DownW.Points
public import proofs.«01_k».proof.Proof.Gen.DownW.Frame
public import proofs.«01_k».proof.Proof.Gen.DownWIdeal
public import proofs.«01_k».proof.Proof.Gen.DownWIdeal.Skeleton
public import proofs.«01_k».proof.Proof.Gen.DownWIdeal.Launch
public import proofs.«01_k».proof.Proof.Gen.DownWIdeal.Points
public import proofs.«01_k».proof.Proof.Gen.DownWIdeal.Frame
public import proofs.«01_k».proof.Proof.Gen.DownWIdeal.Value
public import proofs.«01_k».proof.Proof.Gen.DownWRefIdeal
public import proofs.«01_k».proof.Proof.Gen.DownWRefIdeal.Run
public import proofs.«01_k».proof.Proof.Gen.CrossH
public import proofs.«01_k».proof.Proof.Gen.CrossH.Skeleton
public import proofs.«01_k».proof.Proof.Gen.CrossH.Launch
public import proofs.«01_k».proof.Proof.Gen.CrossH.Points
public import proofs.«01_k».proof.Proof.Gen.CrossH.Frame
public import proofs.«01_k».proof.Proof.Gen.CrossHIdeal
public import proofs.«01_k».proof.Proof.Gen.CrossHIdeal.Skeleton
public import proofs.«01_k».proof.Proof.Gen.CrossHIdeal.Launch
public import proofs.«01_k».proof.Proof.Gen.CrossHIdeal.Points
public import proofs.«01_k».proof.Proof.Gen.CrossHIdeal.Frame
public import proofs.«01_k».proof.Proof.Gen.CrossHIdeal.Value
public import proofs.«01_k».proof.Proof.Gen.CrossHRefIdeal
public import proofs.«01_k».proof.Proof.Gen.CrossHRefIdeal.Run
public import proofs.«01_k».proof.Proof.Gen.CrossW
public import proofs.«01_k».proof.Proof.Gen.CrossW.Skeleton
public import proofs.«01_k».proof.Proof.Gen.CrossW.Launch
public import proofs.«01_k».proof.Proof.Gen.CrossW.Points
public import proofs.«01_k».proof.Proof.Gen.CrossW.Frame
public import proofs.«01_k».proof.Proof.Gen.CrossWIdeal
public import proofs.«01_k».proof.Proof.Gen.CrossWIdeal.Skeleton
public import proofs.«01_k».proof.Proof.Gen.CrossWIdeal.Launch
public import proofs.«01_k».proof.Proof.Gen.CrossWIdeal.Points
public import proofs.«01_k».proof.Proof.Gen.CrossWIdeal.Frame
public import proofs.«01_k».proof.Proof.Gen.CrossWIdeal.Value
public import proofs.«01_k».proof.Proof.Gen.CrossWRefIdeal
public import proofs.«01_k».proof.Proof.Gen.CrossWRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.CrossQ
public import proofs.«01_k».proof.Proof.Gen.CrossQ.Skeleton
public import proofs.«01_k».proof.Proof.Gen.CrossQ.Launch
public import proofs.«01_k».proof.Proof.Gen.CrossQ.Points
public import proofs.«01_k».proof.Proof.Gen.CrossQ.Frame
public import proofs.«01_k».proof.Proof.Gen.CrossQIdeal
public import proofs.«01_k».proof.Proof.Gen.CrossQIdeal.Skeleton
public import proofs.«01_k».proof.Proof.Gen.CrossQIdeal.Launch
public import proofs.«01_k».proof.Proof.Gen.CrossQIdeal.Points
public import proofs.«01_k».proof.Proof.Gen.CrossQIdeal.Frame
public import proofs.«01_k».proof.Proof.Gen.CrossQIdeal.Value
public import proofs.«01_k».proof.Proof.Gen.CrossQRefIdeal
public import proofs.«01_k».proof.Proof.Gen.CrossQRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.BrGla
public import proofs.«01_k».proof.Proof.Gen.BrGla.Skeleton
public import proofs.«01_k».proof.Proof.Gen.BrGla.Launch
public import proofs.«01_k».proof.Proof.Gen.BrGla.Points
public import proofs.«01_k».proof.Proof.Gen.BrGla.Frame
public import proofs.«01_k».proof.Proof.Gen.BrGlaIdeal
public import proofs.«01_k».proof.Proof.Gen.BrGlaIdeal.Skeleton
public import proofs.«01_k».proof.Proof.Gen.BrGlaIdeal.Launch
public import proofs.«01_k».proof.Proof.Gen.BrGlaIdeal.Points
public import proofs.«01_k».proof.Proof.Gen.BrGlaIdeal.Frame
public import proofs.«01_k».proof.Proof.Gen.BrGlaIdeal.Value
public import proofs.«01_k».proof.Proof.Gen.BrGlaRefIdeal
public import proofs.«01_k».proof.Proof.Gen.BrGlaRefIdeal.Run
public import proofs.«01_k».proof.Proof.Gen.BrPool
public import proofs.«01_k».proof.Proof.Gen.BrPool.Skeleton
public import proofs.«01_k».proof.Proof.Gen.BrPool.Launch
public import proofs.«01_k».proof.Proof.Gen.BrPool.Points
public import proofs.«01_k».proof.Proof.Gen.BrPool.Frame
public import proofs.«01_k».proof.Proof.Gen.BrPoolIdeal
public import proofs.«01_k».proof.Proof.Gen.BrPoolIdeal.Skeleton
public import proofs.«01_k».proof.Proof.Gen.BrPoolIdeal.Launch
public import proofs.«01_k».proof.Proof.Gen.BrPoolIdeal.Points
public import proofs.«01_k».proof.Proof.Gen.BrPoolIdeal.Frame
public import proofs.«01_k».proof.Proof.Gen.BrPoolIdeal.Value
public import proofs.«01_k».proof.Proof.Gen.BrPoolRefIdeal
public import proofs.«01_k».proof.Proof.Gen.BrPoolRefIdeal.Run
public import proofs.«01_k».proof.Proof.Gen.OGla
public import proofs.«01_k».proof.Proof.Gen.OGla.Skeleton
public import proofs.«01_k».proof.Proof.Gen.OGla.Launch
public import proofs.«01_k».proof.Proof.Gen.OGla.Points
public import proofs.«01_k».proof.Proof.Gen.OGla.Frame
public import proofs.«01_k».proof.Proof.Gen.OGlaIdeal
public import proofs.«01_k».proof.Proof.Gen.OGlaIdeal.Skeleton
public import proofs.«01_k».proof.Proof.Gen.OGlaIdeal.Launch
public import proofs.«01_k».proof.Proof.Gen.OGlaIdeal.Points
public import proofs.«01_k».proof.Proof.Gen.OGlaIdeal.Frame
public import proofs.«01_k».proof.Proof.Gen.OGlaIdeal.Value
public import proofs.«01_k».proof.Proof.Gen.OGlaRefIdeal
public import proofs.«01_k».proof.Proof.Gen.OGlaRefIdeal.Run
public import proofs.«01_k».proof.Proof.Gen.OPool
public import proofs.«01_k».proof.Proof.Gen.OPool.Skeleton
public import proofs.«01_k».proof.Proof.Gen.OPool.Launch
public import proofs.«01_k».proof.Proof.Gen.OPool.Points
public import proofs.«01_k».proof.Proof.Gen.OPool.Frame
public import proofs.«01_k».proof.Proof.Gen.OPoolIdeal
public import proofs.«01_k».proof.Proof.Gen.OPoolIdeal.Skeleton
public import proofs.«01_k».proof.Proof.Gen.OPoolIdeal.Launch
public import proofs.«01_k».proof.Proof.Gen.OPoolIdeal.Points
public import proofs.«01_k».proof.Proof.Gen.OPoolIdeal.Frame
public import proofs.«01_k».proof.Proof.Gen.OPoolIdeal.Value
public import proofs.«01_k».proof.Proof.Gen.OPoolRefIdeal
public import proofs.«01_k».proof.Proof.Gen.OPoolRefIdeal.Run
public import proofs.«01_k».proof.Proof.Gen.BrW
public import proofs.«01_k».proof.Proof.Gen.BrW.Skeleton
public import proofs.«01_k».proof.Proof.Gen.BrW.Launch
public import proofs.«01_k».proof.Proof.Gen.BrW.Points
public import proofs.«01_k».proof.Proof.Gen.BrW.Frame
public import proofs.«01_k».proof.Proof.Gen.BrWIdeal
public import proofs.«01_k».proof.Proof.Gen.BrWIdeal.Skeleton
public import proofs.«01_k».proof.Proof.Gen.BrWIdeal.Launch
public import proofs.«01_k».proof.Proof.Gen.BrWIdeal.Points
public import proofs.«01_k».proof.Proof.Gen.BrWIdeal.Frame
public import proofs.«01_k».proof.Proof.Gen.BrWIdeal.Value
public import proofs.«01_k».proof.Proof.Gen.BrWRefIdeal
public import proofs.«01_k».proof.Proof.Gen.BrWRefIdeal.Run
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvW
public import proofs.«01_k».proof.Proof.Gen.KvW.Skeleton
public import proofs.«01_k».proof.Proof.Gen.KvW.Launch
public import proofs.«01_k».proof.Proof.Gen.KvW.Points
public import proofs.«01_k».proof.Proof.Gen.KvW.Frame
public import proofs.«01_k».proof.Proof.Gen.KvWIdeal
public import proofs.«01_k».proof.Proof.Gen.KvWIdeal.Skeleton
public import proofs.«01_k».proof.Proof.Gen.KvWIdeal.Launch
public import proofs.«01_k».proof.Proof.Gen.KvWIdeal.Points
public import proofs.«01_k».proof.Proof.Gen.KvWIdeal.Frame
public import proofs.«01_k».proof.Proof.Gen.KvWIdeal.Value
public import proofs.«01_k».proof.Proof.Gen.KvWRefIdeal
public import proofs.«01_k».proof.Proof.Gen.KvWRefIdeal.Run
public import proofs.«01_k».proof.Proof.Gen.KvH
public import proofs.«01_k».proof.Proof.Gen.KvH.Skeleton
public import proofs.«01_k».proof.Proof.Gen.KvH.Launch
public import proofs.«01_k».proof.Proof.Gen.KvH.Points
public import proofs.«01_k».proof.Proof.Gen.KvH.Frame
public import proofs.«01_k».proof.Proof.Gen.KvHIdeal
public import proofs.«01_k».proof.Proof.Gen.KvHIdeal.Skeleton
public import proofs.«01_k».proof.Proof.Gen.KvHIdeal.Launch
public import proofs.«01_k».proof.Proof.Gen.KvHIdeal.Points
public import proofs.«01_k».proof.Proof.Gen.KvHIdeal.Frame
public import proofs.«01_k».proof.Proof.Gen.KvHIdeal.Value
public import proofs.«01_k».proof.Proof.Gen.KvHRefIdeal
public import proofs.«01_k».proof.Proof.Gen.KvHRefIdeal.Run
public import proofs.«01_k».proof.Proof.Finite
public import proofs.«01_k».proof.Proof.Kernel
public import proofs.«01_k».proof.Proof.UpW
public import proofs.«01_k».proof.Proof.UpH
public import proofs.«01_k».proof.Proof.InW
public import proofs.«01_k».proof.Proof.InH
public import proofs.«01_k».proof.Proof.Act
public import proofs.«01_k».proof.Proof.DownW
public import proofs.«01_k».proof.Proof.CrossH
public import proofs.«01_k».proof.Proof.CrossW
public import proofs.«01_k».proof.Proof.Up
public import proofs.«01_k».proof.Proof.Proj
public import proofs.«01_k».proof.Proof.Down
public import proofs.«01_k».proof.Proof.CrossQ
public import proofs.«01_k».proof.Proof.MixOut
public import proofs.«01_k».proof.Proof.BrGla
public import proofs.«01_k».proof.Proof.BrPool
public import proofs.«01_k».proof.Proof.OGla
public import proofs.«01_k».proof.Proof.OPool
public import proofs.«01_k».proof.Proof.BrW
public import proofs.«01_k».proof.Proof.Kv
public import proofs.«01_k».proof.Proof.KvW
public import proofs.«01_k».proof.Proof.KvH
public import proofs.«01_k».proof.Proof.Merge
public import proofs.«01_k».proof.Proof.Norm
public import proofs.«01_k».proof.Proof.AttClaim
public import Idealize.ShloMosaic.Adequacy
public import Idealize.ShloMosaic.Init

@[expose] public section

noncomputable section

namespace Cert.Proof

open Idealize.ShloMosaic Idealize.ShloMosaic.StableHlo Idealize.SL.Sem Cert.Kernel

/-- The real arrays the kernel is launched on. -/
def inp (m : (ℓ : Loc Cert.KernelIdeal.nD Cert.KernelIdeal.τ Cert.KernelIdeal.sig) → Buf (Elt Ideal) ℓ) (c : Dev Cert.KernelIdeal.nD) : Cert.Gla.Inp where
  x := Cert.Gla.Finite.mat (m ((c.tc : Thread Cert.KernelIdeal.nD Cert.KernelIdeal.τ).loc Cert.KernelIdeal.main_arg0) : FVec Ideal Cert.KernelIdeal.S2048x8192 .f32)
  a := Cert.Gla.Finite.mat (m ((c.tc : Thread Cert.KernelIdeal.nD Cert.KernelIdeal.τ).loc Cert.KernelIdeal.main_arg1) : FVec Ideal Cert.KernelIdeal.S2048x128 .f32)
  w := Cert.Gla.Finite.mat (m ((c.tc : Thread Cert.KernelIdeal.nD Cert.KernelIdeal.τ).loc Cert.KernelIdeal.main_arg2) : FVec Ideal Cert.KernelIdeal.S128x512 .f32)
  b := Cert.Gla.Finite.mat (m ((c.tc : Thread Cert.KernelIdeal.nD Cert.KernelIdeal.τ).loc Cert.KernelIdeal.main_arg3) : FVec Ideal Cert.KernelIdeal.S1x512 .f32)
  g := Cert.Gla.Finite.mat (m ((c.tc : Thread Cert.KernelIdeal.nD Cert.KernelIdeal.τ).loc Cert.KernelIdeal.main_arg4) : FVec Ideal Cert.KernelIdeal.S1x1024 .f32)
  d := Cert.Gla.Finite.mat (m ((c.tc : Thread Cert.KernelIdeal.nD Cert.KernelIdeal.τ).loc Cert.KernelIdeal.main_arg5) : FVec Ideal Cert.KernelIdeal.S2048x1024 .f32)

/-- Finite arguments are those real arrays. -/
theorem args (m : (ℓ : Loc Cert.KernelIdeal.nD Cert.KernelIdeal.τ Cert.KernelIdeal.sig) → Buf (Elt Ideal) ℓ)
    (h : Cert.Pre_KernelIdeal_finite (hPre_finite := Cert.Gla.Finite.facts) m) (c : Dev Cert.KernelIdeal.nD) : Cert.Gla.Fwd.KArgs (fun b => m (c, b)) (inp m c) where
  h0 := Cert.Gla.Finite.eq_mat _ _ (h c).1
  h1 := Cert.Gla.Finite.eq_mat _ _ (h c).2.1
  h2 := Cert.Gla.Finite.eq_mat _ _ (h c).2.2.1
  h3 := Cert.Gla.Finite.eq_mat _ _ (h c).2.2.2.1
  h4 := Cert.Gla.Finite.eq_mat _ _ (h c).2.2.2.2.1
  h5 := Cert.Gla.Finite.eq_mat _ _ (h c).2.2.2.2.2

/-- The backward call computes the layer's gradients: both programs end with the gradients of the real arrays. -/
theorem algebraic : Cert.algebraic_KernelIdeal_ReferenceIdeal_pre_finite (hPre_finite := Cert.Gla.Finite.facts) := fun m ρ m' ρ' hpre hag =>
  ⟨fun c => (Cert.Gla.c2 fun t j => (inp m c).dx t j : FVec Ideal Cert.KernelIdeal.S2048x3072 .bf16),
   fun c => (Cert.Gla.c2 fun t j => (inp m c).da t j : FVec Ideal Cert.KernelIdeal.S2048x128 .bf16),
   fun c => (Cert.Gla.c2 fun t j => (inp m c).dw t j : FVec Ideal Cert.KernelIdeal.S128x512 .f32),
   fun c => (Cert.Gla.c2 fun _ j => (inp m c).dbias j : FVec Ideal Cert.KernelIdeal.S1x512 .f32),
   fun c => (Cert.Gla.c2 fun _ j => (inp m c).dgain j : FVec Ideal Cert.KernelIdeal.S1x1024 .f32),
   (θ_run Cert.KernelIdeal.defs _ _).mono (fun r hr c => by
      have h := args m hpre c
      obtain ⟨e0, e1, e2, e3, e4, ea⟩ := hr c
      exact ⟨e0.trans (Cert.Gla.Ker.final10 h), e1.trans (Cert.Gla.Ker.final11 h), e2.trans (Cert.Gla.Ker.final12 h),
        e3.trans (Cert.Gla.Ker.final13 h), e4.trans (Cert.Gla.Ker.final14 h), ea⟩) (Cert.KernelIdeal.Value.run_blocks m ρ),
   (θ_run Cert.ReferenceIdeal.defs _ _).mono (fun r hr c => by
      have h := args m hpre c
      obtain ⟨g0, g1, g2, g3, g4, g5⟩ := hag c
      have h' : Cert.Gla.Ref.Args (launchContents m' c) (inp m c) :=
        ⟨g0.trans h.h0, g1.trans h.h1, g2.trans h.h2, g3.trans h.h3, g4.trans h.h4, g5.trans h.h5⟩
      obtain ⟨e0, e1, e2, e3, e4, ea⟩ := hr c
      exact ⟨e0.trans (Cert.Gla.Ref.res0 h'), e1.trans (Cert.Gla.Ref.res1 h'), e2.trans (Cert.Gla.Ref.res2 h'),
        e3.trans (Cert.Gla.Ref.res3 h'), e4.trans (Cert.Gla.Ref.res4 h'), ea⟩) (Cert.ReferenceIdeal.Value.run m' ρ')⟩

/-- The reference runs, its arguments unchanged; it declares no semaphore. -/
theorem frame_r : Cert.quiescent_ReferenceIdeal := fun m g _ =>
  (θ_run (Cert.ReferenceIdeal.defs (F := Ideal)) _ _).mono (fun r h => ⟨fun c => (h c).2.2.2.2.2, sem_eq_zero_of_no_sems (by decide) r.2⟩)
    (Cert.ReferenceIdeal.Value.run m g)

/-- The cross attention's reference likewise. -/
theorem frame_att : Cert.quiescent_AttRefIdeal := fun m g _ =>
  (θ_run (Cert.AttRefIdeal.defs (F := Ideal)) _ _).mono (fun r h => ⟨fun c => (h c).2.2, sem_eq_zero_of_no_sems (by decide) r.2⟩) (Cert.AttRefIdeal.Value.run m g)

theorem claim : Cert.Claim := ⟨Cert.Kernel.Gen.facts, Cert.KernelIdeal.Gen.facts, Cert.ReferenceIdeal.Gen.facts,
  Cert.UpW.Gen.facts, Cert.UpWIdeal.Gen.facts, Cert.UpWRefIdeal.Gen.facts,
  Cert.UpH.Gen.facts, Cert.UpHIdeal.Gen.facts, Cert.UpHRefIdeal.Gen.facts,
  Cert.InW.Gen.facts, Cert.InWIdeal.Gen.facts, Cert.InWRefIdeal.Gen.facts,
  Cert.InH.Gen.facts, Cert.InHIdeal.Gen.facts, Cert.InHRefIdeal.Gen.facts,
  Cert.Att.Gen.facts, Cert.AttIdeal.Gen.facts, Cert.AttRefIdeal.Gen.facts,
  Cert.Merge.Gen.facts, Cert.MergeIdeal.Gen.facts, Cert.MergeRefIdeal.Gen.facts,
  Cert.Norm.Gen.facts, Cert.NormIdeal.Gen.facts, Cert.NormRefIdeal.Gen.facts,
  Cert.Act.Gen.facts, Cert.ActIdeal.Gen.facts, Cert.ActRefIdeal.Gen.facts,
  Cert.DownW.Gen.facts, Cert.DownWIdeal.Gen.facts, Cert.DownWRefIdeal.Gen.facts,
  Cert.CrossH.Gen.facts, Cert.CrossHIdeal.Gen.facts, Cert.CrossHRefIdeal.Gen.facts,
  Cert.CrossW.Gen.facts, Cert.CrossWIdeal.Gen.facts, Cert.CrossWRefIdeal.Gen.facts,
  Cert.Up.Gen.facts, Cert.UpIdeal.Gen.facts, Cert.UpRefIdeal.Gen.facts,
  Cert.Proj.Gen.facts, Cert.ProjIdeal.Gen.facts, Cert.ProjRefIdeal.Gen.facts,
  Cert.Down.Gen.facts, Cert.DownIdeal.Gen.facts, Cert.DownRefIdeal.Gen.facts,
  Cert.CrossQ.Gen.facts, Cert.CrossQIdeal.Gen.facts, Cert.CrossQRefIdeal.Gen.facts,
  Cert.MixOut.Gen.facts, Cert.MixOutIdeal.Gen.facts, Cert.MixOutRefIdeal.Gen.facts,
  Cert.BrGla.Gen.facts, Cert.BrGlaIdeal.Gen.facts, Cert.BrGlaRefIdeal.Gen.facts,
  Cert.BrPool.Gen.facts, Cert.BrPoolIdeal.Gen.facts, Cert.BrPoolRefIdeal.Gen.facts,
  Cert.OGla.Gen.facts, Cert.OGlaIdeal.Gen.facts, Cert.OGlaRefIdeal.Gen.facts,
  Cert.OPool.Gen.facts, Cert.OPoolIdeal.Gen.facts, Cert.OPoolRefIdeal.Gen.facts,
  Cert.BrW.Gen.facts, Cert.BrWIdeal.Gen.facts, Cert.BrWRefIdeal.Gen.facts,
  Cert.Kv.Gen.facts, Cert.KvIdeal.Gen.facts, Cert.KvRefIdeal.Gen.facts,
  Cert.KvW.Gen.facts, Cert.KvWIdeal.Gen.facts, Cert.KvWRefIdeal.Gen.facts,
  Cert.KvH.Gen.facts, Cert.KvHIdeal.Gen.facts, Cert.KvHRefIdeal.Gen.facts,
  Cert.Gla.Finite.facts, Cert.Gla.Att.facts,
  fun m g _ => Cert.Kernel.Gen.frame m g, fun m g _ => Cert.KernelIdeal.Gen.frame m g, fun m g _ => Cert.KernelIdeal.Gen.frame m g, frame_r, fun m g _ => frame_r m g trivial,
  fun m g _ => Cert.UpW.Gen.frame m g, fun m g _ => Cert.UpWIdeal.Gen.frame m g,
  fun m g _ => (θ_run (Cert.UpWRefIdeal.defs (F := Ideal)) _ _).mono (fun r h => ⟨fun c => (h c).2, sem_eq_zero_of_no_sems (by decide) r.2⟩) (Cert.UpWRefIdeal.Value.run m g),
  fun m g _ => Cert.UpH.Gen.frame m g, fun m g _ => Cert.UpHIdeal.Gen.frame m g,
  fun m g _ => (θ_run (Cert.UpHRefIdeal.defs (F := Ideal)) _ _).mono (fun r h => ⟨fun c => (h c).2, sem_eq_zero_of_no_sems (by decide) r.2⟩) (Cert.UpHRefIdeal.Value.run m g),
  fun m g _ => Cert.InW.Gen.frame m g, fun m g _ => Cert.InWIdeal.Gen.frame m g,
  fun m g _ => (θ_run (Cert.InWRefIdeal.defs (F := Ideal)) _ _).mono (fun r h => ⟨fun c => (h c).2, sem_eq_zero_of_no_sems (by decide) r.2⟩) (Cert.InWRefIdeal.Value.run m g),
  fun m g _ => Cert.InH.Gen.frame m g, fun m g _ => Cert.InHIdeal.Gen.frame m g,
  fun m g _ => (θ_run (Cert.InHRefIdeal.defs (F := Ideal)) _ _).mono (fun r h => ⟨fun c => (h c).2, sem_eq_zero_of_no_sems (by decide) r.2⟩) (Cert.InHRefIdeal.Value.run m g),
  fun m g _ => Cert.Att.Gen.frame m g, fun m g _ => Cert.AttIdeal.Gen.frame m g, fun m g _ => Cert.AttIdeal.Gen.frame m g, frame_att, fun m g _ => frame_att m g trivial,
  fun m g _ => Cert.Merge.Gen.frame m g, fun m g _ => Cert.MergeIdeal.Gen.frame m g,
  fun m g _ => (θ_run (Cert.MergeRefIdeal.defs (F := Ideal)) _ _).mono (fun r h => ⟨fun c => (h c).2.2.2, sem_eq_zero_of_no_sems (by decide) r.2⟩) (Cert.MergeRefIdeal.Value.run m g),
  fun m g _ => Cert.Norm.Gen.frame m g, fun m g _ => Cert.NormIdeal.Gen.frame m g,
  fun m g _ => (θ_run (Cert.NormRefIdeal.defs (F := Ideal)) _ _).mono (fun r h => ⟨fun c => (h c).2.2.2, sem_eq_zero_of_no_sems (by decide) r.2⟩) (Cert.NormRefIdeal.Value.run m g),
  fun m g _ => Cert.Act.Gen.frame m g, fun m g _ => Cert.ActIdeal.Gen.frame m g,
  fun m g _ => (θ_run (Cert.ActRefIdeal.defs (F := Ideal)) _ _).mono (fun r h => ⟨fun c => (h c).2, sem_eq_zero_of_no_sems (by decide) r.2⟩) (Cert.ActRefIdeal.Value.run m g),
  fun m g _ => Cert.DownW.Gen.frame m g, fun m g _ => Cert.DownWIdeal.Gen.frame m g,
  fun m g _ => (θ_run (Cert.DownWRefIdeal.defs (F := Ideal)) _ _).mono (fun r h => ⟨fun c => (h c).2, sem_eq_zero_of_no_sems (by decide) r.2⟩) (Cert.DownWRefIdeal.Value.run m g),
  fun m g _ => Cert.CrossH.Gen.frame m g, fun m g _ => Cert.CrossHIdeal.Gen.frame m g,
  fun m g _ => (θ_run (Cert.CrossHRefIdeal.defs (F := Ideal)) _ _).mono (fun r h => ⟨fun c => (h c).2, sem_eq_zero_of_no_sems (by decide) r.2⟩) (Cert.CrossHRefIdeal.Value.run m g),
  fun m g _ => Cert.CrossW.Gen.frame m g, fun m g _ => Cert.CrossWIdeal.Gen.frame m g,
  fun m g _ => (θ_run (Cert.CrossWRefIdeal.defs (F := Ideal)) _ _).mono (fun r h => ⟨fun c => (h c).2, sem_eq_zero_of_no_sems (by decide) r.2⟩) (Cert.CrossWRefIdeal.Value.run m g),
  fun m g _ => Cert.Up.Gen.frame m g, fun m g _ => Cert.UpIdeal.Gen.frame m g,
  fun m g _ => (θ_run (Cert.UpRefIdeal.defs (F := Ideal)) _ _).mono (fun r h => ⟨fun c => (h c).2, sem_eq_zero_of_no_sems (by decide) r.2⟩) (Cert.UpRefIdeal.Value.run m g),
  fun m g _ => Cert.Proj.Gen.frame m g, fun m g _ => Cert.ProjIdeal.Gen.frame m g,
  fun m g _ => (θ_run (Cert.ProjRefIdeal.defs (F := Ideal)) _ _).mono (fun r h => ⟨fun c => (h c).2, sem_eq_zero_of_no_sems (by decide) r.2⟩) (Cert.ProjRefIdeal.Value.run m g),
  fun m g _ => Cert.Down.Gen.frame m g, fun m g _ => Cert.DownIdeal.Gen.frame m g,
  fun m g _ => (θ_run (Cert.DownRefIdeal.defs (F := Ideal)) _ _).mono (fun r h => ⟨fun c => (h c).2, sem_eq_zero_of_no_sems (by decide) r.2⟩) (Cert.DownRefIdeal.Value.run m g),
  fun m g _ => Cert.CrossQ.Gen.frame m g, fun m g _ => Cert.CrossQIdeal.Gen.frame m g,
  fun m g _ => (θ_run (Cert.CrossQRefIdeal.defs (F := Ideal)) _ _).mono (fun r h => ⟨fun c => (h c).2, sem_eq_zero_of_no_sems (by decide) r.2⟩) (Cert.CrossQRefIdeal.Value.run m g),
  fun m g _ => Cert.MixOut.Gen.frame m g, fun m g _ => Cert.MixOutIdeal.Gen.frame m g,
  fun m g _ => (θ_run (Cert.MixOutRefIdeal.defs (F := Ideal)) _ _).mono (fun r h => ⟨fun c => (h c).2, sem_eq_zero_of_no_sems (by decide) r.2⟩) (Cert.MixOutRefIdeal.Value.run m g),
  fun m g _ => Cert.BrGla.Gen.frame m g, fun m g _ => Cert.BrGlaIdeal.Gen.frame m g,
  fun m g _ => (θ_run (Cert.BrGlaRefIdeal.defs (F := Ideal)) _ _).mono (fun r h => ⟨fun c => (h c).2, sem_eq_zero_of_no_sems (by decide) r.2⟩) (Cert.BrGlaRefIdeal.Value.run m g),
  fun m g _ => Cert.BrPool.Gen.frame m g, fun m g _ => Cert.BrPoolIdeal.Gen.frame m g,
  fun m g _ => (θ_run (Cert.BrPoolRefIdeal.defs (F := Ideal)) _ _).mono (fun r h => ⟨fun c => (h c).2, sem_eq_zero_of_no_sems (by decide) r.2⟩) (Cert.BrPoolRefIdeal.Value.run m g),
  fun m g _ => Cert.OGla.Gen.frame m g, fun m g _ => Cert.OGlaIdeal.Gen.frame m g,
  fun m g _ => (θ_run (Cert.OGlaRefIdeal.defs (F := Ideal)) _ _).mono (fun r h => ⟨fun c => (h c).2, sem_eq_zero_of_no_sems (by decide) r.2⟩) (Cert.OGlaRefIdeal.Value.run m g),
  fun m g _ => Cert.OPool.Gen.frame m g, fun m g _ => Cert.OPoolIdeal.Gen.frame m g,
  fun m g _ => (θ_run (Cert.OPoolRefIdeal.defs (F := Ideal)) _ _).mono (fun r h => ⟨fun c => (h c).2, sem_eq_zero_of_no_sems (by decide) r.2⟩) (Cert.OPoolRefIdeal.Value.run m g),
  fun m g _ => Cert.BrW.Gen.frame m g, fun m g _ => Cert.BrWIdeal.Gen.frame m g,
  fun m g _ => (θ_run (Cert.BrWRefIdeal.defs (F := Ideal)) _ _).mono (fun r h => ⟨fun c => (h c).2, sem_eq_zero_of_no_sems (by decide) r.2⟩) (Cert.BrWRefIdeal.Value.run m g),
  fun m g _ => Cert.Kv.Gen.frame m g, fun m g _ => Cert.KvIdeal.Gen.frame m g,
  fun m g _ => (θ_run (Cert.KvRefIdeal.defs (F := Ideal)) _ _).mono (fun r h => ⟨fun c => (h c).2, sem_eq_zero_of_no_sems (by decide) r.2⟩) (Cert.KvRefIdeal.Value.run m g),
  fun m g _ => Cert.KvW.Gen.frame m g, fun m g _ => Cert.KvWIdeal.Gen.frame m g,
  fun m g _ => (θ_run (Cert.KvWRefIdeal.defs (F := Ideal)) _ _).mono (fun r h => ⟨fun c => (h c).2, sem_eq_zero_of_no_sems (by decide) r.2⟩) (Cert.KvWRefIdeal.Value.run m g),
  fun m g _ => Cert.KvH.Gen.frame m g, fun m g _ => Cert.KvHIdeal.Gen.frame m g,
  fun m g _ => (θ_run (Cert.KvHRefIdeal.defs (F := Ideal)) _ _).mono (fun r h => ⟨fun c => (h c).2, sem_eq_zero_of_no_sems (by decide) r.2⟩) (Cert.KvHRefIdeal.Value.run m g),
  trivial, algebraic,
  trivial, Cert.Gla.UpW.algebraic,
  trivial, Cert.Gla.UpH.algebraic,
  trivial, Cert.Gla.InW.algebraic,
  trivial, Cert.Gla.InH.algebraic,
  trivial, Cert.Gla.Att.algebraic,
  trivial, Cert.Gla.Merge.algebraic,
  trivial, Cert.Gla.Norm.algebraic,
  trivial, Cert.Gla.Act.algebraic,
  trivial, Cert.Gla.DownW.algebraic,
  trivial, Cert.Gla.CrossH.algebraic,
  trivial, Cert.Gla.CrossW.algebraic,
  trivial, Cert.Gla.Up.algebraic,
  trivial, Cert.Gla.Proj.algebraic,
  trivial, Cert.Gla.Down.algebraic,
  trivial, Cert.Gla.CrossQ.algebraic,
  trivial, Cert.Gla.MixOut.algebraic,
  trivial, Cert.Gla.BrGla.algebraic,
  trivial, Cert.Gla.BrPool.algebraic,
  trivial, Cert.Gla.OGla.algebraic,
  trivial, Cert.Gla.OPool.algebraic,
  trivial, Cert.Gla.BrW.algebraic,
  trivial, Cert.Gla.Kv.algebraic,
  trivial, Cert.Gla.KvW.algebraic,
  trivial, Cert.Gla.KvH.algebraic⟩

end Cert.Proof

end
